-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v143)) (v1 : (c : Dev Cert.Kernel2Ideal.nD) → Buf (Elt Ideal) ((c.tc : Thread Cert.Kernel2Ideal.nD Cert.Kernel2Ideal.τ).loc Cert.Kernel2Ideal.main_v146)) (v2 : (c : Dev Cert.Kernel2Ideal.nD) → Buf (Elt Ideal) ((c.tc : Thread Cert.Kernel2Ideal.nD Cert.Kernel2Ideal.τ).loc Cert.Kernel2Ideal.main_v148)) (v3 : (c : Dev Cert.Kernel2Ideal.nD) → Buf (Elt Ideal) ((c.tc : Thread Cert.Kernel2Ideal.nD Cert.Kernel2Ideal.τ).loc Cert.Kernel2Ideal.main_v149)) (v4 : (c : Dev Cert.Kernel2Ideal.nD) → Buf (Elt Ideal) ((c.tc : Thread Cert.Kernel2Ideal.nD Cert.Kernel2Ideal.τ).loc Cert.Kernel2Ideal.main_v150)) (v5 : (c : Dev Cert.Kernel2Ideal.nD) → Buf (Elt Ideal) ((c.tc : Thread Cert.Kernel2Ideal.nD Cert.Kernel2Ideal.τ).loc Cert.Kernel2Ideal.main_v157)) (v6 : (c : Dev Cert.Kernel2Ideal.nD) → Buf (Elt Ideal) ((c.tc : Thread Cert.Kernel2Ideal.nD Cert.Kernel2Ideal.τ).loc Cert.Kernel2Ideal.main_v161)) (v7 : (c : Dev Cert.Kernel2Ideal.nD) → Buf (Elt Ideal) ((c.tc : Thread Cert.Kernel2Ideal.nD Cert.Kernel2Ideal.τ).loc Cert.Kernel2Ideal.main_v134_5)) (v8 : (c : Dev Cert.Kernel2Ideal.nD) → Buf (Elt Ideal) ((c.tc : Thread Cert.Kernel2Ideal.nD Cert.Kernel2Ideal.τ).loc Cert.Kernel2Ideal.main_v134_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v143) = v0 c
          ∧ r.2.mem ((c.tc : Thread Cert.Kernel2Ideal.nD Cert.Kernel2Ideal.τ).loc Cert.Kernel2Ideal.main_v146) = v1 c
          ∧ r.2.mem ((c.tc : Thread Cert.Kernel2Ideal.nD Cert.Kernel2Ideal.τ).loc Cert.Kernel2Ideal.main_v148) = v2 c
          ∧ r.2.mem ((c.tc : Thread Cert.Kernel2Ideal.nD Cert.Kernel2Ideal.τ).loc Cert.Kernel2Ideal.main_v149) = v3 c
          ∧ r.2.mem ((c.tc : Thread Cert.Kernel2Ideal.nD Cert.Kernel2Ideal.τ).loc Cert.Kernel2Ideal.main_v150) = v4 c
          ∧ r.2.mem ((c.tc : Thread Cert.Kernel2Ideal.nD Cert.Kernel2Ideal.τ).loc Cert.Kernel2Ideal.main_v157) = v5 c
          ∧ r.2.mem ((c.tc : Thread Cert.Kernel2Ideal.nD Cert.Kernel2Ideal.τ).loc Cert.Kernel2Ideal.main_v161) = v6 c
          ∧ r.2.mem ((c.tc : Thread Cert.Kernel2Ideal.nD Cert.Kernel2Ideal.τ).loc Cert.Kernel2Ideal.main_v134_5) = v7 c
          ∧ r.2.mem ((c.tc : Thread Cert.Kernel2Ideal.nD Cert.Kernel2Ideal.τ).loc Cert.Kernel2Ideal.main_v134_6) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v204) = v0 c
          ∧ r.2.mem ((c.tc : Thread Cert.Reference2Ideal.nD Cert.Reference2Ideal.τ).loc Cert.Reference2Ideal.main_v205) = v1 c
          ∧ r.2.mem ((c.tc : Thread Cert.Reference2Ideal.nD Cert.Reference2Ideal.τ).loc Cert.Reference2Ideal.main_v207) = v2 c
          ∧ r.2.mem ((c.tc : Thread Cert.Reference2Ideal.nD Cert.Reference2Ideal.τ).loc Cert.Reference2Ideal.main_v208) = v3 c
          ∧ r.2.mem ((c.tc : Thread Cert.Reference2Ideal.nD Cert.Reference2Ideal.τ).loc Cert.Reference2Ideal.main_v209) = v4 c
          ∧ r.2.mem ((c.tc : Thread Cert.Reference2Ideal.nD Cert.Reference2Ideal.τ).loc Cert.Reference2Ideal.main_v211) = v5 c
          ∧ r.2.mem ((c.tc : Thread Cert.Reference2Ideal.nD Cert.Reference2Ideal.τ).loc Cert.Reference2Ideal.main_v216) = v6 c
          ∧ r.2.mem ((c.tc : Thread Cert.Reference2Ideal.nD Cert.Reference2Ideal.τ).loc Cert.Reference2Ideal.main_v218) = v7 c
          ∧ r.2.mem ((c.tc : Thread Cert.Reference2Ideal.nD Cert.Reference2Ideal.τ).loc Cert.Reference2Ideal.main_v222) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v102) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S1x16400x4x2x64 : Shape := ⟨5, ![1, 16400, 4, 2, 64]⟩
abbrev S1x16400x4x128 : Shape := ⟨4, ![1, 16400, 4, 128]⟩
abbrev S1x64 : Shape := ⟨2, ![1, 64]⟩
abbrev S1x128 : Shape := ⟨2, ![1, 128]⟩
abbrev S_ : Shape := ⟨0, ![]⟩

class Facts : Prop where
  bcast_S_S1x16400x4x2x64 : S_.BroadcastsInDim S1x16400x4x2x64 (![] : Fin 0 → Fin S1x16400x4x2x64.rank)
  reducesTo_S1x16400x4x2x64_S_d0_1_2_3_4 : S1x16400x4x2x64.ReducesTo [0, 1, 2, 3, 4] S_
  h_S_ : 0 < S_.numel
  bcast_S_S1x16400x4x128 : S_.BroadcastsInDim S1x16400x4x128 (![] : Fin 0 → Fin S1x16400x4x128.rank)
  reducesTo_S1x16400x4x128_S_d0_1_2_3 : S1x16400x4x128.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S1x16400x4x2x64 .f32) (main_arg1 : FVec F S1x16400x4x2x64 .f32) (main_arg2 : FVec F S1x16400x4x128 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S1x16400x4x2x64 .f32 := Host.absf main_arg0
  let main_cst : FVec F S_ .f32 := constant S_ .f32 0x7F800000#32
  let main_v1 : FVec F S1x16400x4x2x64 .f32 := broadcastInDim S1x16400x4x2x64 ![] bcast_S_S1x16400x4x2x64 main_cst
  let main_v2 : IVec S1x16400x4x2x64 1 := cmpf .olt main_v0 main_v1
  let main_c : IVec S_ 1 := constantI S_ 1 1#1
  let main_v3 : IVec S_ 1 := (fun x v => Host.reduce IntOp.andi x v reducesTo_S1x16400x4x2x64_S_d0_1_2_3_4 h_S_) main_v2 main_c
  let main_v4 : FVec F S1x16400x4x2x64 .f32 := Host.absf main_arg1
  let main_cst_0 : FVec F S_ .f32 := constant S_ .f32 0x7F800000#32
  let main_v5 : FVec F S1x16400x4x2x64 .f32 := broadcastInDim S1x16400x4x2x64 ![] bcast_S_S1x16400x4x2x64 main_cst_0
  let main_v6 : IVec S1x16400x4x2x64 1 := cmpf .olt main_v4 main_v5
  let main_c_1 : IVec S_ 1 := constantI S_ 1 1#1
  let main_v7 : IVec S_ 1 := (fun x v => Host.reduce IntOp.andi x v reducesTo_S1x16400x4x2x64_S_d0_1_2_3_4 h_S_) main_v6 main_c_1
  let main_v8 : IVec S_ 1 := andi main_v3 main_v7
  let main_v9 : FVec F S1x16400x4x128 .f32 := Host.absf main_arg2
  let main_cst_2 : FVec F S_ .f32 := constant S_ .f32 0x7F800000#32
  let main_v10 : FVec F S1x16400x4x128 .f32 := broadcastInDim S1x16400x4x128 ![] bcast_S_S1x16400x4x128 main_cst_2
  let main_v11 : IVec S1x16400x4x128 1 := cmpf .olt main_v9 main_v10
  let main_c_3 : IVec S_ 1 := constantI S_ 1 1#1
  let main_v12 : IVec S_ 1 := (fun x v => Host.reduce IntOp.andi x v reducesTo_S1x16400x4x128_S_d0_1_2_3 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S1x16400x4x2x64 : Shape := ⟨5, ![1, 16400, 4, 2, 64]⟩
abbrev S1x16400x4x128 : Shape := ⟨4, ![1, 16400, 4, 128]⟩
abbrev S1x64 : Shape := ⟨2, ![1, 64]⟩
abbrev S1x128 : Shape := ⟨2, ![1, 128]⟩
abbrev S_ : Shape := ⟨0, ![]⟩
abbrev S1x16384x4x2x64 : Shape := ⟨5, ![1, 16384, 4, 2, 64]⟩
abbrev S16384x4x2x64 : Shape := ⟨4, ![16384, 4, 2, 64]⟩
abbrev S4x2x64x16384 : Shape := ⟨4, ![4, 2, 64, 16384]⟩
abbrev S4x1x64x16384 : Shape := ⟨4, ![4, 1, 64, 16384]⟩
abbrev S4x1x128x16384 : Shape := ⟨4, ![4, 1, 128, 16384]⟩
abbrev S4x2x128x16384 : Shape := ⟨4, ![4, 2, 128, 16384]⟩
abbrev S16400x4x2x64 : Shape := ⟨4, ![16400, 4, 2, 64]⟩
abbrev S16400x4x128 : Shape := ⟨3, ![16400, 4, 128]⟩
abbrev S4x16400x128 : Shape := ⟨3, ![4, 16400, 128]⟩
abbrev S4x128x16400 : Shape := ⟨3, ![4, 128, 16400]⟩
abbrev S4x16x16400 : Shape := ⟨3, ![4, 16, 16400]⟩
abbrev S4x144x16400 : Shape := ⟨3, ![4, 144, 16400]⟩
abbrev S4x16x128 : Shape := ⟨3, ![4, 16, 128]⟩
abbrev S4x128x128 : Shape := ⟨3, ![4, 128, 128]⟩
abbrev S4x144x16 : Shape := ⟨3, ![4, 144, 16]⟩
abbrev S4x144x128 : Shape := ⟨3, ![4, 144, 128]⟩
abbrev S4x16384x128 : Shape := ⟨3, ![4, 16384, 128]⟩
abbrev S4x144x16384 : Shape := ⟨3, ![4, 144, 16384]⟩
abbrev S128x1 : Shape := ⟨2, ![128, 1]⟩
abbrev S16384x512 : Shape := ⟨2, ![16384, 512]⟩
abbrev S1x2x128x512 : Shape := ⟨4, ![1, 2, 128, 512]⟩
abbrev S1x16384x128 : Shape := ⟨3, ![1, 16384, 128]⟩
abbrev S1x144x16384 : Shape := ⟨3, ![1, 144, 16384]⟩
abbrev S1x128x128 : Shape := ⟨3, ![1, 128, 128]⟩
abbrev S1x144x128 : Shape := ⟨3, ![1, 144, 128]⟩
abbrev S512x128 : Shape := ⟨2, ![512, 128]⟩
abbrev S1x1024 : Shape := ⟨2, ![1, 1024]⟩
abbrev S144x1024 : Shape := ⟨2, ![144, 1024]⟩
abbrev S512x1024 : Shape := ⟨2, ![512, 1024]⟩
abbrev S1x1x128x512 : Shape := ⟨4, ![1, 1, 128, 512]⟩
abbrev S128x512 : Shape := ⟨2, ![128, 512]⟩
abbrev S128x1024 : Shape := ⟨2, ![128, 1024]⟩
abbrev S128x128 : Shape := ⟨2, ![128, 128]⟩
abbrev S1x512x128 : Shape := ⟨3, ![1, 512, 128]⟩
abbrev S144x128 : Shape := ⟨2, ![144, 128]⟩
abbrev S1024 : Shape := ⟨1, ![1024]⟩
abbrev S1x144x512 : Shape := ⟨3, ![1, 144, 512]⟩
abbrev S144x512 : Shape := ⟨2, ![144, 512]⟩
abbrev S1 : Shape := ⟨1, ![1]⟩
abbrev S1x1 : Shape := ⟨2, ![1, 1]⟩
abbrev S512 : Shape := ⟨1, ![512]⟩
abbrev S1x512 : Shape := ⟨2, ![1, 512]⟩

abbrev nBuf : Space → Nat
  | .hbm => 47
  | .vmem => 21
  | .smem => 0
  | _ => 0

abbrev bufTy : (tb : Table) → Fin (tcTables nBuf tb) → BufTy
  | .hbm, ⟨0, _⟩ => ⟨S1x16400x4x2x64, .f32⟩
  | .hbm, ⟨1, _⟩ => ⟨S1x16400x4x2x64, .f32⟩
  | .hbm, ⟨2, _⟩ => ⟨S1x16400x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x16384x4x2x64, .f32⟩
  | .hbm, ⟨13, _⟩ => ⟨S16384x4x2x64, .f32⟩
  | .hbm, ⟨14, _⟩ => ⟨S16384x4x2x64, .f32⟩
  | .hbm, ⟨15, _⟩ => ⟨S16384x4x2x64, .f32⟩
  | .hbm, ⟨16, _⟩ => ⟨S4x2x64x16384, .f32⟩
  | .hbm, ⟨17, _⟩ => ⟨S_, .f32⟩
  | .hbm, ⟨18, _⟩ => ⟨S4x1x64x16384, .f32⟩
  | .hbm, ⟨19, _⟩ => ⟨S4x1x64x16384, .f32⟩
  | .hbm, ⟨20, _⟩ => ⟨S4x1x128x16384, .f32⟩
  | .hbm, ⟨21, _⟩ => ⟨S4x1x64x16384, .f32⟩
  | .hbm, ⟨22, _⟩ => ⟨S4x1x128x16384, .f32⟩
  | .hbm, ⟨23, _⟩ => ⟨S4x2x128x16384, .f32⟩
  | .hbm, ⟨24, _⟩ => ⟨S4x2x128x16384, .bf16⟩
  | .hbm, ⟨25, _⟩ => ⟨S16400x4x2x64, .f32⟩
  | .hbm, ⟨26, _⟩ => ⟨S16400x4x128, .f32⟩
  | .hbm, ⟨27, _⟩ => ⟨S4x16400x128, .f32⟩
  | .hbm, ⟨28, _⟩ => ⟨S4x16400x128, .bf16⟩
  | .hbm, ⟨29, _⟩ => ⟨S16400x4x128, .f32⟩
  | .hbm, ⟨30, _⟩ => ⟨S4x128x16400, .f32⟩
  | .hbm, ⟨31, _⟩ => ⟨S_, .f32⟩
  | .hbm, ⟨32, _⟩ => ⟨S4x16x16400, .f32⟩
  | .hbm, ⟨33, _⟩ => ⟨S4x144x16400, .f32⟩
  | .hbm, ⟨34, _⟩ => ⟨S4x144x16400, .bf16⟩
  | .hbm, ⟨35, _⟩ => ⟨S4x16x128, .bf16⟩
  | .hbm, ⟨36, _⟩ => ⟨S_, .i32⟩
  | .hbm, ⟨37, _⟩ => ⟨S_, .bf16⟩
  | .hbm, ⟨38, _⟩ => ⟨S4x128x128, .bf16⟩
  | .hbm, ⟨39, _⟩ => ⟨S4x144x16, .bf16⟩
  | .hbm, ⟨40, _⟩ => ⟨S_, .i32⟩
  | .hbm, ⟨41, _⟩ => ⟨S_, .bf16⟩
  | .hbm, ⟨42, _⟩ => ⟨S4x144x128, .bf16⟩
  | .hbm, ⟨43, _⟩ => ⟨S4x16384x128, .bf16⟩
  | .hbm, ⟨44, _⟩ => ⟨S4x144x16384, .bf16⟩
  | .hbm, ⟨45, _⟩ => ⟨S128x1, .f32⟩
  | .hbm, ⟨46, _⟩ => ⟨S16384x512, .bf16⟩
  | .local _ .vmem, ⟨0, _⟩ => ⟨S1x2x128x512, .bf16⟩
  | .local _ .vmem, ⟨1, _⟩ => ⟨S1x2x128x512, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x144x16384, .bf16⟩
  | .local _ .vmem, ⟨5, _⟩ => ⟨S1x144x16384, .bf16⟩
  | .local _ .vmem, ⟨6, _⟩ => ⟨S1x128x128, .bf16⟩
  | .local _ .vmem, ⟨7, _⟩ => ⟨S1x128x128, .bf16⟩
  | .local _ .vmem, ⟨8, _⟩ => ⟨S1x144x128, .bf16⟩
  | .local _ .vmem, ⟨9, _⟩ => ⟨S1x144x128, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S128x1, .f32⟩
  | .local _ .vmem, ⟨15, _⟩ => ⟨S512x128, .bf16⟩
  | .local _ .vmem, ⟨16, _⟩ => ⟨S512x128, .bf16⟩
  | .local _ .vmem, ⟨17, _⟩ => ⟨S1x1024, .f32⟩
  | .local _ .vmem, ⟨18, _⟩ => ⟨S144x1024, .f32⟩
  | .local _ .vmem, ⟨19, _⟩ => ⟨S512x1024, .f32⟩
  | .local _ .vmem, ⟨20, _⟩ => ⟨S512x1024, .f32⟩
  | _, _ => ⟨S1x16400x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 32], ![false, false]⟩

def k0_mult1 : BitVec 32 :=
  let c0_i32 : BitVec 32 := 0#32
  c0_i32
@[reducible] def k0_t1_loop (i : grid0.Coords) : Scf.Loop 32 :=
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_42 : BitVec 32 := 1#32
  ⟨c0_i32_40, v73, c1_i32_42⟩
def k0_mult2 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c0_i32_128 : BitVec 32 := 0#32
  let v226 : BitVec 32 := Scalar.addi v223 c0_i32_128
  let c1_i32_129 : BitVec 32 := 1#32
  let v227 : BitVec 32 := Scalar.addi v226 c1_i32_129
  let c512_i32 : BitVec 32 := 512#32
  let v228 : BitVec 32 := Scalar.muli v227 c512_i32
  v228
def k0_off1 (i : grid0.Coords) (k0_t1 : Fin (k0_t1_loop i).trips) (c0_i32_128 : BitVec 32) : Fin 3 → Nat :=
  let c0_130 : Index := 0#32
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let v226 : BitVec 32 := Scalar.addi v223 c0_i32_128
  let c1_i32_129 : BitVec 32 := 1#32
  let v227 : BitVec 32 := Scalar.addi v226 c1_i32_129
  let c512_i32 : BitVec 32 := 512#32
  let v228 : BitVec 32 := Scalar.muli v227 c512_i32
  let v229 : BitVec 32 := v228
  let v230 : Index := Scalar.indexCast v229
  let c0_131 : Index := 0#32
  ![0, v230.toNat, 0]
def k0_mult3 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c0_i32_137 : BitVec 32 := 0#32
  let v238 : BitVec 32 := Scalar.addi v223 c0_i32_137
  let c512_i32_138 : BitVec 32 := 512#32
  let v239 : BitVec 32 := Scalar.muli v238 c512_i32_138
  v239
def k0_off2 (i : grid0.Coords) (k0_t1 : Fin (k0_t1_loop i).trips) (c0_i32_137 : BitVec 32) : Fin 3 → Nat :=
  let c0_139 : Index := 0#32
  let c0_140 : Index := 0#32
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let v238 : BitVec 32 := Scalar.addi v223 c0_i32_137
  let c512_i32_138 : BitVec 32 := 512#32
  let v239 : BitVec 32 := Scalar.muli v238 c512_i32_138
  let v240 : BitVec 32 := v239
  let v241 : Index := Scalar.indexCast v240
  ![0, 0, v241.toNat]
def k0_mult4 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c1_i32_151 : BitVec 32 := 1#32
  let v265 : BitVec 32 := Scalar.addi v223 c1_i32_151
  let c1_i32_152 : BitVec 32 := 1#32
  let v266 : BitVec 32 := Scalar.addi v265 c1_i32_152
  let c512_i32_153 : BitVec 32 := 512#32
  let v267 : BitVec 32 := Scalar.muli v266 c512_i32_153
  v267
def k0_mult5 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c1_i32_161 : BitVec 32 := 1#32
  let v277 : BitVec 32 := Scalar.addi v223 c1_i32_161
  let c512_i32_162 : BitVec 32 := 512#32
  let v278 : BitVec 32 := Scalar.muli v277 c512_i32_162
  v278
def k0_mult6 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c2_i32_175 : BitVec 32 := 2#32
  let v304 : BitVec 32 := Scalar.addi v223 c2_i32_175
  let c1_i32_176 : BitVec 32 := 1#32
  let v305 : BitVec 32 := Scalar.addi v304 c1_i32_176
  let c512_i32_177 : BitVec 32 := 512#32
  let v306 : BitVec 32 := Scalar.muli v305 c512_i32_177
  v306
def k0_mult7 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c2_i32_185 : BitVec 32 := 2#32
  let v316 : BitVec 32 := Scalar.addi v223 c2_i32_185
  let c512_i32_186 : BitVec 32 := 512#32
  let v317 : BitVec 32 := Scalar.muli v316 c512_i32_186
  v317
def k0_mult8 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c3_i32_199 : BitVec 32 := 3#32
  let v343 : BitVec 32 := Scalar.addi v223 c3_i32_199
  let c1_i32_200 : BitVec 32 := 1#32
  let v344 : BitVec 32 := Scalar.addi v343 c1_i32_200
  let c512_i32_201 : BitVec 32 := 512#32
  let v345 : BitVec 32 := Scalar.muli v344 c512_i32_201
  v345
def k0_mult9 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c3_i32_209 : BitVec 32 := 3#32
  let v355 : BitVec 32 := Scalar.addi v223 c3_i32_209
  let c512_i32_210 : BitVec 32 := 512#32
  let v356 : BitVec 32 := Scalar.muli v355 c512_i32_210
  v356
def k0_mult10 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c4_i32_223 : BitVec 32 := 4#32
  let v382 : BitVec 32 := Scalar.addi v223 c4_i32_223
  let c1_i32_224 : BitVec 32 := 1#32
  let v383 : BitVec 32 := Scalar.addi v382 c1_i32_224
  let c512_i32_225 : BitVec 32 := 512#32
  let v384 : BitVec 32 := Scalar.muli v383 c512_i32_225
  v384
def k0_mult11 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c4_i32_233 : BitVec 32 := 4#32
  let v394 : BitVec 32 := Scalar.addi v223 c4_i32_233
  let c512_i32_234 : BitVec 32 := 512#32
  let v395 : BitVec 32 := Scalar.muli v394 c512_i32_234
  v395
def k0_mult12 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c5_i32_247 : BitVec 32 := 5#32
  let v421 : BitVec 32 := Scalar.addi v223 c5_i32_247
  let c1_i32_248 : BitVec 32 := 1#32
  let v422 : BitVec 32 := Scalar.addi v421 c1_i32_248
  let c512_i32_249 : BitVec 32 := 512#32
  let v423 : BitVec 32 := Scalar.muli v422 c512_i32_249
  v423
def k0_mult13 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c5_i32_257 : BitVec 32 := 5#32
  let v433 : BitVec 32 := Scalar.addi v223 c5_i32_257
  let c512_i32_258 : BitVec 32 := 512#32
  let v434 : BitVec 32 := Scalar.muli v433 c512_i32_258
  v434
def k0_mult14 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c6_i32_271 : BitVec 32 := 6#32
  let v460 : BitVec 32 := Scalar.addi v223 c6_i32_271
  let c1_i32_272 : BitVec 32 := 1#32
  let v461 : BitVec 32 := Scalar.addi v460 c1_i32_272
  let c512_i32_273 : BitVec 32 := 512#32
  let v462 : BitVec 32 := Scalar.muli v461 c512_i32_273
  v462
def k0_mult15 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c6_i32_281 : BitVec 32 := 6#32
  let v472 : BitVec 32 := Scalar.addi v223 c6_i32_281
  let c512_i32_282 : BitVec 32 := 512#32
  let v473 : BitVec 32 := Scalar.muli v472 c512_i32_282
  v473
def k0_mult16 (i : grid0.Coords) (k0_t1 : Fin (k0_t1_loop i).trips) : BitVec 32 :=
  let c8_i32_126 : BitVec 32 := 8#32
  let c0_i32_40 : BitVec 32 := 0#32
  let c1_i32_42 : BitVec 32 := 1#32
  let arg17 : BitVec 32 := Scf.iv c0_i32_40 c1_i32_42 k0_t1
  let v224 : BitVec 32 := Scalar.muli c8_i32_126 arg17
  let c8_i32_127 : BitVec 32 := 8#32
  let v225 : BitVec 32 := Scalar.addi v224 c8_i32_127
  let c512_i32_295 : BitVec 32 := 512#32
  let v499 : BitVec 32 := Scalar.muli v225 c512_i32_295
  v499
def k0_off3 (i : grid0.Coords) (k0_t1 : Fin (k0_t1_loop i).trips) : Fin 3 → Nat :=
  let c0_296 : Index := 0#32
  let c8_i32_126 : BitVec 32 := 8#32
  let c0_i32_40 : BitVec 32 := 0#32
  let c1_i32_42 : BitVec 32 := 1#32
  let arg17 : BitVec 32 := Scf.iv c0_i32_40 c1_i32_42 k0_t1
  let v224 : BitVec 32 := Scalar.muli c8_i32_126 arg17
  let c8_i32_127 : BitVec 32 := 8#32
  let v225 : BitVec 32 := Scalar.addi v224 c8_i32_127
  let c512_i32_295 : BitVec 32 := 512#32
  let v499 : BitVec 32 := Scalar.muli v225 c512_i32_295
  let v500 : BitVec 32 := v499
  let v501 : Index := Scalar.indexCast v500
  let c0_297 : Index := 0#32
  ![0, v501.toNat, 0]
def k0_mult17 (i : grid0.Coords) (k0_t1 : Fin (k0_t1_loop i).trips) : BitVec 32 :=
  let c8_i32_125 : BitVec 32 := 8#32
  let c0_i32_40 : BitVec 32 := 0#32
  let c1_i32_42 : BitVec 32 := 1#32
  let arg17 : BitVec 32 := Scf.iv c0_i32_40 c1_i32_42 k0_t1
  let v223 : BitVec 32 := Scalar.muli c8_i32_125 arg17
  let c7_i32_303 : BitVec 32 := 7#32
  let v509 : BitVec 32 := Scalar.addi v223 c7_i32_303
  let c512_i32_304 : BitVec 32 := 512#32
  let v510 : BitVec 32 := Scalar.muli v509 c512_i32_304
  v510
@[reducible] def k0_t2_loop (i : grid0.Coords) : Scf.Loop 32 :=
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let v70 : BitVec 32 := Scalar.addi c0_i32_40 v69
  let c1_i32_43 : BitVec 32 := 1#32
  ⟨v73, v70, c1_i32_43⟩
def k0_mult18 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c0_i32_128 : BitVec 32 := 0#32
  let v226 : BitVec 32 := Scalar.addi v223 c0_i32_128
  let c1_i32_129 : BitVec 32 := 1#32
  let v227 : BitVec 32 := Scalar.addi v226 c1_i32_129
  let c512_i32 : BitVec 32 := 512#32
  let v228 : BitVec 32 := Scalar.muli v227 c512_i32
  v228
def k0_off4 (i : grid0.Coords) (k0_t2 : Fin (k0_t2_loop i).trips) (c0_i32_128 : BitVec 32) : Fin 3 → Nat :=
  let c0_130 : Index := 0#32
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let v226 : BitVec 32 := Scalar.addi v223 c0_i32_128
  let c1_i32_129 : BitVec 32 := 1#32
  let v227 : BitVec 32 := Scalar.addi v226 c1_i32_129
  let c512_i32 : BitVec 32 := 512#32
  let v228 : BitVec 32 := Scalar.muli v227 c512_i32
  let v229 : BitVec 32 := v228
  let v230 : Index := Scalar.indexCast v229
  let c0_131 : Index := 0#32
  ![0, v230.toNat, 0]
def k0_mult19 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c0_i32_137 : BitVec 32 := 0#32
  let v238 : BitVec 32 := Scalar.addi v223 c0_i32_137
  let c512_i32_138 : BitVec 32 := 512#32
  let v239 : BitVec 32 := Scalar.muli v238 c512_i32_138
  v239
def k0_off5 (i : grid0.Coords) (k0_t2 : Fin (k0_t2_loop i).trips) (c0_i32_137 : BitVec 32) : Fin 3 → Nat :=
  let c0_139 : Index := 0#32
  let c0_140 : Index := 0#32
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let v238 : BitVec 32 := Scalar.addi v223 c0_i32_137
  let c512_i32_138 : BitVec 32 := 512#32
  let v239 : BitVec 32 := Scalar.muli v238 c512_i32_138
  let v240 : BitVec 32 := v239
  let v241 : Index := Scalar.indexCast v240
  ![0, 0, v241.toNat]
def k0_mult20 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c1_i32_151 : BitVec 32 := 1#32
  let v265 : BitVec 32 := Scalar.addi v223 c1_i32_151
  let c1_i32_152 : BitVec 32 := 1#32
  let v266 : BitVec 32 := Scalar.addi v265 c1_i32_152
  let c512_i32_153 : BitVec 32 := 512#32
  let v267 : BitVec 32 := Scalar.muli v266 c512_i32_153
  v267
def k0_mult21 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c1_i32_161 : BitVec 32 := 1#32
  let v277 : BitVec 32 := Scalar.addi v223 c1_i32_161
  let c512_i32_162 : BitVec 32 := 512#32
  let v278 : BitVec 32 := Scalar.muli v277 c512_i32_162
  v278
def k0_mult22 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c2_i32_175 : BitVec 32 := 2#32
  let v304 : BitVec 32 := Scalar.addi v223 c2_i32_175
  let c1_i32_176 : BitVec 32 := 1#32
  let v305 : BitVec 32 := Scalar.addi v304 c1_i32_176
  let c512_i32_177 : BitVec 32 := 512#32
  let v306 : BitVec 32 := Scalar.muli v305 c512_i32_177
  v306
def k0_mult23 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c2_i32_185 : BitVec 32 := 2#32
  let v316 : BitVec 32 := Scalar.addi v223 c2_i32_185
  let c512_i32_186 : BitVec 32 := 512#32
  let v317 : BitVec 32 := Scalar.muli v316 c512_i32_186
  v317
def k0_mult24 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c3_i32_199 : BitVec 32 := 3#32
  let v343 : BitVec 32 := Scalar.addi v223 c3_i32_199
  let c1_i32_200 : BitVec 32 := 1#32
  let v344 : BitVec 32 := Scalar.addi v343 c1_i32_200
  let c512_i32_201 : BitVec 32 := 512#32
  let v345 : BitVec 32 := Scalar.muli v344 c512_i32_201
  v345
def k0_mult25 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c3_i32_209 : BitVec 32 := 3#32
  let v355 : BitVec 32 := Scalar.addi v223 c3_i32_209
  let c512_i32_210 : BitVec 32 := 512#32
  let v356 : BitVec 32 := Scalar.muli v355 c512_i32_210
  v356
def k0_mult26 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c4_i32_223 : BitVec 32 := 4#32
  let v382 : BitVec 32 := Scalar.addi v223 c4_i32_223
  let c1_i32_224 : BitVec 32 := 1#32
  let v383 : BitVec 32 := Scalar.addi v382 c1_i32_224
  let c512_i32_225 : BitVec 32 := 512#32
  let v384 : BitVec 32 := Scalar.muli v383 c512_i32_225
  v384
def k0_mult27 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c4_i32_233 : BitVec 32 := 4#32
  let v394 : BitVec 32 := Scalar.addi v223 c4_i32_233
  let c512_i32_234 : BitVec 32 := 512#32
  let v395 : BitVec 32 := Scalar.muli v394 c512_i32_234
  v395
def k0_mult28 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c5_i32_247 : BitVec 32 := 5#32
  let v421 : BitVec 32 := Scalar.addi v223 c5_i32_247
  let c1_i32_248 : BitVec 32 := 1#32
  let v422 : BitVec 32 := Scalar.addi v421 c1_i32_248
  let c512_i32_249 : BitVec 32 := 512#32
  let v423 : BitVec 32 := Scalar.muli v422 c512_i32_249
  v423
def k0_mult29 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c5_i32_257 : BitVec 32 := 5#32
  let v433 : BitVec 32 := Scalar.addi v223 c5_i32_257
  let c512_i32_258 : BitVec 32 := 512#32
  let v434 : BitVec 32 := Scalar.muli v433 c512_i32_258
  v434
def k0_mult30 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c6_i32_271 : BitVec 32 := 6#32
  let v460 : BitVec 32 := Scalar.addi v223 c6_i32_271
  let c1_i32_272 : BitVec 32 := 1#32
  let v461 : BitVec 32 := Scalar.addi v460 c1_i32_272
  let c512_i32_273 : BitVec 32 := 512#32
  let v462 : BitVec 32 := Scalar.muli v461 c512_i32_273
  v462
def k0_mult31 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c6_i32_281 : BitVec 32 := 6#32
  let v472 : BitVec 32 := Scalar.addi v223 c6_i32_281
  let c512_i32_282 : BitVec 32 := 512#32
  let v473 : BitVec 32 := Scalar.muli v472 c512_i32_282
  v473
def k0_mult32 (i : grid0.Coords) (k0_t2 : Fin (k0_t2_loop i).trips) : BitVec 32 :=
  let c8_i32_126 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v224 : BitVec 32 := Scalar.muli c8_i32_126 arg17
  let c8_i32_127 : BitVec 32 := 8#32
  let v225 : BitVec 32 := Scalar.addi v224 c8_i32_127
  let c512_i32_295 : BitVec 32 := 512#32
  let v499 : BitVec 32 := Scalar.muli v225 c512_i32_295
  v499
def k0_off6 (i : grid0.Coords) (k0_t2 : Fin (k0_t2_loop i).trips) : Fin 3 → Nat :=
  let c0_296 : Index := 0#32
  let c8_i32_126 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v224 : BitVec 32 := Scalar.muli c8_i32_126 arg17
  let c8_i32_127 : BitVec 32 := 8#32
  let v225 : BitVec 32 := Scalar.addi v224 c8_i32_127
  let c512_i32_295 : BitVec 32 := 512#32
  let v499 : BitVec 32 := Scalar.muli v225 c512_i32_295
  let v500 : BitVec 32 := v499
  let v501 : Index := Scalar.indexCast v500
  let c0_297 : Index := 0#32
  ![0, v501.toNat, 0]
def k0_mult33 (i : grid0.Coords) (k0_t2 : Fin (k0_t2_loop i).trips) : BitVec 32 :=
  let c8_i32_125 : BitVec 32 := 8#32
  let c0_i32_40 : BitVec 32 := 0#32
  let arg1 : BitVec 32 := BitVec.ofNat 32 (i 1).val
  let c0_i32_34 : BitVec 32 := 0#32
  let v53 : BitVec 1 := Scalar.cmpi .sgt arg1 c0_i32_34
  let v54 : BitVec 32 := Scalar.extui v53
  let c0_i32_35 : BitVec 32 := 0#32
  let v55 : BitVec 1 := Scalar.cmpi .slt arg1 c0_i32_35
  let v56 : BitVec 32 := Scalar.extui v55
  let v57 : BitVec 32 := Scalar.subi v54 v56
  let c8_i32 : BitVec 32 := 8#32
  let c0_i32_36 : BitVec 32 := 0#32
  let v58 : BitVec 1 := Scalar.cmpi .sgt c8_i32 c0_i32_36
  let v59 : BitVec 32 := Scalar.extui v58
  let c0_i32_37 : BitVec 32 := 0#32
  let v60 : BitVec 1 := Scalar.cmpi .slt c8_i32 c0_i32_37
  let v61 : BitVec 32 := Scalar.extui v60
  let v62 : BitVec 32 := Scalar.subi v59 v61
  let v63 : BitVec 1 := Scalar.cmpi .ne v57 v62
  let v64 : BitVec 32 := Scalar.remsi arg1 c8_i32
  let c0_i32_38 : BitVec 32 := 0#32
  let v65 : BitVec 1 := Scalar.cmpi .ne v64 c0_i32_38
  let v66 : BitVec 1 := Scalar.andi v63 v65
  let v52 : BitVec 32 := Scalar.divsi arg1 c8_i32
  let c1_i32 : BitVec 32 := 1#32
  let v67 : BitVec 32 := Scalar.subi v52 c1_i32
  let v68 : BitVec 32 := Scalar.select v66 v67 v52
  let v69 : BitVec 32 := Scalar.subi v68 c0_i32_40
  let c1_i32_41 : BitVec 32 := 1#32
  let v71 : BitVec 32 := Scalar.divsi v69 c1_i32_41
  let v72 : BitVec 32 := Scalar.muli v71 c1_i32_41
  let v73 : BitVec 32 := Scalar.addi c0_i32_40 v72
  let c1_i32_43 : BitVec 32 := 1#32
  let arg17 : BitVec 32 := Scf.iv v73 c1_i32_43 k0_t2
  let v223 : BitVec 32 := Scalar.muli c8_i32_125 arg17
  let c7_i32_303 : BitVec 32 := 7#32
  let v509 : BitVec 32 := Scalar.addi v223 c7_i32_303
  let c512_i32_304 : BitVec 32 := 512#32
  let v510 : BitVec 32 := Scalar.muli v509 c512_i32_304
  v510
def k0_cond1 (i : grid0.Coords) : BitVec 1 :=
  let arg1 : BitVec 32 := BitVec.ofNat 32 (i 1).val
  let c8_i32_44 : BitVec 32 := 8#32
  let c0_i32_45 : BitVec 32 := 0#32
  let v74 : BitVec 1 := Scalar.cmpi .eq c8_i32_44 c0_i32_45
  let c1_i32_46 : BitVec 32 := 1#32
  let v75 : BitVec 32 := Scalar.select v74 c1_i32_46 c8_i32_44
  let v76 : BitVec 32 := Scalar.remsi arg1 v75
  let c0_i32_48 : BitVec 32 := 0#32
  let v78 : BitVec 1 := Scalar.cmpi .slt v76 c0_i32_48
  let c0_i32_49 : BitVec 32 := 0#32
  let v79 : BitVec 1 := Scalar.cmpi .slt v75 c0_i32_49
  let v80 : BitVec 1 := Scalar.xori v78 v79
  let c0_i32_47 : BitVec 32 := 0#32
  let v77 : BitVec 1 := Scalar.cmpi .ne v76 c0_i32_47
  let v81 : BitVec 1 := Scalar.andi v80 v77
  let v82 : BitVec 32 := Scalar.addi v76 v75
  let v83 : BitVec 32 := Scalar.select v81 v82 v76
  let c0_i32_50 : BitVec 32 := 0#32
  let v84 : BitVec 1 := Scalar.cmpi .eq v83 c0_i32_50
  let v85 : BitVec 32 := Scalar.extui v84
  let c0_i32_51 : BitVec 32 := 0#32
  let v86 : BitVec 1 := Scalar.cmpi .ne v85 c0_i32_51
  v86

def k0_mult34 (i : grid0.Coords) : BitVec 32 :=
  let arg1 : BitVec 32 := BitVec.ofNat 32 (i 1).val
  let c0_i32_125 : BitVec 32 := 0#32
  let v223 : BitVec 32 := Scalar.subi arg1 c0_i32_125
  let c0_i32_134 : BitVec 32 := 0#32
  let v246 : BitVec 32 := Scalar.addi v223 c0_i32_134
  let c512_i32_135 : BitVec 32 := 512#32
  let v247 : BitVec 32 := Scalar.muli v246 c512_i32_135
  v247
def k0_off7 (i : grid0.Coords) : Fin 3 → Nat :=
  let c0_136 : Index := 0#32
  let c0_137 : Index := 0#32
  let arg1 : BitVec 32 := BitVec.ofNat 32 (i 1).val
  let c0_i32_125 : BitVec 32 := 0#32
  let v223 : BitVec 32 := Scalar.subi arg1 c0_i32_125
  let c0_i32_134 : BitVec 32 := 0#32
  let v246 : BitVec 32 := Scalar.addi v223 c0_i32_134
  let c512_i32_135 : BitVec 32 := 512#32
  let v247 : BitVec 32 := Scalar.muli v246 c512_i32_135
  let v248 : BitVec 32 := v247
  let v249 : Index := Scalar.indexCast v248
  ![0, 0, v249.toNat]
def k0_cond2 (i : grid0.Coords) : BitVec 1 :=
  let arg1 : BitVec 32 := BitVec.ofNat 32 (i 1).val
  let c8_i32_52 : BitVec 32 := 8#32
  let c0_i32_53 : BitVec 32 := 0#32
  let v87 : BitVec 1 := Scalar.cmpi .eq c8_i32_52 c0_i32_53
  let c1_i32_54 : BitVec 32 := 1#32
  let v88 : BitVec 32 := Scalar.select v87 c1_i32_54 c8_i32_52
  let v89 : BitVec 32 := Scalar.remsi arg1 v88
  let c0_i32_56 : BitVec 32 := 0#32
  let v91 : BitVec 1 := Scalar.cmpi .slt v89 c0_i32_56
  let c0_i32_57 : BitVec 32 := 0#32
  let v92 : BitVec 1 := Scalar.cmpi .slt v88 c0_i32_57
  let v93 : BitVec 1 := Scalar.xori v91 v92
  let c0_i32_55 : BitVec 32 := 0#32
  let v90 : BitVec 1 := Scalar.cmpi .ne v89 c0_i32_55
  let v94 : BitVec 1 := Scalar.andi v93 v90
  let v95 : BitVec 32 := Scalar.addi v89 v88
  let v96 : BitVec 32 := Scalar.select v94 v95 v89
  let c1_i32_58 : BitVec 32 := 1#32
  let v97 : BitVec 1 := Scalar.cmpi .eq v96 c1_i32_58
  let v98 : BitVec 32 := Scalar.extui v97
  let c0_i32_59 : BitVec 32 := 0#32
  let v99 : BitVec 1 := Scalar.cmpi .ne v98 c0_i32_59
  v99

def k0_mult35 (i : grid0.Coords) : BitVec 32 :=
  let arg1 : BitVec 32 := BitVec.ofNat 32 (i 1).val
  let c1_i32_125 : BitVec 32 := 1#32
  let v223 : BitVec 32 := Scalar.subi arg1 c1_i32_125
  let c0_i32_126 : BitVec 32 := 0#32
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  v226
def k0_off8 (i : grid0.Coords) : Fin 3 → Nat :=
  let c0_128 : Index := 0#32
  let arg1 : BitVec 32 := BitVec.ofNat 32 (i 1).val
  let c1_i32_125 : BitVec 32 := 1#32
  let v223 : BitVec 32 := Scalar.subi arg1 c1_i32_125
  let c0_i32_126 : BitVec 32 := 0#32
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  let v227 : BitVec 32 := v226
  let v228 : Index := Scalar.indexCast v227
  let c0_129 : Index := 0#32
  ![0, v228.toNat, 0]
def k0_mult36 (i : grid0.Coords) : BitVec 32 :=
  let arg1 : BitVec 32 := BitVec.ofNat 32 (i 1).val
  let c1_i32_125 : BitVec 32 := 1#32
  let v223 : BitVec 32 := Scalar.subi arg1 c1_i32_125
  let c0_i32_135 : BitVec 32 := 0#32
  let v236 : BitVec 32 := Scalar.addi v223 c0_i32_135
  let c512_i32_136 : BitVec 32 := 512#32
  let v237 : BitVec 32 := Scalar.muli v236 c512_i32_136
  v237
def k0_off9 (i : grid0.Coords) (c0_i32_135 : BitVec 32) : Fin 3 → Nat :=
  let c0_137 : Index := 0#32
  let c0_138 : Index := 0#32
  let arg1 : BitVec 32 := BitVec.ofNat 32 (i 1).val
  let c1_i32_125 : BitVec 32 := 1#32
  let v223 : BitVec 32 := Scalar.subi arg1 c1_i32_125
  let v236 : BitVec 32 := Scalar.addi v223 c0_i32_135
  let c512_i32_136 : BitVec 32 := 512#32
  let v237 : BitVec 32 := Scalar.muli v236 c512_i32_136
  let v238 : BitVec 32 := v237
  let v239 : Index := Scalar.indexCast v238
  ![0, 0, v239.toNat]
def k0_mult37 (i : grid0.Coords) : BitVec 32 :=
  let arg1 : BitVec 32 := BitVec.ofNat 32 (i 1).val
  let c1_i32_125 : BitVec 32 := 1#32
  let v223 : BitVec 32 := Scalar.subi arg1 c1_i32_125
  let c1_i32_158 : BitVec 32 := 1#32
  let v285 : BitVec 32 := Scalar.addi v223 c1_i32_158
  let c512_i32_159 : BitVec 32 := 512#32
  let v286 : BitVec 32 := Scalar.muli v285 c512_i32_159
  v286
def k0_cond3 (i : grid0.Coords) : BitVec 1 :=
  let arg1 : BitVec 32 := BitVec.ofNat 32 (i 1).val
  let c8_i32_60 : BitVec 32 := 8#32
  let c0_i32_61 : BitVec 32 := 0#32
  let v100 : BitVec 1 := Scalar.cmpi .eq c8_i32_60 c0_i32_61
  let c1_i32_62 : BitVec 32 := 1#32
  let v101 : BitVec 32 := Scalar.select v100 c1_i32_62 c8_i32_60
  let v102 : BitVec 32 := Scalar.remsi arg1 v101
  let c0_i32_64 : BitVec 32 := 0#32
  let v104 : BitVec 1 := Scalar.cmpi .slt v102 c0_i32_64
  let c0_i32_65 : BitVec 32 := 0#32
  let v105 : BitVec 1 := Scalar.cmpi .slt v101 c0_i32_65
  let v106 : BitVec 1 := Scalar.xori v104 v105
  let c0_i32_63 : BitVec 32 := 0#32
  let v103 : BitVec 1 := Scalar.cmpi .ne v102 c0_i32_63
  let v107 : BitVec 1 := Scalar.andi v106 v103
  let v108 : BitVec 32 := Scalar.addi v102 v101
  let v109 : BitVec 32 := Scalar.select v107 v108 v102
  let c2_i32 : BitVec 32 := 2#32
  let v110 : BitVec 1 := Scalar.cmpi .eq v109 c2_i32
  let v111 : BitVec 32 := Scalar.extui v110
  let c0_i32_66 : BitVec 32 := 0#32
  let v112 : BitVec 1 := Scalar.cmpi .ne v111 c0_i32_66
  v112

def k0_mult38 (i : grid0.Coords) : BitVec 32 :=
  let arg1 : BitVec 32 := BitVec.ofNat 32 (i 1).val
  let c2_i32_125 : BitVec 32 := 2#32
  let v223 : BitVec 32 := Scalar.subi arg1 c2_i32_125
  let c0_i32_126 : BitVec 32 := 0#32
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  v226
def k0_off10 (i : grid0.Coords) (c0_i32_126 : BitVec 32) : Fin 3 → Nat :=
  let c0_128 : Index := 0#32
  let arg1 : BitVec 32 := BitVec.ofNat 32 (i 1).val
  let c2_i32_125 : BitVec 32 := 2#32
  let v223 : BitVec 32 := Scalar.subi arg1 c2_i32_125
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  let v227 : BitVec 32 := v226
  let v228 : Index := Scalar.indexCast v227
  let c0_129 : Index := 0#32
  ![0, v228.toNat, 0]
def k0_mult39 (i : grid0.Coords) : BitVec 32 :=
  let arg1 : BitVec 32 := BitVec.ofNat 32 (i 1).val
  let c2_i32_125 : BitVec 32 := 2#32
  let v223 : BitVec 32 := Scalar.subi arg1 c2_i32_125
  let c0_i32_135 : BitVec 32 := 0#32
  let v236 : BitVec 32 := Scalar.addi v223 c0_i32_135
  let c512_i32_136 : BitVec 32 := 512#32
  let v237 : BitVec 32 := Scalar.muli v236 c512_i32_136
  v237
def k0_off11 (i : grid0.Coords) (c0_i32_135 : BitVec 32) : Fin 3 → Nat :=
  let c0_137 : Index := 0#32
  let c0_138 : Index := 0#32
  let arg1 : BitVec 32 := BitVec.ofNat 32 (i 1).val
  let c2_i32_125 : BitVec 32 := 2#32
  let v223 : BitVec 32 := Scalar.subi arg1 c2_i32_125
  let v236 : BitVec 32 := Scalar.addi v223 c0_i32_135
  let c512_i32_136 : BitVec 32 := 512#32
  let v237 : BitVec 32 := Scalar.muli v236 c512_i32_136
  let v238 : BitVec 32 := v237
  let v239 : Index := Scalar.indexCast v238
  ![0, 0, v239.toNat]
def k0_mult40 (i : grid0.Coords) : BitVec 32 :=
  let arg1 : BitVec 32 := BitVec.ofNat 32 (i 1).val
  let c2_i32_125 : BitVec 32 := 2#32
  let v223 : BitVec 32 := Scalar.subi arg1 c2_i32_125
  let c1_i32_149 : BitVec 32 := 1#32
  let v263 : BitVec 32 := Scalar.addi v223 c1_i32_149
  let c1_i32_150 : BitVec 32 := 1#32
  let v264 : BitVec 32 := Scalar.addi v263 c1_i32_150
  let c512_i32_151 : BitVec 32 := 512#32
  let v265 : BitVec 32 := Scalar.muli v264 c512_i32_151
  v265
def k0_mult41 (i : grid0.Coords) : BitVec 32 :=
  let arg1 : BitVec 32 := BitVec.ofNat 32 (i 1).val
  let c2_i32_125 : BitVec 32 := 2#32
  let v223 : BitVec 32 := Scalar.subi arg1 c2_i32_125
  let c1_i32_159 : BitVec 32 := 1#32
  let v275 : BitVec 32 := Scalar.addi v223 c1_i32_159
  let c512_i32_160 : BitVec 32 := 512#32
  let v276 : BitVec 32 := Scalar.muli v275 c512_i32_160
  v276
def k0_mult42 (i : grid0.Coords) : BitVec 32 :=
  let arg1 : BitVec 32 := BitVec.ofNat 32 (i 1).val
  let c2_i32_125 : BitVec 32 := 2#32
  let v223 : BitVec 32 := Scalar.subi arg1 c2_i32_125
  let c2_i32_182 : BitVec 32 := 2#32
  let v324 : BitVec 32 := Scalar.addi v223 c2_i32_182
  let c512_i32_183 : BitVec 32 := 512#32
  let v325 : BitVec 32 := Scalar.muli v324 c512_i32_183
  v325
def k0_cond4 (i : grid0.Coords) : BitVec 1 :=
  let arg1 : BitVec 32 := BitVec.ofNat 32 (i 1).val
  let c8_i32_67 : BitVec 32 := 8#32
  let c0_i32_68 : BitVec 32 := 0#32
  let v113 : BitVec 1 := Scalar.cmpi .eq c8_i32_67 c0_i32_68
  let c1_i32_69 : BitVec 32 := 1#32
  let v114 : BitVec 32 := Scalar.select v113 c1_i32_69 c8_i32_67
  let v115 : BitVec 32 := Scalar.remsi arg1 v114
  let c0_i32_71 : BitVec 32 := 0#32
  let v117 : BitVec 1 := Scalar.cmpi .slt v115 c0_i32_71
  let c0_i32_72 : BitVec 32 := 0#32
  let v118 : BitVec 1 := Scalar.cmpi .slt v114 c0_i32_72
  let v119 : BitVec 1 := Scalar.xori v117 v118
  let c0_i32_70 : BitVec 32 := 0#32
  let v116 : BitVec 1 := Scalar.cmpi .ne v115 c0_i32_70
  let v120 : BitVec 1 := Scalar.andi v119 v116
  let v121 : BitVec 32 := Scalar.addi v115 v114
  let v122 : BitVec 32 := Scalar.select v120 v121 v115
  let c3_i32 : BitVec 32 := 3#32
  let v123 : BitVec 1 := Scalar.cmpi .eq v122 c3_i32
  let v124 : BitVec 32 := Scalar.extui v123
  let c0_i32_73 : BitVec 32 := 0#32
  let v125 : BitVec 1 := Scalar.cmpi .ne v124 c0_i32_73
  v125

def k0_mult43 (i : grid0.Coords) : BitVec 32 :=
  let arg1 : BitVec 32 := BitVec.ofNat 32 (i 1).val
  let c3_i32_125 : BitVec 32 := 3#32
  let v223 : BitVec 32 := Scalar.subi arg1 c3_i32_125
  let c0_i32_126 : BitVec 32 := 0#32
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  v226
def k0_off12 (i : grid0.Coords) (c0_i32_126 : BitVec 32) : Fin 3 → Nat :=
  let c0_128 : Index := 0#32
  let arg1 : BitVec 32 := BitVec.ofNat 32 (i 1).val
  let c3_i32_125 : BitVec 32 := 3#32
  let v223 : BitVec 32 := Scalar.subi arg1 c3_i32_125
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  let v227 : BitVec 32 := v226
  let v228 : Index := Scalar.indexCast v227
  let c0_129 : Index := 0#32
  ![0, v228.toNat, 0]
def k0_mult44 (i : grid0.Coords) : BitVec 32 :=
  let arg1 : BitVec 32 := BitVec.ofNat 32 (i 1).val
  let c3_i32_125 : BitVec 32 := 3#32
  let v223 : BitVec 32 := Scalar.subi arg1 c3_i32_125
  let c0_i32_135 : BitVec 32 := 0#32
  let v236 : BitVec 32 := Scalar.addi v223 c0_i32_135
  let c512_i32_136 : BitVec 32 := 512#32
  let v237 : BitVec 32 := Scalar.muli v236 c512_i32_136
  v237
def k0_off13 (i : grid0.Coords) (c0_i32_135 : BitVec 32) : Fin 3 → Nat :=
  let c0_137 : Index := 0#32
  let c0_138 : Index := 0#32
  let arg1 : BitVec 32 := BitVec.ofNat 32 (i 1).val
  let c3_i32_125 : BitVec 32 := 3#32
  let v223 : BitVec 32 := Scalar.subi arg1 c3_i32_125
  let v236 : BitVec 32 := Scalar.addi v223 c0_i32_135
  let c512_i32_136 : BitVec 32 := 512#32
  let v237 : BitVec 32 := Scalar.muli v236 c512_i32_136
  let v238 : BitVec 32 := v237
  let v239 : Index := Scalar.indexCast v238
  ![0, 0, v239.toNat]
def k0_mult45 (i : grid0.Coords) : BitVec 32 :=
  let arg1 : BitVec 32 := BitVec.ofNat 32 (i 1).val
  let c3_i32_125 : BitVec 32 := 3#32
  let v223 : BitVec 32 := Scalar.subi arg1 c3_i32_125
  let c1_i32_149 : BitVec 32 := 1#32
  let v263 : BitVec 32 := Scalar.addi v223 c1_i32_149
  let c1_i32_150 : BitVec 32 := 1#32
  let v264 : BitVec 32 := Scalar.addi v263 c1_i32_150
  let c512_i32_151 : BitVec 32 := 512#32
  let v265 : BitVec 32 := Scalar.muli v264 c512_i32_151
  v265
def k0_mult46 (i : grid0.Coords) : BitVec 32 :=
  let arg1 : BitVec 32 := BitVec.ofNat 32 (i 1).val
  let c3_i32_125 : BitVec 32 := 3#32
  let v223 : BitVec 32 := Scalar.subi arg1 c3_i32_125
  let c1_i32_159 : BitVec 32 := 1#32
  let v275 : BitVec 32 := Scalar.addi v223 c1_i32_159
  let c512_i32_160 : BitVec 32 := 512#32
  let v276 : BitVec 32 := Scalar.muli v275 c512_i32_160
  v276
def k0_mult47 (i : grid0.Coords) : BitVec 32 :=
  let arg1 : BitVec 32 := BitVec.ofNat 32 (i 1).val
  let c3_i32_125 : BitVec 32 := 3#32
  let v223 : BitVec 32 := Scalar.subi arg1 c3_i32_125
  let c2_i32_173 : BitVec 32 := 2#32
  let v302 : BitVec 32 := Scalar.addi v223 c2_i32_173
  let c1_i32_174 : BitVec 32 := 1#32
  let v303 : BitVec 32 := Scalar.addi v302 c1_i32_174
  let c512_i32_175 : BitVec 32 := 512#32
  let v304 : BitVec 32 := Scalar.muli v303 c512_i32_175
  v304
def k0_mult48 (i : grid0.Coords) : BitVec 32 :=
  let arg1 : BitVec 32 := BitVec.ofNat 32 (i 1).val
  let c3_i32_125 : BitVec 32 := 3#32
  let v223 : BitVec 32 := Scalar.subi arg1 c3_i32_125
  let c2_i32_183 : BitVec 32 := 2#32
  let v314 : BitVec 32 := Scalar.addi v223 c2_i32_183
  let c512_i32_184 : BitVec 32 := 512#32
  let v315 : BitVec 32 := Scalar.muli v314 c512_i32_184
  v315
def k0_mult49 (i : grid0.Coords) : BitVec 32 :=
  let arg1 : BitVec 32 := BitVec.ofNat 32 (i 1).val
  let c3_i32_125 : BitVec 32 := 3#32
  let v223 : BitVec 32 := Scalar.subi arg1 c3_i32_125
  let c3_i32_206 : BitVec 32 := 3#32
  let v363 : BitVec 32 := Scalar.addi v223 c3_i32_206
  let c512_i32_207 : BitVec 32 := 512#32
  let v364 : BitVec 32 := Scalar.muli v363 c512_i32_207
  v364
def k0_cond5 (i : grid0.Coords) : BitVec 1 :=
  let arg1 : BitVec 32 := BitVec.ofNat 32 (i 1).val
  let c8_i32_74 : BitVec 32 := 8#32
  let c0_i32_75 : BitVec 32 := 0#32
  let v126 : BitVec 1 := Scalar.cmpi .eq c8_i32_74 c0_i32_75
  let c1_i32_76 : BitVec 32 := 1#32
  let v127 : BitVec 32 := Scalar.select v126 c1_i32_76 c8_i32_74
  let v128 : BitVec 32 := Scalar.remsi arg1 v127
  let c0_i32_78 : BitVec 32 := 0#32
  let v130 : BitVec 1 := Scalar.cmpi .slt v128 c0_i32_78
  let c0_i32_79 : BitVec 32 := 0#32
  let v131 : BitVec 1 := Scalar.cmpi .slt v127 c0_i32_79
  let v132 : BitVec 1 := Scalar.xori v130 v131
  let c0_i32_77 : BitVec 32 := 0#32
  let v129 : BitVec 1 := Scalar.cmpi .ne v128 c0_i32_77
  let v133 : BitVec 1 := Scalar.andi v132 v129
  let v134 : BitVec 32 := Scalar.addi v128 v127
  let v135 : BitVec 32 := Scalar.select v133 v134 v128
  let c4_i32 : BitVec 32 := 4#32
  let v136 : BitVec 1 := Scalar.cmpi .eq v135 c4_i32
  let v137 : BitVec 32 := Scalar.extui v136
  let c0_i32_80 : BitVec 32 := 0#32
  let v138 : BitVec 1 := Scalar.cmpi .ne v137 c0_i32_80
  v138

def k0_mult50 (i : grid0.Coords) : BitVec 32 :=
  let arg1 : BitVec 32 := BitVec.ofNat 32 (i 1).val
  let c4_i32_125 : BitVec 32 := 4#32
  let v223 : BitVec 32 := Scalar.subi arg1 c4_i32_125
  let c0_i32_126 : BitVec 32 := 0#32
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  v226
def k0_off14 (i : grid0.Coords) (c0_i32_126 : BitVec 32) : Fin 3 → Nat :=
  let c0_128 : Index := 0#32
  let arg1 : BitVec 32 := BitVec.ofNat 32 (i 1).val
  let c4_i32_125 : BitVec 32 := 4#32
  let v223 : BitVec 32 := Scalar.subi arg1 c4_i32_125
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  let v227 : BitVec 32 := v226
  let v228 : Index := Scalar.indexCast v227
  let c0_129 : Index := 0#32
  ![0, v228.toNat, 0]
def k0_mult51 (i : grid0.Coords) : BitVec 32 :=
  let arg1 : BitVec 32 := BitVec.ofNat 32 (i 1).val
  let c4_i32_125 : BitVec 32 := 4#32
  let v223 : BitVec 32 := Scalar.subi arg1 c4_i32_125
  let c0_i32_135 : BitVec 32 := 0#32
  let v236 : BitVec 32 := Scalar.addi v223 c0_i32_135
  let c512_i32_136 : BitVec 32 := 512#32
  let v237 : BitVec 32 := Scalar.muli v236 c512_i32_136
  v237
def k0_off15 (i : grid0.Coords) (c0_i32_135 : BitVec 32) : Fin 3 → Nat :=
  let c0_137 : Index := 0#32
  let c0_138 : Index := 0#32
  let arg1 : BitVec 32 := BitVec.ofNat 32 (i 1).val
  let c4_i32_125 : BitVec 32 := 4#32
  let v223 : BitVec 32 := Scalar.subi arg1 c4_i32_125
  let v236 : BitVec 32 := Scalar.addi v223 c0_i32_135
  let c512_i32_136 : BitVec 32 := 512#32
  let v237 : BitVec 32 := Scalar.muli v236 c512_i32_136
  let v238 : BitVec 32 := v237
  let v239 : Index := Scalar.indexCast v238
  ![0, 0, v239.toNat]
def k0_mult52 (i : grid0.Coords) : BitVec 32 :=
  let arg1 : BitVec 32 := BitVec.ofNat 32 (i 1).val
  let c4_i32_125 : BitVec 32 := 4#32
  let v223 : BitVec 32 := Scalar.subi arg1 c4_i32_125
  let c1_i32_149 : BitVec 32 := 1#32
  let v263 : BitVec 32 := Scalar.addi v223 c1_i32_149
  let c1_i32_150 : BitVec 32 := 1#32
  let v264 : BitVec 32 := Scalar.addi v263 c1_i32_150
  let c512_i32_151 : BitVec 32 := 512#32
  let v265 : BitVec 32 := Scalar.muli v264 c512_i32_151
  v265
def k0_mult53 (i : grid0.Coords) : BitVec 32 :=
  let arg1 : BitVec 32 := BitVec.ofNat 32 (i 1).val
  let c4_i32_125 : BitVec 32 := 4#32
  let v223 : BitVec 32 := Scalar.subi arg1 c4_i32_125
  let c1_i32_159 : BitVec 32 := 1#32
  let v275 : BitVec 32 := Scalar.addi v223 c1_i32_159
  let c512_i32_160 : BitVec 32 := 512#32
  let v276 : BitVec 32 := Scalar.muli v275 c512_i32_160
  v276
def k0_mult54 (i : grid0.Coords) : BitVec 32 :=
  let arg1 : BitVec 32 := BitVec.ofNat 32 (i 1).val
  let c4_i32_125 : BitVec 32 := 4#32
  let v223 : BitVec 32 := Scalar.subi arg1 c4_i32_125
  let c2_i32_173 : BitVec 32 := 2#32
  let v302 : BitVec 32 := Scalar.addi v223 c2_i32_173
  let c1_i32_174 : BitVec 32 := 1#32
  let v303 : BitVec 32 := Scalar.addi v302 c1_i32_174
  let c512_i32_175 : BitVec 32 := 512#32
  let v304 : BitVec 32 := Scalar.muli v303 c512_i32_175
  v304
def k0_mult55 (i : grid0.Coords) : BitVec 32 :=
  let arg1 : BitVec 32 := BitVec.ofNat 32 (i 1).val
  let c4_i32_125 : BitVec 32 := 4#32
  let v223 : BitVec 32 := Scalar.subi arg1 c4_i32_125
  let c2_i32_183 : BitVec 32 := 2#32
  let v314 : BitVec 32 := Scalar.addi v223 c2_i32_183
  let c512_i32_184 : BitVec 32 := 512#32
  let v315 : BitVec 32 := Scalar.muli v314 c512_i32_184
  v315
def k0_mult56 (i : grid0.Coords) : BitVec 32 :=
  let arg1 : BitVec 32 := BitVec.ofNat 32 (i 1).val
  let c4_i32_125 : BitVec 32 := 4#32
  let v223 : BitVec 32 := Scalar.subi arg1 c4_i32_125
  let c3_i32_197 : BitVec 32 := 3#32
  let v341 : BitVec 32 := Scalar.addi v223 c3_i32_197
  let c1_i32_198 : BitVec 32 := 1#32
  let v342 : BitVec 32 := Scalar.addi v341 c1_i32_198
  let c512_i32_199 : BitVec 32 := 512#32
  let v343 : BitVec 32 := Scalar.muli v342 c512_i32_199
  v343
def k0_mult57 (i : grid0.Coords) : BitVec 32 :=
  let arg1 : BitVec 32 := BitVec.ofNat 32 (i 1).val
  let c4_i32_125 : BitVec 32 := 4#32
  let v223 : BitVec 32 := Scalar.subi arg1 c4_i32_125
  let c3_i32_207 : BitVec 32 := 3#32
  let v353 : BitVec 32 := Scalar.addi v223 c3_i32_207
  let c512_i32_208 : BitVec 32 := 512#32
  let v354 : BitVec 32 := Scalar.muli v353 c512_i32_208
  v354
def k0_mult58 (i : grid0.Coords) : BitVec 32 :=
  let arg1 : BitVec 32 := BitVec.ofNat 32 (i 1).val
  let c4_i32_125 : BitVec 32 := 4#32
  let v223 : BitVec 32 := Scalar.subi arg1 c4_i32_125
  let c4_i32_230 : BitVec 32 := 4#32
  let v402 : BitVec 32 := Scalar.addi v223 c4_i32_230
  let c512_i32_231 : BitVec 32 := 512#32
  let v403 : BitVec 32 := Scalar.muli v402 c512_i32_231
  v403
def k0_cond6 (i : grid0.Coords) : BitVec 1 :=
  let arg1 : BitVec 32 := BitVec.ofNat 32 (i 1).val
  let c8_i32_81 : BitVec 32 := 8#32
  let c0_i32_82 : BitVec 32 := 0#32
  let v139 : BitVec 1 := Scalar.cmpi .eq c8_i32_81 c0_i32_82
  let c1_i32_83 : BitVec 32 := 1#32
  let v140 : BitVec 32 := Scalar.select v139 c1_i32_83 c8_i32_81
  let v141 : BitVec 32 := Scalar.remsi arg1 v140
  let c0_i32_85 : BitVec 32 := 0#32
  let v143 : BitVec 1 := Scalar.cmpi .slt v141 c0_i32_85
  let c0_i32_86 : BitVec 32 := 0#32
  let v144 : BitVec 1 := Scalar.cmpi .slt v140 c0_i32_86
  let v145 : BitVec 1 := Scalar.xori v143 v144
  let c0_i32_84 : BitVec 32 := 0#32
  let v142 : BitVec 1 := Scalar.cmpi .ne v141 c0_i32_84
  let v146 : BitVec 1 := Scalar.andi v145 v142
  let v147 : BitVec 32 := Scalar.addi v141 v140
  let v148 : BitVec 32 := Scalar.select v146 v147 v141
  let c5_i32 : BitVec 32 := 5#32
  let v149 : BitVec 1 := Scalar.cmpi .eq v148 c5_i32
  let v150 : BitVec 32 := Scalar.extui v149
  let c0_i32_87 : BitVec 32 := 0#32
  let v151 : BitVec 1 := Scalar.cmpi .ne v150 c0_i32_87
  v151

def k0_mult59 (i : grid0.Coords) : BitVec 32 :=
  let arg1 : BitVec 32 := BitVec.ofNat 32 (i 1).val
  let c5_i32_125 : BitVec 32 := 5#32
  let v223 : BitVec 32 := Scalar.subi arg1 c5_i32_125
  let c0_i32_126 : BitVec 32 := 0#32
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  v226
def k0_off16 (i : grid0.Coords) (c0_i32_126 : BitVec 32) : Fin 3 → Nat :=
  let c0_128 : Index := 0#32
  let arg1 : BitVec 32 := BitVec.ofNat 32 (i 1).val
  let c5_i32_125 : BitVec 32 := 5#32
  let v223 : BitVec 32 := Scalar.subi arg1 c5_i32_125
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  let v227 : BitVec 32 := v226
  let v228 : Index := Scalar.indexCast v227
  let c0_129 : Index := 0#32
  ![0, v228.toNat, 0]
def k0_mult60 (i : grid0.Coords) : BitVec 32 :=
  let arg1 : BitVec 32 := BitVec.ofNat 32 (i 1).val
  let c5_i32_125 : BitVec 32 := 5#32
  let v223 : BitVec 32 := Scalar.subi arg1 c5_i32_125
  let c0_i32_135 : BitVec 32 := 0#32
  let v236 : BitVec 32 := Scalar.addi v223 c0_i32_135
  let c512_i32_136 : BitVec 32 := 512#32
  let v237 : BitVec 32 := Scalar.muli v236 c512_i32_136
  v237
def k0_off17 (i : grid0.Coords) (c0_i32_135 : BitVec 32) : Fin 3 → Nat :=
  let c0_137 : Index := 0#32
  let c0_138 : Index := 0#32
  let arg1 : BitVec 32 := BitVec.ofNat 32 (i 1).val
  let c5_i32_125 : BitVec 32 := 5#32
  let v223 : BitVec 32 := Scalar.subi arg1 c5_i32_125
  let v236 : BitVec 32 := Scalar.addi v223 c0_i32_135
  let c512_i32_136 : BitVec 32 := 512#32
  let v237 : BitVec 32 := Scalar.muli v236 c512_i32_136
  let v238 : BitVec 32 := v237
  let v239 : Index := Scalar.indexCast v238
  ![0, 0, v239.toNat]
def k0_mult61 (i : grid0.Coords) : BitVec 32 :=
  let arg1 : BitVec 32 := BitVec.ofNat 32 (i 1).val
  let c5_i32_125 : BitVec 32 := 5#32
  let v223 : BitVec 32 := Scalar.subi arg1 c5_i32_125
  let c1_i32_149 : BitVec 32 := 1#32
  let v263 : BitVec 32 := Scalar.addi v223 c1_i32_149
  let c1_i32_150 : BitVec 32 := 1#32
  let v264 : BitVec 32 := Scalar.addi v263 c1_i32_150
  let c512_i32_151 : BitVec 32 := 512#32
  let v265 : BitVec 32 := Scalar.muli v264 c512_i32_151
  v265
def k0_mult62 (i : grid0.Coords) : BitVec 32 :=
  let arg1 : BitVec 32 := BitVec.ofNat 32 (i 1).val
  let c5_i32_125 : BitVec 32 := 5#32
  let v223 : BitVec 32 := Scalar.subi arg1 c5_i32_125
  let c1_i32_159 : BitVec 32 := 1#32
  let v275 : BitVec 32 := Scalar.addi v223 c1_i32_159
  let c512_i32_160 : BitVec 32 := 512#32
  let v276 : BitVec 32 := Scalar.muli v275 c512_i32_160
  v276
def k0_mult63 (i : grid0.Coords) : BitVec 32 :=
  let arg1 : BitVec 32 := BitVec.ofNat 32 (i 1).val
  let c5_i32_125 : BitVec 32 := 5#32
  let v223 : BitVec 32 := Scalar.subi arg1 c5_i32_125
  let c2_i32_173 : BitVec 32 := 2#32
  let v302 : BitVec 32 := Scalar.addi v223 c2_i32_173
  let c1_i32_174 : BitVec 32 := 1#32
  let v303 : BitVec 32 := Scalar.addi v302 c1_i32_174
  let c512_i32_175 : BitVec 32 := 512#32
  let v304 : BitVec 32 := Scalar.muli v303 c512_i32_175
  v304
def k0_mult64 (i : grid0.Coords) : BitVec 32 :=
  let arg1 : BitVec 32 := BitVec.ofNat 32 (i 1).val
  let c5_i32_125 : BitVec 32 := 5#32
  let v223 : BitVec 32 := Scalar.subi arg1 c5_i32_125
  let c2_i32_183 : BitVec 32 := 2#32
  let v314 : BitVec 32 := Scalar.addi v223 c2_i32_183
  let c512_i32_184 : BitVec 32 := 512#32
  let v315 : BitVec 32 := Scalar.muli v314 c512_i32_184
  v315
def k0_mult65 (i : grid0.Coords) : BitVec 32 :=
  let arg1 : BitVec 32 := BitVec.ofNat 32 (i 1).val
  let c5_i32_125 : BitVec 32 := 5#32
  let v223 : BitVec 32 := Scalar.subi arg1 c5_i32_125
  let c3_i32_197 : BitVec 32 := 3#32
  let v341 : BitVec 32 := Scalar.addi v223 c3_i32_197
  let c1_i32_198 : BitVec 32 := 1#32
  let v342 : BitVec 32 := Scalar.addi v341 c1_i32_198
  let c512_i32_199 : BitVec 32 := 512#32
  let v343 : BitVec 32 := Scalar.muli v342 c512_i32_199
  v343
def k0_mult66 (i : grid0.Coords) : BitVec 32 :=
  let arg1 : BitVec 32 := BitVec.ofNat 32 (i 1).val
  let c5_i32_125 : BitVec 32 := 5#32
  let v223 : BitVec 32 := Scalar.subi arg1 c5_i32_125
  let c3_i32_207 : BitVec 32 := 3#32
  let v353 : BitVec 32 := Scalar.addi v223 c3_i32_207
  let c512_i32_208 : BitVec 32 := 512#32
  let v354 : BitVec 32 := Scalar.muli v353 c512_i32_208
  v354
def k0_mult67 (i : grid0.Coords) : BitVec 32 :=
  let arg1 : BitVec 32 := BitVec.ofNat 32 (i 1).val
  let c5_i32_125 : BitVec 32 := 5#32
  let v223 : BitVec 32 := Scalar.subi arg1 c5_i32_125
  let c4_i32_221 : BitVec 32 := 4#32
  let v380 : BitVec 32 := Scalar.addi v223 c4_i32_221
  let c1_i32_222 : BitVec 32 := 1#32
  let v381 : BitVec 32 := Scalar.addi v380 c1_i32_222
  let c512_i32_223 : BitVec 32 := 512#32
  let v382 : BitVec 32 := Scalar.muli v381 c512_i32_223
  v382
def k0_mult68 (i : grid0.Coords) : BitVec 32 :=
  let arg1 : BitVec 32 := BitVec.ofNat 32 (i 1).val
  let c5_i32_125 : BitVec 32 := 5#32
  let v223 : BitVec 32 := Scalar.subi arg1 c5_i32_125
  let c4_i32_231 : BitVec 32 := 4#32
  let v392 : BitVec 32 := Scalar.addi v223 c4_i32_231
  let c512_i32_232 : BitVec 32 := 512#32
  let v393 : BitVec 32 := Scalar.muli v392 c512_i32_232
  v393
def k0_mult69 (i : grid0.Coords) : BitVec 32 :=
  let arg1 : BitVec 32 := BitVec.ofNat 32 (i 1).val
  let c5_i32_125 : BitVec 32 := 5#32
  let v223 : BitVec 32 := Scalar.subi arg1 c5_i32_125
  let c5_i32_254 : BitVec 32 := 5#32
  let v441 : BitVec 32 := Scalar.addi v223 c5_i32_254
  let c512_i32_255 : BitVec 32 := 512#32
  let v442 : BitVec 32 := Scalar.muli v441 c512_i32_255
  v442
def k0_cond7 (i : grid0.Coords) : BitVec 1 :=
  let arg1 : BitVec 32 := BitVec.ofNat 32 (i 1).val
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi arg1 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let c6_i32 : BitVec 32 := 6#32
  let v162 : BitVec 1 := Scalar.cmpi .eq v161 c6_i32
  let v163 : BitVec 32 := Scalar.extui v162
  let c0_i32_94 : BitVec 32 := 0#32
  let v164 : BitVec 1 := Scalar.cmpi .ne v163 c0_i32_94
  v164

def k0_mult70 (i : grid0.Coords) : BitVec 32 :=
  let arg1 : BitVec 32 := BitVec.ofNat 32 (i 1).val
  let c6_i32_125 : BitVec 32 := 6#32
  let v223 : BitVec 32 := Scalar.subi arg1 c6_i32_125
  let c0_i32_126 : BitVec 32 := 0#32
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  v226
def k0_off18 (i : grid0.Coords) (c0_i32_126 : BitVec 32) : Fin 3 → Nat :=
  let c0_128 : Index := 0#32
  let arg1 : BitVec 32 := BitVec.ofNat 32 (i 1).val
  let c6_i32_125 : BitVec 32 := 6#32
  let v223 : BitVec 32 := Scalar.subi arg1 c6_i32_125
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  let v227 : BitVec 32 := v226
  let v228 : Index := Scalar.indexCast v227
  let c0_129 : Index := 0#32
  ![0, v228.toNat, 0]
def k0_mult71 (i : grid0.Coords) : BitVec 32 :=
  let arg1 : BitVec 32 := BitVec.ofNat 32 (i 1).val
  let c6_i32_125 : BitVec 32 := 6#32
  let v223 : BitVec 32 := Scalar.subi arg1 c6_i32_125
  let c0_i32_135 : BitVec 32 := 0#32
  let v236 : BitVec 32 := Scalar.addi v223 c0_i32_135
  let c512_i32_136 : BitVec 32 := 512#32
  let v237 : BitVec 32 := Scalar.muli v236 c512_i32_136
  v237
def k0_off19 (i : grid0.Coords) (c0_i32_135 : BitVec 32) : Fin 3 → Nat :=
  let c0_137 : Index := 0#32
  let c0_138 : Index := 0#32
  let arg1 : BitVec 32 := BitVec.ofNat 32 (i 1).val
  let c6_i32_125 : BitVec 32 := 6#32
  let v223 : BitVec 32 := Scalar.subi arg1 c6_i32_125
  let v236 : BitVec 32 := Scalar.addi v223 c0_i32_135
  let c512_i32_136 : BitVec 32 := 512#32
  let v237 : BitVec 32 := Scalar.muli v236 c512_i32_136
  let v238 : BitVec 32 := v237
  let v239 : Index := Scalar.indexCast v238
  ![0, 0, v239.toNat]
def k0_mult72 (i : grid0.Coords) : BitVec 32 :=
  let arg1 : BitVec 32 := BitVec.ofNat 32 (i 1).val
  let c6_i32_125 : BitVec 32 := 6#32
  let v223 : BitVec 32 := Scalar.subi arg1 c6_i32_125
  let c1_i32_149 : BitVec 32 := 1#32
  let v263 : BitVec 32 := Scalar.addi v223 c1_i32_149
  let c1_i32_150 : BitVec 32 := 1#32
  let v264 : BitVec 32 := Scalar.addi v263 c1_i32_150
  let c512_i32_151 : BitVec 32 := 512#32
  let v265 : BitVec 32 := Scalar.muli v264 c512_i32_151
  v265
def k0_mult73 (i : grid0.Coords) : BitVec 32 :=
  let arg1 : BitVec 32 := BitVec.ofNat 32 (i 1).val
  let c6_i32_125 : BitVec 32 := 6#32
  let v223 : BitVec 32 := Scalar.subi arg1 c6_i32_125
  let c1_i32_159 : BitVec 32 := 1#32
  let v275 : BitVec 32 := Scalar.addi v223 c1_i32_159
  let c512_i32_160 : BitVec 32 := 512#32
  let v276 : BitVec 32 := Scalar.muli v275 c512_i32_160
  v276
def k0_mult74 (i : grid0.Coords) : BitVec 32 :=
  let arg1 : BitVec 32 := BitVec.ofNat 32 (i 1).val
  let c6_i32_125 : BitVec 32 := 6#32
  let v223 : BitVec 32 := Scalar.subi arg1 c6_i32_125
  let c2_i32_173 : BitVec 32 := 2#32
  let v302 : BitVec 32 := Scalar.addi v223 c2_i32_173
  let c1_i32_174 : BitVec 32 := 1#32
  let v303 : BitVec 32 := Scalar.addi v302 c1_i32_174
  let c512_i32_175 : BitVec 32 := 512#32
  let v304 : BitVec 32 := Scalar.muli v303 c512_i32_175
  v304
def k0_mult75 (i : grid0.Coords) : BitVec 32 :=
  let arg1 : BitVec 32 := BitVec.ofNat 32 (i 1).val
  let c6_i32_125 : BitVec 32 := 6#32
  let v223 : BitVec 32 := Scalar.subi arg1 c6_i32_125
  let c2_i32_183 : BitVec 32 := 2#32
  let v314 : BitVec 32 := Scalar.addi v223 c2_i32_183
  let c512_i32_184 : BitVec 32 := 512#32
  let v315 : BitVec 32 := Scalar.muli v314 c512_i32_184
  v315
def k0_mult76 (i : grid0.Coords) : BitVec 32 :=
  let arg1 : BitVec 32 := BitVec.ofNat 32 (i 1).val
  let c6_i32_125 : BitVec 32 := 6#32
  let v223 : BitVec 32 := Scalar.subi arg1 c6_i32_125
  let c3_i32_197 : BitVec 32 := 3#32
  let v341 : BitVec 32 := Scalar.addi v223 c3_i32_197
  let c1_i32_198 : BitVec 32 := 1#32
  let v342 : BitVec 32 := Scalar.addi v341 c1_i32_198
  let c512_i32_199 : BitVec 32 := 512#32
  let v343 : BitVec 32 := Scalar.muli v342 c512_i32_199
  v343
def k0_mult77 (i : grid0.Coords) : BitVec 32 :=
  let arg1 : BitVec 32 := BitVec.ofNat 32 (i 1).val
  let c6_i32_125 : BitVec 32 := 6#32
  let v223 : BitVec 32 := Scalar.subi arg1 c6_i32_125
  let c3_i32_207 : BitVec 32 := 3#32
  let v353 : BitVec 32 := Scalar.addi v223 c3_i32_207
  let c512_i32_208 : BitVec 32 := 512#32
  let v354 : BitVec 32 := Scalar.muli v353 c512_i32_208
  v354
def k0_mult78 (i : grid0.Coords) : BitVec 32 :=
  let arg1 : BitVec 32 := BitVec.ofNat 32 (i 1).val
  let c6_i32_125 : BitVec 32 := 6#32
  let v223 : BitVec 32 := Scalar.subi arg1 c6_i32_125
  let c4_i32_221 : BitVec 32 := 4#32
  let v380 : BitVec 32 := Scalar.addi v223 c4_i32_221
  let c1_i32_222 : BitVec 32 := 1#32
  let v381 : BitVec 32 := Scalar.addi v380 c1_i32_222
  let c512_i32_223 : BitVec 32 := 512#32
  let v382 : BitVec 32 := Scalar.muli v381 c512_i32_223
  v382
def k0_mult79 (i : grid0.Coords) : BitVec 32 :=
  let arg1 : BitVec 32 := BitVec.ofNat 32 (i 1).val
  let c6_i32_125 : BitVec 32 := 6#32
  let v223 : BitVec 32 := Scalar.subi arg1 c6_i32_125
  let c4_i32_231 : BitVec 32 := 4#32
  let v392 : BitVec 32 := Scalar.addi v223 c4_i32_231
  let c512_i32_232 : BitVec 32 := 512#32
  let v393 : BitVec 32 := Scalar.muli v392 c512_i32_232
  v393
def k0_mult80 (i : grid0.Coords) : BitVec 32 :=
  let arg1 : BitVec 32 := BitVec.ofNat 32 (i 1).val
  let c6_i32_125 : BitVec 32 := 6#32
  let v223 : BitVec 32 := Scalar.subi arg1 c6_i32_125
  let c5_i32_245 : BitVec 32 := 5#32
  let v419 : BitVec 32 := Scalar.addi v223 c5_i32_245
  let c1_i32_246 : BitVec 32 := 1#32
  let v420 : BitVec 32 := Scalar.addi v419 c1_i32_246
  let c512_i32_247 : BitVec 32 := 512#32
  let v421 : BitVec 32 := Scalar.muli v420 c512_i32_247
  v421
def k0_mult81 (i : grid0.Coords) : BitVec 32 :=
  let arg1 : BitVec 32 := BitVec.ofNat 32 (i 1).val
  let c6_i32_125 : BitVec 32 := 6#32
  let v223 : BitVec 32 := Scalar.subi arg1 c6_i32_125
  let c5_i32_255 : BitVec 32 := 5#32
  let v431 : BitVec 32 := Scalar.addi v223 c5_i32_255
  let c512_i32_256 : BitVec 32 := 512#32
  let v432 : BitVec 32 := Scalar.muli v431 c512_i32_256
  v432
def k0_mult82 (i : grid0.Coords) : BitVec 32 :=
  let arg1 : BitVec 32 := BitVec.ofNat 32 (i 1).val
  let c6_i32_125 : BitVec 32 := 6#32
  let v223 : BitVec 32 := Scalar.subi arg1 c6_i32_125
  let c6_i32_278 : BitVec 32 := 6#32
  let v480 : BitVec 32 := Scalar.addi v223 c6_i32_278
  let c512_i32_279 : BitVec 32 := 512#32
  let v481 : BitVec 32 := Scalar.muli v480 c512_i32_279
  v481
def k0_cond8 (i : grid0.Coords) : BitVec 1 :=
  let arg1 : BitVec 32 := BitVec.ofNat 32 (i 1).val
  let c8_i32_95 : BitVec 32 := 8#32
  let c0_i32_96 : BitVec 32 := 0#32
  let v165 : BitVec 1 := Scalar.cmpi .eq c8_i32_95 c0_i32_96
  let c1_i32_97 : BitVec 32 := 1#32
  let v166 : BitVec 32 := Scalar.select v165 c1_i32_97 c8_i32_95
  let v167 : BitVec 32 := Scalar.remsi arg1 v166
  let c0_i32_99 : BitVec 32 := 0#32
  let v169 : BitVec 1 := Scalar.cmpi .slt v167 c0_i32_99
  let c0_i32_100 : BitVec 32 := 0#32
  let v170 : BitVec 1 := Scalar.cmpi .slt v166 c0_i32_100
  let v171 : BitVec 1 := Scalar.xori v169 v170
  let c0_i32_98 : BitVec 32 := 0#32
  let v168 : BitVec 1 := Scalar.cmpi .ne v167 c0_i32_98
  let v172 : BitVec 1 := Scalar.andi v171 v168
  let v173 : BitVec 32 := Scalar.addi v167 v166
  let v174 : BitVec 32 := Scalar.select v172 v173 v167
  let c7_i32 : BitVec 32 := 7#32
  let v175 : BitVec 1 := Scalar.cmpi .eq v174 c7_i32
  let v176 : BitVec 32 := Scalar.extui v175
  let c0_i32_101 : BitVec 32 := 0#32
  let v177 : BitVec 1 := Scalar.cmpi .ne v176 c0_i32_101
  v177

def k0_mult83 (i : grid0.Coords) : BitVec 32 :=
  let arg1 : BitVec 32 := BitVec.ofNat 32 (i 1).val
  let c7_i32_125 : BitVec 32 := 7#32
  let v223 : BitVec 32 := Scalar.subi arg1 c7_i32_125
  let c0_i32_126 : BitVec 32 := 0#32
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  v226
def k0_off20 (i : grid0.Coords) (c0_i32_126 : BitVec 32) : Fin 3 → Nat :=
  let c0_128 : Index := 0#32
  let arg1 : BitVec 32 := BitVec.ofNat 32 (i 1).val
  let c7_i32_125 : BitVec 32 := 7#32
  let v223 : BitVec 32 := Scalar.subi arg1 c7_i32_125
  let v224 : BitVec 32 := Scalar.addi v223 c0_i32_126
  let c1_i32_127 : BitVec 32 := 1#32
  let v225 : BitVec 32 := Scalar.addi v224 c1_i32_127
  let c512_i32 : BitVec 32 := 512#32
  let v226 : BitVec 32 := Scalar.muli v225 c512_i32
  let v227 : BitVec 32 := v226
  let v228 : Index := Scalar.indexCast v227
  let c0_129 : Index := 0#32
  ![0, v228.toNat, 0]
def k0_mult84 (i : grid0.Coords) : BitVec 32 :=
  let arg1 : BitVec 32 := BitVec.ofNat 32 (i 1).val
  let c7_i32_125 : BitVec 32 := 7#32
  let v223 : BitVec 32 := Scalar.subi arg1 c7_i32_125
  let c0_i32_135 : BitVec 32 := 0#32
  let v236 : BitVec 32 := Scalar.addi v223 c0_i32_135
  let c512_i32_136 : BitVec 32 := 512#32
  let v237 : BitVec 32 := Scalar.muli v236 c512_i32_136
  v237
def k0_off21 (i : grid0.Coords) (c0_i32_135 : BitVec 32) : Fin 3 → Nat :=
  let c0_137 : Index := 0#32
  let c0_138 : Index := 0#32
  let arg1 : BitVec 32 := BitVec.ofNat 32 (i 1).val
  let c7_i32_125 : BitVec 32 := 7#32
  let v223 : BitVec 32 := Scalar.subi arg1 c7_i32_125
  let v236 : BitVec 32 := Scalar.addi v223 c0_i32_135
  let c512_i32_136 : BitVec 32 := 512#32
  let v237 : BitVec 32 := Scalar.muli v236 c512_i32_136
  let v238 : BitVec 32 := v237
  let v239 : Index := Scalar.indexCast v238
  ![0, 0, v239.toNat]
def k0_mult85 (i : grid0.Coords) : BitVec 32 :=
  let arg1 : BitVec 32 := BitVec.ofNat 32 (i 1).val
  let c7_i32_125 : BitVec 32 := 7#32
  let v223 : BitVec 32 := Scalar.subi arg1 c7_i32_125
  let c1_i32_149 : BitVec 32 := 1#32
  let v263 : BitVec 32 := Scalar.addi v223 c1_i32_149
  let c1_i32_150 : BitVec 32 := 1#32
  let v264 : BitVec 32 := Scalar.addi v263 c1_i32_150
  let c512_i32_151 : BitVec 32 := 512#32
  let v265 : BitVec 32 := Scalar.muli v264 c512_i32_151
  v265
def k0_mult86 (i : grid0.Coords) : BitVec 32 :=
  let arg1 : BitVec 32 := BitVec.ofNat 32 (i 1).val
  let c7_i32_125 : BitVec 32 := 7#32
  let v223 : BitVec 32 := Scalar.subi arg1 c7_i32_125
  let c1_i32_159 : BitVec 32 := 1#32
  let v275 : BitVec 32 := Scalar.addi v223 c1_i32_159
  let c512_i32_160 : BitVec 32 := 512#32
  let v276 : BitVec 32 := Scalar.muli v275 c512_i32_160
  v276
def k0_mult87 (i : grid0.Coords) : BitVec 32 :=
  let arg1 : BitVec 32 := BitVec.ofNat 32 (i 1).val
  let c7_i32_125 : BitVec 32 := 7#32
  let v223 : BitVec 32 := Scalar.subi arg1 c7_i32_125
  let c2_i32_173 : BitVec 32 := 2#32
  let v302 : BitVec 32 := Scalar.addi v223 c2_i32_173
  let c1_i32_174 : BitVec 32 := 1#32
  let v303 : BitVec 32 := Scalar.addi v302 c1_i32_174
  let c512_i32_175 : BitVec 32 := 512#32
  let v304 : BitVec 32 := Scalar.muli v303 c512_i32_175
  v304
def k0_mult88 (i : grid0.Coords) : BitVec 32 :=
  let arg1 : BitVec 32 := BitVec.ofNat 32 (i 1).val
  let c7_i32_125 : BitVec 32 := 7#32
  let v223 : BitVec 32 := Scalar.subi arg1 c7_i32_125
  let c2_i32_183 : BitVec 32 := 2#32
  let v314 : BitVec 32 := Scalar.addi v223 c2_i32_183
  let c512_i32_184 : BitVec 32 := 512#32
  let v315 : BitVec 32 := Scalar.muli v314 c512_i32_184
  v315
def k0_mult89 (i : grid0.Coords) : BitVec 32 :=
  let arg1 : BitVec 32 := BitVec.ofNat 32 (i 1).val
  let c7_i32_125 : BitVec 32 := 7#32
  let v223 : BitVec 32 := Scalar.subi arg1 c7_i32_125
  let c3_i32_197 : BitVec 32 := 3#32
  let v341 : BitVec 32 := Scalar.addi v223 c3_i32_197
  let c1_i32_198 : BitVec 32 := 1#32
  let v342 : BitVec 32 := Scalar.addi v341 c1_i32_198
  let c512_i32_199 : BitVec 32 := 512#32
  let v343 : BitVec 32 := Scalar.muli v342 c512_i32_199
  v343
def k0_mult90 (i : grid0.Coords) : BitVec 32 :=
  let arg1 : BitVec 32 := BitVec.ofNat 32 (i 1).val
  let c7_i32_125 : BitVec 32 := 7#32
  let v223 : BitVec 32 := Scalar.subi arg1 c7_i32_125
  let c3_i32_207 : BitVec 32 := 3#32
  let v353 : BitVec 32 := Scalar.addi v223 c3_i32_207
  let c512_i32_208 : BitVec 32 := 512#32
  let v354 : BitVec 32 := Scalar.muli v353 c512_i32_208
  v354
def k0_mult91 (i : grid0.Coords) : BitVec 32 :=
  let arg1 : BitVec 32 := BitVec.ofNat 32 (i 1).val
  let c7_i32_125 : BitVec 32 := 7#32
  let v223 : BitVec 32 := Scalar.subi arg1 c7_i32_125
  let c4_i32_221 : BitVec 32 := 4#32
  let v380 : BitVec 32 := Scalar.addi v223 c4_i32_221
  let c1_i32_222 : BitVec 32 := 1#32
  let v381 : BitVec 32 := Scalar.addi v380 c1_i32_222
  let c512_i32_223 : BitVec 32 := 512#32
  let v382 : BitVec 32 := Scalar.muli v381 c512_i32_223
  v382
def k0_mult92 (i : grid0.Coords) : BitVec 32 :=
  let arg1 : BitVec 32 := BitVec.ofNat 32 (i 1).val
  let c7_i32_125 : BitVec 32 := 7#32
  let v223 : BitVec 32 := Scalar.subi arg1 c7_i32_125
  let c4_i32_231 : BitVec 32 := 4#32
  let v392 : BitVec 32 := Scalar.addi v223 c4_i32_231
  let c512_i32_232 : BitVec 32 := 512#32
  let v393 : BitVec 32 := Scalar.muli v392 c512_i32_232
  v393
def k0_mult93 (i : grid0.Coords) : BitVec 32 :=
  let arg1 : BitVec 32 := BitVec.ofNat 32 (i 1).val
  let c7_i32_125 : BitVec 32 := 7#32
  let v223 : BitVec 32 := Scalar.subi arg1 c7_i32_125
  let c5_i32_245 : BitVec 32 := 5#32
  let v419 : BitVec 32 := Scalar.addi v223 c5_i32_245
  let c1_i32_246 : BitVec 32 := 1#32
  let v420 : BitVec 32 := Scalar.addi v419 c1_i32_246
  let c512_i32_247 : BitVec 32 := 512#32
  let v421 : BitVec 32 := Scalar.muli v420 c512_i32_247
  v421
def k0_mult94 (i : grid0.Coords) : BitVec 32 :=
  let arg1 : BitVec 32 := BitVec.ofNat 32 (i 1).val
  let c7_i32_125 : BitVec 32 := 7#32
  let v223 : BitVec 32 := Scalar.subi arg1 c7_i32_125
  let c5_i32_255 : BitVec 32 := 5#32
  let v431 : BitVec 32 := Scalar.addi v223 c5_i32_255
  let c512_i32_256 : BitVec 32 := 512#32
  let v432 : BitVec 32 := Scalar.muli v431 c512_i32_256
  v432
def k0_mult95 (i : grid0.Coords) : BitVec 32 :=
  let arg1 : BitVec 32 := BitVec.ofNat 32 (i 1).val
  let c7_i32_125 : BitVec 32 := 7#32
  let v223 : BitVec 32 := Scalar.subi arg1 c7_i32_125
  let c6_i32_269 : BitVec 32 := 6#32
  let v458 : BitVec 32 := Scalar.addi v223 c6_i32_269
  let c1_i32_270 : BitVec 32 := 1#32
  let v459 : BitVec 32 := Scalar.addi v458 c1_i32_270
  let c512_i32_271 : BitVec 32 := 512#32
  let v460 : BitVec 32 := Scalar.muli v459 c512_i32_271
  v460
def k0_mult96 (i : grid0.Coords) : BitVec 32 :=
  let arg1 : BitVec 32 := BitVec.ofNat 32 (i 1).val
  let c7_i32_125 : BitVec 32 := 7#32
  let v223 : BitVec 32 := Scalar.subi arg1 c7_i32_125
  let c6_i32_279 : BitVec 32 := 6#32
  let v470 : BitVec 32 := Scalar.addi v223 c6_i32_279
  let c512_i32_280 : BitVec 32 := 512#32
  let v471 : BitVec 32 := Scalar.muli v470 c512_i32_280
  v471
def k0_mult97 (i : grid0.Coords) : BitVec 32 :=
  let arg1 : BitVec 32 := BitVec.ofNat 32 (i 1).val
  let c7_i32_125 : BitVec 32 := 7#32
  let v223 : BitVec 32 := Scalar.subi arg1 c7_i32_125
  let c7_i32_302 : BitVec 32 := 7#32
  let v519 : BitVec 32 := Scalar.addi v223 c7_i32_302
  let c512_i32_303 : BitVec 32 := 512#32
  let v520 : BitVec 32 := Scalar.muli v519 c512_i32_303
  v520
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x144x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x16400x4x2x64 : Shape := ⟨5, ![1, 16400, 4, 2, 64]⟩
abbrev S1x16400x4x128 : Shape := ⟨4, ![1, 16400, 4, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S16400 : Shape := ⟨1, ![16400]⟩
abbrev S1x16400 : Shape := ⟨2, ![1, 16400]⟩
abbrev S16400x1 : Shape := ⟨2, ![16400, 1]⟩
abbrev S16400x16400 : Shape := ⟨2, ![16400, 16400]⟩
abbrev S1x4x2x16400x16400 : Shape := ⟨5, ![1, 4, 2, 16400, 16400]⟩
abbrev S1x4x2x16400 : Shape := ⟨4, ![1, 4, 2, 16400]⟩
abbrev S1x4x2x16400x1 : Shape := ⟨5, ![1, 4, 2, 16400, 1]⟩
abbrev S1x4x1x16400x16400 : Shape := ⟨5, ![1, 4, 1, 16400, 16400]⟩
abbrev S1x4x16400x16400 : Shape := ⟨4, ![1, 4, 16400, 16400]⟩
abbrev S1x4x128x16400 : Shape := ⟨4, ![1, 4, 128, 16400]⟩
abbrev S128 : Shape := ⟨1, ![128]⟩
abbrev S1x16400x4 : Shape := ⟨3, ![1, 16400, 4]⟩
abbrev S1x16400x4x1 : Shape := ⟨4, ![1, 16400, 4, 1]⟩
abbrev S1x1x1x128 : Shape := ⟨4, ![1, 1, 1, 128]⟩
abbrev S1x16384x4x128 : Shape := ⟨4, ![1, 16384, 4, 128]⟩
abbrev S16384x4x128 : Shape := ⟨3, ![16384, 4, 128]⟩
abbrev S16384x512 : Shape := ⟨2, ![16384, 512]⟩

abbrev nBuf : Space → Nat
  | .hbm => 85
  | .vmem => 0
  | .smem => 0
  | _ => 0

abbrev bufTy : (tb : Table) → Fin (tcTables nBuf tb) → BufTy
  | .hbm, ⟨0, _⟩ => ⟨S1x16400x4x2x64, .f32⟩
  | .hbm, ⟨1, _⟩ => ⟨S1x16400x4x2x64, .f32⟩
  | .hbm, ⟨2, _⟩ => ⟨S1x16400x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16400, .i32⟩
  | .hbm, ⟨24, _⟩ => ⟨S1x16400, .i32⟩
  | .hbm, ⟨25, _⟩ => ⟨S16400x1, .i32⟩
  | .hbm, ⟨26, _⟩ => ⟨S16400x16400, .i32⟩
  | .hbm, ⟨27, _⟩ => ⟨S16400x16400, .i32⟩
  | .hbm, ⟨28, _⟩ => ⟨S16400x16400, .i1⟩
  | .hbm, ⟨29, _⟩ => ⟨S1x4x2x16400x16400, .f32⟩
  | .hbm, ⟨30, _⟩ => ⟨S_, .f32⟩
  | .hbm, ⟨31, _⟩ => ⟨S1x4x2x16400x16400, .f32⟩
  | .hbm, ⟨32, _⟩ => ⟨S1x4x2x16400x16400, .f32⟩
  | .hbm, ⟨33, _⟩ => ⟨S_, .f32⟩
  | .hbm, ⟨34, _⟩ => ⟨S_, .f32⟩
  | .hbm, ⟨35, _⟩ => ⟨S1x4x2x16400x16400, .i1⟩
  | .hbm, ⟨36, _⟩ => ⟨S1x4x2x16400x16400, .f32⟩
  | .hbm, ⟨37, _⟩ => ⟨S1x4x2x16400x16400, .f32⟩
  | .hbm, ⟨38, _⟩ => ⟨S_, .f32⟩
  | .hbm, ⟨39, _⟩ => ⟨S1x4x2x16400, .f32⟩
  | .hbm, ⟨40, _⟩ => ⟨S_, .f32⟩
  | .hbm, ⟨41, _⟩ => ⟨S1x4x2x16400, .f32⟩
  | .hbm, ⟨42, _⟩ => ⟨S1x4x2x16400, .f32⟩
  | .hbm, ⟨43, _⟩ => ⟨S1x4x2x16400x1, .f32⟩
  | .hbm, ⟨44, _⟩ => ⟨S1x4x2x16400x16400, .f32⟩
  | .hbm, ⟨45, _⟩ => ⟨S1x4x2x16400x16400, .f32⟩
  | .hbm, ⟨46, _⟩ => ⟨S1x4x2x16400x16400, .f32⟩
  | .hbm, ⟨47, _⟩ => ⟨S_, .f32⟩
  | .hbm, ⟨48, _⟩ => ⟨S1x4x2x16400, .f32⟩
  | .hbm, ⟨49, _⟩ => ⟨S1x4x2x16400x1, .f32⟩
  | .hbm, ⟨50, _⟩ => ⟨S1x4x2x16400x16400, .f32⟩
  | .hbm, ⟨51, _⟩ => ⟨S1x4x2x16400x16400, .f32⟩
  | .hbm, ⟨52, _⟩ => ⟨S1x4x1x16400x16400, .f32⟩
  | .hbm, ⟨53, _⟩ => ⟨S1x4x16400x16400, .f32⟩
  | .hbm, ⟨54, _⟩ => ⟨S1x4x1x16400x16400, .f32⟩
  | .hbm, ⟨55, _⟩ => ⟨S1x4x16400x16400, .f32⟩
  | .hbm, ⟨56, _⟩ => ⟨S1x4x16400x16400, .f32⟩
  | .hbm, ⟨57, _⟩ => ⟨S1x4x16400x16400, .f32⟩
  | .hbm, ⟨58, _⟩ => ⟨S1x4x16400x16400, .f32⟩
  | .hbm, ⟨59, _⟩ => ⟨S1x4x128x16400, .f32⟩
  | .hbm, ⟨60, _⟩ => ⟨S1x16400x4x128, .f32⟩
  | .hbm, ⟨61, _⟩ => ⟨S128, .f32⟩
  | .hbm, ⟨62, _⟩ => ⟨S1x16400x4x128, .f32⟩
  | .hbm, ⟨63, _⟩ => ⟨S_, .f32⟩
  | .hbm, ⟨64, _⟩ => ⟨S1x16400x4, .f32⟩
  | .hbm, ⟨65, _⟩ => ⟨S1x16400x4x1, .f32⟩
  | .hbm, ⟨66, _⟩ => ⟨S_, .f32⟩
  | .hbm, ⟨67, _⟩ => ⟨S1x16400x4x1, .f32⟩
  | .hbm, ⟨68, _⟩ => ⟨S1x16400x4x1, .f32⟩
  | .hbm, ⟨69, _⟩ => ⟨S_, .f32⟩
  | .hbm, ⟨70, _⟩ => ⟨S1x16400x4x1, .f32⟩
  | .hbm, ⟨71, _⟩ => ⟨S1x16400x4x1, .f32⟩
  | .hbm, ⟨72, _⟩ => ⟨S1x16400x4x1, .f32⟩
  | .hbm, ⟨73, _⟩ => ⟨S1x16400x4x128, .f32⟩
  | .hbm, ⟨74, _⟩ => ⟨S1x16400x4x128, .f32⟩
  | .hbm, ⟨75, _⟩ => ⟨S1x1x1x128, .f32⟩
  | .hbm, ⟨76, _⟩ => ⟨S1x16400x4x128, .f32⟩
  | .hbm, ⟨77, _⟩ => ⟨S1x16400x4x128, .f32⟩
  | .hbm, ⟨78, _⟩ => ⟨S_, .f32⟩
  | .hbm, ⟨79, _⟩ => ⟨S1x16400x4x128, .f32⟩
  | .hbm, ⟨80, _⟩ => ⟨S1x16400x4x128, .f32⟩
  | .hbm, ⟨81, _⟩ => ⟨S1x16384x4x128, .f32⟩
  | .hbm, ⟨82, _⟩ => ⟨S16384x4x128, .f32⟩
  | .hbm, ⟨83, _⟩ => ⟨S16384x512, .f32⟩
  | .hbm, ⟨84, _⟩ => ⟨S16384x512, .bf16⟩
  | _, _ => ⟨S1x16400x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel2.lean ====
abbrev S1x16384x1024 : Shape := ⟨3, ![1, 16384, 1024]⟩
abbrev S32x4x1024 : Shape := ⟨3, ![32, 4, 1024]⟩
abbrev S1x32x15x512 : Shape := ⟨4, ![1, 32, 15, 512]⟩
abbrev S16x1024 : Shape := ⟨2, ![16, 1024]⟩
abbrev S1x1024 : Shape := ⟨2, ![1, 1024]⟩
abbrev S1x1024x3072 : Shape := ⟨3, ![1, 1024, 3072]⟩
abbrev S1024x3072 : Shape := ⟨2, ![1024, 3072]⟩
abbrev S16 : Shape := ⟨1, ![16]⟩
abbrev S4 : Shape := ⟨1, ![4]⟩
abbrev S_ : Shape := ⟨0, ![]⟩
abbrev S4x32 : Shape := ⟨2, ![4, 32]⟩
abbrev S128 : Shape := ⟨1, ![128]⟩
abbrev S112 : Shape := ⟨1, ![112]⟩
abbrev S256 : Shape := ⟨1, ![256]⟩
abbrev S4x32x1024 : Shape := ⟨3, ![4, 32, 1024]⟩
abbrev S128x1024 : Shape := ⟨2, ![128, 1024]⟩
abbrev S112x1024 : Shape := ⟨2, ![112, 1024]⟩
abbrev S256x1024 : Shape := ⟨2, ![256, 1024]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S1x256x1x32 : Shape := ⟨4, ![1, 256, 1, 32]⟩
abbrev S1x256x4x32 : Shape := ⟨4, ![1, 256, 4, 32]⟩
abbrev S256x128 : Shape := ⟨2, ![256, 128]⟩
abbrev S64 : Shape := ⟨1, ![64]⟩
abbrev S1x64 : Shape := ⟨2, ![1, 64]⟩
abbrev S2x64 : Shape := ⟨2, ![2, 64]⟩
abbrev S1x128 : Shape := ⟨2, ![1, 128]⟩
abbrev S4x2x128x256 : Shape := ⟨4, ![4, 2, 128, 256]⟩
abbrev S1024x128 : Shape := ⟨2, ![1024, 128]⟩
abbrev S4x256x128 : Shape := ⟨3, ![4, 256, 128]⟩
abbrev S4x144x256 : Shape := ⟨3, ![4, 144, 256]⟩
abbrev S256x512 : Shape := ⟨2, ![256, 512]⟩
abbrev S256x3072 : Shape := ⟨2, ![256, 3072]⟩
abbrev S64x256 : Shape := ⟨2, ![64, 256]⟩
abbrev S128x256 : Shape := ⟨2, ![128, 256]⟩
abbrev S1x1x128x256 : Shape := ⟨4, ![1, 1, 128, 256]⟩
abbrev S1x256x128 : Shape := ⟨3, ![1, 256, 128]⟩
abbrev S1x128x256 : Shape := ⟨3, ![1, 128, 256]⟩
abbrev S16x256 : Shape := ⟨2, ![16, 256]⟩
abbrev S1x16x256 : Shape := ⟨3, ![1, 16, 256]⟩
abbrev S16384x1024 : Shape := ⟨2, ![16384, 1024]⟩
abbrev S64x1 : Shape := ⟨2, ![64, 1]⟩
abbrev S64x32 : Shape := ⟨2, ![64, 32]⟩
abbrev S1x64x1x32 : Shape := ⟨4, ![1, 64, 1, 32]⟩
abbrev S1x64x4x32 : Shape := ⟨4, ![1, 64, 4, 32]⟩
abbrev S64x128 : Shape := ⟨2, ![64, 128]⟩
abbrev S64x1x128 : Shape := ⟨3, ![64, 1, 128]⟩
abbrev S64x256x128 : Shape := ⟨3, ![64, 256, 128]⟩
abbrev S16384x128 : Shape := ⟨2, ![16384, 128]⟩
abbrev S1x1x128 : Shape := ⟨3, ![1, 1, 128]⟩
abbrev S4x2x128x16384 : Shape := ⟨4, ![4, 2, 128, 16384]⟩
abbrev S65536x128 : Shape := ⟨2, ![65536, 128]⟩
abbrev S4x16384x128 : Shape := ⟨3, ![4, 16384, 128]⟩
abbrev S4x144x16384 : Shape := ⟨3, ![4, 144, 16384]⟩
abbrev S16384x512 : Shape := ⟨2, ![16384, 512]⟩
abbrev S512x1024 : Shape := ⟨2, ![512, 1024]⟩
abbrev S512x128 : Shape := ⟨2, ![512, 128]⟩
abbrev S4x2x128x512 : Shape := ⟨4, ![4, 2, 128, 512]⟩
abbrev S2048x128 : Shape := ⟨2, ![2048, 128]⟩
abbrev S4x512x128 : Shape := ⟨3, ![4, 512, 128]⟩
abbrev S4x144x512 : Shape := ⟨3, ![4, 144, 512]⟩
abbrev S512x512 : Shape := ⟨2, ![512, 512]⟩
abbrev S512 : Shape := ⟨1, ![512]⟩
abbrev S512x1 : Shape := ⟨2, ![512, 1]⟩
abbrev S512x3072 : Shape := ⟨2, ![512, 3072]⟩
abbrev S64x512 : Shape := ⟨2, ![64, 512]⟩
abbrev S128x512 : Shape := ⟨2, ![128, 512]⟩
abbrev S1x1x128x512 : Shape := ⟨4, ![1, 1, 128, 512]⟩
abbrev S1x512x128 : Shape := ⟨3, ![1, 512, 128]⟩
abbrev S1x128x512 : Shape := ⟨3, ![1, 128, 512]⟩
abbrev S16x512 : Shape := ⟨2, ![16, 512]⟩
abbrev S1x16x512 : Shape := ⟨3, ![1, 16, 512]⟩
abbrev S4x32x512 : Shape := ⟨3, ![4, 32, 512]⟩
abbrev S32x4x512 : Shape := ⟨3, ![32, 4, 512]⟩
abbrev S65600x128 : Shape := ⟨2, ![65600, 128]⟩
abbrev S1x1x16400x4x128 : Shape := ⟨5, ![1, 1, 16400, 4, 128]⟩
abbrev S15x512 : Shape := ⟨2, ![15, 512]⟩
abbrev S1x1x15x512 : Shape := ⟨4, ![1, 1, 15, 512]⟩
abbrev S1x32x4x4x128 : Shape := ⟨5, ![1, 32, 4, 4, 128]⟩
abbrev S32x15x512 : Shape := ⟨3, ![32, 15, 512]⟩
abbrev S32x19x512 : Shape := ⟨3, ![32, 19, 512]⟩
abbrev S4x1x64x16384 : Shape := ⟨4, ![4, 1, 64, 16384]⟩
abbrev S4x2x64x16384 : Shape := ⟨4, ![4, 2, 64, 16384]⟩
abbrev S16384x4x2x64 : Shape := ⟨4, ![16384, 4, 2, 64]⟩

abbrev nBuf : Space → Nat
  | .hbm => 201
  | .vmem => 34
  | .smem => 0
  | _ => 0

abbrev hbmTy0_0 (i : Nat) : BufTy := match i % 128 with
  | 0 => ⟨S1x16384x1024, .f32⟩
  | 1 => ⟨S32x4x1024, .f32⟩
  | 2 => ⟨S1x32x15x512, .f32⟩
  | 3 => ⟨S16x1024, .f32⟩
  | 4 => ⟨S1x1024, .f32⟩
  | 5 => ⟨S1x1024x3072, .f32⟩
  | 6 => ⟨S1024x3072, .f32⟩
  | 7 => ⟨S1024x3072, .bf16⟩
  | 8 => ⟨S16, .i32⟩
  | 9 => ⟨S4, .i32⟩
  | 10 => ⟨S_, .i32⟩
  | 11 => ⟨S4, .i32⟩
  | 12 => ⟨S4, .i32⟩
  | 13 => ⟨S4x32, .i32⟩
  | 14 => ⟨S128, .i32⟩
  | 15 => ⟨S_, .i32⟩
  | 16 => ⟨S112, .i32⟩
  | 17 => ⟨S256, .i32⟩
  | 18 => ⟨S4x32x1024, .f32⟩
  | 19 => ⟨S128x1024, .f32⟩
  | 20 => ⟨S_, .f32⟩
  | 21 => ⟨S112x1024, .f32⟩
  | 22 => ⟨S256x1024, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S256, .f32⟩
  | 38 => ⟨S256x1, .f32⟩
  | 39 => ⟨S1x32, .f32⟩
  | 40 => ⟨S256x32, .f32⟩
  | 41 => ⟨S256x32, .f32⟩
  | 42 => ⟨S256x32, .f32⟩
  | 43 => ⟨S256x32, .f32⟩
  | 44 => ⟨S256x32, .f32⟩
  | 45 => ⟨S1x256x1x32, .f32⟩
  | 46 => ⟨S1x256x4x32, .f32⟩
  | 47 => ⟨S256x128, .f32⟩
  | 48 => ⟨S1x256x1x32, .f32⟩
  | 49 => ⟨S1x256x4x32, .f32⟩
  | 50 => ⟨S256x128, .f32⟩
  | 51 => ⟨S_, .f32⟩
  | 52 => ⟨S32, .f32⟩
  | 53 => ⟨S32, .f32⟩
  | 54 => ⟨S_, .f32⟩
  | 55 => ⟨S32, .f32⟩
  | 56 => ⟨S64, .f32⟩
  | 57 => ⟨S1x64, .f32⟩
  | 58 => ⟨S2x64, .f32⟩
  | 59 => ⟨S128, .f32⟩
  | 60 => ⟨S1x128, .f32⟩
  | 61 => ⟨S256x128, .f32⟩
  | 62 => ⟨S256x128, .f32⟩
  | 63 => ⟨S4x2x128x256, .bf16⟩
  | 64 => ⟨S1024x128, .f32⟩
  | 65 => ⟨S4x256x128, .bf16⟩
  | 66 => ⟨S1024x128, .f32⟩
  | 67 => ⟨S4x144x256, .bf16⟩
  | 68 => ⟨S256x512, .f32⟩
  | 69 => ⟨S256x1024, .bf16⟩
  | 70 => ⟨S16384x1024, .f32⟩
  | 71 => ⟨S64, .i32⟩
  | 72 => ⟨S_, .i32⟩
  | 73 => ⟨S64, .i32⟩
  | 74 => ⟨S64, .i32⟩
  | 75 => ⟨S_, .i32⟩
  | 76 => ⟨S64, .i32⟩
  | 77 => ⟨S64, .i32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S64, .f32⟩
  | 93 => ⟨S64x1, .f32⟩
  | 94 => ⟨S1x32, .f32⟩
  | 95 => ⟨S64x32, .f32⟩
  | 96 => ⟨S64x32, .f32⟩
  | 97 => ⟨S64x32, .f32⟩
  | 98 => ⟨S64x32, .f32⟩
  | 99 => ⟨S64x32, .f32⟩
  | 100 => ⟨S256, .i32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S256, .f32⟩
  | 116 => ⟨S256x1, .f32⟩
  | 117 => ⟨S1x32, .f32⟩
  | 118 => ⟨S256x32, .f32⟩
  | 119 => ⟨S256x32, .f32⟩
  | 120 => ⟨S256x32, .f32⟩
  | 121 => ⟨S256x32, .f32⟩
  | 122 => ⟨S256x32, .f32⟩
  | 123 => ⟨S1x64x1x32, .f32⟩
  | 124 => ⟨S1x64x4x32, .f32⟩
  | 125 => ⟨S64x128, .f32⟩
  | 126 => ⟨S64x1x128, .f32⟩
  | 127 => ⟨S1x64x1x32, .f32⟩
  | _ => ⟨S1x16384x1024, .f32⟩

abbrev hbmTy0_1 (i : Nat) : BufTy := match i % 128 with
  | 0 => ⟨S1x64x4x32, .f32⟩
  | 1 => ⟨S64x128, .f32⟩
  | 2 => ⟨S64x1x128, .f32⟩
  | 3 => ⟨S1x256x1x32, .f32⟩
  | 4 => ⟨S1x256x4x32, .f32⟩
  | 5 => ⟨S256x128, .f32⟩
  | 6 => ⟨S1x256x128, .f32⟩
  | 7 => ⟨S1x256x1x32, .f32⟩
  | 8 => ⟨S1x256x4x32, .f32⟩
  | 9 => ⟨S256x128, .f32⟩
  | 10 => ⟨S1x256x128, .f32⟩
  | 11 => ⟨S64x256x128, .f32⟩
  | 12 => ⟨S64x256x128, .f32⟩
  | 13 => ⟨S64x256x128, .f32⟩
  | 14 => ⟨S64x256x128, .f32⟩
  | 15 => ⟨S64x256x128, .f32⟩
  | 16 => ⟨S64x256x128, .f32⟩
  | 17 => ⟨S64x256x128, .f32⟩
  | 18 => ⟨S16384x128, .f32⟩
  | 19 => ⟨S64x256x128, .f32⟩
  | 20 => ⟨S64x256x128, .f32⟩
  | 21 => ⟨S64x256x128, .f32⟩
  | 22 => ⟨S64x256x128, .f32⟩
  | 23 => ⟨S64x256x128, .f32⟩
  | 24 => ⟨S64x256x128, .f32⟩
  | 25 => ⟨S64x256x128, .f32⟩
  | 26 => ⟨S_, .f32⟩
  | 27 => ⟨S32, .f32⟩
  | 28 => ⟨S32, .f32⟩
  | 29 => ⟨S_, .f32⟩
  | 30 => ⟨S32, .f32⟩
  | 31 => ⟨S64, .f32⟩
  | 32 => ⟨S1x64, .f32⟩
  | 33 => ⟨S2x64, .f32⟩
  | 34 => ⟨S128, .f32⟩
  | 35 => ⟨S1x1x128, .f32⟩
  | 36 => ⟨S64x256x128, .f32⟩
  | 37 => ⟨S64x256x128, .f32⟩
  | 38 => ⟨S16384x128, .f32⟩
  | 39 => ⟨S4x2x128x16384, .bf16⟩
  | 40 => ⟨S65536x128, .f32⟩
  | 41 => ⟨S4x16384x128, .bf16⟩
  | 42 => ⟨S65536x128, .f32⟩
  | 43 => ⟨S4x144x16384, .bf16⟩
  | 44 => ⟨S16384x512, .f32⟩
  | 45 => ⟨S16384x1024, .bf16⟩
  | 46 => ⟨S512x128, .f32⟩
  | 47 => ⟨S4x32x512, .f32⟩
  | 48 => ⟨S32x4x512, .f32⟩
  | 49 => ⟨S512x128, .f32⟩
  | 50 => ⟨S4x32x512, .f32⟩
  | 51 => ⟨S32x4x512, .f32⟩
  | 52 => ⟨S64x128, .f32⟩
  | 53 => ⟨S65600x128, .f32⟩
  | 54 => ⟨S1x1x16400x4x128, .f32⟩
  | 55 => ⟨S64x128, .f32⟩
  | 56 => ⟨S65600x128, .f32⟩
  | 57 => ⟨S1x1x16400x4x128, .f32⟩
  | 58 => ⟨S15x512, .f32⟩
  | 59 => ⟨S1x1x15x512, .f32⟩
  | 60 => ⟨S1x32x4x4x128, .f32⟩
  | 61 => ⟨S1x32x4x4x128, .f32⟩
  | 62 => ⟨S32x15x512, .f32⟩
  | 63 => ⟨S128x512, .f32⟩
  | 64 => ⟨S4x32x512, .f32⟩
  | 65 => ⟨S32x4x512, .f32⟩
  | 66 => ⟨S32x19x512, .f32⟩
  | 67 => ⟨S32x15x512, .f32⟩
  | 68 => ⟨S1x32x15x512, .f32⟩
  | 69 => ⟨S4x1x64x16384, .bf16⟩
  | 70 => ⟨S4x1x64x16384, .bf16⟩
  | 71 => ⟨S4x2x64x16384, .bf16⟩
  | 72 => ⟨S16384x4x2x64, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x128, .f32⟩
  | .local _ .vmem, ⟨2, _⟩ => ⟨S256x128, .f32⟩
  | .local _ .vmem, ⟨3, _⟩ => ⟨S1x1024, .f32⟩
  | .local _ .vmem, ⟨4, _⟩ => ⟨S1024x3072, .bf16⟩
  | .local _ .vmem, ⟨5, _⟩ => ⟨S4x2x128x256, .bf16⟩
  | .local _ .vmem, ⟨6, _⟩ => ⟨S1024x128, .f32⟩
  | .local _ .vmem, ⟨7, _⟩ => ⟨S4x256x128, .bf16⟩
  | .local _ .vmem, ⟨8, _⟩ => ⟨S1024x128, .f32⟩
  | .local _ .vmem, ⟨9, _⟩ => ⟨S4x144x256, .bf16⟩
  | .local _ .vmem, ⟨10, _⟩ => ⟨S256x512, .f32⟩
  | .local _ .vmem, ⟨11, _⟩ => ⟨S256x1024, .bf16⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x1024, .f32⟩
  | .local _ .vmem, ⟨19, _⟩ => ⟨S1024x3072, .bf16⟩
  | .local _ .vmem, ⟨20, _⟩ => ⟨S4x2x128x512, .bf16⟩
  | .local _ .vmem, ⟨21, _⟩ => ⟨S4x2x128x512, .bf16⟩
  | .local _ .vmem, ⟨22, _⟩ => ⟨S2048x128, .f32⟩
  | .local _ .vmem, ⟨23, _⟩ => ⟨S2048x128, .f32⟩
  | .local _ .vmem, ⟨24, _⟩ => ⟨S4x512x128, .bf16⟩
  | .local _ .vmem, ⟨25, _⟩ => ⟨S4x512x128, .bf16⟩
  | .local _ .vmem, ⟨26, _⟩ => ⟨S2048x128, .f32⟩
  | .local _ .vmem, ⟨27, _⟩ => ⟨S2048x128, .f32⟩
  | .local _ .vmem, ⟨28, _⟩ => ⟨S4x144x512, .bf16⟩
  | .local _ .vmem, ⟨29, _⟩ => ⟨S4x144x512, .bf16⟩
  | .local _ .vmem, ⟨30, _⟩ => ⟨S512x512, .f32⟩
  | .local _ .vmem, ⟨31, _⟩ => ⟨S512x512, .f32⟩
  | .local _ .vmem, ⟨32, _⟩ => ⟨S512x1024, .bf16⟩
  | .local _ .vmem, ⟨33, _⟩ => ⟨S512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev main_v48_3 : Ref sig .tc := ⟨.hbm, 66, rfl⟩
abbrev main_v48_4 : Ref sig .tc := ⟨.hbm, 67, rfl⟩
abbrev main_v48_5 : Ref sig .tc := ⟨.hbm, 68, rfl⟩
abbrev main_v48_6 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_17 : Ref sig .tc := ⟨.hbm, 154, rfl⟩
abbrev main_v123 : Ref sig .tc := ⟨.hbm, 155, rfl⟩
abbrev main_v124 : Ref sig .tc := ⟨.hbm, 156, rfl⟩
abbrev main_cst_18 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134_0 : Ref sig .tc := ⟨.hbm, 167, rfl⟩
abbrev main_v134_1 : Ref sig .tc := ⟨.hbm, 168, rfl⟩
abbrev main_v134_2 : Ref sig .tc := ⟨.hbm, 169, rfl⟩
abbrev main_v134_3 : Ref sig .tc := ⟨.hbm, 170, rfl⟩
abbrev main_v134_4 : Ref sig .tc := ⟨.hbm, 171, rfl⟩
abbrev main_v134_5 : Ref sig .tc := ⟨.hbm, 172, rfl⟩
abbrev main_v134_6 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S4x144x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x3072 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4x2x128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4x512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x144x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== Reference2Ideal.lean ====
abbrev S1x16384x1024 : Shape := ⟨3, ![1, 16384, 1024]⟩
abbrev S32x4x1024 : Shape := ⟨3, ![32, 4, 1024]⟩
abbrev S1x32x15x512 : Shape := ⟨4, ![1, 32, 15, 512]⟩
abbrev S16x1024 : Shape := ⟨2, ![16, 1024]⟩
abbrev S1x1024 : Shape := ⟨2, ![1, 1024]⟩
abbrev S1x1024x3072 : Shape := ⟨3, ![1, 1024, 3072]⟩
abbrev S1x16x1024 : Shape := ⟨3, ![1, 16, 1024]⟩
abbrev S1x16400x1024 : Shape := ⟨3, ![1, 16400, 1024]⟩
abbrev S16400 : Shape := ⟨1, ![16400]⟩
abbrev S4 : Shape := ⟨1, ![4]⟩
abbrev S_ : Shape := ⟨0, ![]⟩
abbrev S1024 : Shape := ⟨1, ![1024]⟩
abbrev S1024x3072 : Shape := ⟨2, ![1024, 3072]⟩
abbrev S1x16400 : Shape := ⟨2, ![1, 16400]⟩
abbrev S1x16400x1 : Shape := ⟨3, ![1, 16400, 1]⟩
abbrev S1x1x1024 : Shape := ⟨3, ![1, 1, 1024]⟩
abbrev S1x16400x3072 : Shape := ⟨3, ![1, 16400, 3072]⟩
abbrev S1x16400x512 : Shape := ⟨3, ![1, 16400, 512]⟩
abbrev S1x16400x4x2x64 : Shape := ⟨5, ![1, 16400, 4, 2, 64]⟩
abbrev S32 : Shape := ⟨1, ![32]⟩
abbrev S16400x1 : Shape := ⟨2, ![16400, 1]⟩
abbrev S1x32 : Shape := ⟨2, ![1, 32]⟩
abbrev S16400x32 : Shape := ⟨2, ![16400, 32]⟩
abbrev S16400x1x1x32 : Shape := ⟨4, ![16400, 1, 1, 32]⟩
abbrev S1x16400x4x2x32 : Shape := ⟨5, ![1, 16400, 4, 2, 32]⟩
abbrev S1x16400x1x1x32 : Shape := ⟨5, ![1, 16400, 1, 1, 32]⟩
abbrev S1x16400x4x128 : Shape := ⟨4, ![1, 16400, 4, 128]⟩
abbrev S32x4 : Shape := ⟨2, ![32, 4]⟩
abbrev S32x4x1 : Shape := ⟨3, ![32, 4, 1]⟩
abbrev S32x4x3072 : Shape := ⟨3, ![32, 4, 3072]⟩
abbrev S32x4x512 : Shape := ⟨3, ![32, 4, 512]⟩
abbrev S32x4x4x2x64 : Shape := ⟨5, ![32, 4, 4, 2, 64]⟩
abbrev S4x1 : Shape := ⟨2, ![4, 1]⟩
abbrev S4x32 : Shape := ⟨2, ![4, 32]⟩
abbrev S4x1x1x32 : Shape := ⟨4, ![4, 1, 1, 32]⟩
abbrev S32x4x4x2x32 : Shape := ⟨5, ![32, 4, 4, 2, 32]⟩
abbrev S1x4x1x1x32 : Shape := ⟨5, ![1, 4, 1, 1, 32]⟩
abbrev S32x4x4x128 : Shape := ⟨4, ![32, 4, 4, 128]⟩
abbrev S32x15x512 : Shape := ⟨3, ![32, 15, 512]⟩
abbrev S32x19x512 : Shape := ⟨3, ![32, 19, 512]⟩
abbrev S1x1x16400x4x128 : Shape := ⟨5, ![1, 1, 16400, 4, 128]⟩
abbrev S1x15x512 : Shape := ⟨3, ![1, 15, 512]⟩
abbrev S1x1x15x512 : Shape := ⟨4, ![1, 1, 15, 512]⟩
abbrev S1x32x4x4x128 : Shape := ⟨5, ![1, 32, 4, 4, 128]⟩
abbrev S1x16384x4x2x64 : Shape := ⟨5, ![1, 16384, 4, 2, 64]⟩
abbrev S16384x4x2x64 : Shape := ⟨4, ![16384, 4, 2, 64]⟩
abbrev S1x16384x512 : Shape := ⟨3, ![1, 16384, 512]⟩
abbrev S16384x512 : Shape := ⟨2, ![16384, 512]⟩
abbrev S16384x1024 : Shape := ⟨2, ![16384, 1024]⟩

abbrev nBuf : Space → Nat
  | .hbm => 261
  | .vmem => 0
  | .smem => 0
  | _ => 0

abbrev hbmTy0_0 (i : Nat) : BufTy := match i % 128 with
  | 0 => ⟨S1x16384x1024, .f32⟩
  | 1 => ⟨S32x4x1024, .f32⟩
  | 2 => ⟨S1x32x15x512, .f32⟩
  | 3 => ⟨S16x1024, .f32⟩
  | 4 => ⟨S1x1024, .f32⟩
  | 5 => ⟨S1x1024x3072, .f32⟩
  | 6 => ⟨S1x16x1024, .f32⟩
  | 7 => ⟨S1x16400x1024, .f32⟩
  | 8 => ⟨S16400, .i32⟩
  | 9 => ⟨S4, .i32⟩
  | 10 => ⟨S_, .i32⟩
  | 11 => ⟨S4, .i32⟩
  | 12 => ⟨S4, .i32⟩
  | 13 => ⟨S1024, .f32⟩
  | 14 => ⟨S1024x3072, .f32⟩
  | 15 => ⟨S1x16400x1024, .f32⟩
  | 16 => ⟨S_, .f32⟩
  | 17 => ⟨S1x16400, .f32⟩
  | 18 => ⟨S1x16400x1, .f32⟩
  | 19 => ⟨S_, .f32⟩
  | 20 => ⟨S1x16400x1, .f32⟩
  | 21 => ⟨S1x16400x1, .f32⟩
  | 22 => ⟨S_, .f32⟩
  | 23 => ⟨S1x16400x1, .f32⟩
  | 24 => ⟨S1x16400x1, .f32⟩
  | 25 => ⟨S1x16400x1, .f32⟩
  | 26 => ⟨S1x16400x1024, .f32⟩
  | 27 => ⟨S1x16400x1024, .f32⟩
  | 28 => ⟨S1x1x1024, .f32⟩
  | 29 => ⟨S1x16400x1024, .f32⟩
  | 30 => ⟨S1x16400x1024, .f32⟩
  | 31 => ⟨S1x16400x3072, .f32⟩
  | 32 => ⟨S1x16400x512, .f32⟩
  | 33 => ⟨S1x16400x4x2x64, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S16400, .f32⟩
  | 49 => ⟨S16400x1, .f32⟩
  | 50 => ⟨S1x32, .f32⟩
  | 51 => ⟨S16400x32, .f32⟩
  | 52 => ⟨S16400x32, .f32⟩
  | 53 => ⟨S16400x32, .f32⟩
  | 54 => ⟨S16400x32, .f32⟩
  | 55 => ⟨S16400x1x1x32, .f32⟩
  | 56 => ⟨S16400x32, .f32⟩
  | 57 => ⟨S16400x1x1x32, .f32⟩
  | 58 => ⟨S1x16400x4x2x32, .f32⟩
  | 59 => ⟨S1x16400x4x2x32, .f32⟩
  | 60 => ⟨S1x16400x1x1x32, .f32⟩
  | 61 => ⟨S1x16400x4x2x32, .f32⟩
  | 62 => ⟨S1x16400x4x2x32, .f32⟩
  | 63 => ⟨S1x16400x1x1x32, .f32⟩
  | 64 => ⟨S1x16400x4x2x32, .f32⟩
  | 65 => ⟨S1x16400x4x2x32, .f32⟩
  | 66 => ⟨S1x16400x4x2x32, .f32⟩
  | 67 => ⟨S1x16400x1x1x32, .f32⟩
  | 68 => ⟨S1x16400x4x2x32, .f32⟩
  | 69 => ⟨S1x16400x4x2x32, .f32⟩
  | 70 => ⟨S1x16400x1x1x32, .f32⟩
  | 71 => ⟨S1x16400x4x2x32, .f32⟩
  | 72 => ⟨S1x16400x4x2x32, .f32⟩
  | 73 => ⟨S1x16400x4x2x32, .f32⟩
  | 74 => ⟨S1x16400x4x2x64, .f32⟩
  | 75 => ⟨S1x16400x512, .f32⟩
  | 76 => ⟨S1x16400x4x2x64, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S16400, .f32⟩
  | 92 => ⟨S16400x1, .f32⟩
  | 93 => ⟨S1x32, .f32⟩
  | 94 => ⟨S16400x32, .f32⟩
  | 95 => ⟨S16400x32, .f32⟩
  | 96 => ⟨S16400x32, .f32⟩
  | 97 => ⟨S16400x32, .f32⟩
  | 98 => ⟨S16400x1x1x32, .f32⟩
  | 99 => ⟨S16400x32, .f32⟩
  | 100 => ⟨S16400x1x1x32, .f32⟩
  | 101 => ⟨S1x16400x4x2x32, .f32⟩
  | 102 => ⟨S1x16400x4x2x32, .f32⟩
  | 103 => ⟨S1x16400x1x1x32, .f32⟩
  | 104 => ⟨S1x16400x4x2x32, .f32⟩
  | 105 => ⟨S1x16400x4x2x32, .f32⟩
  | 106 => ⟨S1x16400x1x1x32, .f32⟩
  | 107 => ⟨S1x16400x4x2x32, .f32⟩
  | 108 => ⟨S1x16400x4x2x32, .f32⟩
  | 109 => ⟨S1x16400x4x2x32, .f32⟩
  | 110 => ⟨S1x16400x1x1x32, .f32⟩
  | 111 => ⟨S1x16400x4x2x32, .f32⟩
  | 112 => ⟨S1x16400x4x2x32, .f32⟩
  | 113 => ⟨S1x16400x1x1x32, .f32⟩
  | 114 => ⟨S1x16400x4x2x32, .f32⟩
  | 115 => ⟨S1x16400x4x2x32, .f32⟩
  | 116 => ⟨S1x16400x4x2x32, .f32⟩
  | 117 => ⟨S1x16400x4x2x64, .f32⟩
  | 118 => ⟨S1x16400x512, .f32⟩
  | 119 => ⟨S1x16400x4x128, .f32⟩
  | 120 => ⟨S1x16400x512, .f32⟩
  | 121 => ⟨S1x16400x1024, .f32⟩
  | 122 => ⟨S1024, .f32⟩
  | 123 => ⟨S1024x3072, .f32⟩
  | 124 => ⟨S32x4x1024, .f32⟩
  | 125 => ⟨S_, .f32⟩
  | 126 => ⟨S32x4, .f32⟩
  | 127 => ⟨S32x4x1, .f32⟩
  | _ => ⟨S1x16384x1024, .f32⟩

abbrev hbmTy0_1 (i : Nat) : BufTy := match i % 128 with
  | 0 => ⟨S_, .f32⟩
  | 1 => ⟨S32x4x1, .f32⟩
  | 2 => ⟨S32x4x1, .f32⟩
  | 3 => ⟨S_, .f32⟩
  | 4 => ⟨S32x4x1, .f32⟩
  | 5 => ⟨S32x4x1, .f32⟩
  | 6 => ⟨S32x4x1, .f32⟩
  | 7 => ⟨S32x4x1024, .f32⟩
  | 8 => ⟨S32x4x1024, .f32⟩
  | 9 => ⟨S1x1x1024, .f32⟩
  | 10 => ⟨S32x4x1024, .f32⟩
  | 11 => ⟨S32x4x1024, .f32⟩
  | 12 => ⟨S32x4x3072, .f32⟩
  | 13 => ⟨S32x4x512, .f32⟩
  | 14 => ⟨S32x4x4x2x64, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4, .f32⟩
  | 30 => ⟨S4x1, .f32⟩
  | 31 => ⟨S1x32, .f32⟩
  | 32 => ⟨S4x32, .f32⟩
  | 33 => ⟨S4x32, .f32⟩
  | 34 => ⟨S4x32, .f32⟩
  | 35 => ⟨S4x32, .f32⟩
  | 36 => ⟨S4x1x1x32, .f32⟩
  | 37 => ⟨S4x32, .f32⟩
  | 38 => ⟨S4x1x1x32, .f32⟩
  | 39 => ⟨S32x4x4x2x32, .f32⟩
  | 40 => ⟨S32x4x4x2x32, .f32⟩
  | 41 => ⟨S1x4x1x1x32, .f32⟩
  | 42 => ⟨S32x4x4x2x32, .f32⟩
  | 43 => ⟨S32x4x4x2x32, .f32⟩
  | 44 => ⟨S1x4x1x1x32, .f32⟩
  | 45 => ⟨S32x4x4x2x32, .f32⟩
  | 46 => ⟨S32x4x4x2x32, .f32⟩
  | 47 => ⟨S32x4x4x2x32, .f32⟩
  | 48 => ⟨S1x4x1x1x32, .f32⟩
  | 49 => ⟨S32x4x4x2x32, .f32⟩
  | 50 => ⟨S32x4x4x2x32, .f32⟩
  | 51 => ⟨S1x4x1x1x32, .f32⟩
  | 52 => ⟨S32x4x4x2x32, .f32⟩
  | 53 => ⟨S32x4x4x2x32, .f32⟩
  | 54 => ⟨S32x4x4x2x32, .f32⟩
  | 55 => ⟨S32x4x4x2x64, .f32⟩
  | 56 => ⟨S32x4x512, .f32⟩
  | 57 => ⟨S32x4x4x2x64, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S4, .f32⟩
  | 73 => ⟨S4x1, .f32⟩
  | 74 => ⟨S1x32, .f32⟩
  | 75 => ⟨S4x32, .f32⟩
  | 76 => ⟨S4x32, .f32⟩
  | 77 => ⟨S4x32, .f32⟩
  | 78 => ⟨S4x32, .f32⟩
  | 79 => ⟨S4x1x1x32, .f32⟩
  | 80 => ⟨S4x32, .f32⟩
  | 81 => ⟨S4x1x1x32, .f32⟩
  | 82 => ⟨S32x4x4x2x32, .f32⟩
  | 83 => ⟨S32x4x4x2x32, .f32⟩
  | 84 => ⟨S1x4x1x1x32, .f32⟩
  | 85 => ⟨S32x4x4x2x32, .f32⟩
  | 86 => ⟨S32x4x4x2x32, .f32⟩
  | 87 => ⟨S1x4x1x1x32, .f32⟩
  | 88 => ⟨S32x4x4x2x32, .f32⟩
  | 89 => ⟨S32x4x4x2x32, .f32⟩
  | 90 => ⟨S32x4x4x2x32, .f32⟩
  | 91 => ⟨S1x4x1x1x32, .f32⟩
  | 92 => ⟨S32x4x4x2x32, .f32⟩
  | 93 => ⟨S32x4x4x2x32, .f32⟩
  | 94 => ⟨S1x4x1x1x32, .f32⟩
  | 95 => ⟨S32x4x4x2x32, .f32⟩
  | 96 => ⟨S32x4x4x2x32, .f32⟩
  | 97 => ⟨S32x4x4x2x32, .f32⟩
  | 98 => ⟨S32x4x4x2x64, .f32⟩
  | 99 => ⟨S32x4x512, .f32⟩
  | 100 => ⟨S32x4x4x128, .f32⟩
  | 101 => ⟨S32x4x512, .f32⟩
  | 102 => ⟨S32x4x1024, .f32⟩
  | 103 => ⟨S32x15x512, .f32⟩
  | 104 => ⟨S32x19x512, .f32⟩
  | 105 => ⟨S1x1x16400x4x128, .f32⟩
  | 106 => ⟨S1x1x16400x4x128, .f32⟩
  | 107 => ⟨S1x15x512, .f32⟩
  | 108 => ⟨S1x1x15x512, .f32⟩
  | 109 => ⟨S1x32x4x4x128, .f32⟩
  | 110 => ⟨S1x32x4x4x128, .f32⟩
  | 111 => ⟨S32x15x512, .f32⟩
  | 112 => ⟨S1x32x15x512, .f32⟩
  | 113 => ⟨S1x16384x4x2x64, .f32⟩
  | 114 => ⟨S16384x4x2x64, .f32⟩
  | 115 => ⟨S_, .f32⟩
  | 116 => ⟨S16384x4x2x64, .f32⟩
  | 117 => ⟨S16384x4x2x64, .f32⟩
  | 118 => ⟨S16384x4x2x64, .bf16⟩
  | 119 => ⟨S1x16384x512, .f32⟩
  | 120 => ⟨S16384x512, .f32⟩
  | 121 => ⟨S1x16384x1024, .f32⟩
  | 122 => ⟨S16384x1024, .f32⟩
  | 123 => ⟨S16384x1024, .f32⟩
  | 124 => ⟨S16384x1024, .f32⟩
  | 125 => ⟨S_, .f32⟩
  | 126 => ⟨S16384x1024, .f32⟩
  | 127 => ⟨S16384x1024, .f32⟩
  | _ => ⟨S1x16384x1024, .f32⟩

abbrev hbmTy0_2 (i : Nat) : BufTy := match i % 128 with
  | 0 => ⟨S_, .f32⟩
  | 1 => ⟨S16384x1024, .f32⟩
  | 2 => ⟨S16384x1024, .f32⟩
  | 3 => ⟨S16384x1024, .f32⟩
  | 4 => ⟨S16384x1024, .bf16⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_8 : Ref sig .tc := ⟨.hbm, 85, rfl⟩
abbrev main_v69 : Ref sig .tc := ⟨.hbm, 86, rfl⟩
abbrev main_v70 : Ref sig .tc := ⟨.hbm, 87, rfl⟩
abbrev main_cst_9 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_10 : Ref sig .tc := ⟨.hbm, 125, rfl⟩
abbrev main_v107 : Ref sig .tc := ⟨.hbm, 126, rfl⟩
abbrev main_v108 : Ref sig .tc := ⟨.hbm, 127, rfl⟩
abbrev main_cst_11 : Ref sig .tc := ⟨.hbm, 128, rfl⟩
abbrev main_v109 : Ref sig .tc := ⟨.hbm, 129, rfl⟩
abbrev main_v110 : Ref sig .tc := ⟨.hbm, 130, rfl⟩
abbrev main_cst_12 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_13 : Ref sig .tc := ⟨.hbm, 144, rfl⟩
abbrev main_v123 : Ref sig .tc := ⟨.hbm, 145, rfl⟩
abbrev main_v124 : Ref sig .tc := ⟨.hbm, 146, rfl⟩
abbrev main_cst_14 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_cst_15 : Ref sig .tc := ⟨.hbm, 151, rfl⟩
abbrev main_v128 : Ref sig .tc := ⟨.hbm, 152, rfl⟩
abbrev main_v129 : Ref sig .tc := ⟨.hbm, 153, rfl⟩
abbrev main_cst_16 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_cst_17 : Ref sig .tc := ⟨.hbm, 187, rfl⟩
abbrev main_v162 : Ref sig .tc := ⟨.hbm, 188, rfl⟩
abbrev main_v163 : Ref sig .tc := ⟨.hbm, 189, rfl⟩
abbrev main_cst_18 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_cst_19 : Ref sig .tc := ⟨.hbm, 194, rfl⟩
abbrev main_v167 : Ref sig .tc := ⟨.hbm, 195, rfl⟩
abbrev main_v168 : Ref sig .tc := ⟨.hbm, 196, rfl⟩
abbrev main_cst_20 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_cst_21 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_call0_v0 : Ref sig .tc := ⟨.hbm, 251, rfl⟩
abbrev main_call0_v1 : Ref sig .tc := ⟨.hbm, 252, rfl⟩
abbrev main_call0_cst : Ref sig .tc := ⟨.hbm, 253, rfl⟩
abbrev main_call0_v2 : Ref sig .tc := ⟨.hbm, 254, rfl⟩
abbrev main_call0_v3 : Ref sig .tc := ⟨.hbm, 255, rfl⟩
abbrev main_call0_cst_0 : Ref sig .tc := ⟨.hbm, 256, rfl⟩
abbrev main_call0_v4 : Ref sig .tc := ⟨.hbm, 257, rfl⟩
abbrev main_call0_v5 : Ref sig .tc := ⟨.hbm, 258, rfl⟩
abbrev main_v221 : Ref sig .tc := ⟨.hbm, 259, rfl⟩
abbrev main_v222 : Ref sig .tc := ⟨.hbm, 260, rfl⟩

abbrev nD : Nat := 1
abbrev τ : Topo := Topo.v7x

variable {F : FTy → Type} [FloatOps F]
-- ==== Kernel3.lean ====
abbrev S32x4x512 : Shape := ⟨3, ![32, 4, 512]⟩
abbrev S1x32x15x512 : Shape := ⟨4, ![1, 32, 15, 512]⟩
abbrev S32x4x1024 : Shape := ⟨3, ![32, 4, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S4x32x1024 : Shape := ⟨3, ![4, 32, 1024]⟩
abbrev S128x1024 : Shape := ⟨2, ![128, 1024]⟩
abbrev S4x32x512 : Shape := ⟨3, ![4, 32, 512]⟩
abbrev S128x512 : Shape := ⟨2, ![128, 512]⟩
abbrev S32x15x512 : Shape := ⟨3, ![32, 15, 512]⟩
abbrev S15x32x512 : Shape := ⟨3, ![15, 32, 512]⟩
abbrev S_ : Shape := ⟨0, ![]⟩
abbrev S4x128x128 : Shape := ⟨3, ![4, 128, 128]⟩
abbrev S1024x1024 : Shape := ⟨2, ![1024, 1024]⟩
abbrev S1x1024 : Shape := ⟨2, ![1, 1024]⟩
abbrev S32x128 : Shape := ⟨2, ![32, 128]⟩
abbrev S1x32x128 : Shape := ⟨3, ![1, 32, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 37
  | .vmem => 10
  | .smem => 0
  | _ => 0

abbrev bufTy : (tb : Table) → Fin (tcTables nBuf tb) → BufTy
  | .hbm, ⟨0, _⟩ => ⟨S32x4x512, .f32⟩
  | .hbm, ⟨1, _⟩ => ⟨S1x32x15x512, .f32⟩
  | .hbm, ⟨2, _⟩ => ⟨S32x4x512, .f32⟩
  | .hbm, ⟨3, _⟩ => ⟨S32x4x1024, .f32⟩
  | .hbm, ⟨4, _⟩ => ⟨S32x4x1024, .f32⟩
  | .hbm, ⟨5, _⟩ => ⟨S1x4x128x128, .f32⟩
  | .hbm, ⟨6, _⟩ => ⟨S1x512, .f32⟩
  | .hbm, ⟨7, _⟩ => ⟨S1x1024x1024, .f32⟩
  | .hbm, ⟨8, _⟩ => ⟨S1024, .f32⟩
  | .hbm, ⟨9, _⟩ => ⟨S4x32x1024, .f32⟩
  | .hbm, ⟨10, _⟩ => ⟨S128x1024, .f32⟩
  | .hbm, ⟨11, _⟩ => ⟨S4x32x512, .f32⟩
  | .hbm, ⟨12, _⟩ => ⟨S128x512, .f32⟩
  | .hbm, ⟨13, _⟩ => ⟨S32x15x512, .f32⟩
  | .hbm, ⟨14, _⟩ => ⟨S15x32x512, .f32⟩
  | .hbm, ⟨15, _⟩ => ⟨S4x32x512, .f32⟩
  | .hbm, ⟨16, _⟩ => ⟨S128x512, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .bf16⟩
  | .hbm, ⟨27, _⟩ => ⟨S4x32x1024, .f32⟩
  | .hbm, ⟨28, _⟩ => ⟨S128x1024, .f32⟩
  | .hbm, ⟨29, _⟩ => ⟨S4x128x128, .f32⟩
  | .hbm, ⟨30, _⟩ => ⟨S4x128x128, .bf16⟩
  | .hbm, ⟨31, _⟩ => ⟨S1024x1024, .f32⟩
  | .hbm, ⟨32, _⟩ => ⟨S1024x1024, .bf16⟩
  | .hbm, ⟨33, _⟩ => ⟨S1x1024, .f32⟩
  | .hbm, ⟨34, _⟩ => ⟨S128x1024, .f32⟩
  | .hbm, ⟨35, _⟩ => ⟨S4x32x1024, .f32⟩
  | .hbm, ⟨36, _⟩ => ⟨S32x4x1024, .f32⟩
  | .local _ .vmem, ⟨0, _⟩ => ⟨S128x512, .f32⟩
  | .local _ .vmem, ⟨1, _⟩ => ⟨S15x32x512, .f32⟩
  | .local _ .vmem, ⟨2, _⟩ => ⟨S128x512, .f32⟩
  | .local _ .vmem, ⟨3, _⟩ => ⟨S128x1024, .bf16⟩
  | .local _ .vmem, ⟨4, _⟩ => ⟨S128x1024, .f32⟩
  | .local _ .vmem, ⟨5, _⟩ => ⟨S4x128x128, .bf16⟩
  | .local _ .vmem, ⟨6, _⟩ => ⟨S1x512, .f32⟩
  | .local _ .vmem, ⟨7, _⟩ => ⟨S1024x1024, .bf16⟩
  | .local _ .vmem, ⟨8, _⟩ => ⟨S1x1024, .f32⟩
  | .local _ .vmem, ⟨9, _⟩ => ⟨S128x1024, .f32⟩
  | _, _ => ⟨S32x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference3Ideal.lean ====
abbrev S32x4x512 : Shape := ⟨3, ![32, 4, 512]⟩
abbrev S1x32x15x512 : Shape := ⟨4, ![1, 32, 15, 512]⟩
abbrev S32x4x1024 : Shape := ⟨3, ![32, 4, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S32x15x512 : Shape := ⟨3, ![32, 15, 512]⟩
abbrev S32x19x512 : Shape := ⟨3, ![32, 19, 512]⟩
abbrev S4 : Shape := ⟨1, ![4]⟩
abbrev S_ : Shape := ⟨0, ![]⟩
abbrev S4x1 : Shape := ⟨2, ![4, 1]⟩
abbrev S19 : Shape := ⟨1, ![19]⟩
abbrev S1x19 : Shape := ⟨2, ![1, 19]⟩
abbrev S4x19 : Shape := ⟨2, ![4, 19]⟩
abbrev S32x19x128 : Shape := ⟨3, ![32, 19, 128]⟩
abbrev S1x4x19x1 : Shape := ⟨4, ![1, 4, 19, 1]⟩
abbrev S32x1x19x128 : Shape := ⟨4, ![32, 1, 19, 128]⟩
abbrev S32x4x19x128 : Shape := ⟨4, ![32, 4, 19, 128]⟩
abbrev S32x4x128 : Shape := ⟨3, ![32, 4, 128]⟩
abbrev S1x1x128x128 : Shape := ⟨4, ![1, 1, 128, 128]⟩
abbrev S128x128 : Shape := ⟨2, ![128, 128]⟩
abbrev S512 : Shape := ⟨1, ![512]⟩
abbrev S1x1x512 : Shape := ⟨3, ![1, 1, 512]⟩
abbrev S1024x1024 : Shape := ⟨2, ![1024, 1024]⟩
abbrev S32x4 : Shape := ⟨2, ![32, 4]⟩
abbrev S32x4x1 : Shape := ⟨3, ![32, 4, 1]⟩
abbrev S1x1x1024 : Shape := ⟨3, ![1, 1, 1024]⟩

abbrev nBuf : Space → Nat
  | .hbm => 160
  | .vmem => 0
  | .smem => 0
  | _ => 0

abbrev hbmTy0_0 (i : Nat) : BufTy := match i % 128 with
  | 0 => ⟨S32x4x512, .f32⟩
  | 1 => ⟨S1x32x15x512, .f32⟩
  | 2 => ⟨S32x4x512, .f32⟩
  | 3 => ⟨S32x4x1024, .f32⟩
  | 4 => ⟨S32x4x1024, .f32⟩
  | 5 => ⟨S1x4x128x128, .f32⟩
  | 6 => ⟨S1x512, .f32⟩
  | 7 => ⟨S1x1024x1024, .f32⟩
  | 8 => ⟨S1024, .f32⟩
  | 9 => ⟨S32x15x512, .f32⟩
  | 10 => ⟨S32x19x512, .f32⟩
  | 11 => ⟨S4, .i32⟩
  | 12 => ⟨S_, .i32⟩
  | 13 => ⟨S4, .i32⟩
  | 14 => ⟨S4, .i32⟩
  | 15 => ⟨S4x1, .i32⟩
  | 16 => ⟨S19, .i32⟩
  | 17 => ⟨S1x19, .i32⟩
  | 18 => ⟨S4x19, .i32⟩
  | 19 => ⟨S4x19, .i32⟩
  | 20 => ⟨S4x19, .i32⟩
  | 21 => ⟨S32x19x128, .f32⟩
  | 22 => ⟨S_, .i32⟩
  | 23 => ⟨S4x19, .i32⟩
  | 24 => ⟨S4x19, .i1⟩
  | 25 => ⟨S_, .i32⟩
  | 26 => ⟨S4x19, .i32⟩
  | 27 => ⟨S4x19, .i1⟩
  | 28 => ⟨S4x19, .i1⟩
  | 29 => ⟨S1x4x19x1, .i1⟩
  | 30 => ⟨S32x1x19x128, .f32⟩
  | 31 => ⟨S_, .f32⟩
  | 32 => ⟨S_, .f32⟩
  | 33 => ⟨S32x4x19x128, .i1⟩
  | 34 => ⟨S32x4x19x128, .f32⟩
  | 35 => ⟨S32x4x19x128, .f32⟩
  | 36 => ⟨S32x4x19x128, .f32⟩
  | 37 => ⟨S_, .f32⟩
  | 38 => ⟨S32x4x128, .f32⟩
  | 39 => ⟨S_, .f32⟩
  | 40 => ⟨S32x4x128, .f32⟩
  | 41 => ⟨S32x4x128, .f32⟩
  | 42 => ⟨S32x4x128, .f32⟩
  | 43 => ⟨S32x4x128, .f32⟩
  | 44 => ⟨S1x1x128x128, .f32⟩
  | 45 => ⟨S128x128, .f32⟩
  | 46 => ⟨S32x4x128, .f32⟩
  | 47 => ⟨S32x19x128, .f32⟩
  | 48 => ⟨S_, .i32⟩
  | 49 => ⟨S4x19, .i32⟩
  | 50 => ⟨S4x19, .i1⟩
  | 51 => ⟨S_, .i32⟩
  | 52 => ⟨S4x19, .i32⟩
  | 53 => ⟨S4x19, .i1⟩
  | 54 => ⟨S4x19, .i1⟩
  | 55 => ⟨S1x4x19x1, .i1⟩
  | 56 => ⟨S32x1x19x128, .f32⟩
  | 57 => ⟨S_, .f32⟩
  | 58 => ⟨S_, .f32⟩
  | 59 => ⟨S32x4x19x128, .i1⟩
  | 60 => ⟨S32x4x19x128, .f32⟩
  | 61 => ⟨S32x4x19x128, .f32⟩
  | 62 => ⟨S32x4x19x128, .f32⟩
  | 63 => ⟨S_, .f32⟩
  | 64 => ⟨S32x4x128, .f32⟩
  | 65 => ⟨S_, .f32⟩
  | 66 => ⟨S32x4x128, .f32⟩
  | 67 => ⟨S32x4x128, .f32⟩
  | 68 => ⟨S32x4x128, .f32⟩
  | 69 => ⟨S32x4x128, .f32⟩
  | 70 => ⟨S1x1x128x128, .f32⟩
  | 71 => ⟨S128x128, .f32⟩
  | 72 => ⟨S32x4x128, .f32⟩
  | 73 => ⟨S32x19x128, .f32⟩
  | 74 => ⟨S_, .i32⟩
  | 75 => ⟨S4x19, .i32⟩
  | 76 => ⟨S4x19, .i1⟩
  | 77 => ⟨S_, .i32⟩
  | 78 => ⟨S4x19, .i32⟩
  | 79 => ⟨S4x19, .i1⟩
  | 80 => ⟨S4x19, .i1⟩
  | 81 => ⟨S1x4x19x1, .i1⟩
  | 82 => ⟨S32x1x19x128, .f32⟩
  | 83 => ⟨S_, .f32⟩
  | 84 => ⟨S_, .f32⟩
  | 85 => ⟨S32x4x19x128, .i1⟩
  | 86 => ⟨S32x4x19x128, .f32⟩
  | 87 => ⟨S32x4x19x128, .f32⟩
  | 88 => ⟨S32x4x19x128, .f32⟩
  | 89 => ⟨S_, .f32⟩
  | 90 => ⟨S32x4x128, .f32⟩
  | 91 => ⟨S_, .f32⟩
  | 92 => ⟨S32x4x128, .f32⟩
  | 93 => ⟨S32x4x128, .f32⟩
  | 94 => ⟨S32x4x128, .f32⟩
  | 95 => ⟨S32x4x128, .f32⟩
  | 96 => ⟨S1x1x128x128, .f32⟩
  | 97 => ⟨S128x128, .f32⟩
  | 98 => ⟨S32x4x128, .f32⟩
  | 99 => ⟨S32x19x128, .f32⟩
  | 100 => ⟨S_, .i32⟩
  | 101 => ⟨S4x19, .i32⟩
  | 102 => ⟨S4x19, .i1⟩
  | 103 => ⟨S_, .i32⟩
  | 104 => ⟨S4x19, .i32⟩
  | 105 => ⟨S4x19, .i1⟩
  | 106 => ⟨S4x19, .i1⟩
  | 107 => ⟨S1x4x19x1, .i1⟩
  | 108 => ⟨S32x1x19x128, .f32⟩
  | 109 => ⟨S_, .f32⟩
  | 110 => ⟨S_, .f32⟩
  | 111 => ⟨S32x4x19x128, .i1⟩
  | 112 => ⟨S32x4x19x128, .f32⟩
  | 113 => ⟨S32x4x19x128, .f32⟩
  | 114 => ⟨S32x4x19x128, .f32⟩
  | 115 => ⟨S_, .f32⟩
  | 116 => ⟨S32x4x128, .f32⟩
  | 117 => ⟨S_, .f32⟩
  | 118 => ⟨S32x4x128, .f32⟩
  | 119 => ⟨S32x4x128, .f32⟩
  | 120 => ⟨S32x4x128, .f32⟩
  | 121 => ⟨S32x4x128, .f32⟩
  | 122 => ⟨S1x1x128x128, .f32⟩
  | 123 => ⟨S128x128, .f32⟩
  | 124 => ⟨S32x4x128, .f32⟩
  | 125 => ⟨S32x4x512, .f32⟩
  | 126 => ⟨S512, .f32⟩
  | 127 => ⟨S1x1x512, .f32⟩
  | _ => ⟨S32x4x512, .f32⟩

abbrev hbmTy0_1 (i : Nat) : BufTy := match i % 128 with
  | 0 => ⟨S32x4x512, .f32⟩
  | 1 => ⟨S32x4x512, .f32⟩
  | 2 => ⟨S32x4x1024, .f32⟩
  | 3 => ⟨S32x4x1024, .f32⟩
  | 4 => ⟨S32x4x1024, .f32⟩
  | 5 => ⟨S_, .f32⟩
  | 6 => ⟨S32x4x1024, .f32⟩
  | 7 => ⟨S32x4x1024, .f32⟩
  | 8 => ⟨S_, .f32⟩
  | 9 => ⟨S32x4x1024, .f32⟩
  | 10 => ⟨S32x4x1024, .f32⟩
  | 11 => ⟨S32x4x1024, .f32⟩
  | 12 => ⟨S32x4x1024, .f32⟩
  | 13 => ⟨S1024x1024, .f32⟩
  | 14 => ⟨S32x4x1024, .f32⟩
  | 15 => ⟨S32x4x1024, .f32⟩
  | 16 => ⟨S32x4x1024, .f32⟩
  | 17 => ⟨S_, .f32⟩
  | 18 => ⟨S32x4, .f32⟩
  | 19 => ⟨S32x4x1, .f32⟩
  | 20 => ⟨S_, .f32⟩
  | 21 => ⟨S32x4x1, .f32⟩
  | 22 => ⟨S32x4x1, .f32⟩
  | 23 => ⟨S_, .f32⟩
  | 24 => ⟨S32x4x1, .f32⟩
  | 25 => ⟨S32x4x1, .f32⟩
  | 26 => ⟨S32x4x1, .f32⟩
  | 27 => ⟨S32x4x1024, .f32⟩
  | 28 => ⟨S32x4x1024, .f32⟩
  | 29 => ⟨S1x1x1024, .f32⟩
  | 30 => ⟨S32x4x1024, .f32⟩
  | 31 => ⟨S32x4x1024, .f32⟩
  | _ => ⟨S32x4x512, .f32⟩

abbrev hbmTy (i : Nat) : BufTy := match i / 128 with
  | 0 => hbmTy0_0 i
  | 1 => hbmTy0_1 i
  | _ => ⟨S32x4x512, .f32⟩

abbrev bufTy : (tb : Table) → Fin (tcTables nBuf tb) → BufTy
  | .hbm, ⟨i, _⟩ => hbmTy i
  | _, _ => ⟨S32x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_v53 : Ref sig .tc := ⟨.hbm, 88, rfl⟩
abbrev main_cst_12 : Ref sig .tc := ⟨.hbm, 89, rfl⟩
abbrev main_v54 : Ref sig .tc := ⟨.hbm, 90, rfl⟩
abbrev main_cst_13 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_14 : Ref sig .tc := ⟨.hbm, 100, rfl⟩
abbrev main_v63 : Ref sig .tc := ⟨.hbm, 101, rfl⟩
abbrev main_v64 : Ref sig .tc := ⟨.hbm, 102, rfl⟩
abbrev main_c_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_16 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_v70 : Ref sig .tc := ⟨.hbm, 114, rfl⟩
abbrev main_cst_17 : Ref sig .tc := ⟨.hbm, 115, rfl⟩
abbrev main_v71 : Ref sig .tc := ⟨.hbm, 116, rfl⟩
abbrev main_cst_18 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_19 : Ref sig .tc := ⟨.hbm, 145, rfl⟩
abbrev main_v91 : Ref sig .tc := ⟨.hbm, 146, rfl⟩
abbrev main_v92 : Ref sig .tc := ⟨.hbm, 147, rfl⟩
abbrev main_cst_20 : Ref sig .tc := ⟨.hbm, 148, rfl⟩
abbrev main_v93 : Ref sig .tc := ⟨.hbm, 149, rfl⟩
abbrev main_v94 : Ref sig .tc := ⟨.hbm, 150, rfl⟩
abbrev main_cst_21 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩

abbrev nD : Nat := 1
abbrev τ : Topo := Topo.v7x

variable {F : FTy → Type} [FloatOps F]
-- ==== Proof.Steps.lean ====
module

public import proofs.«01_k».proof.Proof.Gen.KernelIdeal.Skeleton

@[expose] public section

set_option maxRecDepth 65536

noncomputable section

namespace Cert.KernelIdeal.Attn

open Cert.KernelIdeal Cert.KernelIdeal.Gen Idealize.ShloMosaic Idealize.ShloMosaic.TcCoe Idealize.SL.Sem

variable {F : FTy → Type} [FloatOps F] [Named F]

/-! ## One block's arithmetic -/

/-- The scores of a block of 512 keys against the tile's queries (both components side by side). -/
def scoreOf (qt : FVec F S128x1024 .bf16) (kb : Vec F S1x512x128 .bf16) : FVec F S512x1024 .f32 :=
  shapeCast S512x1024 (matmul dot_S512x128_S128x1024_S512x1024_1_0_0_1_n_n none (shapeCast S512x128 kb shapeCasts_S1x512x128_S512x128) qt
    (constant S512x1024 .f32 0x00000000#32)) shapeCasts_S512x1024_S512x1024

/-- The running maximum of each query after a block's scores. -/
def topOf (s : FVec F S512x1024 .f32) (m : Vec F S1x1024 .f32) : FVec F S1x1024 .f32 :=
  maximumf m (shapeCast S1x1024 (multiReduction .maximumf [0] S1024 s 0xFF800000#32 reduces_S512x1024_S1024 (.inl rfl) rfl) shapeCasts_S1024_S1x1024)

/-- The running maximum as it is stored. -/
def topSt (s : FVec F S512x1024 .f32) (m : Vec F S1x1024 .f32) : FVec F S1x1024 .f32 :=
  shapeCast S1x1024 (topOf s m) shapeCasts_S1x1024_S1x1024

/-- The accumulated numerators and denominators after a block. -/
def accOf (s : FVec F S512x1024 .f32) (vb : Vec F S1x144x512 .bf16) (m : Vec F S1x1024 .f32) (a : Vec F S144x1024 .f32) : FVec F S144x1024 .f32 :=
  shapeCast S144x1024
    (addf (mulf (broadcastTo S144x1024 (exp2 (subf m (topOf s m))) broadcasts_S1x1024_S144x1024) a)
      (matmul dot_S144x512_S512x1024_S144x1024_1_0_0_1_n_n none (shapeCast S144x512 vb shapeCasts_S1x144x512_S144x512)
        (truncf .bf16 (exp2 (subf s (broadcastTo S512x1024 (topOf s m) broadcasts_S1x1024_S512x1024))) bitsLt_bf16_f32)
        (constant S144x1024 .f32 0x00000000#32))) shapeCasts_S144x1024_S144x1024

/-! ## The pieces of one tile's run -/

/-- The tile's queries, the two components side by side. -/
def queryOf (q0 q1 : Vec F S1x1x128x512 .bf16) : FVec F S128x1024 .bf16 :=
  concatenate S128x1024 1 [⟨S128x512, shapeCast S128x512 q0 shapeCasts_S1x1x128x512_S128x512⟩, ⟨S128x512, shapeCast S128x512 q1 shapeCasts_S1x1x128x512_S128x512⟩] concatenates_S128x512_S128x512_S128x1024_d1

/-- The maximum before any key: the mask's value. -/
def topStart : FVec F S1x1024 .f32 :=
  shapeCast S1x1024 (broadcast S1x1024 (Named.named κ "mask" 0xF149F2CA#32 : F .f32)) shapeCasts_S1x1024_S1x1024

/-- The numerators and denominators before any key. -/
def accStart : FVec F S144x1024 .f32 :=
  shapeCast S144x1024 (broadcast S144x1024 (Scalar.ofBits .f32 0x00000000#32 : F .f32)) shapeCasts_S144x1024_S144x1024

/-- The scores of the sixteen meta keys, the padding masked. -/
def metaScore (qt : FVec F S128x1024 .bf16) (km : Vec F S1x128x128 .bf16) : FVec F S128x1024 .f32 :=
  select (cmpi .slt (iota .tc S128x1024 32 [0] iota_S128x1024_d0_w32) (broadcast S128x1024 16#32))
    (matmul dot_S128x128_S128x1024_S128x1024_1_0_0_1_n_n none (shapeCast S128x128 km shapeCasts_S1x128x128_S128x128) qt
      (constant S128x1024 .f32 0x00000000#32))
    (broadcast S128x1024 (Named.named κ "mask" 0xF149F2CA#32 : F .f32))

/-- The running maximum after the meta keys. -/
def metaTop (s : FVec F S128x1024 .f32) (m : Vec F S1x1024 .f32) : FVec F S1x1024 .f32 :=
  maximumf m (shapeCast S1x1024 (multiReduction .maximumf [0] S1024 s 0xFF800000#32 reduces_S128x1024_S1024 (.inl rfl) rfl) shapeCasts_S1024_S1x1024)

/-- The same as it is stored. -/
def metaTopSt (s : FVec F S128x1024 .f32) (m : Vec F S1x1024 .f32) : FVec F S1x1024 .f32 :=
  shapeCast S1x1024 (metaTop s m) shapeCasts_S1x1024_S1x1024

/-- The numerators and denominators after the meta keys. -/
def metaAcc (s : FVec F S128x1024 .f32) (vm : Vec F S1x144x128 .bf16) (m : Vec F S1x1024 .f32) (a : Vec F S144x1024 .f32) : FVec F S144x1024 .f32 :=
  shapeCast S144x1024
    (addf (mulf (broadcastTo S144x1024 (exp2 (subf m (metaTop s m))) broadcasts_S1x1024_S144x1024) a)
      (matmul dot_S144x128_S128x1024_S144x1024_1_0_0_1_n_n none (shapeCast S144x128 vm shapeCasts_S1x144x128_S144x128)
        (truncf .bf16 (exp2 (subf s (broadcastTo S128x1024 (metaTop s m) broadcasts_S1x1024_S128x1024))) bitsLt_bf16_f32)
        (constant S144x1024 .f32 0x00000000#32))) shapeCasts_S144x1024_S144x1024

/-- Which query of the tile a column of the scores belongs to. -/
def queryRow : IVec S512x1024 32 :=
  let w : BitVec 32 := Scalar.select (Scalar.cmpi .eq 512#32 0#32) 1#32 512#32
  let r : IVec S512x1024 32 := remsi (iota .tc S512x1024 32 [1] iota_S512x1024_d1_w32) (broadcast S512x1024 w)
  select (andi (xori (cmpi .slt r (broadcast S512x1024 0#32)) (broadcastTo S512x1024 (broadcast S512x1024 (Scalar.cmpi .slt w 0#32)) broadcasts_S512x1024_S512x1024))
    (cmpi .ne r (broadcast S512x1024 0#32))) (addi r (broadcast S512x1024 w)) r

/-- The causal mask on the tile's own block of keys. -/
def causal (s : Vec F S512x1024 .f32) : FVec F S512x1024 .f32 :=
  select (cmpi .sle (iota .tc S512x1024 32 [0] iota_S512x1024_d0_w32) queryRow) s (broadcast S512x1024 (Named.named κ "mask" 0xF149F2CA#32 : F .f32))

/-- The weight of the second softmax. -/
def lamOf (l0 l1 l2 l3 : Vec F S1x64 .f32) : FVec F S1x1 .f32 :=
  addf (subf (exp (shapeCast S1x1 (multiReduction .add [1] S1 (mulf l0 l1) 0x00000000#32 reduces_S1x64_S1 (.inl rfl) rfl) shapeCasts_S1_S1x1))
      (exp (shapeCast S1x1 (multiReduction .add [1] S1 (mulf l2 l3) 0x00000000#32 reduces_S1x64_S1 (.inl rfl) rfl) shapeCasts_S1_S1x1)))
    (broadcast S1x1 (Scalar.ofBits .f32 0x3E4CCCCD#32 : F .f32))

/-- The difference of the two attentions, one column for each query. -/
def diffOf (lam : FVec F S1x1 .f32) (num : Vec F S128x1024 .f32) (den : Vec F S1x1024 .f32) : FVec F S128x512 .f32 :=
  let o : FVec F S128x1024 .f32 := mulf num (broadcastTo S128x1024 (divf (broadcast S1x1024 (Scalar.ofBits .f32 0x3F800000#32 : F .f32)) den) broadcasts_S1x1024_S128x1024)
  subf (extractStridedSlice S128x512 ![0, 0] o slices_S128x1024_o0_0_S128x512)
    (mulf (broadcastTo S128x512 lam broadcasts_S1x1_S128x512) (extractStridedSlice S128x512 ![0, 512] o slices_S128x1024_o0_512_S128x512))

/-- The mean square of each query's difference. -/
def meanOf (o : FVec F S128x512 .f32) : FVec F S1x512 .f32 :=
  divf (shapeCast S1x512 (multiReduction .add [0] S512 (mulf o o) 0x00000000#32 reduces_S128x512_S512 (.inl rfl) rfl) shapeCasts_S512_S1x512)
    (broadcast S1x512 (Scalar.ofBits .f32 0x43000000#32 : F .f32))

/-- The head's normalisation with its gain, one row for each query. -/
def normOf (o : FVec F S128x512 .f32) (ms : FVec F S1x512 .f32) (eps : F .f32) (g : Vec F S128x1 .f32) : FVec F S512x128 .bf16 :=
  truncf .bf16 (transpose S512x128 [1, 0]
    (mulf (mulf (mulf o (broadcastTo S128x512 (rsqrt (addf ms (broadcast S1x512 eps))) broadcasts_S1x512_S128x512))
        (broadcastTo S128x512 (shapeCast S128x1 g shapeCasts_S128x1_S128x1) broadcasts_S128x1_S128x512))
      (broadcast S128x512 (Scalar.ofBits .f32 0x3F4CCCCD#32 : F .f32))) transposes_S128x512_p1_0_S512x128) bitsLt_bf16_f32

/-! ## The same as steps of the program -/

section
variable (arg3 : Memref sig .tc .vmem S1x16384x128 .bf16) (arg4 : Memref sig .tc .vmem S1x144x16384 .bf16)
  (arg13 : Memref sig .tc .vmem S1x1024 .f32) (arg14 : Memref sig .tc .vmem S144x1024 .f32)
  (cur nxt : Memref sig .tc .vmem S512x1024 .f32)

/-- Store the scores of the block of keys at `off` into a score buffer. -/
def fetchP (qt : FVec F S128x1024 .bf16) (off : Fin 3 → ℕ) (inb : ∀ a, off a + S1x512x128.size a ≤ S1x16384x128.size a) :
    Prog (TpuEff nD τ sig (Elt F) Λ₀ .tc) PUnit := do
  let kb : Vec F S1x512x128 .bf16 ← Prog.lift (.load arg3 (Rect.unit (s := S1x16384x128) off S1x512x128.size inb).toLoadRect (View.loadsAt_vmem h_S1x512x128))
  let _ : Vec F S512x1024 .f32 ← Prog.lift (.load nxt (Rect.unit (s := S512x1024) ![0, 0] S512x1024.size inb_S512x1024_S512x1024_0_0).toLoadRect (View.loadsAt_vmem h_S512x1024))
  Prog.lift (.store nxt (Rect.unit (s := S512x1024) ![0, 0] S512x1024.size inb_S512x1024_S512x1024_0_0) (scoreOf qt kb) Finset.univ (View.stores_vmem_bits_univ h_S512x1024 rfl) (.inl rfl))

/-- Take a score buffer, change it by `msk`, and accumulate its block with the values at `off`. -/
def takeP (msk : Vec F S512x1024 .f32 → FVec F S512x1024 .f32) (off : Fin 3 → ℕ) (inb : ∀ a, off a + S1x144x512.size a ≤ S1x144x16384.size a) :
    Prog (TpuEff nD τ sig (Elt F) Λ₀ .tc) PUnit := do
  let s : Vec F S512x1024 .f32 ← Prog.lift (.load cur (Rect.unit (s := S512x1024) ![0, 0] S512x1024.size inb_S512x1024_S512x1024_0_0).toLoadRect (View.loadsAt_vmem h_S512x1024))
  let vb : Vec F S1x144x512 .bf16 ← Prog.lift (.load arg4 (Rect.unit (s := S1x144x16384) off S1x144x512.size inb).toLoadRect (View.loadsAt_vmem h_S1x144x512))
  let m : Vec F S1x1024 .f32 ← Prog.lift (.load arg13 (Rect.unit (s := S1x1024) ![0, 0] S1x1024.size inb_S1x1024_S1x1024_0_0).toLoadRect (View.loadsAt_vmem h_S1x1024))
  let a : Vec F S144x1024 .f32 ← Prog.lift (.load arg14 (Rect.unit (s := S144x1024) ![0, 0] S144x1024.size inb_S144x1024_S144x1024_0_0).toLoadRect (View.loadsAt_vmem h_S144x1024))
  let _ : Vec F S144x1024 .f32 ← Prog.lift (.load arg14 (Rect.unit (s := S144x1024) ![0, 0] S144x1024.size inb_S144x1024_S144x1024_0_0).toLoadRect (View.loadsAt_vmem h_S144x1024))
  Prog.lift (.store arg14 (Rect.unit (s := S144x1024) ![0, 0] S144x1024.size inb_S144x1024_S144x1024_0_0) (accOf (msk s) vb m a) Finset.univ (View.stores_vmem_bits_univ h_S144x1024 rfl) (.inl rfl))
  let _ : Vec F S1x1024 .f32 ← Prog.lift (.load arg13 (Rect.unit (s := S1x1024) ![0, 0] S1x1024.size inb_S1x1024_S1x1024_0_0).toLoadRect (View.loadsAt_vmem h_S1x1024))
  Prog.lift (.store arg13 (Rect.unit (s := S1x1024) ![0, 0] S1x1024.size inb_S1x1024_S1x1024_0_0) (topSt (msk s) m) Finset.univ (View.stores_vmem_bits_univ h_S1x1024 rfl) (.inl rfl))

/-- Fetch the next block's scores, then accumulate the current block. -/
def stepP (qt : FVec F S128x1024 .bf16) (offk : Fin 3 → ℕ) (inbk : ∀ a, offk a + S1x512x128.size a ≤ S1x16384x128.size a)
    (offv : Fin 3 → ℕ) (inbv : ∀ a, offv a + S1x144x512.size a ≤ S1x144x16384.size a) : Prog (TpuEff nD τ sig (Elt F) Λ₀ .tc) PUnit := do
  fetchP arg3 nxt qt offk inbk
  takeP arg4 arg13 arg14 cur (fun s => s) offv inbv
end

variable (i : grid0.Coords)

section
variable (arg3 : Memref sig .tc .vmem S1x16384x128 .bf16) (arg4 : Memref sig .tc .vmem S1x144x16384 .bf16) (arg13 : Memref sig .tc .vmem S1x1024 .f32) (arg14 : Memref sig .tc .vmem S144x1024 .f32) (arg15 : Memref sig .tc .vmem S512x1024 .f32) (arg16 : Memref sig .tc .vmem S512x1024 .f32)

/-- One trip of loop 1 over whole groups: eight blocks. -/
def trip1P (v4 : FVec F S128x1024 .bf16) (k : Fin (k0_t1_loop i).trips) : Prog (TpuEff nD τ sig (Elt F) Λ₀ .tc) Unit := do
      stepP arg3 arg4 arg13 arg14 arg15 arg16 v4 (k0_off1 i k 0#32) (k0_off1_inb i k 0) (k0_off2 i k 0#32) (k0_off2_inb i k 0)
      stepP arg3 arg4 arg13 arg14 arg16 arg15 v4 (k0_off1 i k 1#32) (k0_off1_inb i k 1) (k0_off2 i k 1#32) (k0_off2_inb i k 1)
      stepP arg3 arg4 arg13 arg14 arg15 arg16 v4 (k0_off1 i k 2#32) (k0_off1_inb i k 2) (k0_off2 i k 2#32) (k0_off2_inb i k 2)
      stepP arg3 arg4 arg13 arg14 arg16 arg15 v4 (k0_off1 i k 3#32) (k0_off1_inb i k 3) (k0_off2 i k 3#32) (k0_off2_inb i k 3)
      stepP arg3 arg4 arg13 arg14 arg15 arg16 v4 (k0_off1 i k 4#32) (k0_off1_inb i k 4) (k0_off2 i k 4#32) (k0_off2_inb i k 4)
      stepP arg3 arg4 arg13 arg14 arg16 arg15 v4 (k0_off1 i k 5#32) (k0_off1_inb i k 5) (k0_off2 i k 5#32) (k0_off2_inb i k 5)
      stepP arg3 arg4 arg13 arg14 arg15 arg16 v4 (k0_off1 i k 6#32) (k0_off1_inb i k 6) (k0_off2 i k 6#32) (k0_off2_inb i k 6)
      stepP arg3 arg4 arg13 arg14 arg16 arg15 v4 (k0_off3 i k) (k0_off3_inb i k) (k0_off2 i k 7#32) (k0_off2_inb i k 7)
      pure ⟨⟩

/-- One trip of loop 2 over whole groups: eight blocks. -/
def trip2P (v4 : FVec F S128x1024 .bf16) (k : Fin (k0_t2_loop i).trips) : Prog (TpuEff nD τ sig (Elt F) Λ₀ .tc) Unit := do
      stepP arg3 arg4 arg13 arg14 arg15 arg16 v4 (k0_off4 i k 0#32) (k0_off4_inb i k 0) (k0_off5 i k 0#32) (k0_off5_inb i k 0)
      stepP arg3 arg4 arg13 arg14 arg16 arg15 v4 (k0_off4 i k 1#32) (k0_off4_inb i k 1) (k0_off5 i k 1#32) (k0_off5_inb i k 1)
      stepP arg3 arg4 arg13 arg14 arg15 arg16 v4 (k0_off4 i k 2#32) (k0_off4_inb i k 2) (k0_off5 i k 2#32) (k0_off5_inb i k 2)
      stepP arg3 arg4 arg13 arg14 arg16 arg15 v4 (k0_off4 i k 3#32) (k0_off4_inb i k 3) (k0_off5 i k 3#32) (k0_off5_inb i k 3)
      stepP arg3 arg4 arg13 arg14 arg15 arg16 v4 (k0_off4 i k 4#32) (k0_off4_inb i k 4) (k0_off5 i k 4#32) (k0_off5_inb i k 4)
      stepP arg3 arg4 arg13 arg14 arg16 arg15 v4 (k0_off4 i k 5#32) (k0_off4_inb i k 5) (k0_off5 i k 5#32) (k0_off5_inb i k 5)
      stepP arg3 arg4 arg13 arg14 arg15 arg16 v4 (k0_off4 i k 6#32) (k0_off4_inb i k 6) (k0_off5 i k 6#32) (k0_off5_inb i k 6)
      stepP arg3 arg4 arg13 arg14 arg16 arg15 v4 (k0_off6 i k) (k0_off6_inb i k) (k0_off5 i k 7#32) (k0_off5_inb i k 7)
      pure ⟨⟩

end

section
variable (arg2 : Memref sig .tc .vmem S1x2x128x512 .bf16) (arg3 : Memref sig .tc .vmem S1x16384x128 .bf16) (arg5 : Memref sig .tc .vmem S1x128x128 .bf16) (arg13 : Memref sig .tc .vmem S1x1024 .f32) (arg14 : Memref sig .tc .vmem S144x1024 .f32) (arg15 : Memref sig .tc .vmem S512x1024 .f32)

/-- The start of a tile: its queries, the empty softmax, and the meta keys' scores. -/
def openP : Prog (TpuEff nD τ sig (Elt F) Λ₀ .tc) (Σ' (qt : FVec F S128x1024 .bf16), FVec F S128x1024 .f32) := do
  let q0 : Vec F S1x1x128x512 .bf16 ← Prog.lift (.load arg2 (Rect.unit (s := S1x2x128x512) ![0, 0, 0, 0] S1x1x128x512.size inb_S1x2x128x512_S1x1x128x512_0_0_0_0).toLoadRect (View.loadsAt_vmem h_S1x1x128x512))
  let q1 : Vec F S1x1x128x512 .bf16 ← Prog.lift (.load arg2 (Rect.unit (s := S1x2x128x512) ![0, 1, 0, 0] S1x1x128x512.size inb_S1x2x128x512_S1x1x128x512_0_1_0_0).toLoadRect (View.loadsAt_vmem h_S1x1x128x512))
  let _ : Vec F S1x1024 .f32 ← Prog.lift (.load arg13 (Rect.unit (s := S1x1024) ![0, 0] S1x1024.size inb_S1x1024_S1x1024_0_0).toLoadRect (View.loadsAt_vmem h_S1x1024))
  Prog.lift (.store arg13 (Rect.unit (s := S1x1024) ![0, 0] S1x1024.size inb_S1x1024_S1x1024_0_0) topStart Finset.univ (View.stores_vmem_bits_univ h_S1x1024 rfl) (.inl rfl))
  let _ : Vec F S144x1024 .f32 ← Prog.lift (.load arg14 (Rect.unit (s := S144x1024) ![0, 0] S144x1024.size inb_S144x1024_S144x1024_0_0).toLoadRect (View.loadsAt_vmem h_S144x1024))
  Prog.lift (.store arg14 (Rect.unit (s := S144x1024) ![0, 0] S144x1024.size inb_S144x1024_S144x1024_0_0) accStart Finset.univ (View.stores_vmem_bits_univ h_S144x1024 rfl) (.inl rfl))
  let km : Vec F S1x128x128 .bf16 ← Prog.lift (.load arg5 (Rect.unit (s := S1x128x128) ![0, 0, 0] S1x128x128.size inb_S1x128x128_S1x128x128_0_0_0).toLoadRect (View.loadsAt_vmem h_S1x128x128))
  fetchP arg3 arg15 (queryOf q0 q1) ![0, 0, 0] inb_S1x16384x128_S1x512x128_0_0_0
  pure ⟨queryOf q0 q1, metaScore (queryOf q0 q1) km⟩
end

section
variable (arg6 : Memref sig .tc .vmem S1x144x128 .bf16) (arg13 : Memref sig .tc .vmem S1x1024 .f32) (arg14 : Memref sig .tc .vmem S144x1024 .f32)

/-- The meta keys' part of the softmax. -/
def metaP (s : FVec F S128x1024 .f32) : Prog (TpuEff nD τ sig (Elt F) Λ₀ .tc) PUnit := do
  let vm : Vec F S1x144x128 .bf16 ← Prog.lift (.load arg6 (Rect.unit (s := S1x144x128) ![0, 0, 0] S1x144x128.size inb_S1x144x128_S1x144x128_0_0_0).toLoadRect (View.loadsAt_vmem h_S1x144x128))
  let m : Vec F S1x1024 .f32 ← Prog.lift (.load arg13 (Rect.unit (s := S1x1024) ![0, 0] S1x1024.size inb_S1x1024_S1x1024_0_0).toLoadRect (View.loadsAt_vmem h_S1x1024))
  let a : Vec F S144x1024 .f32 ← Prog.lift (.load arg14 (Rect.unit (s := S144x1024) ![0, 0] S144x1024.size inb_S144x1024_S144x1024_0_0).toLoadRect (View.loadsAt_vmem h_S144x1024))
  let _ : Vec F S144x1024 .f32 ← Prog.lift (.load arg14 (Rect.unit (s := S144x1024) ![0, 0] S144x1024.size inb_S144x1024_S144x1024_0_0).toLoadRect (View.loadsAt_vmem h_S144x1024))
  Prog.lift (.store arg14 (Rect.unit (s := S144x1024) ![0, 0] S144x1024.size inb_S144x1024_S144x1024_0_0) (metaAcc s vm m a) Finset.univ (View.stores_vmem_bits_univ h_S144x1024 rfl) (.inl rfl))
  let _ : Vec F S1x1024 .f32 ← Prog.lift (.load arg13 (Rect.unit (s := S1x1024) ![0, 0] S1x1024.size inb_S1x1024_S1x1024_0_0).toLoadRect (View.loadsAt_vmem h_S1x1024))
  Prog.lift (.store arg13 (Rect.unit (s := S1x1024) ![0, 0] S1x1024.size inb_S1x1024_S1x1024_0_0) (metaTopSt s m) Finset.univ (View.stores_vmem_bits_univ h_S1x1024 rfl) (.inl rfl))
end

section
variable (arg3 : Memref sig .tc .vmem S1x16384x128 .bf16) (arg4 : Memref sig .tc .vmem S1x144x16384 .bf16) (arg13 : Memref sig .tc .vmem S1x1024 .f32) (arg14 : Memref sig .tc .vmem S144x1024 .f32) (arg15 : Memref sig .tc .vmem S512x1024 .f32) (arg16 : Memref sig .tc .vmem S512x1024 .f32)

/-- The last 1 blocks of a tile whose number is 0 modulo 8, the very last one under the causal mask. -/
def case0P (qt : FVec F S128x1024 .bf16) (h : k0_cond1 i = 1#1) : Prog (TpuEff nD τ sig (Elt F) Λ₀ .tc) PUnit := do
  takeP arg4 arg13 arg14 arg15 causal (k0_off7 i) (k0_off7_inb i h)

/-- The last 2 blocks of a tile whose number is 1 modulo 8, the very last one under the causal mask. -/
def case1P (qt : FVec F S128x1024 .bf16) (h : k0_cond2 i = 1#1) : Prog (TpuEff nD τ sig (Elt F) Λ₀ .tc) PUnit := do
  stepP arg3 arg4 arg13 arg14 arg15 arg16 qt (k0_off8 i) (k0_off8_inb i h) (k0_off9 i 0#32) (k0_off9_inb i h 0)
  takeP arg4 arg13 arg14 arg16 causal (k0_off9 i 1#32) (k0_off9_inb i h 1)

/-- The last 3 blocks of a tile whose number is 2 modulo 8, the very last one under the causal mask. -/
def case2P (qt : FVec F S128x1024 .bf16) (h : k0_cond3 i = 1#1) : Prog (TpuEff nD τ sig (Elt F) Λ₀ .tc) PUnit := do
  stepP arg3 arg4 arg13 arg14 arg15 arg16 qt (k0_off10 i 0#32) (k0_off10_inb i h 0) (k0_off11 i 0#32) (k0_off11_inb i h 0)
  stepP arg3 arg4 arg13 arg14 arg16 arg15 qt (k0_off10 i 1#32) (k0_off10_inb i h 1) (k0_off11 i 1#32) (k0_off11_inb i h 1)
  takeP arg4 arg13 arg14 arg15 causal (k0_off11 i 2#32) (k0_off11_inb i h 2)

/-- The last 4 blocks of a tile whose number is 3 modulo 8, the very last one under the causal mask. -/
def case3P (qt : FVec F S128x1024 .bf16) (h : k0_cond4 i = 1#1) : Prog (TpuEff nD τ sig (Elt F) Λ₀ .tc) PUnit := do
  stepP arg3 arg4 arg13 arg14 arg15 arg16 qt (k0_off12 i 0#32) (k0_off12_inb i h 0) (k0_off13 i 0#32) (k0_off13_inb i h 0)
  stepP arg3 arg4 arg13 arg14 arg16 arg15 qt (k0_off12 i 1#32) (k0_off12_inb i h 1) (k0_off13 i 1#32) (k0_off13_inb i h 1)
  stepP arg3 arg4 arg13 arg14 arg15 arg16 qt (k0_off12 i 2#32) (k0_off12_inb i h 2) (k0_off13 i 2#32) (k0_off13_inb i h 2)
  takeP arg4 arg13 arg14 arg16 causal (k0_off13 i 3#32) (k0_off13_inb i h 3)

/-- The last 5 blocks of a tile whose number is 4 modulo 8, the very last one under the causal mask. -/
def case4P (qt : FVec F S128x1024 .bf16) (h : k0_cond5 i = 1#1) : Prog (TpuEff nD τ sig (Elt F) Λ₀ .tc) PUnit := do
  stepP arg3 arg4 arg13 arg14 arg15 arg16 qt (k0_off14 i 0#32) (k0_off14_inb i h 0) (k0_off15 i 0#32) (k0_off15_inb i h 0)
  stepP arg3 arg4 arg13 arg14 arg16 arg15 qt (k0_off14 i 1#32) (k0_off14_inb i h 1) (k0_off15 i 1#32) (k0_off15_inb i h 1)
  stepP arg3 arg4 arg13 arg14 arg15 arg16 qt (k0_off14 i 2#32) (k0_off14_inb i h 2) (k0_off15 i 2#32) (k0_off15_inb i h 2)
  stepP arg3 arg4 arg13 arg14 arg16 arg15 qt (k0_off14 i 3#32) (k0_off14_inb i h 3) (k0_off15 i 3#32) (k0_off15_inb i h 3)
  takeP arg4 arg13 arg14 arg15 causal (k0_off15 i 4#32) (k0_off15_inb i h 4)

/-- The last 6 blocks of a tile whose number is 5 modulo 8, the very last one under the causal mask. -/
def case5P (qt : FVec F S128x1024 .bf16) (h : k0_cond6 i = 1#1) : Prog (TpuEff nD τ sig (Elt F) Λ₀ .tc) PUnit := do
  stepP arg3 arg4 arg13 arg14 arg15 arg16 qt (k0_off16 i 0#32) (k0_off16_inb i h 0) (k0_off17 i 0#32) (k0_off17_inb i h 0)
  stepP arg3 arg4 arg13 arg14 arg16 arg15 qt (k0_off16 i 1#32) (k0_off16_inb i h 1) (k0_off17 i 1#32) (k0_off17_inb i h 1)
  stepP arg3 arg4 arg13 arg14 arg15 arg16 qt (k0_off16 i 2#32) (k0_off16_inb i h 2) (k0_off17 i 2#32) (k0_off17_inb i h 2)
  stepP arg3 arg4 arg13 arg14 arg16 arg15 qt (k0_off16 i 3#32) (k0_off16_inb i h 3) (k0_off17 i 3#32) (k0_off17_inb i h 3)
  stepP arg3 arg4 arg13 arg14 arg15 arg16 qt (k0_off16 i 4#32) (k0_off16_inb i h 4) (k0_off17 i 4#32) (k0_off17_inb i h 4)
  takeP arg4 arg13 arg14 arg16 causal (k0_off17 i 5#32) (k0_off17_inb i h 5)

/-- The last 7 blocks of a tile whose number is 6 modulo 8, the very last one under the causal mask. -/
def case6P (qt : FVec F S128x1024 .bf16) (h : k0_cond7 i = 1#1) : Prog (TpuEff nD τ sig (Elt F) Λ₀ .tc) PUnit := do
  stepP arg3 arg4 arg13 arg14 arg15 arg16 qt (k0_off18 i 0#32) (k0_off18_inb i h 0) (k0_off19 i 0#32) (k0_off19_inb i h 0)
  stepP arg3 arg4 arg13 arg14 arg16 arg15 qt (k0_off18 i 1#32) (k0_off18_inb i h 1) (k0_off19 i 1#32) (k0_off19_inb i h 1)
  stepP arg3 arg4 arg13 arg14 arg15 arg16 qt (k0_off18 i 2#32) (k0_off18_inb i h 2) (k0_off19 i 2#32) (k0_off19_inb i h 2)
  stepP arg3 arg4 arg13 arg14 arg16 arg15 qt (k0_off18 i 3#32) (k0_off18_inb i h 3) (k0_off19 i 3#32) (k0_off19_inb i h 3)
  stepP arg3 arg4 arg13 arg14 arg15 arg16 qt (k0_off18 i 4#32) (k0_off18_inb i h 4) (k0_off19 i 4#32) (k0_off19_inb i h 4)
  stepP arg3 arg4 arg13 arg14 arg16 arg15 qt (k0_off18 i 5#32) (k0_off18_inb i h 5) (k0_off19 i 5#32) (k0_off19_inb i h 5)
  takeP arg4 arg13 arg14 arg15 causal (k0_off19 i 6#32) (k0_off19_inb i h 6)

/-- The last 8 blocks of a tile whose number is 7 modulo 8, the very last one under the causal mask. -/
def case7P (qt : FVec F S128x1024 .bf16) (h : k0_cond8 i = 1#1) : Prog (TpuEff nD τ sig (Elt F) Λ₀ .tc) PUnit := do
  stepP arg3 arg4 arg13 arg14 arg15 arg16 qt (k0_off20 i 0#32) (k0_off20_inb i h 0) (k0_off21 i 0#32) (k0_off21_inb i h 0)
  stepP arg3 arg4 arg13 arg14 arg16 arg15 qt (k0_off20 i 1#32) (k0_off20_inb i h 1) (k0_off21 i 1#32) (k0_off21_inb i h 1)
  stepP arg3 arg4 arg13 arg14 arg15 arg16 qt (k0_off20 i 2#32) (k0_off20_inb i h 2) (k0_off21 i 2#32) (k0_off21_inb i h 2)
  stepP arg3 arg4 arg13 arg14 arg16 arg15 qt (k0_off20 i 3#32) (k0_off20_inb i h 3) (k0_off21 i 3#32) (k0_off21_inb i h 3)
  stepP arg3 arg4 arg13 arg14 arg15 arg16 qt (k0_off20 i 4#32) (k0_off20_inb i h 4) (k0_off21 i 4#32) (k0_off21_inb i h 4)
  stepP arg3 arg4 arg13 arg14 arg16 arg15 qt (k0_off20 i 5#32) (k0_off20_inb i h 5) (k0_off21 i 5#32) (k0_off21_inb i h 5)
  stepP arg3 arg4 arg13 arg14 arg15 arg16 qt (k0_off20 i 6#32) (k0_off20_inb i h 6) (k0_off21 i 6#32) (k0_off21_inb i h 6)
  takeP arg4 arg13 arg14 arg16 causal (k0_off21 i 7#32) (k0_off21_inb i h 7)
end

section
variable (arg3 : Memref sig .tc .vmem S1x16384x128 .bf16) (arg4 : Memref sig .tc .vmem S1x144x16384 .bf16) (arg7 : Memref sig .tc .vmem S1x64 .f32) (arg8 : Memref sig .tc .vmem S1x64 .f32) (arg9 : Memref sig .tc .vmem S1x64 .f32) (arg10 : Memref sig .tc .vmem S1x64 .f32) (arg13 : Memref sig .tc .vmem S1x1024 .f32) (arg14 : Memref sig .tc .vmem S144x1024 .f32) (arg15 : Memref sig .tc .vmem S512x1024 .f32) (arg16 : Memref sig .tc .vmem S512x1024 .f32)

/-- The last ending, and the tile's difference from its numerators and denominators. -/
def endP (qt : FVec F S128x1024 .bf16) : Prog (TpuEff nD τ sig (Elt F) Λ₀ .tc) (Σ' (_ : FVec F S128x512 .f32) (_ : FVec F S1x512 .f32), F .f32) := do
  if h : k0_cond8 i = 1#1 then case7P i arg3 arg4 arg13 arg14 arg15 arg16 qt h else pure ⟨⟩
  let l0 : Vec F S1x64 .f32 ← Prog.lift (.load arg7 (Rect.unit (s := S1x64) ![0, 0] S1x64.size inb_S1x64_S1x64_0_0).toLoadRect (View.loadsAt_vmem h_S1x64))
  let l1 : Vec F S1x64 .f32 ← Prog.lift (.load arg8 (Rect.unit (s := S1x64) ![0, 0] S1x64.size inb_S1x64_S1x64_0_0).toLoadRect (View.loadsAt_vmem h_S1x64))
  let l2 : Vec F S1x64 .f32 ← Prog.lift (.load arg9 (Rect.unit (s := S1x64) ![0, 0] S1x64.size inb_S1x64_S1x64_0_0).toLoadRect (View.loadsAt_vmem h_S1x64))
  let l3 : Vec F S1x64 .f32 ← Prog.lift (.load arg10 (Rect.unit (s := S1x64) ![0, 0] S1x64.size inb_S1x64_S1x64_0_0).toLoadRect (View.loadsAt_vmem h_S1x64))
  let num : Vec F S128x1024 .f32 ← Prog.lift (.load arg14 (Rect.unit (s := S144x1024) ![0, 0] S128x1024.size inb_S144x1024_S128x1024_0_0).toLoadRect (View.loadsAt_vmem h_S128x1024))
  let den : Vec F S1x1024 .f32 ← Prog.lift (.load arg14 (Rect.unit (s := S144x1024) ![128, 0] S1x1024.size inb_S144x1024_S1x1024_128_0).toLoadRect (View.loadsAt_vmem h_S1x1024))
  pure ⟨diffOf (lamOf l0 l1 l2 l3) num den, meanOf (diffOf (lamOf l0 l1 l2 l3) num den), Scalar.ofBits .f32 0x3727C5AC#32⟩
end

section
variable (arg11 : Memref sig .tc .vmem S128x1 .f32) (arg12 : Memref sig .tc .vmem S512x128 .bf16) (harg12 : arg12.IsWhole)

/-- The tile's results from its difference. -/
def finP (o : FVec F S128x512 .f32) (ms : FVec F S1x512 .f32) (eps : F .f32) : Prog (TpuEff nD τ sig (Elt F) Λ₀ .tc) PUnit := do
  let g : Vec F S128x1 .f32 ← Prog.lift (.load arg11 (Rect.unit (s := S128x1) ![0, 0] S128x1.size inb_S128x1_S128x1_0_0).toLoadRect (View.loadsAt_vmem h_S128x1))
  let _ : Vec F S512x128 .bf16 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (normOf o ms eps g) Finset.univ (View.stores_vmem h_S512x128 (harg12.storeExact_slice rfl _ packedbf16_S512x128_S512x128_0_0) (fun _ => rfl)) (.inl rfl))
end

variable (arg2 : Memref sig .tc .vmem S1x2x128x512 .bf16) (harg2 : arg2.IsWhole) (arg3 : Memref sig .tc .vmem S1x16384x128 .bf16) (harg3 : arg3.IsWhole)
  (arg4 : Memref sig .tc .vmem S1x144x16384 .bf16) (harg4 : arg4.IsWhole) (arg5 : Memref sig .tc .vmem S1x128x128 .bf16) (harg5 : arg5.IsWhole)
  (arg6 : Memref sig .tc .vmem S1x144x128 .bf16) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x64 .f32) (harg9 : arg9.IsWhole)
  (arg10 : Memref sig .tc .vmem S1x64 .f32) (harg10 : arg10.IsWhole) (arg11 : Memref sig .tc .vmem S128x1 .f32) (harg11 : arg11.IsWhole)
  (arg12 : Memref sig .tc .vmem S512x128 .bf16) (harg12 : arg12.IsWhole) (arg13 : Memref sig .tc .vmem S1x1024 .f32) (harg13 : arg13.IsWhole)
  (arg14 : Memref sig .tc .vmem S144x1024 .f32) (harg14 : arg14.IsWhole) (arg15 : Memref sig .tc .vmem S512x1024 .f32) (harg15 : arg15.IsWhole)
  (arg16 : Memref sig .tc .vmem S512x1024 .f32) (harg16 : arg16.IsWhole)

section
variable (arg3 : Memref sig .tc .vmem S1x16384x128 .bf16) (arg4 : Memref sig .tc .vmem S1x144x16384 .bf16) (arg13 : Memref sig .tc .vmem S1x1024 .f32) (arg14 : Memref sig .tc .vmem S144x1024 .f32) (arg15 : Memref sig .tc .vmem S512x1024 .f32) (arg16 : Memref sig .tc .vmem S512x1024 .f32)

/-- The loops over whole groups of blocks, and the first two endings. -/
def mid1P (qt : FVec F S128x1024 .bf16) : Prog (TpuEff nD τ sig (Elt F) Λ₀ .tc) (Σ' (_ : BitVec 32), BitVec 32) := do
  Scf.Loop.for (k0_t1_loop i) (k0_t1_ok i) ⟨⟩ (fun k _ => trip1P i arg3 arg4 arg13 arg14 arg15 arg16 qt k)
  Scf.Loop.for (k0_t2_loop i) (k0_t2_ok i) ⟨⟩ (fun k _ => trip2P i arg3 arg4 arg13 arg14 arg15 arg16 qt k)
  if h : k0_cond1 i = 1#1 then case0P i arg4 arg13 arg14 arg15 qt h else pure ⟨⟩
  if h : k0_cond2 i = 1#1 then case1P i arg3 arg4 arg13 arg14 arg15 arg16 qt h else pure ⟨⟩
  pure ⟨8#32, 0#32⟩

/-- The next two endings. -/
def mid2P (a : BitVec 32) (qt : FVec F S128x1024 .bf16) : Prog (TpuEff nD τ sig (Elt F) Λ₀ .tc) (BitVec 1) := do
  let w : BitVec 32 := Scalar.select (Scalar.cmpi .eq 8#32 0#32) 1#32 8#32
  let r : BitVec 32 := Scalar.remsi a w
  if h : k0_cond3 i = 1#1 then case2P i arg3 arg4 arg13 arg14 arg15 arg16 qt h else pure ⟨⟩
  if h : k0_cond4 i = 1#1 then case3P i arg3 arg4 arg13 arg14 arg15 arg16 qt h else pure ⟨⟩
  pure (Scalar.cmpi .eq (Scalar.select (Scalar.andi (Scalar.xori (Scalar.cmpi .slt r 0#32) (Scalar.cmpi .slt w 0#32)) (Scalar.cmpi .ne r 0#32)) (Scalar.addi r w) r) 4#32)

/-- The next three endings. -/
def mid3P (a : BitVec 32) (qt : FVec F S128x1024 .bf16) : Prog (TpuEff nD τ sig (Elt F) Λ₀ .tc) (Σ' (_ : BitVec 32) (_ : BitVec 32) (_ : BitVec 1) (_ : BitVec 1), BitVec 1) := do
  let w : BitVec 32 := Scalar.select (Scalar.cmpi .eq 8#32 0#32) 1#32 8#32
  let r : BitVec 32 := Scalar.remsi a w
  if h : k0_cond5 i = 1#1 then case4P i arg3 arg4 arg13 arg14 arg15 arg16 qt h else pure ⟨⟩
  if h : k0_cond6 i = 1#1 then case5P i arg3 arg4 arg13 arg14 arg15 arg16 qt h else pure ⟨⟩
  if h : k0_cond7 i = 1#1 then case6P i arg3 arg4 arg13 arg14 arg15 arg16 qt h else pure ⟨⟩
  pure ⟨w, r, Scalar.cmpi .ne r 0#32, Scalar.cmpi .slt r 0#32, Scalar.cmpi .slt w 0#32⟩

end

/-- The whole run of a tile, in these steps. -/
def tileP : Prog (TpuEff nD τ sig (Elt F) Λ₀ .tc) PUnit := do
  let ⟨qt, s⟩ : Σ' (qt : FVec F S128x1024 .bf16), FVec F S128x1024 .f32 ← openP arg2 arg3 arg5 arg13 arg14 arg15
  metaP arg6 arg13 arg14 s
  let _ ← mid1P i arg3 arg4 arg13 arg14 arg15 arg16 qt
  let _ ← mid2P i arg3 arg4 arg13 arg14 arg15 arg16 (BitVec.ofNat 32 (i 1).val) qt
  let _ ← mid3P i arg3 arg4 arg13 arg14 arg15 arg16 (BitVec.ofNat 32 (i 1).val) qt
  let ⟨o, ms, eps⟩ : Σ' (_ : FVec F S128x512 .f32) (_ : FVec F S1x512 .f32), F .f32 ← endP i arg3 arg4 arg7 arg8 arg9 arg10 arg13 arg14 arg15 arg16 qt
  finP arg11 arg12 harg12 o ms eps

theorem part56_eq (arg1 : BitVec 32) (v4 : FVec F S128x1024 .bf16) (v52 : BitVec 32) (v66 : BitVec 1) (c1 : BitVec 32) :
    k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v4 v52 v66 c1 = mid1P i arg3 arg4 arg13 arg14 arg15 arg16 v4 := rfl

theorem part57_eq (arg1 : BitVec 32) (v4 : FVec F S128x1024 .bf16) (a b : BitVec 32) :
    k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v4 a b = mid2P i arg3 arg4 arg13 arg14 arg15 arg16 arg1 v4 := rfl

theorem part58_eq (arg1 : BitVec 32) (v4 : FVec F S128x1024 .bf16) (v : BitVec 1) :
    k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v4 v = mid3P i arg3 arg4 arg13 arg14 arg15 arg16 arg1 v4 := rfl

/-- What is computed from the tile's difference alone takes the constant of the normalisation as a parameter. -/
theorem part59_eq (arg1 : BitVec 32) (v4 : FVec F S128x1024 .bf16) (a b : BitVec 32) (c d e : BitVec 1) :
    k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v4 a b c d e = endP i arg3 arg4 arg7 arg8 arg9 arg10 arg13 arg14 arg15 arg16 v4 := rfl

/-- The printed body is that run. -/
theorem body_eq : cc0_prompt_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = tileP i arg2 arg3 arg4 arg5 arg6 arg7 arg8 arg9 arg10 arg11 arg12 harg12 arg13 arg14 arg15 arg16 := by
  rw [cc0_prompt_attention_eq_skeleton]; unfold cc0_prompt_attention_skel
  simp only [part56_eq, part57_eq, part58_eq, part59_eq]
  rfl

end Cert.KernelIdeal.Attn
-- ==== Proof.Run.lean ====
module

public import proofs.«01_k».proof.Proof.Steps
public import proofs.«01_k».proof.Proof.Gen.KernelIdeal.Frame.Runs
public import Idealize.ShloMosaic.Lib.VecWindow

@[expose] public section

set_option maxRecDepth 65536

noncomputable section

namespace Cert.KernelIdeal.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Block `n` of a head's keys. -/
def keyBlk (X : Vec F S1x16384x128 .bf16) (n : ℕ) : Vec F S1x512x128 .bf16 := fun j =>
  X (fun a => ⟨(![0, 512 * n, 0] a + (j a).val) % S1x16384x128.size a, Nat.mod_lt _ (by fin_cases a <;> decide)⟩)

/-- Block `n` of a head's values. -/
def valBlk (X : Vec F S1x144x16384 .bf16) (n : ℕ) : Vec F S1x144x512 .bf16 := fun j =>
  X (fun a => ⟨(![0, 0, 512 * n] a + (j a).val) % S1x144x16384.size a, Nat.mod_lt _ (by fin_cases a <;> decide)⟩)

theorem keyBlk_eq (X : Vec F S1x16384x128 .bf16) (n : ℕ) {off : Fin 3 → ℕ} (inb : ∀ a, off a + S1x512x128.size a ≤ S1x16384x128.size a)
    (h : off = ![0, 512 * n, 0]) : (fun j => X ((Rect.unit (s := S1x16384x128) off S1x512x128.size inb).emb j)) = keyBlk X n := by
  subst h
  funext j
  refine congrArg X (funext fun a => Fin.ext ?_)
  have h1 := inb a
  have h2 : (j a).val < S1x512x128.size a := (j a).isLt
  have h3 : (((Rect.unit (s := S1x16384x128) ![0, 512 * n, 0] S1x512x128.size inb).emb j) a).val = ![0, 512 * n, 0] a + 1 * (j a).val := rfl
  rw [h3, one_mul]
  exact (Nat.mod_eq_of_lt (by omega)).symm

theorem valBlk_eq (X : Vec F S1x144x16384 .bf16) (n : ℕ) {off : Fin 3 → ℕ} (inb : ∀ a, off a + S1x144x512.size a ≤ S1x144x16384.size a)
    (h : off = ![0, 0, 512 * n]) : (fun j => X ((Rect.unit (s := S1x144x16384) off S1x144x512.size inb).emb j)) = valBlk X n := by
  subst h
  funext j
  refine congrArg X (funext fun a => Fin.ext ?_)
  have h1 := inb a
  have h2 : (j a).val < S1x144x512.size a := (j a).isLt
  have h3 : (((Rect.unit (s := S1x144x16384) ![0, 0, 512 * n] S1x144x512.size inb).emb j) a).val = ![0, 0, 512 * n] a + 1 * (j a).val := rfl
  rw [h3, one_mul]
  exact (Nat.mod_eq_of_lt (by omega)).symm

/-- The running maximum and sums after the meta keys and the first `n` blocks, all of them plain. -/
def stt (qt : FVec F S128x1024 .bf16) (X3 : Vec F S1x16384x128 .bf16) (X4 : Vec F S1x144x16384 .bf16) (m0 : FVec F S1x1024 .f32) (a0 : FVec F S144x1024 .f32) :
    ℕ → FVec F S1x1024 .f32 × FVec F S144x1024 .f32
  | 0 => (m0, a0)
  | n + 1 => (topSt (scoreOf qt (keyBlk X3 n)) (stt qt X3 X4 m0 a0 n).1,
      accOf (scoreOf qt (keyBlk X3 n)) (valBlk X4 n) (stt qt X3 X4 m0 a0 n).1 (stt qt X3 X4 m0 a0 n).2)

variable (c : Dev nD)

local notation "WP" => wp frame (wpE (defs₀ (F := F)) Variants.none (c : Thread nD τ) none)

variable (E : Set ℕ)
section
variable (arg3 : Memref sig .tc .vmem S1x16384x128 .bf16) (arg4 : Memref sig .tc .vmem S1x144x16384 .bf16)
  (arg13 : Memref sig .tc .vmem S1x1024 .f32) (arg14 : Memref sig .tc .vmem S144x1024 .f32)
  (cur nxt : Memref sig .tc .vmem S512x1024 .f32)

theorem fetchP_run (qt : FVec F S128x1024 .bf16) (off : Fin 3 → ℕ) (inb : ∀ a, off a + S1x512x128.size a ≤ S1x16384x128.size a)
    (n : ℕ) (h : off = ![0, 512 * n, 0]) (X3 : Vec F S1x16384x128 .bf16) :
    (iprop(owns (c : Thread nD τ) arg3 fullShare X3 ∗ (∃ d, owns (c : Thread nD τ) nxt fullShare d)) : sProp 𝕄)
      ⊢ WP E (fetchP arg3 nxt qt off inb)
        (fun _ => iprop(owns (c : Thread nD τ) arg3 fullShare X3 ∗
          owns (c : Thread nD τ) nxt fullShare (scoreOf qt (keyBlk X3 n)))) := by
  rw [← keyBlk_eq X3 n inb h]
  unfold fetchP owns
  iintro ⟨⟨%f3, %hf3, H3⟩, ⟨%d, %fn, -, HN⟩⟩
  subst hf3
  sl_exec
  sl_step
  isplitl [H3]
  · iexists _; isplitr; · ipureintro; rfl
    iexact H3
  iexists _; isplitr
  swap; iexact HN
  ipureintro
  exact View.read_writes_full _ _ _ _ _

theorem takeP_run (msk : Vec F S512x1024 .f32 → FVec F S512x1024 .f32) (off : Fin 3 → ℕ) (inb : ∀ a, off a + S1x144x512.size a ≤ S1x144x16384.size a)
    (n : ℕ) (h : off = ![0, 0, 512 * n]) (X4 : Vec F S1x144x16384 .bf16) (s : Vec F S512x1024 .f32) (m : Vec F S1x1024 .f32) (a : Vec F S144x1024 .f32) :
    (iprop(owns (c : Thread nD τ) arg4 fullShare X4 ∗ owns (c : Thread nD τ) cur fullShare s ∗ owns (c : Thread nD τ) arg13 fullShare m ∗ owns (c : Thread nD τ) arg14 fullShare a) : sProp 𝕄)
      ⊢ WP E (takeP arg4 arg13 arg14 cur msk off inb)
        (fun _ => iprop(owns (c : Thread nD τ) arg4 fullShare X4 ∗ owns (c : Thread nD τ) cur fullShare s ∗
          owns (c : Thread nD τ) arg13 fullShare (topSt (msk s) m) ∗ owns (c : Thread nD τ) arg14 fullShare (accOf (msk s) (valBlk X4 n) m a))) := by
  rw [← valBlk_eq X4 n inb h]
  unfold takeP owns
  iintro ⟨⟨%f4, %hf4, H4⟩, ⟨%fc, %hfc, HC⟩, ⟨%fm, %hfm, HM⟩, ⟨%fa, %hfa, HA⟩⟩
  subst hf4 hfc hfm hfa
  sl_exec
  sl_step
  isplitl [H4]
  · iexists _; isplitr; · ipureintro; rfl
    iexact H4
  isplitl [HC]
  · iexists _; isplitr; · ipureintro; rfl
    iexact HC
  isplitl [HM]
  · iexists _; isplitr
    swap; iexact HM
    ipureintro
    exact (View.read_writes_full _ _ _ _ _).trans (congrArg₂ topSt (congrArg msk (View.readAt_full (Val := Elt F) cur.view fc inb_S512x1024_S512x1024_0_0))
      (View.readAt_full (Val := Elt F) arg13.view fm inb_S1x1024_S1x1024_0_0))
  · iexists _; isplitr
    swap; iexact HA
    ipureintro
    exact (View.read_writes_full _ _ _ _ _).trans (congr (congr (congr (congrArg accOf (congrArg msk (View.readAt_full (Val := Elt F) cur.view fc inb_S512x1024_S512x1024_0_0))) rfl)
      (View.readAt_full (Val := Elt F) arg13.view fm inb_S1x1024_S1x1024_0_0)) (View.readAt_full (Val := Elt F) arg14.view fa inb_S144x1024_S144x1024_0_0))

end

section
variable (arg3 : Memref sig .tc .vmem S1x16384x128 .bf16) (arg4 : Memref sig .tc .vmem S1x144x16384 .bf16)
  (arg13 : Memref sig .tc .vmem S1x1024 .f32) (arg14 : Memref sig .tc .vmem S144x1024 .f32)
variable (X3 : Vec F S1x16384x128 .bf16) (X4 : Vec F S1x144x16384 .bf16) (qt : FVec F S128x1024 .bf16) (m0 : FVec F S1x1024 .f32) (a0 : FVec F S144x1024 .f32)

/-- Before block `n`: its scores are in `cur`, and the maximum and the sums are those of the blocks before it. -/
def AtBlk (cur nxt : Memref sig .tc .vmem S512x1024 .f32) (n : ℕ) : sProp 𝕄 :=
  iprop(owns (c : Thread nD τ) arg3 fullShare X3 ∗ owns (c : Thread nD τ) arg4 fullShare X4 ∗
    owns (c : Thread nD τ) arg13 fullShare (stt qt X3 X4 m0 a0 n).1 ∗ owns (c : Thread nD τ) arg14 fullShare (stt qt X3 X4 m0 a0 n).2 ∗
    owns (c : Thread nD τ) cur fullShare (scoreOf qt (keyBlk X3 n)) ∗ ∃ d, owns (c : Thread nD τ) nxt fullShare d)

/-- After the last block `n`, taken under the causal mask. -/
def AtEnd (b1 b2 : Memref sig .tc .vmem S512x1024 .f32) (n : ℕ) : sProp 𝕄 :=
  iprop(owns (c : Thread nD τ) arg3 fullShare X3 ∗ owns (c : Thread nD τ) arg4 fullShare X4 ∗
    owns (c : Thread nD τ) arg13 fullShare (topSt (causal (scoreOf qt (keyBlk X3 n))) (stt qt X3 X4 m0 a0 n).1) ∗
    owns (c : Thread nD τ) arg14 fullShare (accOf (causal (scoreOf qt (keyBlk X3 n))) (valBlk X4 n) (stt qt X3 X4 m0 a0 n).1 (stt qt X3 X4 m0 a0 n).2) ∗
    (∃ d, owns (c : Thread nD τ) b1 fullShare d) ∗ ∃ d, owns (c : Thread nD τ) b2 fullShare d)

theorem stepP_run (cur nxt : Memref sig .tc .vmem S512x1024 .f32) (n : ℕ)
    (offk : Fin 3 → ℕ) (inbk : ∀ a, offk a + S1x512x128.size a ≤ S1x16384x128.size a)
    (offv : Fin 3 → ℕ) (inbv : ∀ a, offv a + S1x144x512.size a ≤ S1x144x16384.size a)
    (hk : offk = ![0, 512 * (n + 1), 0]) (hv : offv = ![0, 0, 512 * n]) :
    AtBlk c arg3 arg4 arg13 arg14 X3 X4 qt m0 a0 cur nxt n
      ⊢ WP E (stepP arg3 arg4 arg13 arg14 cur nxt qt offk inbk offv inbv) (fun _ => AtBlk c arg3 arg4 arg13 arg14 X3 X4 qt m0 a0 nxt cur (n + 1)) := by
  have ht := takeP_run c E arg4 arg13 arg14 cur (fun s => s) offv inbv n hv X4 (scoreOf qt (keyBlk X3 n)) (stt qt X3 X4 m0 a0 n).1 (stt qt X3 X4 m0 a0 n).2
  beta_reduce at ht
  unfold stepP AtBlk
  rw [wp_bind]
  simp only [stt]
  iintro ⟨H3, H4, HM, HA, HC, HN⟩
  iapply (wp_wand_r frame _ E)
  isplitl [H3 HN]
  · iapply (fetchP_run c E arg3 nxt qt offk inbk (n + 1) hk X3)
    isplitl [H3] <;> iassumption
  iintro %_u ⟨H3, HN⟩
  iapply (wp_wand_r frame _ E)
  isplitl [H4 HM HA HC]
  · iapply ht
    isplitl [H4]; · iassumption
    isplitl [HC]; · iassumption
    isplitl [HM] <;> iassumption
  iintro %_v ⟨H4, HC, HM, HA⟩
  isplitl [H3]; · iassumption
  isplitl [H4]; · iassumption
  isplitl [HM]; · iassumption
  isplitl [HA]; · iassumption
  isplitl [HN]; · iassumption
  iexists _; iassumption

theorem lastP_run (cur nxt : Memref sig .tc .vmem S512x1024 .f32) (n : ℕ)
    (offv : Fin 3 → ℕ) (inbv : ∀ a, offv a + S1x144x512.size a ≤ S1x144x16384.size a) (hv : offv = ![0, 0, 512 * n]) :
    AtBlk c arg3 arg4 arg13 arg14 X3 X4 qt m0 a0 cur nxt n
      ⊢ WP E (takeP arg4 arg13 arg14 cur causal offv inbv) (fun _ => AtEnd c arg3 arg4 arg13 arg14 X3 X4 qt m0 a0 cur nxt n) := by
  unfold AtBlk AtEnd
  iintro ⟨H3, H4, HM, HA, HC, HN⟩
  iapply (wp_wand_r frame _ E)
  isplitl [H4 HM HA HC]
  · iapply (takeP_run c E arg4 arg13 arg14 cur causal offv inbv n hv X4)
    isplitl [H4]; · iassumption
    isplitl [HC]; · iassumption
    isplitl [HM] <;> iassumption
  iintro %_v ⟨H4, HC, HM, HA⟩
  isplitl [H3]; · iassumption
  isplitl [H4]; · iassumption
  isplitl [HM]; · iassumption
  isplitl [HA]; · iassumption
  isplitl [HC]; · iexists _; iassumption
  iassumption

/-- The end state does not tell the two score buffers apart. -/
theorem AtEnd_swap (b1 b2 : Memref sig .tc .vmem S512x1024 .f32) (n : ℕ) :
    AtEnd c arg3 arg4 arg13 arg14 X3 X4 qt m0 a0 b1 b2 n ⊢ AtEnd c arg3 arg4 arg13 arg14 X3 X4 qt m0 a0 b2 b1 n := by
  unfold AtEnd
  iintro ⟨H3, H4, HM, HA, HC, HN⟩
  isplitl [H3]; · iassumption
  isplitl [H4]; · iassumption
  isplitl [HM]; · iassumption
  isplitl [HA]; · iassumption
  isplitl [HN] <;> iassumption

variable (arg15 arg16 : Memref sig .tc .vmem S512x1024 .f32) (i : grid0.Coords)

theorem trips1 : ∀ i : grid0.Coords, (k0_t1_loop i).trips = (i 1).val / 8 := by decide +kernel
theorem trips2 : ∀ i : grid0.Coords, (k0_t2_loop i).trips = 0 := by decide +kernel
theorem off1_eq : ∀ (i : grid0.Coords) (k : Fin (k0_t1_loop i).trips) (r : Fin 7), k0_off1 i k (BitVec.ofNat 32 r.val) = ![0, 512 * (8 * k.val + r.val + 1), 0] := by decide +kernel
theorem off2_eq : ∀ (i : grid0.Coords) (k : Fin (k0_t1_loop i).trips) (r : Fin 8), k0_off2 i k (BitVec.ofNat 32 r.val) = ![0, 0, 512 * (8 * k.val + r.val)] := by decide +kernel
theorem off3_eq : ∀ (i : grid0.Coords) (k : Fin (k0_t1_loop i).trips), k0_off3 i k = ![0, 512 * (8 * k.val + 7 + 1), 0] := by decide +kernel

theorem trip1P_run (k : Fin (k0_t1_loop i).trips) :
    AtBlk c arg3 arg4 arg13 arg14 X3 X4 qt m0 a0 arg15 arg16 (8 * k.val)
      ⊢ WP E (trip1P i arg3 arg4 arg13 arg14 arg15 arg16 qt k) (fun _ => AtBlk c arg3 arg4 arg13 arg14 X3 X4 qt m0 a0 arg15 arg16 (8 * (k.val + 1))) := by
  unfold trip1P
  simp only [wp_bind]
  refine (stepP_run c E arg3 arg4 arg13 arg14 X3 X4 qt m0 a0 arg15 arg16 (8 * k.val) _ _ _ _ (off1_eq i k 0) (off2_eq i k 0)).trans (wp_mono _ _ _ fun _ => ?_)
  refine (stepP_run c E arg3 arg4 arg13 arg14 X3 X4 qt m0 a0 arg16 arg15 (8 * k.val + 1) _ _ _ _ (off1_eq i k 1) (off2_eq i k 1)).trans (wp_mono _ _ _ fun _ => ?_)
  refine (stepP_run c E arg3 arg4 arg13 arg14 X3 X4 qt m0 a0 arg15 arg16 (8 * k.val + 2) _ _ _ _ (off1_eq i k 2) (off2_eq i k 2)).trans (wp_mono _ _ _ fun _ => ?_)
  refine (stepP_run c E arg3 arg4 arg13 arg14 X3 X4 qt m0 a0 arg16 arg15 (8 * k.val + 3) _ _ _ _ (off1_eq i k 3) (off2_eq i k 3)).trans (wp_mono _ _ _ fun _ => ?_)
  refine (stepP_run c E arg3 arg4 arg13 arg14 X3 X4 qt m0 a0 arg15 arg16 (8 * k.val + 4) _ _ _ _ (off1_eq i k 4) (off2_eq i k 4)).trans (wp_mono _ _ _ fun _ => ?_)
  refine (stepP_run c E arg3 arg4 arg13 arg14 X3 X4 qt m0 a0 arg16 arg15 (8 * k.val + 5) _ _ _ _ (off1_eq i k 5) (off2_eq i k 5)).trans (wp_mono _ _ _ fun _ => ?_)
  refine (stepP_run c E arg3 arg4 arg13 arg14 X3 X4 qt m0 a0 arg15 arg16 (8 * k.val + 6) _ _ _ _ (off1_eq i k 6) (off2_eq i k 6)).trans (wp_mono _ _ _ fun _ => ?_)
  refine (stepP_run c E arg3 arg4 arg13 arg14 X3 X4 qt m0 a0 arg16 arg15 (8 * k.val + 7) _ _ _ _ (off3_eq i k) (off2_eq i k 7)).trans (wp_mono _ _ _ fun _ => ?_)
  rw [wp_pure]
  exact fupd_intro

theorem cond1_mod : ∀ i : grid0.Coords, k0_cond1 i = 1#1 ↔ (i 1).val % 8 = 0 := by decide +kernel

theorem off8_eq : ∀ (i : grid0.Coords) (_ : k0_cond2 i = 1#1), k0_off8 i = ![0, 512 * ((i 1).val - 1 + 1), 0] := by decide +kernel
theorem off9_eq : ∀ (i : grid0.Coords) (_ : k0_cond2 i = 1#1) (r : Fin 2), k0_off9 i (BitVec.ofNat 32 r.val) = ![0, 0, 512 * ((i 1).val - 1 + r.val)] := by decide +kernel
theorem cond2_mod : ∀ i : grid0.Coords, k0_cond2 i = 1#1 ↔ (i 1).val % 8 = 1 := by decide +kernel

theorem off10_eq : ∀ (i : grid0.Coords) (_ : k0_cond3 i = 1#1) (r : Fin 2), k0_off10 i (BitVec.ofNat 32 r.val) = ![0, 512 * ((i 1).val - 2 + r.val + 1), 0] := by decide +kernel
theorem off11_eq : ∀ (i : grid0.Coords) (_ : k0_cond3 i = 1#1) (r : Fin 3), k0_off11 i (BitVec.ofNat 32 r.val) = ![0, 0, 512 * ((i 1).val - 2 + r.val)] := by decide +kernel
theorem cond3_mod : ∀ i : grid0.Coords, k0_cond3 i = 1#1 ↔ (i 1).val % 8 = 2 := by decide +kernel

theorem off12_eq : ∀ (i : grid0.Coords) (_ : k0_cond4 i = 1#1) (r : Fin 3), k0_off12 i (BitVec.ofNat 32 r.val) = ![0, 512 * ((i 1).val - 3 + r.val + 1), 0] := by decide +kernel
theorem off13_eq : ∀ (i : grid0.Coords) (_ : k0_cond4 i = 1#1) (r : Fin 4), k0_off13 i (BitVec.ofNat 32 r.val) = ![0, 0, 512 * ((i 1).val - 3 + r.val)] := by decide +kernel
theorem cond4_mod : ∀ i : grid0.Coords, k0_cond4 i = 1#1 ↔ (i 1).val % 8 = 3 := by decide +kernel

theorem off14_eq : ∀ (i : grid0.Coords) (_ : k0_cond5 i = 1#1) (r : Fin 4), k0_off14 i (BitVec.ofNat 32 r.val) = ![0, 512 * ((i 1).val - 4 + r.val + 1), 0] := by decide +kernel
theorem off15_eq : ∀ (i : grid0.Coords) (_ : k0_cond5 i = 1#1) (r : Fin 5), k0_off15 i (BitVec.ofNat 32 r.val) = ![0, 0, 512 * ((i 1).val - 4 + r.val)] := by decide +kernel
theorem cond5_mod : ∀ i : grid0.Coords, k0_cond5 i = 1#1 ↔ (i 1).val % 8 = 4 := by decide +kernel

theorem off16_eq : ∀ (i : grid0.Coords) (_ : k0_cond6 i = 1#1) (r : Fin 5), k0_off16 i (BitVec.ofNat 32 r.val) = ![0, 512 * ((i 1).val - 5 + r.val + 1), 0] := by decide +kernel
theorem off17_eq : ∀ (i : grid0.Coords) (_ : k0_cond6 i = 1#1) (r : Fin 6), k0_off17 i (BitVec.ofNat 32 r.val) = ![0, 0, 512 * ((i 1).val - 5 + r.val)] := by decide +kernel
theorem cond6_mod : ∀ i : grid0.Coords, k0_cond6 i = 1#1 ↔ (i 1).val % 8 = 5 := by decide +kernel

theorem off18_eq : ∀ (i : grid0.Coords) (_ : k0_cond7 i = 1#1) (r : Fin 6), k0_off18 i (BitVec.ofNat 32 r.val) = ![0, 512 * ((i 1).val - 6 + r.val + 1), 0] := by decide +kernel
theorem off19_eq : ∀ (i : grid0.Coords) (_ : k0_cond7 i = 1#1) (r : Fin 7), k0_off19 i (BitVec.ofNat 32 r.val) = ![0, 0, 512 * ((i 1).val - 6 + r.val)] := by decide +kernel
theorem cond7_mod : ∀ i : grid0.Coords, k0_cond7 i = 1#1 ↔ (i 1).val % 8 = 6 := by decide +kernel

theorem off20_eq : ∀ (i : grid0.Coords) (_ : k0_cond8 i = 1#1) (r : Fin 7), k0_off20 i (BitVec.ofNat 32 r.val) = ![0, 512 * ((i 1).val - 7 + r.val + 1), 0] := by decide +kernel
theorem off21_eq : ∀ (i : grid0.Coords) (_ : k0_cond8 i = 1#1) (r : Fin 8), k0_off21 i (BitVec.ofNat 32 r.val) = ![0, 0, 512 * ((i 1).val - 7 + r.val)] := by decide +kernel
theorem cond8_mod : ∀ i : grid0.Coords, k0_cond8 i = 1#1 ↔ (i 1).val % 8 = 7 := by decide +kernel

/-- The last blocks of a tile whose number is 0 modulo 8. -/
theorem case0P_run (h : k0_cond1 i = 1#1) :
    AtBlk c arg3 arg4 arg13 arg14 X3 X4 qt m0 a0 arg15 arg16 (8 * ((i 1).val / 8))
      ⊢ WP E (case0P i arg4 arg13 arg14 arg15 qt h) (fun _ => AtEnd c arg3 arg4 arg13 arg14 X3 X4 qt m0 a0 arg15 arg16 (i 1).val) := by
  have hm := (cond1_mod i).1 h
  have hs : 8 * ((i 1).val / 8) = (i 1).val := by omega
  rw [hs]
  unfold case0P
  exact lastP_run c E arg3 arg4 arg13 arg14 X3 X4 qt m0 a0 arg15 arg16 _ _ _ (k0_off7_eq i)

/-- The last blocks of a tile whose number is 1 modulo 8. -/
theorem case1P_run (h : k0_cond2 i = 1#1) :
    AtBlk c arg3 arg4 arg13 arg14 X3 X4 qt m0 a0 arg15 arg16 (8 * ((i 1).val / 8))
      ⊢ WP E (case1P i arg3 arg4 arg13 arg14 arg15 arg16 qt h) (fun _ => AtEnd c arg3 arg4 arg13 arg14 X3 X4 qt m0 a0 arg15 arg16 (i 1).val) := by
  have hm := (cond2_mod i).1 h
  have hs : 8 * ((i 1).val / 8) = ((i 1).val - 1) := by omega
  rw [hs]
  unfold case1P
  simp only [wp_bind]
  refine (stepP_run c E arg3 arg4 arg13 arg14 X3 X4 qt m0 a0 arg15 arg16 ((i 1).val - 1) _ _ _ _ (off8_eq i h) (off9_eq i h 0)).trans (wp_mono _ _ _ fun _ => ?_)
  have he : (i 1).val - 1 + 1 = (i 1).val := by omega
  have hv := off9_eq i h 1
  rw [show (i 1).val - 1 + (1 : Fin 2).val = (i 1).val from he] at hv
  rw [he]
  exact (lastP_run c E arg3 arg4 arg13 arg14 X3 X4 qt m0 a0 arg16 arg15 _ _ _ hv).trans (wp_mono _ _ _ fun _ => AtEnd_swap c arg3 arg4 arg13 arg14 X3 X4 qt m0 a0 _ _ _)

/-- The last blocks of a tile whose number is 2 modulo 8. -/
theorem case2P_run (h : k0_cond3 i = 1#1) :
    AtBlk c arg3 arg4 arg13 arg14 X3 X4 qt m0 a0 arg15 arg16 (8 * ((i 1).val / 8))
      ⊢ WP E (case2P i arg3 arg4 arg13 arg14 arg15 arg16 qt h) (fun _ => AtEnd c arg3 arg4 arg13 arg14 X3 X4 qt m0 a0 arg15 arg16 (i 1).val) := by
  have hm := (cond3_mod i).1 h
  have hs : 8 * ((i 1).val / 8) = ((i 1).val - 2) := by omega
  rw [hs]
  unfold case2P
  simp only [wp_bind]
  refine (stepP_run c E arg3 arg4 arg13 arg14 X3 X4 qt m0 a0 arg15 arg16 ((i 1).val - 2) _ _ _ _ (off10_eq i h 0) (off11_eq i h 0)).trans (wp_mono _ _ _ fun _ => ?_)
  refine (stepP_run c E arg3 arg4 arg13 arg14 X3 X4 qt m0 a0 arg16 arg15 ((i 1).val - 2 + 1) _ _ _ _ (off10_eq i h 1) (off11_eq i h 1)).trans (wp_mono _ _ _ fun _ => ?_)
  have he : (i 1).val - 2 + 2 = (i 1).val := by omega
  have hv := off11_eq i h 2
  rw [show (i 1).val - 2 + (2 : Fin 3).val = (i 1).val from he] at hv
  rw [show (i 1).val - 2 + 1 + 1 = (i 1).val by omega]
  exact lastP_run c E arg3 arg4 arg13 arg14 X3 X4 qt m0 a0 arg15 arg16 _ _ _ hv

/-- The last blocks of a tile whose number is 3 modulo 8. -/
theorem case3P_run (h : k0_cond4 i = 1#1) :
    AtBlk c arg3 arg4 arg13 arg14 X3 X4 qt m0 a0 arg15 arg16 (8 * ((i 1).val / 8))
      ⊢ WP E (case3P i arg3 arg4 arg13 arg14 arg15 arg16 qt h) (fun _ => AtEnd c arg3 arg4 arg13 arg14 X3 X4 qt m0 a0 arg15 arg16 (i 1).val) := by
  have hm := (cond4_mod i).1 h
  have hs : 8 * ((i 1).val / 8) = ((i 1).val - 3) := by omega
  rw [hs]
  unfold case3P
  simp only [wp_bind]
  refine (stepP_run c E arg3 arg4 arg13 arg14 X3 X4 qt m0 a0 arg15 arg16 ((i 1).val - 3) _ _ _ _ (off12_eq i h 0) (off13_eq i h 0)).trans (wp_mono _ _ _ fun _ => ?_)
  refine (stepP_run c E arg3 arg4 arg13 arg14 X3 X4 qt m0 a0 arg16 arg15 ((i 1).val - 3 + 1) _ _ _ _ (off12_eq i h 1) (off13_eq i h 1)).trans (wp_mono _ _ _ fun _ => ?_)
  refine (stepP_run c E arg3 arg4 arg13 arg14 X3 X4 qt m0 a0 arg15 arg16 ((i 1).val - 3 + 2) _ _ _ _ (off12_eq i h 2) (off13_eq i h 2)).trans (wp_mono _ _ _ fun _ => ?_)
  have he : (i 1).val - 3 + 3 = (i 1).val := by omega
  have hv := off13_eq i h 3
  rw [show (i 1).val - 3 + (3 : Fin 4).val = (i 1).val from he] at hv
  rw [show (i 1).val - 3 + 2 + 1 = (i 1).val by omega]
  exact (lastP_run c E arg3 arg4 arg13 arg14 X3 X4 qt m0 a0 arg16 arg15 _ _ _ hv).trans (wp_mono _ _ _ fun _ => AtEnd_swap c arg3 arg4 arg13 arg14 X3 X4 qt m0 a0 _ _ _)

/-- The last blocks of a tile whose number is 4 modulo 8. -/
theorem case4P_run (h : k0_cond5 i = 1#1) :
    AtBlk c arg3 arg4 arg13 arg14 X3 X4 qt m0 a0 arg15 arg16 (8 * ((i 1).val / 8))
      ⊢ WP E (case4P i arg3 arg4 arg13 arg14 arg15 arg16 qt h) (fun _ => AtEnd c arg3 arg4 arg13 arg14 X3 X4 qt m0 a0 arg15 arg16 (i 1).val) := by
  have hm := (cond5_mod i).1 h
  have hs : 8 * ((i 1).val / 8) = ((i 1).val - 4) := by omega
  rw [hs]
  unfold case4P
  simp only [wp_bind]
  refine (stepP_run c E arg3 arg4 arg13 arg14 X3 X4 qt m0 a0 arg15 arg16 ((i 1).val - 4) _ _ _ _ (off14_eq i h 0) (off15_eq i h 0)).trans (wp_mono _ _ _ fun _ => ?_)
  refine (stepP_run c E arg3 arg4 arg13 arg14 X3 X4 qt m0 a0 arg16 arg15 ((i 1).val - 4 + 1) _ _ _ _ (off14_eq i h 1) (off15_eq i h 1)).trans (wp_mono _ _ _ fun _ => ?_)
  refine (stepP_run c E arg3 arg4 arg13 arg14 X3 X4 qt m0 a0 arg15 arg16 ((i 1).val - 4 + 2) _ _ _ _ (off14_eq i h 2) (off15_eq i h 2)).trans (wp_mono _ _ _ fun _ => ?_)
  refine (stepP_run c E arg3 arg4 arg13 arg14 X3 X4 qt m0 a0 arg16 arg15 ((i 1).val - 4 + 3) _ _ _ _ (off14_eq i h 3) (off15_eq i h 3)).trans (wp_mono _ _ _ fun _ => ?_)
  have he : (i 1).val - 4 + 4 = (i 1).val := by omega
  have hv := off15_eq i h 4
  rw [show (i 1).val - 4 + (4 : Fin 5).val = (i 1).val from he] at hv
  rw [show (i 1).val - 4 + 3 + 1 = (i 1).val by omega]
  exact lastP_run c E arg3 arg4 arg13 arg14 X3 X4 qt m0 a0 arg15 arg16 _ _ _ hv

/-- The last blocks of a tile whose number is 5 modulo 8. -/
theorem case5P_run (h : k0_cond6 i = 1#1) :
    AtBlk c arg3 arg4 arg13 arg14 X3 X4 qt m0 a0 arg15 arg16 (8 * ((i 1).val / 8))
      ⊢ WP E (case5P i arg3 arg4 arg13 arg14 arg15 arg16 qt h) (fun _ => AtEnd c arg3 arg4 arg13 arg14 X3 X4 qt m0 a0 arg15 arg16 (i 1).val) := by
  have hm := (cond6_mod i).1 h
  have hs : 8 * ((i 1).val / 8) = ((i 1).val - 5) := by omega
  rw [hs]
  unfold case5P
  simp only [wp_bind]
  refine (stepP_run c E arg3 arg4 arg13 arg14 X3 X4 qt m0 a0 arg15 arg16 ((i 1).val - 5) _ _ _ _ (off16_eq i h 0) (off17_eq i h 0)).trans (wp_mono _ _ _ fun _ => ?_)
  refine (stepP_run c E arg3 arg4 arg13 arg14 X3 X4 qt m0 a0 arg16 arg15 ((i 1).val - 5 + 1) _ _ _ _ (off16_eq i h 1) (off17_eq i h 1)).trans (wp_mono _ _ _ fun _ => ?_)
  refine (stepP_run c E arg3 arg4 arg13 arg14 X3 X4 qt m0 a0 arg15 arg16 ((i 1).val - 5 + 2) _ _ _ _ (off16_eq i h 2) (off17_eq i h 2)).trans (wp_mono _ _ _ fun _ => ?_)
  refine (stepP_run c E arg3 arg4 arg13 arg14 X3 X4 qt m0 a0 arg16 arg15 ((i 1).val - 5 + 3) _ _ _ _ (off16_eq i h 3) (off17_eq i h 3)).trans (wp_mono _ _ _ fun _ => ?_)
  refine (stepP_run c E arg3 arg4 arg13 arg14 X3 X4 qt m0 a0 arg15 arg16 ((i 1).val - 5 + 4) _ _ _ _ (off16_eq i h 4) (off17_eq i h 4)).trans (wp_mono _ _ _ fun _ => ?_)
  have he : (i 1).val - 5 + 5 = (i 1).val := by omega
  have hv := off17_eq i h 5
  rw [show (i 1).val - 5 + (5 : Fin 6).val = (i 1).val from he] at hv
  rw [show (i 1).val - 5 + 4 + 1 = (i 1).val by omega]
  exact (lastP_run c E arg3 arg4 arg13 arg14 X3 X4 qt m0 a0 arg16 arg15 _ _ _ hv).trans (wp_mono _ _ _ fun _ => AtEnd_swap c arg3 arg4 arg13 arg14 X3 X4 qt m0 a0 _ _ _)

/-- The last blocks of a tile whose number is 6 modulo 8. -/
theorem case6P_run (h : k0_cond7 i = 1#1) :
    AtBlk c arg3 arg4 arg13 arg14 X3 X4 qt m0 a0 arg15 arg16 (8 * ((i 1).val / 8))
      ⊢ WP E (case6P i arg3 arg4 arg13 arg14 arg15 arg16 qt h) (fun _ => AtEnd c arg3 arg4 arg13 arg14 X3 X4 qt m0 a0 arg15 arg16 (i 1).val) := by
  have hm := (cond7_mod i).1 h
  have hs : 8 * ((i 1).val / 8) = ((i 1).val - 6) := by omega
  rw [hs]
  unfold case6P
  simp only [wp_bind]
  refine (stepP_run c E arg3 arg4 arg13 arg14 X3 X4 qt m0 a0 arg15 arg16 ((i 1).val - 6) _ _ _ _ (off18_eq i h 0) (off19_eq i h 0)).trans (wp_mono _ _ _ fun _ => ?_)
  refine (stepP_run c E arg3 arg4 arg13 arg14 X3 X4 qt m0 a0 arg16 arg15 ((i 1).val - 6 + 1) _ _ _ _ (off18_eq i h 1) (off19_eq i h 1)).trans (wp_mono _ _ _ fun _ => ?_)
  refine (stepP_run c E arg3 arg4 arg13 arg14 X3 X4 qt m0 a0 arg15 arg16 ((i 1).val - 6 + 2) _ _ _ _ (off18_eq i h 2) (off19_eq i h 2)).trans (wp_mono _ _ _ fun _ => ?_)
  refine (stepP_run c E arg3 arg4 arg13 arg14 X3 X4 qt m0 a0 arg16 arg15 ((i 1).val - 6 + 3) _ _ _ _ (off18_eq i h 3) (off19_eq i h 3)).trans (wp_mono _ _ _ fun _ => ?_)
  refine (stepP_run c E arg3 arg4 arg13 arg14 X3 X4 qt m0 a0 arg15 arg16 ((i 1).val - 6 + 4) _ _ _ _ (off18_eq i h 4) (off19_eq i h 4)).trans (wp_mono _ _ _ fun _ => ?_)
  refine (stepP_run c E arg3 arg4 arg13 arg14 X3 X4 qt m0 a0 arg16 arg15 ((i 1).val - 6 + 5) _ _ _ _ (off18_eq i h 5) (off19_eq i h 5)).trans (wp_mono _ _ _ fun _ => ?_)
  have he : (i 1).val - 6 + 6 = (i 1).val := by omega
  have hv := off19_eq i h 6
  rw [show (i 1).val - 6 + (6 : Fin 7).val = (i 1).val from he] at hv
  rw [show (i 1).val - 6 + 5 + 1 = (i 1).val by omega]
  exact lastP_run c E arg3 arg4 arg13 arg14 X3 X4 qt m0 a0 arg15 arg16 _ _ _ hv

/-- The last blocks of a tile whose number is 7 modulo 8. -/
theorem case7P_run (h : k0_cond8 i = 1#1) :
    AtBlk c arg3 arg4 arg13 arg14 X3 X4 qt m0 a0 arg15 arg16 (8 * ((i 1).val / 8))
      ⊢ WP E (case7P i arg3 arg4 arg13 arg14 arg15 arg16 qt h) (fun _ => AtEnd c arg3 arg4 arg13 arg14 X3 X4 qt m0 a0 arg15 arg16 (i 1).val) := by
  have hm := (cond8_mod i).1 h
  have hs : 8 * ((i 1).val / 8) = ((i 1).val - 7) := by omega
  rw [hs]
  unfold case7P
  simp only [wp_bind]
  refine (stepP_run c E arg3 arg4 arg13 arg14 X3 X4 qt m0 a0 arg15 arg16 ((i 1).val - 7) _ _ _ _ (off20_eq i h 0) (off21_eq i h 0)).trans (wp_mono _ _ _ fun _ => ?_)
  refine (stepP_run c E arg3 arg4 arg13 arg14 X3 X4 qt m0 a0 arg16 arg15 ((i 1).val - 7 + 1) _ _ _ _ (off20_eq i h 1) (off21_eq i h 1)).trans (wp_mono _ _ _ fun _ => ?_)
  refine (stepP_run c E arg3 arg4 arg13 arg14 X3 X4 qt m0 a0 arg15 arg16 ((i 1).val - 7 + 2) _ _ _ _ (off20_eq i h 2) (off21_eq i h 2)).trans (wp_mono _ _ _ fun _ => ?_)
  refine (stepP_run c E arg3 arg4 arg13 arg14 X3 X4 qt m0 a0 arg16 arg15 ((i 1).val - 7 + 3) _ _ _ _ (off20_eq i h 3) (off21_eq i h 3)).trans (wp_mono _ _ _ fun _ => ?_)
  refine (stepP_run c E arg3 arg4 arg13 arg14 X3 X4 qt m0 a0 arg15 arg16 ((i 1).val - 7 + 4) _ _ _ _ (off20_eq i h 4) (off21_eq i h 4)).trans (wp_mono _ _ _ fun _ => ?_)
  refine (stepP_run c E arg3 arg4 arg13 arg14 X3 X4 qt m0 a0 arg16 arg15 ((i 1).val - 7 + 5) _ _ _ _ (off20_eq i h 5) (off21_eq i h 5)).trans (wp_mono _ _ _ fun _ => ?_)
  refine (stepP_run c E arg3 arg4 arg13 arg14 X3 X4 qt m0 a0 arg15 arg16 ((i 1).val - 7 + 6) _ _ _ _ (off20_eq i h 6) (off21_eq i h 6)).trans (wp_mono _ _ _ fun _ => ?_)
  have he : (i 1).val - 7 + 7 = (i 1).val := by omega
  have hv := off21_eq i h 7
  rw [show (i 1).val - 7 + (7 : Fin 8).val = (i 1).val from he] at hv
  rw [show (i 1).val - 7 + 6 + 1 = (i 1).val by omega]
  exact (lastP_run c E arg3 arg4 arg13 arg14 X3 X4 qt m0 a0 arg16 arg15 _ _ _ hv).trans (wp_mono _ _ _ fun _ => AtEnd_swap c arg3 arg4 arg13 arg14 X3 X4 qt m0 a0 _ _ _)

end

end Cert.KernelIdeal.Attn
-- ==== Proof.Tile.lean ====
module

public import proofs.«01_k».proof.Proof.Run
public import proofs.«01_k».proof.Proof.Gen.KernelIdeal.Frame.Runs
public import Idealize.ShloMosaic.Lib.VecWindow

@[expose] public section

set_option maxRecDepth 65536

noncomputable section

namespace Cert.KernelIdeal.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD)

local notation "WP" => wp frame (wpE (defs₀ (F := F)) Variants.none (c : Thread nD τ) none)

variable (E : Set ℕ)

/-- A tile's queries, the two components side by side, from its window. -/
def tileQ (X : Vec F S1x2x128x512 .bf16) : FVec F S128x1024 .bf16 :=
  queryOf (fun j => X ((Rect.unit (s := S1x2x128x512) ![0, 0, 0, 0] S1x1x128x512.size inb_S1x2x128x512_S1x1x128x512_0_0_0_0).emb j))
    (fun j => X ((Rect.unit (s := S1x2x128x512) ![0, 1, 0, 0] S1x1x128x512.size inb_S1x2x128x512_S1x1x128x512_0_1_0_0).emb j))

/-- The numerators' rows. -/
def numRows (a : FVec F S144x1024 .f32) : Vec F S128x1024 .f32 := fun j =>
  a ((Rect.unit (s := S144x1024) ![0, 0] S128x1024.size inb_S144x1024_S128x1024_0_0).emb j)

/-- The denominators' row. -/
def denRow (a : FVec F S144x1024 .f32) : Vec F S1x1024 .f32 := fun j =>
  a ((Rect.unit (s := S144x1024) ![128, 0] S1x1024.size inb_S144x1024_S1x1024_128_0).emb j)

/-- The running maximum after the meta keys. -/
def m0Of (X2 : Vec F S1x2x128x512 .bf16) (X5 : Vec F S1x128x128 .bf16) : FVec F S1x1024 .f32 :=
  metaTopSt (metaScore (tileQ X2) X5) topStart

/-- The sums after the meta keys. -/
def a0Of (X2 : Vec F S1x2x128x512 .bf16) (X5 : Vec F S1x128x128 .bf16) (X6 : Vec F S1x144x128 .bf16) : FVec F S144x1024 .f32 :=
  metaAcc (metaScore (tileQ X2) X5) X6 topStart accStart

/-- The sums after the last block `b`, the one under the causal mask. -/
def accEnd (b : ℕ) (X2 : Vec F S1x2x128x512 .bf16) (X3 : Vec F S1x16384x128 .bf16) (X4 : Vec F S1x144x16384 .bf16) (X5 : Vec F S1x128x128 .bf16)
    (X6 : Vec F S1x144x128 .bf16) : FVec F S144x1024 .f32 :=
  accOf (causal (scoreOf (tileQ X2) (keyBlk X3 b))) (valBlk X4 b) (stt (tileQ X2) X3 X4 (m0Of X2 X5) (a0Of X2 X5 X6) b).1
    (stt (tileQ X2) X3 X4 (m0Of X2 X5) (a0Of X2 X5 X6) b).2

/-- What a tile leaves from its last sums. -/
def closeOf (a : FVec F S144x1024 .f32) (l0 l1 l2 l3 : Vec F S1x64 .f32) (g : Vec F S128x1 .f32) : FVec F S512x128 .bf16 :=
  normOf (diffOf (lamOf l0 l1 l2 l3) (numRows a) (denRow a)) (meanOf (diffOf (lamOf l0 l1 l2 l3) (numRows a) (denRow a))) (Scalar.ofBits .f32 0x3727C5AC#32) g

/-- What tile `b` of a head leaves in its window of the result. -/
def tileRes (b : ℕ) (X2 : Vec F S1x2x128x512 .bf16) (X3 : Vec F S1x16384x128 .bf16) (X4 : Vec F S1x144x16384 .bf16) (X5 : Vec F S1x128x128 .bf16)
    (X6 : Vec F S1x144x128 .bf16) (l0 l1 l2 l3 : Vec F S1x64 .f32) (g : Vec F S128x1 .f32) : FVec F S512x128 .bf16 :=
  closeOf (accEnd b X2 X3 X4 X5 X6) l0 l1 l2 l3 g

theorem openP_run (arg2 : Memref sig .tc .vmem S1x2x128x512 .bf16) (arg3 : Memref sig .tc .vmem S1x16384x128 .bf16) (arg5 : Memref sig .tc .vmem S1x128x128 .bf16)
    (arg13 : Memref sig .tc .vmem S1x1024 .f32) (arg14 : Memref sig .tc .vmem S144x1024 .f32) (arg15 : Memref sig .tc .vmem S512x1024 .f32)
    (X2 : Vec F S1x2x128x512 .bf16) (X3 : Vec F S1x16384x128 .bf16) (X5 : Vec F S1x128x128 .bf16) :
    (iprop(owns (c : Thread nD τ) arg2 fullShare X2 ∗ owns (c : Thread nD τ) arg3 fullShare X3 ∗ owns (c : Thread nD τ) arg5 fullShare X5 ∗
      (∃ d, owns (c : Thread nD τ) arg13 fullShare d) ∗ (∃ d, owns (c : Thread nD τ) arg14 fullShare d) ∗ (∃ d, owns (c : Thread nD τ) arg15 fullShare d)) : sProp 𝕄)
      ⊢ WP E (openP arg2 arg3 arg5 arg13 arg14 arg15)
        (fun r => iprop(⌜r = ⟨tileQ X2, metaScore (tileQ X2) X5⟩⌝ ∗ owns (c : Thread nD τ) arg2 fullShare X2 ∗ owns (c : Thread nD τ) arg3 fullShare X3 ∗ owns (c : Thread nD τ) arg5 fullShare X5 ∗
          owns (c : Thread nD τ) arg13 fullShare topStart ∗ owns (c : Thread nD τ) arg14 fullShare accStart ∗ owns (c : Thread nD τ) arg15 fullShare (scoreOf (tileQ X2) (keyBlk X3 0)))) := by
  rw [← keyBlk_eq X3 0 inb_S1x16384x128_S1x512x128_0_0_0 rfl]
  unfold openP fetchP owns
  iintro ⟨⟨%f2, %hf2, H2⟩, ⟨%f3, %hf3, H3⟩, ⟨%f5, %hf5, H5⟩, ⟨%dm, %fm, -, HM⟩, ⟨%da, %fa, -, HA⟩, ⟨%dc, %fc, -, HC⟩⟩
  subst hf2 hf3 hf5
  sl_exec
  sl_step
  isplitr
  · ipureintro
    have e5 := View.readAt_full (Val := Elt F) arg5.view f5 inb_S1x128x128_S1x128x128_0_0_0
    exact congrArg (fun x => (⟨tileQ (View.read (Elt F) arg2.view f2), metaScore (tileQ (View.read (Elt F) arg2.view f2)) x⟩ : Σ' (qt : FVec F S128x1024 .bf16), FVec F S128x1024 .f32)) e5
  isplitl [H2]
  · iexists _; isplitr; · ipureintro; rfl
    iexact H2
  isplitl [H3]
  · iexists _; isplitr; · ipureintro; rfl
    iexact H3
  isplitl [H5]
  · iexists _; isplitr; · ipureintro; rfl
    iexact H5
  isplitl [HM]
  · iexists _; isplitr
    swap; iexact HM
    ipureintro
    exact View.read_writes_full _ _ _ _ _
  isplitl [HA]
  · iexists _; isplitr
    swap; iexact HA
    ipureintro
    exact View.read_writes_full _ _ _ _ _
  iexists _; isplitr
  swap; iexact HC
  ipureintro
  exact View.read_writes_full _ _ _ _ _

theorem metaP_run (arg6 : Memref sig .tc .vmem S1x144x128 .bf16) (arg13 : Memref sig .tc .vmem S1x1024 .f32) (arg14 : Memref sig .tc .vmem S144x1024 .f32)
    (s : FVec F S128x1024 .f32) (X6 : Vec F S1x144x128 .bf16) (m : Vec F S1x1024 .f32) (a : Vec F S144x1024 .f32) :
    (iprop(owns (c : Thread nD τ) arg6 fullShare X6 ∗ owns (c : Thread nD τ) arg13 fullShare m ∗ owns (c : Thread nD τ) arg14 fullShare a) : sProp 𝕄)
      ⊢ WP E (metaP arg6 arg13 arg14 s)
        (fun _ => iprop(owns (c : Thread nD τ) arg6 fullShare X6 ∗ owns (c : Thread nD τ) arg13 fullShare (metaTopSt s m) ∗
          owns (c : Thread nD τ) arg14 fullShare (metaAcc s X6 m a))) := by
  unfold metaP owns
  iintro ⟨⟨%f6, %hf6, H6⟩, ⟨%fm, %hfm, HM⟩, ⟨%fa, %hfa, HA⟩⟩
  subst hf6 hfm hfa
  sl_exec
  sl_step
  isplitl [H6]
  · iexists _; isplitr; · ipureintro; rfl
    iexact H6
  isplitl [HM]
  · iexists _; isplitr
    swap; iexact HM
    ipureintro
    exact (View.read_writes_full _ _ _ _ _).trans (congrArg (metaTopSt s) (View.readAt_full (Val := Elt F) arg13.view fm inb_S1x1024_S1x1024_0_0))
  · iexists _; isplitr
    swap; iexact HA
    ipureintro
    exact (View.read_writes_full _ _ _ _ _).trans (congr (congr (congrArg (metaAcc s) (View.readAt_full (Val := Elt F) arg6.view f6 inb_S1x144x128_S1x144x128_0_0_0))
      (View.readAt_full (Val := Elt F) arg13.view fm inb_S1x1024_S1x1024_0_0)) (View.readAt_full (Val := Elt F) arg14.view fa inb_S144x1024_S144x1024_0_0))

/-- The end of a tile's run once its last case is through: the loads that its difference is made of. -/
def lastP (arg7 arg8 arg9 arg10 : Memref sig .tc .vmem S1x64 .f32) (arg14 : Memref sig .tc .vmem S144x1024 .f32) :
    Prog (TpuEff nD τ sig (Elt F) Λ₀ .tc) (Σ' (_ : FVec F S128x512 .f32) (_ : FVec F S1x512 .f32), F .f32) := do
  let l0 : Vec F S1x64 .f32 ← Prog.lift (.load arg7 (Rect.unit (s := S1x64) ![0, 0] S1x64.size inb_S1x64_S1x64_0_0).toLoadRect (View.loadsAt_vmem h_S1x64))
  let l1 : Vec F S1x64 .f32 ← Prog.lift (.load arg8 (Rect.unit (s := S1x64) ![0, 0] S1x64.size inb_S1x64_S1x64_0_0).toLoadRect (View.loadsAt_vmem h_S1x64))
  let l2 : Vec F S1x64 .f32 ← Prog.lift (.load arg9 (Rect.unit (s := S1x64) ![0, 0] S1x64.size inb_S1x64_S1x64_0_0).toLoadRect (View.loadsAt_vmem h_S1x64))
  let l3 : Vec F S1x64 .f32 ← Prog.lift (.load arg10 (Rect.unit (s := S1x64) ![0, 0] S1x64.size inb_S1x64_S1x64_0_0).toLoadRect (View.loadsAt_vmem h_S1x64))
  let num : Vec F S128x1024 .f32 ← Prog.lift (.load arg14 (Rect.unit (s := S144x1024) ![0, 0] S128x1024.size inb_S144x1024_S128x1024_0_0).toLoadRect (View.loadsAt_vmem h_S128x1024))
  let den : Vec F S1x1024 .f32 ← Prog.lift (.load arg14 (Rect.unit (s := S144x1024) ![128, 0] S1x1024.size inb_S144x1024_S1x1024_128_0).toLoadRect (View.loadsAt_vmem h_S1x1024))
  pure ⟨diffOf (lamOf l0 l1 l2 l3) num den, meanOf (diffOf (lamOf l0 l1 l2 l3) num den), Scalar.ofBits .f32 0x3727C5AC#32⟩

theorem lastP_ends (arg7 arg8 arg9 arg10 : Memref sig .tc .vmem S1x64 .f32) (arg14 : Memref sig .tc .vmem S144x1024 .f32)
    (l0 l1 l2 l3 : Vec F S1x64 .f32) (a : Vec F S144x1024 .f32) :
    (iprop(owns (c : Thread nD τ) arg7 fullShare l0 ∗ owns (c : Thread nD τ) arg8 fullShare l1 ∗ owns (c : Thread nD τ) arg9 fullShare l2 ∗
      owns (c : Thread nD τ) arg10 fullShare l3 ∗ owns (c : Thread nD τ) arg14 fullShare a) : sProp 𝕄)
      ⊢ WP E (lastP arg7 arg8 arg9 arg10 arg14)
        (fun r => iprop(⌜r = ⟨diffOf (lamOf l0 l1 l2 l3) (numRows a) (denRow a), meanOf (diffOf (lamOf l0 l1 l2 l3) (numRows a) (denRow a)), Scalar.ofBits .f32 0x3727C5AC#32⟩⌝ ∗
          owns (c : Thread nD τ) arg7 fullShare l0 ∗ owns (c : Thread nD τ) arg8 fullShare l1 ∗ owns (c : Thread nD τ) arg9 fullShare l2 ∗
          owns (c : Thread nD τ) arg10 fullShare l3 ∗ owns (c : Thread nD τ) arg14 fullShare a)) := by
  unfold lastP owns
  iintro ⟨⟨%f7, %hf7, H7⟩, ⟨%f8, %hf8, H8⟩, ⟨%f9, %hf9, H9⟩, ⟨%f10, %hf10, H10⟩, ⟨%fa, %hfa, HA⟩⟩
  subst hf7 hf8 hf9 hf10 hfa
  sl_exec
  sl_step
  isplitr
  · ipureintro
    have e7 := View.readAt_full (Val := Elt F) arg7.view f7 inb_S1x64_S1x64_0_0
    have e8 := View.readAt_full (Val := Elt F) arg8.view f8 inb_S1x64_S1x64_0_0
    have e9 := View.readAt_full (Val := Elt F) arg9.view f9 inb_S1x64_S1x64_0_0
    have e10 := View.readAt_full (Val := Elt F) arg10.view f10 inb_S1x64_S1x64_0_0
    have el := congr (congr (congr (congrArg lamOf e7) e8) e9) e10
    exact congrArg (fun x => (⟨diffOf x (numRows (View.read (Elt F) arg14.view fa)) (denRow (View.read (Elt F) arg14.view fa)),
      meanOf (diffOf x (numRows (View.read (Elt F) arg14.view fa)) (denRow (View.read (Elt F) arg14.view fa))), Scalar.ofBits .f32 0x3727C5AC#32⟩ :
        Σ' (_ : FVec F S128x512 .f32) (_ : FVec F S1x512 .f32), F .f32)) el
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  iexists _; isplitr; · ipureintro; rfl
  iexact HA

theorem finP_run (arg11 : Memref sig .tc .vmem S128x1 .f32) (arg12 : Memref sig .tc .vmem S512x128 .bf16) (harg12 : arg12.IsWhole)
    (o : FVec F S128x512 .f32) (ms : FVec F S1x512 .f32) (eps : F .f32) (g : Vec F S128x1 .f32) :
    (iprop(owns (c : Thread nD τ) arg11 fullShare g ∗ ∃ d, owns (c : Thread nD τ) arg12 fullShare d) : sProp 𝕄)
      ⊢ WP E (finP arg11 arg12 harg12 o ms eps)
        (fun _ => iprop(owns (c : Thread nD τ) arg11 fullShare g ∗ owns (c : Thread nD τ) arg12 fullShare (normOf o ms eps g))) := by
  unfold finP owns
  iintro ⟨⟨%f11, %hf11, H11⟩, ⟨%d, %fo, -, HO⟩⟩
  subst hf11
  sl_exec
  sl_step
  isplitl [H11]
  · iexists _; isplitr; · ipureintro; rfl
    iexact H11
  iexists _; isplitr
  swap; iexact HO
  ipureintro
  exact (View.read_writes_full _ _ _ _ _).trans (congrArg (normOf o ms eps) (View.readAt_full (Val := Elt F) arg11.view f11 inb_S128x1_S128x1_0_0))

section
variable (arg3 : Memref sig .tc .vmem S1x16384x128 .bf16) (arg4 : Memref sig .tc .vmem S1x144x16384 .bf16)
  (arg13 : Memref sig .tc .vmem S1x1024 .f32) (arg14 : Memref sig .tc .vmem S144x1024 .f32)
variable (X3 : Vec F S1x16384x128 .bf16) (X4 : Vec F S1x144x16384 .bf16) (qt : FVec F S128x1024 .bf16) (m0 : FVec F S1x1024 .f32) (a0 : FVec F S144x1024 .f32)
variable (arg15 arg16 : Memref sig .tc .vmem S512x1024 .f32) (i : grid0.Coords)

/-- After the endings of the tiles whose number is below `k` modulo 8. -/
def Past (k : ℕ) : sProp 𝕄 :=
  if (i 1).val % 8 < k then AtEnd c arg3 arg4 arg13 arg14 X3 X4 qt m0 a0 arg15 arg16 (i 1).val
  else AtBlk c arg3 arg4 arg13 arg14 X3 X4 qt m0 a0 arg15 arg16 (8 * ((i 1).val / 8))

theorem ending0 {β : Type} (kk : PUnit → Prog (TpuEff nD τ sig (Elt F) Λ₀ .tc) β) (ke : Prog (TpuEff nD τ sig (Elt F) Λ₀ .tc) β) (Q : β → sProp 𝕄)
    (hk : Past c arg3 arg4 arg13 arg14 X3 X4 qt m0 a0 arg15 arg16 i 1 ⊢ WP E (kk ⟨⟩) Q) (he : Past c arg3 arg4 arg13 arg14 X3 X4 qt m0 a0 arg15 arg16 i 1 ⊢ WP E ke Q) :
    Past c arg3 arg4 arg13 arg14 X3 X4 qt m0 a0 arg15 arg16 i 0 ⊢ WP E (if h : k0_cond1 i = 1#1 then case0P i arg4 arg13 arg14 arg15 qt h >>= kk else ke) Q := by
  by_cases h : k0_cond1 i = 1#1
  · have hm := (cond1_mod i).1 h
    rw [dif_pos h, wp_bind]
    unfold Past
    rw [if_neg (by omega)]
    refine (case0P_run c E arg3 arg4 arg13 arg14 X3 X4 qt m0 a0 arg15 arg16 i h).trans (wp_mono _ _ _ fun _ => ?_)
    refine BIBase.Entails.trans ?_ hk
    unfold Past
    rw [if_pos (by omega)]
  · have hm : ¬ (i 1).val % 8 = 0 := fun e => h ((cond1_mod i).2 e)
    rw [dif_neg h]
    refine BIBase.Entails.trans ?_ he
    unfold Past
    by_cases h8 : (i 1).val % 8 < 0
    · rw [if_pos h8, if_pos (by omega)]
    · rw [if_neg h8, if_neg (by omega)]

theorem ending1 {β : Type} (kk : PUnit → Prog (TpuEff nD τ sig (Elt F) Λ₀ .tc) β) (ke : Prog (TpuEff nD τ sig (Elt F) Λ₀ .tc) β) (Q : β → sProp 𝕄)
    (hk : Past c arg3 arg4 arg13 arg14 X3 X4 qt m0 a0 arg15 arg16 i 2 ⊢ WP E (kk ⟨⟩) Q) (he : Past c arg3 arg4 arg13 arg14 X3 X4 qt m0 a0 arg15 arg16 i 2 ⊢ WP E ke Q) :
    Past c arg3 arg4 arg13 arg14 X3 X4 qt m0 a0 arg15 arg16 i 1 ⊢ WP E (if h : k0_cond2 i = 1#1 then case1P i arg3 arg4 arg13 arg14 arg15 arg16 qt h >>= kk else ke) Q := by
  by_cases h : k0_cond2 i = 1#1
  · have hm := (cond2_mod i).1 h
    rw [dif_pos h, wp_bind]
    unfold Past
    rw [if_neg (by omega)]
    refine (case1P_run c E arg3 arg4 arg13 arg14 X3 X4 qt m0 a0 arg15 arg16 i h).trans (wp_mono _ _ _ fun _ => ?_)
    refine BIBase.Entails.trans ?_ hk
    unfold Past
    rw [if_pos (by omega)]
  · have hm : ¬ (i 1).val % 8 = 1 := fun e => h ((cond2_mod i).2 e)
    rw [dif_neg h]
    refine BIBase.Entails.trans ?_ he
    unfold Past
    by_cases h8 : (i 1).val % 8 < 1
    · rw [if_pos h8, if_pos (by omega)]
    · rw [if_neg h8, if_neg (by omega)]

theorem ending2 {β : Type} (kk : PUnit → Prog (TpuEff nD τ sig (Elt F) Λ₀ .tc) β) (ke : Prog (TpuEff nD τ sig (Elt F) Λ₀ .tc) β) (Q : β → sProp 𝕄)
    (hk : Past c arg3 arg4 arg13 arg14 X3 X4 qt m0 a0 arg15 arg16 i 3 ⊢ WP E (kk ⟨⟩) Q) (he : Past c arg3 arg4 arg13 arg14 X3 X4 qt m0 a0 arg15 arg16 i 3 ⊢ WP E ke Q) :
    Past c arg3 arg4 arg13 arg14 X3 X4 qt m0 a0 arg15 arg16 i 2 ⊢ WP E (if h : k0_cond3 i = 1#1 then case2P i arg3 arg4 arg13 arg14 arg15 arg16 qt h >>= kk else ke) Q := by
  by_cases h : k0_cond3 i = 1#1
  · have hm := (cond3_mod i).1 h
    rw [dif_pos h, wp_bind]
    unfold Past
    rw [if_neg (by omega)]
    refine (case2P_run c E arg3 arg4 arg13 arg14 X3 X4 qt m0 a0 arg15 arg16 i h).trans (wp_mono _ _ _ fun _ => ?_)
    refine BIBase.Entails.trans ?_ hk
    unfold Past
    rw [if_pos (by omega)]
  · have hm : ¬ (i 1).val % 8 = 2 := fun e => h ((cond3_mod i).2 e)
    rw [dif_neg h]
    refine BIBase.Entails.trans ?_ he
    unfold Past
    by_cases h8 : (i 1).val % 8 < 2
    · rw [if_pos h8, if_pos (by omega)]
    · rw [if_neg h8, if_neg (by omega)]

theorem ending3 {β : Type} (kk : PUnit → Prog (TpuEff nD τ sig (Elt F) Λ₀ .tc) β) (ke : Prog (TpuEff nD τ sig (Elt F) Λ₀ .tc) β) (Q : β → sProp 𝕄)
    (hk : Past c arg3 arg4 arg13 arg14 X3 X4 qt m0 a0 arg15 arg16 i 4 ⊢ WP E (kk ⟨⟩) Q) (he : Past c arg3 arg4 arg13 arg14 X3 X4 qt m0 a0 arg15 arg16 i 4 ⊢ WP E ke Q) :
    Past c arg3 arg4 arg13 arg14 X3 X4 qt m0 a0 arg15 arg16 i 3 ⊢ WP E (if h : k0_cond4 i = 1#1 then case3P i arg3 arg4 arg13 arg14 arg15 arg16 qt h >>= kk else ke) Q := by
  by_cases h : k0_cond4 i = 1#1
  · have hm := (cond4_mod i).1 h
    rw [dif_pos h, wp_bind]
    unfold Past
    rw [if_neg (by omega)]
    refine (case3P_run c E arg3 arg4 arg13 arg14 X3 X4 qt m0 a0 arg15 arg16 i h).trans (wp_mono _ _ _ fun _ => ?_)
    refine BIBase.Entails.trans ?_ hk
    unfold Past
    rw [if_pos (by omega)]
  · have hm : ¬ (i 1).val % 8 = 3 := fun e => h ((cond4_mod i).2 e)
    rw [dif_neg h]
    refine BIBase.Entails.trans ?_ he
    unfold Past
    by_cases h8 : (i 1).val % 8 < 3
    · rw [if_pos h8, if_pos (by omega)]
    · rw [if_neg h8, if_neg (by omega)]

theorem ending4 {β : Type} (kk : PUnit → Prog (TpuEff nD τ sig (Elt F) Λ₀ .tc) β) (ke : Prog (TpuEff nD τ sig (Elt F) Λ₀ .tc) β) (Q : β → sProp 𝕄)
    (hk : Past c arg3 arg4 arg13 arg14 X3 X4 qt m0 a0 arg15 arg16 i 5 ⊢ WP E (kk ⟨⟩) Q) (he : Past c arg3 arg4 arg13 arg14 X3 X4 qt m0 a0 arg15 arg16 i 5 ⊢ WP E ke Q) :
    Past c arg3 arg4 arg13 arg14 X3 X4 qt m0 a0 arg15 arg16 i 4 ⊢ WP E (if h : k0_cond5 i = 1#1 then case4P i arg3 arg4 arg13 arg14 arg15 arg16 qt h >>= kk else ke) Q := by
  by_cases h : k0_cond5 i = 1#1
  · have hm := (cond5_mod i).1 h
    rw [dif_pos h, wp_bind]
    unfold Past
    rw [if_neg (by omega)]
    refine (case4P_run c E arg3 arg4 arg13 arg14 X3 X4 qt m0 a0 arg15 arg16 i h).trans (wp_mono _ _ _ fun _ => ?_)
    refine BIBase.Entails.trans ?_ hk
    unfold Past
    rw [if_pos (by omega)]
  · have hm : ¬ (i 1).val % 8 = 4 := fun e => h ((cond5_mod i).2 e)
    rw [dif_neg h]
    refine BIBase.Entails.trans ?_ he
    unfold Past
    by_cases h8 : (i 1).val % 8 < 4
    · rw [if_pos h8, if_pos (by omega)]
    · rw [if_neg h8, if_neg (by omega)]

theorem ending5 {β : Type} (kk : PUnit → Prog (TpuEff nD τ sig (Elt F) Λ₀ .tc) β) (ke : Prog (TpuEff nD τ sig (Elt F) Λ₀ .tc) β) (Q : β → sProp 𝕄)
    (hk : Past c arg3 arg4 arg13 arg14 X3 X4 qt m0 a0 arg15 arg16 i 6 ⊢ WP E (kk ⟨⟩) Q) (he : Past c arg3 arg4 arg13 arg14 X3 X4 qt m0 a0 arg15 arg16 i 6 ⊢ WP E ke Q) :
    Past c arg3 arg4 arg13 arg14 X3 X4 qt m0 a0 arg15 arg16 i 5 ⊢ WP E (if h : k0_cond6 i = 1#1 then case5P i arg3 arg4 arg13 arg14 arg15 arg16 qt h >>= kk else ke) Q := by
  by_cases h : k0_cond6 i = 1#1
  · have hm := (cond6_mod i).1 h
    rw [dif_pos h, wp_bind]
    unfold Past
    rw [if_neg (by omega)]
    refine (case5P_run c E arg3 arg4 arg13 arg14 X3 X4 qt m0 a0 arg15 arg16 i h).trans (wp_mono _ _ _ fun _ => ?_)
    refine BIBase.Entails.trans ?_ hk
    unfold Past
    rw [if_pos (by omega)]
  · have hm : ¬ (i 1).val % 8 = 5 := fun e => h ((cond6_mod i).2 e)
    rw [dif_neg h]
    refine BIBase.Entails.trans ?_ he
    unfold Past
    by_cases h8 : (i 1).val % 8 < 5
    · rw [if_pos h8, if_pos (by omega)]
    · rw [if_neg h8, if_neg (by omega)]

theorem ending6 {β : Type} (kk : PUnit → Prog (TpuEff nD τ sig (Elt F) Λ₀ .tc) β) (ke : Prog (TpuEff nD τ sig (Elt F) Λ₀ .tc) β) (Q : β → sProp 𝕄)
    (hk : Past c arg3 arg4 arg13 arg14 X3 X4 qt m0 a0 arg15 arg16 i 7 ⊢ WP E (kk ⟨⟩) Q) (he : Past c arg3 arg4 arg13 arg14 X3 X4 qt m0 a0 arg15 arg16 i 7 ⊢ WP E ke Q) :
    Past c arg3 arg4 arg13 arg14 X3 X4 qt m0 a0 arg15 arg16 i 6 ⊢ WP E (if h : k0_cond7 i = 1#1 then case6P i arg3 arg4 arg13 arg14 arg15 arg16 qt h >>= kk else ke) Q := by
  by_cases h : k0_cond7 i = 1#1
  · have hm := (cond7_mod i).1 h
    rw [dif_pos h, wp_bind]
    unfold Past
    rw [if_neg (by omega)]
    refine (case6P_run c E arg3 arg4 arg13 arg14 X3 X4 qt m0 a0 arg15 arg16 i h).trans (wp_mono _ _ _ fun _ => ?_)
    refine BIBase.Entails.trans ?_ hk
    unfold Past
    rw [if_pos (by omega)]
  · have hm : ¬ (i 1).val % 8 = 6 := fun e => h ((cond7_mod i).2 e)
    rw [dif_neg h]
    refine BIBase.Entails.trans ?_ he
    unfold Past
    by_cases h8 : (i 1).val % 8 < 6
    · rw [if_pos h8, if_pos (by omega)]
    · rw [if_neg h8, if_neg (by omega)]

/-- The whole groups of blocks. -/
theorem groups_run : AtBlk c arg3 arg4 arg13 arg14 X3 X4 qt m0 a0 arg15 arg16 0
      ⊢ WP E (Scf.Loop.for (k0_t1_loop i) (k0_t1_ok i) ⟨⟩ (fun k _ => trip1P i arg3 arg4 arg13 arg14 arg15 arg16 qt k))
        (fun _ => AtBlk c arg3 arg4 arg13 arg14 X3 X4 qt m0 a0 arg15 arg16 (8 * ((i 1).val / 8))) := by
  have h := Scf.wp_for frame (wpE (defs₀ (F := F)) Variants.none (c : Thread nD τ) none) E _ _ _ (k0_t1_ok i) (⟨⟩ : Unit)
    (fun k _ => trip1P (F := F) i arg3 arg4 arg13 arg14 arg15 arg16 qt k)
    (fun n _ => AtBlk c arg3 arg4 arg13 arg14 X3 X4 qt m0 a0 arg15 arg16 (8 * n)) (fun k _ => trip1P_run c E arg3 arg4 arg13 arg14 X3 X4 qt m0 a0 arg15 arg16 i k)
    (Q := fun _ => AtBlk c arg3 arg4 arg13 arg14 X3 X4 qt m0 a0 arg15 arg16 (8 * ((i 1).val / 8)))
  refine BIBase.Entails.trans ?_ h
  iintro H
  isplitl [H]; · iexact H
  iintro %_a H
  rw [show Scf.trips (k0_t1_loop i).lb (k0_t1_loop i).ub (k0_t1_loop i).st = (i 1).val / 8 from trips1 i]
  iexact H

/-- The second loop makes no trip. -/
theorem rest_run (P : sProp 𝕄) : P
      ⊢ WP E (Scf.Loop.for (k0_t2_loop i) (k0_t2_ok i) ⟨⟩ (fun k _ => trip2P i arg3 arg4 arg13 arg14 arg15 arg16 qt k)) (fun _ => P) := by
  have h := Scf.wp_for frame (wpE (defs₀ (F := F)) Variants.none (c : Thread nD τ) none) E _ _ _ (k0_t2_ok i) (⟨⟩ : Unit)
    (fun k _ => trip2P (F := F) i arg3 arg4 arg13 arg14 arg15 arg16 qt k)
    (fun _ _ => P) (fun k _ => absurd k.isLt (by have := trips2 i; unfold Scf.Loop.trips at this; omega))
    (Q := fun _ => P)
  refine BIBase.Entails.trans ?_ h
  iintro H
  isplitl [H]; · iexact H
  iintro %_a H
  iexact H

theorem mid1P_run : AtBlk c arg3 arg4 arg13 arg14 X3 X4 qt m0 a0 arg15 arg16 0
      ⊢ WP E (mid1P i arg3 arg4 arg13 arg14 arg15 arg16 qt) (fun _ => Past c arg3 arg4 arg13 arg14 X3 X4 qt m0 a0 arg15 arg16 i 2) := by
  have hd : ∀ r, Past c arg3 arg4 arg13 arg14 X3 X4 qt m0 a0 arg15 arg16 i 2 ⊢ WP E (pure r : Prog (TpuEff nD τ sig (Elt F) Λ₀ .tc) (Σ' (_ : BitVec 32), BitVec 32)) (fun _ => Past c arg3 arg4 arg13 arg14 X3 X4 qt m0 a0 arg15 arg16 i 2) := fun r => by
    rw [wp_pure]; exact fupd_intro
  unfold mid1P
  rw [wp_bind]
  refine (groups_run c E arg3 arg4 arg13 arg14 X3 X4 qt m0 a0 arg15 arg16 i).trans (wp_mono _ _ _ fun _ => ?_)
  rw [wp_bind]
  refine (rest_run c E arg3 arg4 arg13 arg14 qt arg15 arg16 i _).trans (wp_mono _ _ _ fun _ => ?_)
  refine BIBase.Entails.trans (Q := Past c arg3 arg4 arg13 arg14 X3 X4 qt m0 a0 arg15 arg16 i 0) ?_ (ending0 c E arg3 arg4 arg13 arg14 X3 X4 qt m0 a0 arg15 arg16 i _ _ _ (ending1 c E arg3 arg4 arg13 arg14 X3 X4 qt m0 a0 arg15 arg16 i _ _ _ (hd _) (hd _)) (ending1 c E arg3 arg4 arg13 arg14 X3 X4 qt m0 a0 arg15 arg16 i _ _ _ (hd _) (hd _)))
  unfold Past; rw [if_neg (by omega)]

theorem mid2P_run (a : BitVec 32) : Past c arg3 arg4 arg13 arg14 X3 X4 qt m0 a0 arg15 arg16 i 2
      ⊢ WP E (mid2P i arg3 arg4 arg13 arg14 arg15 arg16 a qt) (fun _ => Past c arg3 arg4 arg13 arg14 X3 X4 qt m0 a0 arg15 arg16 i 4) := by
  have hd : ∀ r, Past c arg3 arg4 arg13 arg14 X3 X4 qt m0 a0 arg15 arg16 i 4 ⊢ WP E (pure r : Prog (TpuEff nD τ sig (Elt F) Λ₀ .tc) (BitVec 1)) (fun _ => Past c arg3 arg4 arg13 arg14 X3 X4 qt m0 a0 arg15 arg16 i 4) := fun r => by
    rw [wp_pure]; exact fupd_intro
  unfold mid2P
  exact ending2 c E arg3 arg4 arg13 arg14 X3 X4 qt m0 a0 arg15 arg16 i _ _ _ (ending3 c E arg3 arg4 arg13 arg14 X3 X4 qt m0 a0 arg15 arg16 i _ _ _ (hd _) (hd _)) (ending3 c E arg3 arg4 arg13 arg14 X3 X4 qt m0 a0 arg15 arg16 i _ _ _ (hd _) (hd _))

theorem mid3P_run (a : BitVec 32) : Past c arg3 arg4 arg13 arg14 X3 X4 qt m0 a0 arg15 arg16 i 4
      ⊢ WP E (mid3P i arg3 arg4 arg13 arg14 arg15 arg16 a qt) (fun _ => Past c arg3 arg4 arg13 arg14 X3 X4 qt m0 a0 arg15 arg16 i 7) := by
  have hd : ∀ r, Past c arg3 arg4 arg13 arg14 X3 X4 qt m0 a0 arg15 arg16 i 7 ⊢ WP E (pure r : Prog (TpuEff nD τ sig (Elt F) Λ₀ .tc) (Σ' (_ : BitVec 32) (_ : BitVec 32) (_ : BitVec 1) (_ : BitVec 1), BitVec 1)) (fun _ => Past c arg3 arg4 arg13 arg14 X3 X4 qt m0 a0 arg15 arg16 i 7) := fun r => by
    rw [wp_pure]; exact fupd_intro
  unfold mid3P
  exact ending4 c E arg3 arg4 arg13 arg14 X3 X4 qt m0 a0 arg15 arg16 i _ _ _
    (ending5 c E arg3 arg4 arg13 arg14 X3 X4 qt m0 a0 arg15 arg16 i _ _ _ (ending6 c E arg3 arg4 arg13 arg14 X3 X4 qt m0 a0 arg15 arg16 i _ _ _ (hd _) (hd _)) (ending6 c E arg3 arg4 arg13 arg14 X3 X4 qt m0 a0 arg15 arg16 i _ _ _ (hd _) (hd _)))
    (ending5 c E arg3 arg4 arg13 arg14 X3 X4 qt m0 a0 arg15 arg16 i _ _ _ (ending6 c E arg3 arg4 arg13 arg14 X3 X4 qt m0 a0 arg15 arg16 i _ _ _ (hd _) (hd _)) (ending6 c E arg3 arg4 arg13 arg14 X3 X4 qt m0 a0 arg15 arg16 i _ _ _ (hd _) (hd _)))

theorem endP_eq (arg7 arg8 arg9 arg10 : Memref sig .tc .vmem S1x64 .f32) : endP (F := F) i arg3 arg4 arg7 arg8 arg9 arg10 arg13 arg14 arg15 arg16 qt =
    (if h : k0_cond8 i = 1#1 then case7P i arg3 arg4 arg13 arg14 arg15 arg16 qt h >>= fun _ => lastP arg7 arg8 arg9 arg10 arg14 else lastP arg7 arg8 arg9 arg10 arg14) := rfl

theorem endP_run (arg7 arg8 arg9 arg10 : Memref sig .tc .vmem S1x64 .f32) (Q : (Σ' (_ : FVec F S128x512 .f32) (_ : FVec F S1x512 .f32), F .f32) → sProp 𝕄)
    (R : sProp 𝕄) (hk : iprop(AtEnd c arg3 arg4 arg13 arg14 X3 X4 qt m0 a0 arg15 arg16 (i 1).val ∗ R) ⊢ WP E (lastP arg7 arg8 arg9 arg10 arg14) Q) :
    iprop(Past c arg3 arg4 arg13 arg14 X3 X4 qt m0 a0 arg15 arg16 i 7 ∗ R) ⊢ WP E (endP i arg3 arg4 arg7 arg8 arg9 arg10 arg13 arg14 arg15 arg16 qt) Q := by
  rw [endP_eq]
  by_cases h : k0_cond8 i = 1#1
  · have hm := (cond8_mod i).1 h
    rw [dif_pos h, wp_bind]
    unfold Past
    rw [if_neg (by omega)]
    iintro ⟨HP, HR⟩
    iapply (wp_wand_r frame _ E)
    isplitl [HP]
    · iapply (case7P_run c E arg3 arg4 arg13 arg14 X3 X4 qt m0 a0 arg15 arg16 i h)
      iassumption
    iintro %_u HP
    iapply hk
    isplitl [HP] <;> iassumption
  · have hm : ¬ (i 1).val % 8 = 7 := fun e => h ((cond8_mod i).2 e)
    rw [dif_neg h]
    unfold Past
    rw [if_pos (by omega)]
    exact hk

/-- The loads of the end of a tile, from the state after its last block. -/
theorem last_at (arg7 arg8 arg9 arg10 : Memref sig .tc .vmem S1x64 .f32) (l0 l1 l2 l3 : Vec F S1x64 .f32) :
    iprop(AtEnd c arg3 arg4 arg13 arg14 X3 X4 qt m0 a0 arg15 arg16 (i 1).val ∗ owns (c : Thread nD τ) arg7 fullShare l0 ∗ owns (c : Thread nD τ) arg8 fullShare l1 ∗
        owns (c : Thread nD τ) arg9 fullShare l2 ∗ owns (c : Thread nD τ) arg10 fullShare l3)
      ⊢ WP E (lastP arg7 arg8 arg9 arg10 arg14)
        (fun r => iprop(⌜r = ⟨diffOf (lamOf l0 l1 l2 l3) (numRows (accOf (causal (scoreOf qt (keyBlk X3 (i 1).val))) (valBlk X4 (i 1).val) (stt qt X3 X4 m0 a0 (i 1).val).1 (stt qt X3 X4 m0 a0 (i 1).val).2)) (denRow (accOf (causal (scoreOf qt (keyBlk X3 (i 1).val))) (valBlk X4 (i 1).val) (stt qt X3 X4 m0 a0 (i 1).val).1 (stt qt X3 X4 m0 a0 (i 1).val).2)),
            meanOf (diffOf (lamOf l0 l1 l2 l3) (numRows (accOf (causal (scoreOf qt (keyBlk X3 (i 1).val))) (valBlk X4 (i 1).val) (stt qt X3 X4 m0 a0 (i 1).val).1 (stt qt X3 X4 m0 a0 (i 1).val).2)) (denRow (accOf (causal (scoreOf qt (keyBlk X3 (i 1).val))) (valBlk X4 (i 1).val) (stt qt X3 X4 m0 a0 (i 1).val).1 (stt qt X3 X4 m0 a0 (i 1).val).2))), Scalar.ofBits .f32 0x3727C5AC#32⟩⌝ ∗
          AtEnd c arg3 arg4 arg13 arg14 X3 X4 qt m0 a0 arg15 arg16 (i 1).val ∗ owns (c : Thread nD τ) arg7 fullShare l0 ∗ owns (c : Thread nD τ) arg8 fullShare l1 ∗
          owns (c : Thread nD τ) arg9 fullShare l2 ∗ owns (c : Thread nD τ) arg10 fullShare l3)) := by
  unfold AtEnd
  iintro ⟨⟨H3, H4, H13, H14, H15, H16⟩, H7, H8, H9, H10⟩
  iapply (wp_wand_r frame _ E)
  isplitl [H7 H8 H9 H10 H14]
  · iapply (lastP_ends c E arg7 arg8 arg9 arg10 arg14 l0 l1 l2 l3 _)
    isplitl [H7]; · iassumption
    isplitl [H8]; · iassumption
    isplitl [H9]; · iassumption
    isplitl [H10]; · iassumption
    iassumption
  iintro %r ⟨%hr, H7, H8, H9, H10, H14⟩
  isplitr; · ipureintro; exact hr
  isplitl [H3 H4 H13 H14 H15 H16]
  · isplitl [H3]; · iassumption
    isplitl [H4]; · iassumption
    isplitl [H13]; · iassumption
    isplitl [H14]; · iassumption
    isplitl [H15] <;> iassumption
  isplitl [H7]; · iassumption
  isplitl [H8]; · iassumption
  isplitl [H9] <;> iassumption

end

/-- A tile's run: its window of the result ends at `tileRes` of the windows that it reads. -/
theorem tile_run (i : grid0.Coords) (arg2 : Memref sig .tc .vmem S1x2x128x512 .bf16) (harg2 : arg2.IsWhole) (arg3 : Memref sig .tc .vmem S1x16384x128 .bf16) (harg3 : arg3.IsWhole) (arg4 : Memref sig .tc .vmem S1x144x16384 .bf16) (harg4 : arg4.IsWhole) (arg5 : Memref sig .tc .vmem S1x128x128 .bf16) (harg5 : arg5.IsWhole) (arg6 : Memref sig .tc .vmem S1x144x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S512x128 .bf16) (harg12 : arg12.IsWhole) (arg13 : Memref sig .tc .vmem S1x1024 .f32) (harg13 : arg13.IsWhole) (arg14 : Memref sig .tc .vmem S144x1024 .f32) (harg14 : arg14.IsWhole) (arg15 : Memref sig .tc .vmem S512x1024 .f32) (harg15 : arg15.IsWhole) (arg16 : Memref sig .tc .vmem S512x1024 .f32) (harg16 : arg16.IsWhole)
    (X2 : Vec F S1x2x128x512 .bf16) (X3 : Vec F S1x16384x128 .bf16) (X4 : Vec F S1x144x16384 .bf16) (X5 : Vec F S1x128x128 .bf16) (X6 : Vec F S1x144x128 .bf16) (X7 : Vec F S1x64 .f32) (X8 : Vec F S1x64 .f32) (X9 : Vec F S1x64 .f32) (X10 : Vec F S1x64 .f32) (X11 : Vec F S128x1 .f32) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) : sProp 𝕄)
      ⊢ WP E (cc0_prompt_attention i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare (tileRes (i 1).val X2 X3 X4 X5 X6 X7 X8 X9 X10 X11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d))) := by
  rw [body_eq]
  unfold tileP
  simp only [wp_bind]
  iintro ⟨H2, H3, H4, H5, H6, H7, H8, H9, H10, H11, H12, H13, H14, H15, H16⟩
  iapply (wp_wand_r frame _ E)
  isplitl [H2 H3 H5 H13 H14 H15]
  · iapply (openP_run c E arg2 arg3 arg5 arg13 arg14 arg15 X2 X3 X5)
    isplitl [H2]; · iassumption
    isplitl [H3]; · iassumption
    isplitl [H5]; · iassumption
    isplitl [H13]; · iassumption
    isplitl [H14] <;> iassumption
  iintro %r ⟨%hr, H2, H3, H5, H13, H14, H15⟩
  subst hr
  dsimp only
  iapply (wp_wand_r frame _ E)
  isplitl [H6 H13 H14]
  · iapply (metaP_run c E arg6 arg13 arg14 (metaScore (tileQ X2) X5) X6 topStart accStart)
    isplitl [H6]; · iassumption
    isplitl [H13] <;> iassumption
  iintro %_u ⟨H6, H13, H14⟩
  iapply (wp_wand_r frame _ E)
  isplitl [H3 H4 H13 H14 H15 H16]
  · iapply (mid1P_run c E arg3 arg4 arg13 arg14 X3 X4 (tileQ X2) (m0Of X2 X5) (a0Of X2 X5 X6) arg15 arg16 i)
    unfold AtBlk
    isplitl [H3]; · iassumption
    isplitl [H4]; · iassumption
    isplitl [H13]; · iexact H13
    isplitl [H14]; · iexact H14
    isplitl [H15] <;> iassumption
  iintro %_v HP
  iapply (wp_wand_r frame _ E)
  isplitl [HP]
  · iapply (mid2P_run c E arg3 arg4 arg13 arg14 X3 X4 (tileQ X2) (m0Of X2 X5) (a0Of X2 X5 X6) arg15 arg16 i)
    iassumption
  iintro %_v HP
  iapply (wp_wand_r frame _ E)
  isplitl [HP]
  · iapply (mid3P_run c E arg3 arg4 arg13 arg14 X3 X4 (tileQ X2) (m0Of X2 X5) (a0Of X2 X5 X6) arg15 arg16 i)
    iassumption
  iintro %_v HP
  iapply (wp_wand_r frame _ E)
  isplitl [HP H7 H8 H9 H10]
  · iapply (endP_run c E arg3 arg4 arg13 arg14 X3 X4 (tileQ X2) (m0Of X2 X5) (a0Of X2 X5 X6) arg15 arg16 i arg7 arg8 arg9 arg10
      (fun r => iprop(⌜r = ⟨diffOf (lamOf X7 X8 X9 X10) (numRows (accEnd (i 1).val X2 X3 X4 X5 X6)) (denRow (accEnd (i 1).val X2 X3 X4 X5 X6)),
          meanOf (diffOf (lamOf X7 X8 X9 X10) (numRows (accEnd (i 1).val X2 X3 X4 X5 X6)) (denRow (accEnd (i 1).val X2 X3 X4 X5 X6))), Scalar.ofBits .f32 0x3727C5AC#32⟩⌝ ∗
        AtEnd c arg3 arg4 arg13 arg14 X3 X4 (tileQ X2) (m0Of X2 X5) (a0Of X2 X5 X6) arg15 arg16 (i 1).val ∗
        owns (c : Thread nD τ) arg7 fullShare X7 ∗ owns (c : Thread nD τ) arg8 fullShare X8 ∗ owns (c : Thread nD τ) arg9 fullShare X9 ∗ owns (c : Thread nD τ) arg10 fullShare X10))
      iprop(owns (c : Thread nD τ) arg7 fullShare X7 ∗ owns (c : Thread nD τ) arg8 fullShare X8 ∗ owns (c : Thread nD τ) arg9 fullShare X9 ∗ owns (c : Thread nD τ) arg10 fullShare X10)
      (last_at c E arg3 arg4 arg13 arg14 X3 X4 (tileQ X2) (m0Of X2 X5) (a0Of X2 X5 X6) arg15 arg16 i arg7 arg8 arg9 arg10 X7 X8 X9 X10))
    isplitl [HP]; · iassumption
    isplitl [H7]; · iassumption
    isplitl [H8]; · iassumption
    isplitl [H9] <;> iassumption
  iintro %r ⟨%hr, HP, H7, H8, H9, H10⟩
  unfold AtEnd
  icases HP with ⟨H3, H4, H13, H14, H15, H16⟩
  subst hr
  dsimp only
  iapply (wp_wand_r frame _ E)
  isplitl [H11 H12]
  · iapply (finP_run c E arg11 arg12 harg12 _ _ _ X11)
    isplitl [H11] <;> iassumption
  iintro %_w ⟨H11, H12⟩
  isplitl [H2]; · iassumption
  isplitl [H3]; · iassumption
  isplitl [H4]; · iassumption
  isplitl [H5]; · iassumption
  isplitl [H6]; · iassumption
  isplitl [H7]; · iassumption
  isplitl [H8]; · iassumption
  isplitl [H9]; · iassumption
  isplitl [H10]; · iassumption
  isplitl [H11]; · iassumption
  isplitl [H12]; · iexact H12
  isplitl [H13]; · iexists _; iassumption
  isplitl [H14]; · iexists _; iassumption
  isplitl [H15] <;> iassumption

end Cert.KernelIdeal.Attn
-- ==== Proof.Whole.lean ====
module

public import proofs.«01_k».proof.Proof.Tile
public import Idealize.ShloMosaic.Lib.Claim
public import Idealize.ShloMosaic.Lib.Pipeline.Value
public import proofs.«01_k».proof.Proof.Gen.KernelIdeal.Frame.Runs
public import Idealize.ShloMosaic.Lib.VecWindow

@[expose] public section

set_option maxRecDepth 65536

noncomputable section

namespace Cert.KernelIdeal.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What point `t` leaves in its window of the result. -/
def atPoint (c : Dev nD) (t : Fin cfg0.N) : Vec F S512x128 .bf16 :=
  tileRes (grid0.coords t 1).val (iblk m c 0 t) (iblk m c 1 t) (iblk m c 2 t) (iblk m c 3 t) (iblk m c 4 t) (iblk m c 5 t) (iblk m c 6 t) (iblk m c 7 t) (iblk m c 8 t) (iblk m c 9 t)

/-- The proof data of the launch: each input's buffer keeps its block, the result's ends at `atPoint`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => atPoint m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = atPoint m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  rw [show (dats m 0 c).Φ t.castSucc = Pipeline.ΦA spec0 c from rfl, PhiA0_eq]
  unfold atPoint
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r frame _ Set.univ)
  isplitl [H0 H1 H2 H3 H4 H5 H6 H7 H8 H9 H10 HS0 HS1 HS2 HS3]
  · iapply (tile_run c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    iexact HS3
  iintro %_u ⟨H0, H1, H2, H3, H4, H5, H6, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row_at (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_at]
  exact triple_restated (sound_body m c t) rfl .rfl fun _ => .rfl

set_option backward.isDefEq.respectTransparency.types false in
/-- The launch, with every counter at zero at the end. -/
theorem run_whole : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter ends at zero. -/
theorem whole_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_whole m ρ)))
    ((θ_run defs _ _).mono (fun _ h => h.2) (run_whole m ρ))

/-! ## The result, block by block -/

theorem blk_inj : ∀ t t' : Fin cfg0.N, win0_10.index t = win0_10.index t' → t = t' :=
  (by decide +kernel : ∀ t t' : Fin grid0.N, win0_10.index t = win0_10.index t' → t = t')

theorem blk_disjoint : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (blk_inj t t' h)

/-- Block `t` of the result is what point `t` left. -/
theorem res_block (c : Dev nD) (t : Fin cfg0.N) (hf : (cfg0.win 10).flush t = true) :
    ((cfg0.win 10).blk t).view.read (Elt F) ((dats m 0 c).arrAt 10 cfg0.N) = (cfg0.win 10).cut (grid0.coords t) (atPoint m c t) := by
  rw [(dats m 0 c).read_blk_arrAt_eq_flushed 10 blk_disjoint cfg0.N t t.isLt hf]
  show (cfg0.win 10).cut (grid0.coords t) ((dats m 0 c).after 10 t) = _
  rw [after10]

/-- The run, with the result's array named and the arguments as they were. -/
theorem run_res : θ_run defs (onTc (τ := τ) (main (F := F))) ⟨m, fun _ => 0, ρ⟩ (fun r => ∀ c : Dev nD,
      r.2.mem ((c : Thread nD τ).loc main_v30) = (dats m 0 c).arrAt 10 cfg0.N) :=
  (θ_run defs _ _).mono (fun r h c => (h.1 c).1 10) (run_whole m ρ)

end Cert.KernelIdeal.Attn
-- ==== Proof.RefFrame.lean ====
module

public import proofs.«01_k».proof.Proof.Gen.ReferenceIdeal.Run
public import Idealize.ShloMosaic.Lib.Quiescent

@[expose] public section

noncomputable section

namespace Cert.ReferenceIdeal.Attn

open Idealize.ShloMosaic Idealize.SL.Sem Cert.ReferenceIdeal

variable {F : FTy → Type} [FloatOps F]
variable (m : (ℓ : Loc nD τ sig) → Buf (Elt F) ℓ) (ρ : Dev nD → PrngReg)

/-- The reference leaves its arguments as they were; it declares no counter. -/
theorem ref_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, sem_eq_zero_of_no_sems (by decide) r.2⟩) (Value.run m ρ)

end Cert.ReferenceIdeal.Attn
-- ==== Proof.ProjRun0.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev VO0_5 : View sig .tc .vmem S4x2x128x256 .bf16 := (Memref.whole cc0_stg5_0 : Memref sig .tc .vmem S4x2x128x256 .bf16).view
abbrev VO0_6 : View sig .tc .vmem S1024x128 .f32 := (Memref.whole cc0_stg6_0 : Memref sig .tc .vmem S1024x128 .f32).view
abbrev VO0_7 : View sig .tc .vmem S4x256x128 .bf16 := (Memref.whole cc0_stg7_0 : Memref sig .tc .vmem S4x256x128 .bf16).view
abbrev VO0_8 : View sig .tc .vmem S1024x128 .f32 := (Memref.whole cc0_stg8_0 : Memref sig .tc .vmem S1024x128 .f32).view
abbrev VO0_9 : View sig .tc .vmem S4x144x256 .bf16 := (Memref.whole cc0_stg9_0 : Memref sig .tc .vmem S4x144x256 .bf16).view
abbrev VO0_10 : View sig .tc .vmem S256x512 .f32 := (Memref.whole cc0_stg10_0 : Memref sig .tc .vmem S256x512 .f32).view
abbrev VO0_11 : View sig .tc .vmem S256x1024 .bf16 := (Memref.whole cc0_stg11_0 : Memref sig .tc .vmem S256x1024 .bf16).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x2x128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x256x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x144x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .bf16 := win0_11.stage (cfg0.slots t 11)
abbrev hs0_11 (t : Fin cfg0.N) : (ms0_11 t).IsWhole := hstage0_11 ((cfg0.slots t 11).cast nbuf0_11)

set_option maxHeartbeats 1000000 in
/-- The body on whole buffers, and the pieces it writes into each of the seven outputs. -/
noncomputable def kernelRun0 (c : Dev nD) (i : grid0.Coords) (arg1 : Memref sig .tc .vmem S256x1024 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S4x2x128x256 .bf16) (harg6 : arg6.IsWhole) (arg7 : Memref sig .tc .vmem S1024x128 .f32) (harg7 : arg7.IsWhole) (arg8 : Memref sig .tc .vmem S4x256x128 .bf16) (harg8 : arg8.IsWhole) (arg9 : Memref sig .tc .vmem S1024x128 .f32) (harg9 : arg9.IsWhole) (arg10 : Memref sig .tc .vmem S4x144x256 .bf16) (harg10 : arg10.IsWhole) (arg11 : Memref sig .tc .vmem S256x512 .f32) (harg11 : arg11.IsWhole) (arg12 : Memref sig .tc .vmem S256x1024 .bf16) (harg12 : arg12.IsWhole)
    (x0 : Vec F S256x1024 .f32) (x1 : Vec F S256x128 .f32) (x2 : Vec F S256x128 .f32) (x3 : Vec F S1x1024 .f32) (x4 : Vec F S1024x3072 .bf16) :
    Σ' (L5 : List (View.Piece (Elt F) S4x2x128x256 .bf16)), Σ' (L6 : List (View.Piece (Elt F) S1024x128 .f32)), Σ' (L7 : List (View.Piece (Elt F) S4x256x128 .bf16)), Σ' (L8 : List (View.Piece (Elt F) S1024x128 .f32)), Σ' (L9 : List (View.Piece (Elt F) S4x144x256 .bf16)), Σ' (L10 : List (View.Piece (Elt F) S256x512 .f32)), { L11 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0_project_eq_skeleton]; unfold cc0_project_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-- The run at point `t`. -/
abbrev run0 (c : Dev nD) (t : Fin cfg0.N) :=
  kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk0 V c 0 t) (iblk0 V c 1 t) (iblk0 V c 2 t) (iblk0 V c 3 t) (iblk0 V c 4 t)

/-- The stores of output 5 fill its block. -/
theorem cover0_5 (c : Dev nD) (t : Fin cfg0.N) (y : S4x2x128x256.Idx) : ∃ pc ∈ (run0 V c t).1, y ∈ pc.1.set :=
  View.cover_of_tiledL (run0 V c t).1 S1x1x128x256.size (by sl_kernel_rfl) y
/-- What point `t` leaves in output 5. -/
def out0_5 (c : Dev nD) (t : Fin cfg0.N) : Vec F S4x2x128x256 .bf16 := VO0_5.read (Elt F) (VO0_5.writes (Elt F) VO0_5.junk (run0 V c t).1)
/-- The four strided stores of output 6 fill its block. -/
theorem cover0_6 (c : Dev nD) (t : Fin cfg0.N) (y : S1024x128.Idx) : ∃ pc ∈ (run0 V c t).2.1, y ∈ pc.1.set := by
  have h0 : (y 0).val < 1024 := (y 0).isLt
  have h1 : (y 1).val < 128 := (y 1).isLt
  have key : ∀ h : Fin 4, (y 0).val % 4 = h.val → ∀ a : Fin 2, ∃ j < (![256, 128] : Fin 2 → ℕ) a,
      (y a : ℕ) = (![h.val, 0] : Fin 2 → ℕ) a + (![4, 1] : Fin 2 → ℕ) a * j := by
    intro h hh a
    fin_cases a
    · exact ⟨(y 0).val / 4, by show (y 0).val / 4 < 256; omega, by show (y 0).val = h.val + 4 * ((y 0).val / 4); omega⟩
    · exact ⟨(y 1).val, h1, by show (y 1).val = 0 + 1 * (y 1).val; omega⟩
  have hm : (y 0).val % 4 = 0 ∨ (y 0).val % 4 = 1 ∨ (y 0).val % 4 = 2 ∨ (y 0).val % 4 = 3 := by omega
  rcases hm with h | h | h | h
  · exact ⟨_, .tail _ (.tail _ (.tail _ (.head _))), (LoadRect.mem_set _).mpr (key 0 h)⟩
  · exact ⟨_, .tail _ (.tail _ (.head _)), (LoadRect.mem_set _).mpr (key 1 h)⟩
  · exact ⟨_, .tail _ (.head _), (LoadRect.mem_set _).mpr (key 2 h)⟩
  · exact ⟨_, .head _, (LoadRect.mem_set _).mpr (key 3 h)⟩
/-- What point `t` leaves in output 6. -/
def out0_6 (c : Dev nD) (t : Fin cfg0.N) : Vec F S1024x128 .f32 := VO0_6.read (Elt F) (VO0_6.writes (Elt F) VO0_6.junk (run0 V c t).2.1)
/-- The stores of output 7 fill its block. -/
theorem cover0_7 (c : Dev nD) (t : Fin cfg0.N) (y : S4x256x128.Idx) : ∃ pc ∈ (run0 V c t).2.2.1, y ∈ pc.1.set :=
  View.cover_of_tiledL (run0 V c t).2.2.1 S1x256x128.size (by sl_kernel_rfl) y
/-- What point `t` leaves in output 7. -/
def out0_7 (c : Dev nD) (t : Fin cfg0.N) : Vec F S4x256x128 .bf16 := VO0_7.read (Elt F) (VO0_7.writes (Elt F) VO0_7.junk (run0 V c t).2.2.1)
/-- The four strided stores of output 8 fill its block. -/
theorem cover0_8 (c : Dev nD) (t : Fin cfg0.N) (y : S1024x128.Idx) : ∃ pc ∈ (run0 V c t).2.2.2.1, y ∈ pc.1.set := by
  have h0 : (y 0).val < 1024 := (y 0).isLt
  have h1 : (y 1).val < 128 := (y 1).isLt
  have key : ∀ h : Fin 4, (y 0).val % 4 = h.val → ∀ a : Fin 2, ∃ j < (![256, 128] : Fin 2 → ℕ) a,
      (y a : ℕ) = (![h.val, 0] : Fin 2 → ℕ) a + (![4, 1] : Fin 2 → ℕ) a * j := by
    intro h hh a
    fin_cases a
    · exact ⟨(y 0).val / 4, by show (y 0).val / 4 < 256; omega, by show (y 0).val = h.val + 4 * ((y 0).val / 4); omega⟩
    · exact ⟨(y 1).val, h1, by show (y 1).val = 0 + 1 * (y 1).val; omega⟩
  have hm : (y 0).val % 4 = 0 ∨ (y 0).val % 4 = 1 ∨ (y 0).val % 4 = 2 ∨ (y 0).val % 4 = 3 := by omega
  rcases hm with h | h | h | h
  · exact ⟨_, .tail _ (.tail _ (.tail _ (.head _))), (LoadRect.mem_set _).mpr (key 0 h)⟩
  · exact ⟨_, .tail _ (.tail _ (.head _)), (LoadRect.mem_set _).mpr (key 1 h)⟩
  · exact ⟨_, .tail _ (.head _), (LoadRect.mem_set _).mpr (key 2 h)⟩
  · exact ⟨_, .head _, (LoadRect.mem_set _).mpr (key 3 h)⟩
/-- What point `t` leaves in output 8. -/
def out0_8 (c : Dev nD) (t : Fin cfg0.N) : Vec F S1024x128 .f32 := VO0_8.read (Elt F) (VO0_8.writes (Elt F) VO0_8.junk (run0 V c t).2.2.2.1)
/-- The stores of output 9 fill its block. -/
theorem cover0_9 (c : Dev nD) (t : Fin cfg0.N) (y : S4x144x256.Idx) : ∃ pc ∈ (run0 V c t).2.2.2.2.1, y ∈ pc.1.set :=
  View.cover_of_tiledBy (run0 V c t).2.2.2.2.1 ![1, 16, 256] (by sl_kernel_rfl) y
/-- What point `t` leaves in output 9. -/
def out0_9 (c : Dev nD) (t : Fin cfg0.N) : Vec F S4x144x256 .bf16 := VO0_9.read (Elt F) (VO0_9.writes (Elt F) VO0_9.junk (run0 V c t).2.2.2.2.1)
/-- The stores of output 10 fill its block. -/
theorem cover0_10 (c : Dev nD) (t : Fin cfg0.N) (y : S256x512.Idx) : ∃ pc ∈ (run0 V c t).2.2.2.2.2.1, y ∈ pc.1.set :=
  View.cover_of_tiledL (run0 V c t).2.2.2.2.2.1 S256x512.size (by sl_kernel_rfl) y
/-- What point `t` leaves in output 10. -/
def out0_10 (c : Dev nD) (t : Fin cfg0.N) : Vec F S256x512 .f32 := VO0_10.read (Elt F) (VO0_10.writes (Elt F) VO0_10.junk (run0 V c t).2.2.2.2.2.1)
/-- The stores of output 11 fill its block. -/
theorem cover0_11 (c : Dev nD) (t : Fin cfg0.N) (y : S256x1024.Idx) : ∃ pc ∈ (run0 V c t).2.2.2.2.2.2.1, y ∈ pc.1.set :=
  View.cover_of_tiledL (run0 V c t).2.2.2.2.2.2.1 S256x1024.size (by sl_kernel_rfl) y
/-- What point `t` leaves in output 11. -/
def out0_11 (c : Dev nD) (t : Fin cfg0.N) : Vec F S256x1024 .bf16 := VO0_11.read (Elt F) (VO0_11.writes (Elt F) VO0_11.junk (run0 V c t).2.2.2.2.2.2.1)

/-- The proof data of the call: the inputs keep their blocks, the outputs end at `out`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
    | ⟨6, _⟩ => out0_6 V c t
    | ⟨7, _⟩ => out0_7 V c t
    | ⟨8, _⟩ => out0_8 V c t
    | ⟨9, _⟩ => out0_9 V c t
    | ⟨10, _⟩ => out0_10 V c t
    | ⟨11, _⟩ => out0_11 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 V c t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]
theorem after0_8 (c : Dev nD) (t : Fin cfg0.N) : (dat0 V c).after 8 t = out0_8 V c t := by dsimp only [dat0]
theorem after0_9 (c : Dev nD) (t : Fin cfg0.N) : (dat0 V c).after 9 t = out0_9 V c t := by dsimp only [dat0]
theorem after0_10 (c : Dev nD) (t : Fin cfg0.N) : (dat0 V c).after 10 t = out0_10 V c t := by dsimp only [dat0]
theorem after0_11 (c : Dev nD) (t : Fin cfg0.N) : (dat0 V c).after 11 t = out0_11 V c t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t))

set_option maxHeartbeats 1200000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  unfold out0_5 out0_6 out0_7 out0_8 out0_9 out0_10 out0_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((run0 V c t).2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, ⟨%e5, H5⟩, ⟨%e6, H6⟩, ⟨%e7, H7⟩, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_5 V c t)
  isplitl [H6]
  · unfold owns; iexists _; isplitr
    swap; · iexact H6
    ipureintro; exact View.read_writes_of_cover _ _ _ _ _ (cover0_6 V c t)
  isplitl [H7]
  · unfold owns; iexists _; isplitr
    swap; · iexact H7
    ipureintro; exact View.read_writes_of_cover _ _ _ _ _ (cover0_7 V c t)
  isplitl [H8]
  · unfold owns; iexists _; isplitr
    swap; · iexact H8
    ipureintro; exact View.read_writes_of_cover _ _ _ _ _ (cover0_8 V c t)
  isplitl [H9]
  · unfold owns; iexists _; isplitr
    swap; · iexact H9
    ipureintro; exact View.read_writes_of_cover _ _ _ _ _ (cover0_9 V c t)
  isplitl [H10]
  · unfold owns; iexists _; isplitr
    swap; · iexact H10
    ipureintro; exact View.read_writes_of_cover _ _ _ _ _ (cover0_10 V c t)
  unfold owns; iexists _; isplitr
  swap; · iexact H11
  ipureintro; exact View.read_writes_of_cover _ _ _ _ _ (cover0_11 V c t)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel2Ideal.Proj

end
-- ==== Proof.ProjRun1.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_5 : View sig .tc .vmem S4x2x128x512 .bf16 := (Memref.whole cc1_stg5_0 : Memref sig .tc .vmem S4x2x128x512 .bf16).view
abbrev VO1_6 : View sig .tc .vmem S2048x128 .f32 := (Memref.whole cc1_stg6_0 : Memref sig .tc .vmem S2048x128 .f32).view
abbrev VO1_7 : View sig .tc .vmem S4x512x128 .bf16 := (Memref.whole cc1_stg7_0 : Memref sig .tc .vmem S4x512x128 .bf16).view
abbrev VO1_8 : View sig .tc .vmem S2048x128 .f32 := (Memref.whole cc1_stg8_0 : Memref sig .tc .vmem S2048x128 .f32).view
abbrev VO1_9 : View sig .tc .vmem S4x144x512 .bf16 := (Memref.whole cc1_stg9_0 : Memref sig .tc .vmem S4x144x512 .bf16).view
abbrev VO1_10 : View sig .tc .vmem S512x512 .f32 := (Memref.whole cc1_stg10_0 : Memref sig .tc .vmem S512x512 .f32).view
abbrev VO1_11 : View sig .tc .vmem S512x1024 .bf16 := (Memref.whole cc1_stg11_0 : Memref sig .tc .vmem S512x1024 .bf16).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x3072 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4x2x128x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4x512x128 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S4x144x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x512 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S512x1024 .bf16 := win1_11.stage (cfg1.slots t 11)
abbrev hs1_11 (t : Fin cfg1.N) : (ms1_11 t).IsWhole := hstage1_11 ((cfg1.slots t 11).cast nbuf1_11)

set_option maxHeartbeats 1000000 in
/-- The body on whole buffers, and the pieces it writes into each of the seven outputs. -/
noncomputable def kernelRun1 (c : Dev nD) (i : grid1.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S4x2x128x512 .bf16) (harg6 : arg6.IsWhole) (arg7 : Memref sig .tc .vmem S2048x128 .f32) (harg7 : arg7.IsWhole) (arg8 : Memref sig .tc .vmem S4x512x128 .bf16) (harg8 : arg8.IsWhole) (arg9 : Memref sig .tc .vmem S2048x128 .f32) (harg9 : arg9.IsWhole) (arg10 : Memref sig .tc .vmem S4x144x512 .bf16) (harg10 : arg10.IsWhole) (arg11 : Memref sig .tc .vmem S512x512 .f32) (harg11 : arg11.IsWhole) (arg12 : Memref sig .tc .vmem S512x1024 .bf16) (harg12 : arg12.IsWhole)
    (x0 : Vec F S512x1024 .f32) (x1 : Vec F S512x128 .f32) (x2 : Vec F S512x128 .f32) (x3 : Vec F S1x1024 .f32) (x4 : Vec F S1024x3072 .bf16) :
    Σ' (L5 : List (View.Piece (Elt F) S4x2x128x512 .bf16)), Σ' (L6 : List (View.Piece (Elt F) S2048x128 .f32)), Σ' (L7 : List (View.Piece (Elt F) S4x512x128 .bf16)), Σ' (L8 : List (View.Piece (Elt F) S2048x128 .f32)), Σ' (L9 : List (View.Piece (Elt F) S4x144x512 .bf16)), Σ' (L10 : List (View.Piece (Elt F) S512x512 .f32)), { L11 : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc1_project_eq_skeleton]; unfold cc1_project_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-- The run at point `t`. -/
abbrev run1 (c : Dev nD) (t : Fin cfg1.N) :=
  kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t)

/-- The stores of output 5 fill its block. -/
theorem cover1_5 (c : Dev nD) (t : Fin cfg1.N) (y : S4x2x128x512.Idx) : ∃ pc ∈ (run1 V c t).1, y ∈ pc.1.set :=
  View.cover_of_tiledL (run1 V c t).1 S1x1x128x512.size (by sl_kernel_rfl) y
/-- What point `t` leaves in output 5. -/
def out1_5 (c : Dev nD) (t : Fin cfg1.N) : Vec F S4x2x128x512 .bf16 := VO1_5.read (Elt F) (VO1_5.writes (Elt F) VO1_5.junk (run1 V c t).1)
/-- The four strided stores of output 6 fill its block. -/
theorem cover1_6 (c : Dev nD) (t : Fin cfg1.N) (y : S2048x128.Idx) : ∃ pc ∈ (run1 V c t).2.1, y ∈ pc.1.set := by
  have h0 : (y 0).val < 2048 := (y 0).isLt
  have h1 : (y 1).val < 128 := (y 1).isLt
  have key : ∀ h : Fin 4, (y 0).val % 4 = h.val → ∀ a : Fin 2, ∃ j < (![512, 128] : Fin 2 → ℕ) a,
      (y a : ℕ) = (![h.val, 0] : Fin 2 → ℕ) a + (![4, 1] : Fin 2 → ℕ) a * j := by
    intro h hh a
    fin_cases a
    · exact ⟨(y 0).val / 4, by show (y 0).val / 4 < 512; omega, by show (y 0).val = h.val + 4 * ((y 0).val / 4); omega⟩
    · exact ⟨(y 1).val, h1, by show (y 1).val = 0 + 1 * (y 1).val; omega⟩
  have hm : (y 0).val % 4 = 0 ∨ (y 0).val % 4 = 1 ∨ (y 0).val % 4 = 2 ∨ (y 0).val % 4 = 3 := by omega
  rcases hm with h | h | h | h
  · exact ⟨_, .tail _ (.tail _ (.tail _ (.head _))), (LoadRect.mem_set _).mpr (key 0 h)⟩
  · exact ⟨_, .tail _ (.tail _ (.head _)), (LoadRect.mem_set _).mpr (key 1 h)⟩
  · exact ⟨_, .tail _ (.head _), (LoadRect.mem_set _).mpr (key 2 h)⟩
  · exact ⟨_, .head _, (LoadRect.mem_set _).mpr (key 3 h)⟩
/-- What point `t` leaves in output 6. -/
def out1_6 (c : Dev nD) (t : Fin cfg1.N) : Vec F S2048x128 .f32 := VO1_6.read (Elt F) (VO1_6.writes (Elt F) VO1_6.junk (run1 V c t).2.1)
/-- The stores of output 7 fill its block. -/
theorem cover1_7 (c : Dev nD) (t : Fin cfg1.N) (y : S4x512x128.Idx) : ∃ pc ∈ (run1 V c t).2.2.1, y ∈ pc.1.set :=
  View.cover_of_tiledL (run1 V c t).2.2.1 S1x512x128.size (by sl_kernel_rfl) y
/-- What point `t` leaves in output 7. -/
def out1_7 (c : Dev nD) (t : Fin cfg1.N) : Vec F S4x512x128 .bf16 := VO1_7.read (Elt F) (VO1_7.writes (Elt F) VO1_7.junk (run1 V c t).2.2.1)
/-- The four strided stores of output 8 fill its block. -/
theorem cover1_8 (c : Dev nD) (t : Fin cfg1.N) (y : S2048x128.Idx) : ∃ pc ∈ (run1 V c t).2.2.2.1, y ∈ pc.1.set := by
  have h0 : (y 0).val < 2048 := (y 0).isLt
  have h1 : (y 1).val < 128 := (y 1).isLt
  have key : ∀ h : Fin 4, (y 0).val % 4 = h.val → ∀ a : Fin 2, ∃ j < (![512, 128] : Fin 2 → ℕ) a,
      (y a : ℕ) = (![h.val, 0] : Fin 2 → ℕ) a + (![4, 1] : Fin 2 → ℕ) a * j := by
    intro h hh a
    fin_cases a
    · exact ⟨(y 0).val / 4, by show (y 0).val / 4 < 512; omega, by show (y 0).val = h.val + 4 * ((y 0).val / 4); omega⟩
    · exact ⟨(y 1).val, h1, by show (y 1).val = 0 + 1 * (y 1).val; omega⟩
  have hm : (y 0).val % 4 = 0 ∨ (y 0).val % 4 = 1 ∨ (y 0).val % 4 = 2 ∨ (y 0).val % 4 = 3 := by omega
  rcases hm with h | h | h | h
  · exact ⟨_, .tail _ (.tail _ (.tail _ (.head _))), (LoadRect.mem_set _).mpr (key 0 h)⟩
  · exact ⟨_, .tail _ (.tail _ (.head _)), (LoadRect.mem_set _).mpr (key 1 h)⟩
  · exact ⟨_, .tail _ (.head _), (LoadRect.mem_set _).mpr (key 2 h)⟩
  · exact ⟨_, .head _, (LoadRect.mem_set _).mpr (key 3 h)⟩
/-- What point `t` leaves in output 8. -/
def out1_8 (c : Dev nD) (t : Fin cfg1.N) : Vec F S2048x128 .f32 := VO1_8.read (Elt F) (VO1_8.writes (Elt F) VO1_8.junk (run1 V c t).2.2.2.1)
/-- The stores of output 9 fill its block. -/
theorem cover1_9 (c : Dev nD) (t : Fin cfg1.N) (y : S4x144x512.Idx) : ∃ pc ∈ (run1 V c t).2.2.2.2.1, y ∈ pc.1.set :=
  View.cover_of_tiledBy (run1 V c t).2.2.2.2.1 ![1, 16, 512] (by sl_kernel_rfl) y
/-- What point `t` leaves in output 9. -/
def out1_9 (c : Dev nD) (t : Fin cfg1.N) : Vec F S4x144x512 .bf16 := VO1_9.read (Elt F) (VO1_9.writes (Elt F) VO1_9.junk (run1 V c t).2.2.2.2.1)
/-- The stores of output 10 fill its block. -/
theorem cover1_10 (c : Dev nD) (t : Fin cfg1.N) (y : S512x512.Idx) : ∃ pc ∈ (run1 V c t).2.2.2.2.2.1, y ∈ pc.1.set :=
  View.cover_of_tiledL (run1 V c t).2.2.2.2.2.1 S512x512.size (by sl_kernel_rfl) y
/-- What point `t` leaves in output 10. -/
def out1_10 (c : Dev nD) (t : Fin cfg1.N) : Vec F S512x512 .f32 := VO1_10.read (Elt F) (VO1_10.writes (Elt F) VO1_10.junk (run1 V c t).2.2.2.2.2.1)
/-- The stores of output 11 fill its block. -/
theorem cover1_11 (c : Dev nD) (t : Fin cfg1.N) (y : S512x1024.Idx) : ∃ pc ∈ (run1 V c t).2.2.2.2.2.2.1, y ∈ pc.1.set :=
  View.cover_of_tiledL (run1 V c t).2.2.2.2.2.2.1 S512x1024.size (by sl_kernel_rfl) y
/-- What point `t` leaves in output 11. -/
def out1_11 (c : Dev nD) (t : Fin cfg1.N) : Vec F S512x1024 .bf16 := VO1_11.read (Elt F) (VO1_11.writes (Elt F) VO1_11.junk (run1 V c t).2.2.2.2.2.2.1)

/-- The proof data of the call: the inputs keep their blocks, the outputs end at `out`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
    | ⟨6, _⟩ => out1_6 V c t
    | ⟨7, _⟩ => out1_7 V c t
    | ⟨8, _⟩ => out1_8 V c t
    | ⟨9, _⟩ => out1_9 V c t
    | ⟨10, _⟩ => out1_10 V c t
    | ⟨11, _⟩ => out1_11 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]
theorem after1_6 (c : Dev nD) (t : Fin cfg1.N) : (dat1 V c).after 6 t = out1_6 V c t := by dsimp only [dat1]
theorem after1_7 (c : Dev nD) (t : Fin cfg1.N) : (dat1 V c).after 7 t = out1_7 V c t := by dsimp only [dat1]
theorem after1_8 (c : Dev nD) (t : Fin cfg1.N) : (dat1 V c).after 8 t = out1_8 V c t := by dsimp only [dat1]
theorem after1_9 (c : Dev nD) (t : Fin cfg1.N) : (dat1 V c).after 9 t = out1_9 V c t := by dsimp only [dat1]
theorem after1_10 (c : Dev nD) (t : Fin cfg1.N) : (dat1 V c).after 10 t = out1_10 V c t := by dsimp only [dat1]
theorem after1_11 (c : Dev nD) (t : Fin cfg1.N) : (dat1 V c).after 11 t = out1_11 V c t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 1200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  unfold out1_5 out1_6 out1_7 out1_8 out1_9 out1_10 out1_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((run1 V c t).2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, ⟨%e5, H5⟩, ⟨%e6, H6⟩, ⟨%e7, H7⟩, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover1_5 V c t)
  isplitl [H6]
  · unfold owns; iexists _; isplitr
    swap; · iexact H6
    ipureintro; exact View.read_writes_of_cover _ _ _ _ _ (cover1_6 V c t)
  isplitl [H7]
  · unfold owns; iexists _; isplitr
    swap; · iexact H7
    ipureintro; exact View.read_writes_of_cover _ _ _ _ _ (cover1_7 V c t)
  isplitl [H8]
  · unfold owns; iexists _; isplitr
    swap; · iexact H8
    ipureintro; exact View.read_writes_of_cover _ _ _ _ _ (cover1_8 V c t)
  isplitl [H9]
  · unfold owns; iexists _; isplitr
    swap; · iexact H9
    ipureintro; exact View.read_writes_of_cover _ _ _ _ _ (cover1_9 V c t)
  isplitl [H10]
  · unfold owns; iexists _; isplitr
    swap; · iexact H10
    ipureintro; exact View.read_writes_of_cover _ _ _ _ _ (cover1_10 V c t)
  unfold owns; iexists _; isplitr
  swap; · iexact H11
  ipureintro; exact View.read_writes_of_cover _ _ _ _ _ (cover1_11 V c t)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel2Ideal.Proj

end
-- ==== Proof.ProjWhole.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.ProjRun0
public import proofs.«01_k».proof.Proof.ProjRun1

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_c, main_v4, main_v5, main_v6, main_v7, main_c_0, main_v8, main_v9, main_v10, main_v11, main_cst, main_v12, main_v13, main_v14, main_cst_1, main_v15, main_v16, main_cst_2, main_v17, main_v18, main_v19, main_cst_3, main_v20, main_v21, main_cst_4, main_v22, main_v23, main_v24, main_v25, main_v26, main_v27, main_v28, main_v29, main_v30, main_v31, main_v32, main_v33, main_v34, main_v35, main_v36, main_v37, main_cst_5, main_v38, main_v39, main_cst_6, main_v40, main_v41, main_v42, main_v43, main_v44, main_v45, main_v46, main_v47]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v49, main_v50, main_c_7, main_v51, main_v52, main_c_8, main_v53, main_v54, main_v55, main_cst_9, main_v56, main_v57, main_cst_10, main_v58, main_v59, main_v60, main_cst_11, main_v61, main_v62, main_cst_12, main_v63, main_v64, main_v65, main_v66, main_v67, main_v68, main_v69, main_v70, main_v71, main_v72, main_v73, main_v74, main_cst_13, main_v75, main_v76, main_cst_14, main_v77, main_v78, main_v79, main_cst_15, main_v80, main_v81, main_cst_16, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_cst_17, main_v123, main_v124, main_cst_18, main_v125, main_v126, main_v127, main_v128, main_v129, main_v130, main_v131, main_v132, main_v133]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers at the entry of the first call. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers at the exit of the first call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers at the entry of the second call. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers at the exit of the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers at the end. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- The first call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The five segments of the program. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The run of the whole program: every unscoped buffer ends at the last contents, every counter at zero. -/
theorem whole : θ_run defs (onTc (τ := τ) (main (F := F))) ⟨m, fun _ => 0, ρ⟩ (fun r =>
      (∀ c : Dev nD, ∀ b ∈ Pipeline.ucRefs τ sig, r.2.mem (c, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched, and every counter at zero. -/
theorem whole_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c _ (mem_uc main_arg0 (by decide))).trans (W5_main_arg0 m ρ c),
    (h.1 c _ (mem_uc main_arg1 (by decide))).trans (W5_main_arg1 m ρ c),
    (h.1 c _ (mem_uc main_arg2 (by decide))).trans (W5_main_arg2 m ρ c),
    (h.1 c _ (mem_uc main_arg3 (by decide))).trans (W5_main_arg3 m ρ c),
    (h.1 c _ (mem_uc main_arg4 (by decide))).trans (W5_main_arg4 m ρ c),
    (h.1 c _ (mem_uc main_arg5 (by decide))).trans (W5_main_arg5 m ρ c)⟩, h.2⟩) (whole m ρ)

end Cert.Kernel2Ideal.Proj

end
-- ==== Proof.ProjBits.lean ====
module

public import proofs.«01_k».proof.Defs
public import proofs.«01_k».proof.Proof.Gen.Kernel2
public import proofs.«01_k».proof.Proof.ProjWhole

/-! # The projection over bit patterns

The program printed for bit patterns and the one printed for ideal values have the same text, and
the run of `ProjWhole` holds over any float values. So the run at bit patterns is the run of the
program printed for bit patterns: the two bodies, the body table and `@main` are equal, and the
frame follows. -/

@[expose] public section

namespace Cert.ProjBits

open Idealize.ShloMosaic Idealize.SL.Sem

set_option maxHeartbeats 4000000
set_option maxRecDepth 65536

variable {F : FTy → Type} [FloatOps F]

/-- The first call's body is the same in both programs. -/
theorem body0_same : @Cert.Kernel2.cc0_project F _ _ = @Cert.Kernel2Ideal.cc0_project F _ _ := by rfl

/-- The second call's body is the same in both programs. -/
theorem body1_same : @Cert.Kernel2.cc1_project F _ _ = @Cert.Kernel2Ideal.cc1_project F _ _ := by rfl

/-- So the table of the bodies is the same. -/
theorem bodies_same : Cert.Kernel2.defs₀ (F := F) = Cert.Kernel2Ideal.defs₀ (F := F) := by
  funext pr l a
  cases pr with
  | tc =>
    match l, a with
    | ⟨0, _⟩, (t, s) =>
      show Cert.Kernel2.cc0_project (F := F) _ _ _ _ _ _ _ _ _ _ _ _ _ _ _ _ _ _ _ _ _ _ _ _ _ = _
      rw [body0_same]; rfl
    | ⟨1, _⟩, (t, s) =>
      show Cert.Kernel2.cc1_project (F := F) _ _ _ _ _ _ _ _ _ _ _ _ _ _ _ _ _ _ _ _ _ _ _ _ _ = _
      rw [body1_same]; rfl
  | scScalar _ => rfl
  | scVector _ _ => rfl

/-- So the table with the pipelines' labels is the same. -/
theorem defs_same : Cert.Kernel2.defs (F := F) = Cert.Kernel2Ideal.defs (F := F) :=
  congrArg (Pipeline.defs Cert.Kernel2Ideal.pcfgs) bodies_same

/-- `@main` is the same, one stretch of statements after another. -/
theorem part0_same : Cert.Kernel2.main_part0 (F := F) = Cert.Kernel2Ideal.main_part0 (F := F) := by rfl
theorem part1_same : Cert.Kernel2.main_part1 (F := F) = Cert.Kernel2Ideal.main_part1 (F := F) := by rfl
theorem part2_same : Cert.Kernel2.main_part2 (F := F) = Cert.Kernel2Ideal.main_part2 (F := F) := by rfl
theorem part3_same : Cert.Kernel2.main_part3 (F := F) = Cert.Kernel2Ideal.main_part3 (F := F) := by rfl

theorem main_same : Cert.Kernel2.main (F := F) = Cert.Kernel2Ideal.main (F := F) := by
  funext d
  show (do Cert.Kernel2.main_part0 d; Cert.Kernel2.main_part1 d; Cert.Kernel2.main_part2 d; Cert.Kernel2.main_part3 d) = _
  rw [part0_same, part1_same, part2_same, part3_same]
  rfl

/-- The frame of the program printed for bit patterns. -/
theorem frame : Cert.quiescent_Kernel2 := by
  intro m ρ _
  rw [defs_same, main_same]
  exact Cert.Kernel2Ideal.Proj.whole_frame (F := Bits) m ρ

end Cert.ProjBits

end
-- ==== Proof.MergeSpec.lean ====
module

public import Idealize.ShloMosaic.Lib.Pointwise

/-! The sample's merge in plain terms: the trailing-window means of the pooling inputs, and one row of the layer's output. -/

@[expose] public section

noncomputable section

namespace Cert.Merge

open Idealize.ShloMosaic

/-- The pooling inputs of a sequence: the fifteen of the state, then the four new ones. -/
def ext (st : Fin 15 → EReal) (u : Fin 4 → EReal) (p : Fin 19) : EReal :=
  if h : p.val < 15 then st ⟨p.val, h⟩ else u ⟨p.val - 15, by omega⟩

/-- The sum of the `w` inputs that end with new token `j`. -/
def win (f : Fin 19 → EReal) (w : ℕ) (j : Fin 4) : EReal :=
  ∑ p : Fin 19, if p.val ≤ 15 + j.val ∧ 15 + j.val < p.val + w then f p else 0

/-- Their mean, less the token's own input. -/
def diff (f : Fin 19 → EReal) (w : ℕ) (d : EReal) (j : Fin 4) : EReal := Ideal.div (win f w j) d - f ⟨15 + j.val, by omega⟩

/-- Group `g`'s window. -/
def width : Fin 4 → ℕ := ![2, 4, 8, 16]

/-- Group `g`'s window as a divisor. -/
def divisor : Fin 4 → EReal :=
  ![Ideal.ofBits .f32 0x40000000#32, Ideal.ofBits .f32 0x40800000#32, Ideal.ofBits .f32 0x41000000#32, Ideal.ofBits .f32 0x41800000#32]

/-- The differences mixed within their group. -/
def pooled (D : Fin 4 → Fin 128 → EReal) (wp : Fin 4 → Fin 128 → Fin 128 → EReal) (i : Fin 512) : EReal :=
  ∑ e : Fin 128, D ⟨i.val / 128, by omega⟩ e * wp ⟨i.val / 128, by omega⟩ e ⟨i.val % 128, Nat.mod_lt _ (by decide)⟩

/-- Attention and pooling side by side, gated. -/
def mix (a p s : Fin 512 → EReal) (g : Fin 1024 → EReal) (i : Fin 1024) : EReal :=
  (if h : i.val < 512 then a ⟨i.val, h⟩ else p ⟨i.val - 512, by omega⟩ * s ⟨i.val - 512, by omega⟩) * g i

/-- Projected out onto the residual. -/
def hrow (x mx : Fin 1024 → EReal) (w : Fin 1024 → Fin 1024 → EReal) (c : Fin 1024) : EReal := x c + ∑ i, mx i * w i c

/-- The row, divided by its root mean square and scaled by the gain. -/
def yrow (h g : Fin 1024 → EReal) (c : Fin 1024) : EReal :=
  h c * Ideal.rsqrt (Ideal.div (∑ l, h l * h l) (Ideal.ofBits .f32 0x44800000#32) + Ideal.ofBits .f32 0x358637BD#32) * g c

/-- Channel `e` of group `g`. -/
def chan (g : Fin 4) (e : Fin 128) : Fin 512 := ⟨128 * g.val + e.val, by omega⟩

theorem chan_0 (e : Fin 128) : (⟨e.val, by omega⟩ : Fin 512) = chan 0 e := Fin.ext (by
  show e.val = 128 * 0 + e.val
  omega)

theorem chan_1 (e : Fin 128) : (⟨128 + e.val, by omega⟩ : Fin 512) = chan 1 e := rfl
theorem chan_2 (e : Fin 128) : (⟨256 + e.val, by omega⟩ : Fin 512) = chan 2 e := rfl
theorem chan_3 (e : Fin 128) : (⟨384 + e.val, by omega⟩ : Fin 512) = chan 3 e := rfl
theorem width_0 : width 0 = 2 := rfl
theorem divisor_0 : divisor 0 = Ideal.ofBits .f32 0x40000000#32 := rfl
theorem width_1 : width 1 = 4 := rfl
theorem divisor_1 : divisor 1 = Ideal.ofBits .f32 0x40800000#32 := rfl
theorem width_2 : width 2 = 8 := rfl
theorem divisor_2 : divisor 2 = Ideal.ofBits .f32 0x41000000#32 := rfl
theorem width_3 : width 3 = 16 := rfl
theorem divisor_3 : divisor 3 = Ideal.ofBits .f32 0x41800000#32 := rfl

/-- The four groups' products side by side. -/
def side (p0 p1 p2 p3 : Fin 128 → EReal) (i : Fin 512) : EReal :=
  if h0 : i.val < 128 then p0 ⟨i.val, h0⟩
  else if h1 : i.val - 128 < 128 then p1 ⟨i.val - 128, h1⟩
  else if h2 : i.val - 128 - 128 < 128 then p2 ⟨i.val - 128 - 128, h2⟩
  else p3 ⟨i.val - 128 - 128 - 128, by omega⟩

theorem side_eq (D : Fin 4 → Fin 128 → EReal) (wp : Fin 4 → Fin 128 → Fin 128 → EReal) :
    side (fun i => ∑ e, D 0 e * wp 0 e i) (fun i => ∑ e, D 1 e * wp 1 e i) (fun i => ∑ e, D 2 e * wp 2 e i)
      (fun i => ∑ e, D 3 e * wp 3 e i) = pooled D wp := by
  funext i
  unfold side pooled
  have hi := i.isLt
  split_ifs with h0 h1 h2
  · have a : (⟨i.val / 128, by omega⟩ : Fin 4) = 0 := Fin.ext (by show i.val / 128 = 0; omega)
    have b : (⟨i.val % 128, Nat.mod_lt _ (by decide)⟩ : Fin 128) = ⟨i.val, h0⟩ := Fin.ext (by show i.val % 128 = i.val; omega)
    simp only [a, b]
  · have a : (⟨i.val / 128, by omega⟩ : Fin 4) = 1 := Fin.ext (by show i.val / 128 = 1; omega)
    have b : (⟨i.val % 128, Nat.mod_lt _ (by decide)⟩ : Fin 128) = ⟨i.val - 128, h1⟩ := Fin.ext (by show i.val % 128 = i.val - 128; omega)
    simp only [a, b]
  · have a : (⟨i.val / 128, by omega⟩ : Fin 4) = 2 := Fin.ext (by show i.val / 128 = 2; omega)
    have b : (⟨i.val % 128, Nat.mod_lt _ (by decide)⟩ : Fin 128) = ⟨i.val - 128 - 128, h2⟩ :=
      Fin.ext (by show i.val % 128 = i.val - 128 - 128; omega)
    simp only [a, b]
  · have a : (⟨i.val / 128, by omega⟩ : Fin 4) = 3 := Fin.ext (by show i.val / 128 = 3; omega)
    have b : (⟨i.val % 128, Nat.mod_lt _ (by decide)⟩ : Fin 128) = ⟨i.val - 128 - 128 - 128, by omega⟩ :=
      Fin.ext (by show i.val % 128 = i.val - 128 - 128 - 128; omega)
    simp only [a, b]

/-- A gate: `g` times its logistic. -/
def silu (g : EReal) : EReal :=
  g * Ideal.div 1 (1 + Ideal.exp (-g))

/-- The layer's row for token `j` of sequence `s`. -/
def out (a : Fin 32 → Fin 4 → Fin 512 → EReal) (st : Fin 32 → Fin 15 → Fin 512 → EReal) (u : Fin 32 → Fin 4 → Fin 512 → EReal)
    (g x : Fin 32 → Fin 4 → Fin 1024 → EReal) (wp : Fin 4 → Fin 128 → Fin 128 → EReal) (ps : Fin 512 → EReal)
    (wo : Fin 1024 → Fin 1024 → EReal) (fg : Fin 1024 → EReal) (s : Fin 32) (j : Fin 4) (k : Fin 1024) : EReal :=
  yrow (hrow (x s j) (mix (a s j)
    (pooled (fun g e => diff (ext (fun p => st s p (chan g e)) fun j => u s j (chan g e)) (width g) (divisor g) j) wp) ps
    (fun i => silu (g s j i))) wo) fg k

/-- A sum over the nineteen inputs, written out. -/
theorem sum19 (g : Fin 19 → EReal) :
    ∑ p, g p = g 0 + g 1 + g 2 + g 3 + g 4 + g 5 + g 6 + g 7 + g 8 + g 9 + g 10 + g 11 + g 12 + g 13 + g 14 + g 15 + g 16 + g 17 + g 18 := by
  simp only [Fin.sum_univ_castSucc, Finset.univ_eq_empty, Finset.sum_empty, zero_add]
  rfl

theorem win2_0 (f : Fin 19 → EReal) : win f 2 0 = f 15 + f 14 := by
  unfold win
  rw [sum19]
  simp
  ac_rfl
theorem win2_1 (f : Fin 19 → EReal) : win f 2 1 = f 16 + f 15 := by
  unfold win
  rw [sum19]
  simp
  ac_rfl
theorem win2_2 (f : Fin 19 → EReal) : win f 2 2 = f 17 + f 16 := by
  unfold win
  rw [sum19]
  simp
  ac_rfl
theorem win2_3 (f : Fin 19 → EReal) : win f 2 3 = f 18 + f 17 := by
  unfold win
  rw [sum19]
  simp
  ac_rfl
theorem win4_0 (f : Fin 19 → EReal) : win f 4 0 = f 15 + f 14 + f 13 + f 12 := by
  unfold win
  rw [sum19]
  simp
  ac_rfl
theorem win4_1 (f : Fin 19 → EReal) : win f 4 1 = f 16 + f 15 + f 14 + f 13 := by
  unfold win
  rw [sum19]
  simp
  ac_rfl
theorem win4_2 (f : Fin 19 → EReal) : win f 4 2 = f 17 + f 16 + f 15 + f 14 := by
  unfold win
  rw [sum19]
  simp
  ac_rfl
theorem win4_3 (f : Fin 19 → EReal) : win f 4 3 = f 18 + f 17 + f 16 + f 15 := by
  unfold win
  rw [sum19]
  simp
  ac_rfl
theorem win8_0 (f : Fin 19 → EReal) : win f 8 0 = f 15 + f 14 + f 13 + f 12 + f 11 + f 10 + f 9 + f 8 := by
  unfold win
  rw [sum19]
  simp
  ac_rfl
theorem win8_1 (f : Fin 19 → EReal) : win f 8 1 = f 16 + f 15 + f 14 + f 13 + f 12 + f 11 + f 10 + f 9 := by
  unfold win
  rw [sum19]
  simp
  ac_rfl
theorem win8_2 (f : Fin 19 → EReal) : win f 8 2 = f 17 + f 16 + f 15 + f 14 + f 13 + f 12 + f 11 + f 10 := by
  unfold win
  rw [sum19]
  simp
  ac_rfl
theorem win8_3 (f : Fin 19 → EReal) : win f 8 3 = f 18 + f 17 + f 16 + f 15 + f 14 + f 13 + f 12 + f 11 := by
  unfold win
  rw [sum19]
  simp
  ac_rfl
theorem win16_0 (f : Fin 19 → EReal) : win f 16 0 = f 15 + f 14 + f 13 + f 12 + f 11 + f 10 + f 9 + f 8 + f 7 + f 6 + f 5 + f 4 + f 3 + f 2 + f 1 + f 0 := by
  unfold win
  rw [sum19]
  simp
  ac_rfl
theorem win16_1 (f : Fin 19 → EReal) : win f 16 1 = f 16 + f 15 + f 14 + f 13 + f 12 + f 11 + f 10 + f 9 + f 8 + f 7 + f 6 + f 5 + f 4 + f 3 + f 2 + f 1 := by
  unfold win
  rw [sum19]
  simp
  ac_rfl
theorem win16_2 (f : Fin 19 → EReal) : win f 16 2 = f 17 + f 16 + f 15 + f 14 + f 13 + f 12 + f 11 + f 10 + f 9 + f 8 + f 7 + f 6 + f 5 + f 4 + f 3 + f 2 := by
  unfold win
  rw [sum19]
  simp
  ac_rfl
theorem win16_3 (f : Fin 19 → EReal) : win f 16 3 = f 18 + f 17 + f 16 + f 15 + f 14 + f 13 + f 12 + f 11 + f 10 + f 9 + f 8 + f 7 + f 6 + f 5 + f 4 + f 3 := by
  unfold win
  rw [sum19]
  simp
  ac_rfl

end Cert.Merge

end
-- ==== Proof.MergeTile.lean ====
module

public import proofs.«01_k».proof.Proof.MergeSpec
public import proofs.«01_k».proof.Proof.Gen.Kernel3Ideal.Frame
public import Idealize.ShloMosaic.Lib.Pipeline.ValueKit

/-! What the sample's merge leaves in its block: rows of the layer's output. Row `32 * j + s` is new token `j` of sequence `s`. -/

@[expose] public section

set_option maxRecDepth 65536

noncomputable section

namespace Cert.Kernel3Ideal.Merge

open Cert.Kernel3Ideal Cert.Kernel3Ideal.Gen Idealize.ShloMosaic Idealize.ShloMosaic.TcCoe Idealize.SL.Sem Cert.Merge

/-- The row of token `j` of sequence `s`. -/
def rowOf (j : Fin 4) (s : Fin 32) : Fin 128 := ⟨32 * j.val + s.val, by omega⟩

/-- The pooling inputs of a sequence, at one channel. -/
def col (x1 : Vec Ideal S15x32x512 .f32) (x2 : Vec Ideal S128x512 .f32) (s : Fin 32) (q : Fin 512) : Fin 19 → EReal :=
  ext (fun p => x1 (ix3 p s q)) fun j => x2 (ix2 (rowOf j s) q)

section Inputs

variable (x1 : Vec Ideal S15x32x512 .f32) (x2 : Vec Ideal S128x512 .f32) (s : Fin 32)

theorem col_0 (q : Fin 512) : col x1 x2 s q 0 = x1 (ix3 0 s q) := rfl
theorem col_1 (q : Fin 512) : col x1 x2 s q 1 = x1 (ix3 1 s q) := rfl
theorem col_2 (q : Fin 512) : col x1 x2 s q 2 = x1 (ix3 2 s q) := rfl
theorem col_3 (q : Fin 512) : col x1 x2 s q 3 = x1 (ix3 3 s q) := rfl
theorem col_4 (q : Fin 512) : col x1 x2 s q 4 = x1 (ix3 4 s q) := rfl
theorem col_5 (q : Fin 512) : col x1 x2 s q 5 = x1 (ix3 5 s q) := rfl
theorem col_6 (q : Fin 512) : col x1 x2 s q 6 = x1 (ix3 6 s q) := rfl
theorem col_7 (q : Fin 512) : col x1 x2 s q 7 = x1 (ix3 7 s q) := rfl
theorem col_8 (q : Fin 512) : col x1 x2 s q 8 = x1 (ix3 8 s q) := rfl
theorem col_9 (q : Fin 512) : col x1 x2 s q 9 = x1 (ix3 9 s q) := rfl
theorem col_10 (q : Fin 512) : col x1 x2 s q 10 = x1 (ix3 10 s q) := rfl
theorem col_11 (q : Fin 512) : col x1 x2 s q 11 = x1 (ix3 11 s q) := rfl
theorem col_12 (q : Fin 512) : col x1 x2 s q 12 = x1 (ix3 12 s q) := rfl
theorem col_13 (q : Fin 512) : col x1 x2 s q 13 = x1 (ix3 13 s q) := rfl
theorem col_14 (q : Fin 512) : col x1 x2 s q 14 = x1 (ix3 14 s q) := rfl
theorem col_15 (q : Fin 512) : col x1 x2 s q 15 = x2 (ix2 ⟨s.val, by omega⟩ q) :=
  congrArg (fun r => x2 (ix2 r q)) (Fin.ext (by
    show 32 * 0 + s.val = s.val
    omega))
theorem col_16 (q : Fin 512) : col x1 x2 s q 16 = x2 (ix2 ⟨32 + s.val, by omega⟩ q) := rfl
theorem col_17 (q : Fin 512) : col x1 x2 s q 17 = x2 (ix2 ⟨64 + s.val, by omega⟩ q) := rfl
theorem col_18 (q : Fin 512) : col x1 x2 s q 18 = x2 (ix2 ⟨96 + s.val, by omega⟩ q) := rfl

/-- Group 0, token 0. -/
theorem d0_0 (e : Fin 128) :
    k0_pay2 (View.ld x2 r0_0) (View.ld x1 r0_1) (View.ld x2 r0_0) (ix2 s e)
      = diff (col x1 x2 s ⟨e.val, by omega⟩) 2 (Ideal.ofBits .f32 0x40000000#32) 0 := by
  unfold diff
  rw [win2_0]
  pointwise [k0_pay2]
  show _ = _ - col x1 x2 s ⟨e.val, by omega⟩ 15
  simp only [col_15, col_14]

/-- Group 0, token 1. -/
theorem d0_1 (e : Fin 128) :
    k0_pay3 (View.ld x2 r0_2) (View.ld x2 r0_0) (View.ld x2 r0_2) (ix2 s e)
      = diff (col x1 x2 s ⟨e.val, by omega⟩) 2 (Ideal.ofBits .f32 0x40000000#32) 1 := by
  unfold diff
  rw [win2_1]
  pointwise [k0_pay3]
  show _ = _ - col x1 x2 s ⟨e.val, by omega⟩ 16
  simp only [col_16, col_15]

/-- Group 0, token 2. -/
theorem d0_2 (e : Fin 128) :
    k0_pay4 (View.ld x2 r0_3) (View.ld x2 r0_2) (View.ld x2 r0_3) (ix2 s e)
      = diff (col x1 x2 s ⟨e.val, by omega⟩) 2 (Ideal.ofBits .f32 0x40000000#32) 2 := by
  unfold diff
  rw [win2_2]
  pointwise [k0_pay4]
  show _ = _ - col x1 x2 s ⟨e.val, by omega⟩ 17
  simp only [col_17, col_16]

set_option maxHeartbeats 2000000 in
/-- Group 0, all tokens. -/
theorem g0 (j : Fin 4) (e : Fin 128) :
    k0_pay7 (k0_pay2 (View.ld x2 r0_0) (View.ld x1 r0_1) (View.ld x2 r0_0)) (k0_pay3 (View.ld x2 r0_2) (View.ld x2 r0_0) (View.ld x2 r0_2)) (k0_pay4 (View.ld x2 r0_3) (View.ld x2 r0_2) (View.ld x2 r0_3)) (k0_pay5 (View.ld x2 r0_4)) (k0_pay6 (View.ld x2 r0_3)) (View.ld x2 r0_4) (ix2 (rowOf j s) e)
      = diff (col x1 x2 s ⟨e.val, by omega⟩) 2 (Ideal.ofBits .f32 0x40000000#32) j := by
  have hs := s.isLt
  have h0 := d0_0 x1 x2 s e
  have h1 := d0_1 x1 x2 s e
  have h2 := d0_2 x1 x2 s e
  revert h0 h1 h2
  generalize k0_pay2 (View.ld x2 r0_0) (View.ld x1 r0_1) (View.ld x2 r0_0) = a0
  generalize k0_pay3 (View.ld x2 r0_2) (View.ld x2 r0_0) (View.ld x2 r0_2) = a1
  generalize k0_pay4 (View.ld x2 r0_3) (View.ld x2 r0_2) (View.ld x2 r0_3) = a2
  intro h0 h1 h2
  match j with
  | 0 =>
    rw [← h0]
    show k0_pay7 a0 a1 a2 (k0_pay5 (View.ld x2 r0_4)) (k0_pay6 (View.ld x2 r0_3)) (View.ld x2 r0_4) (ix2 (⟨32 * 0 + s.val, by omega⟩ : Fin 128) e) = _
    pointwise [k0_pay5, k0_pay6, k0_pay7]
  | 1 =>
    rw [← h1]
    show k0_pay7 a0 a1 a2 (k0_pay5 (View.ld x2 r0_4)) (k0_pay6 (View.ld x2 r0_3)) (View.ld x2 r0_4) (ix2 (⟨32 * 1 + s.val, by omega⟩ : Fin 128) e) = _
    pointwise [k0_pay5, k0_pay6, k0_pay7]
  | 2 =>
    rw [← h2]
    show k0_pay7 a0 a1 a2 (k0_pay5 (View.ld x2 r0_4)) (k0_pay6 (View.ld x2 r0_3)) (View.ld x2 r0_4) (ix2 (⟨32 * 2 + s.val, by omega⟩ : Fin 128) e) = _
    pointwise [k0_pay5, k0_pay6, k0_pay7]
    rw [dif_neg (show ¬ 64 + s.val < 32 by omega), dif_neg (show ¬ 64 + s.val - 32 < 32 by omega),
      dif_pos (show 64 + s.val - 32 - 32 < 32 by omega)]
    exact congrArg (fun z => a2 (ix2 z e)) (Fin.ext (by
      show 64 + s.val - 32 - 32 = s.val
      omega))
  | 3 =>
    show k0_pay7 a0 a1 a2 (k0_pay5 (View.ld x2 r0_4)) (k0_pay6 (View.ld x2 r0_3)) (View.ld x2 r0_4) (ix2 (⟨32 * 3 + s.val, by omega⟩ : Fin 128) e) = _
    unfold diff
    rw [win2_3]
    pointwise [k0_pay5, k0_pay6, k0_pay7]
    show _ = _ - col x1 x2 s ⟨e.val, by omega⟩ 18
    rw [dif_neg (show ¬ 96 + s.val < 32 by omega), dif_neg (show ¬ 96 + s.val - 32 < 32 by omega),
      dif_neg (show ¬ 96 + s.val - 32 - 32 < 32 by omega)]
    have hh : 96 + s.val - 32 - 32 - 32 = s.val := by omega
    simp only [col_18, col_17, hh, Fin.eta]

/-- Group 1, token 0. -/
theorem d1_0 (e : Fin 128) :
    k0_pay8 (View.ld x2 r0_5) (View.ld x1 r0_6) (View.ld x1 r0_7) (View.ld x1 r0_8) (View.ld x2 r0_5) (ix2 s e)
      = diff (col x1 x2 s ⟨128 + e.val, by omega⟩) 4 (Ideal.ofBits .f32 0x40800000#32) 0 := by
  unfold diff
  rw [win4_0]
  pointwise [k0_pay8]
  show _ = _ - col x1 x2 s ⟨128 + e.val, by omega⟩ 15
  simp only [col_15, col_14, col_13, col_12]

/-- Group 1, token 1. -/
theorem d1_1 (e : Fin 128) :
    k0_pay11 (k0_pay9 (View.ld x2 r0_9) (View.ld x2 r0_5) (View.ld x1 r0_6)) (k0_pay10 (View.ld x1 r0_7)) (View.ld x2 r0_9) (ix2 s e)
      = diff (col x1 x2 s ⟨128 + e.val, by omega⟩) 4 (Ideal.ofBits .f32 0x40800000#32) 1 := by
  unfold diff
  rw [win4_1]
  pointwise [k0_pay9, k0_pay10, k0_pay11]
  show _ = _ - col x1 x2 s ⟨128 + e.val, by omega⟩ 16
  simp only [col_16, col_15, col_14, col_13]

/-- Group 1, token 2. -/
theorem d1_2 (e : Fin 128) :
    k0_pay12 (View.ld x2 r0_10) (View.ld x2 r0_9) (View.ld x2 r0_5) (View.ld x1 r0_6) (View.ld x2 r0_10) (ix2 s e)
      = diff (col x1 x2 s ⟨128 + e.val, by omega⟩) 4 (Ideal.ofBits .f32 0x40800000#32) 2 := by
  unfold diff
  rw [win4_2]
  pointwise [k0_pay12]
  show _ = _ - col x1 x2 s ⟨128 + e.val, by omega⟩ 17
  simp only [col_17, col_16, col_15, col_14]

set_option maxHeartbeats 2000000 in
/-- Group 1, all tokens. -/
theorem g1 (j : Fin 4) (e : Fin 128) :
    k0_pay14 (k0_pay8 (View.ld x2 r0_5) (View.ld x1 r0_6) (View.ld x1 r0_7) (View.ld x1 r0_8) (View.ld x2 r0_5)) (k0_pay11 (k0_pay9 (View.ld x2 r0_9) (View.ld x2 r0_5) (View.ld x1 r0_6)) (k0_pay10 (View.ld x1 r0_7)) (View.ld x2 r0_9)) (k0_pay12 (View.ld x2 r0_10) (View.ld x2 r0_9) (View.ld x2 r0_5) (View.ld x1 r0_6) (View.ld x2 r0_10)) (k0_pay13 (View.ld x2 r0_11) (View.ld x2 r0_10) (View.ld x2 r0_9) (View.ld x2 r0_5)) (View.ld x2 r0_11) (ix2 (rowOf j s) e)
      = diff (col x1 x2 s ⟨128 + e.val, by omega⟩) 4 (Ideal.ofBits .f32 0x40800000#32) j := by
  have hs := s.isLt
  have h0 := d1_0 x1 x2 s e
  have h1 := d1_1 x1 x2 s e
  have h2 := d1_2 x1 x2 s e
  revert h0 h1 h2
  generalize k0_pay8 (View.ld x2 r0_5) (View.ld x1 r0_6) (View.ld x1 r0_7) (View.ld x1 r0_8) (View.ld x2 r0_5) = a0
  generalize k0_pay11 (k0_pay9 (View.ld x2 r0_9) (View.ld x2 r0_5) (View.ld x1 r0_6)) (k0_pay10 (View.ld x1 r0_7)) (View.ld x2 r0_9) = a1
  generalize k0_pay12 (View.ld x2 r0_10) (View.ld x2 r0_9) (View.ld x2 r0_5) (View.ld x1 r0_6) (View.ld x2 r0_10) = a2
  intro h0 h1 h2
  match j with
  | 0 =>
    rw [← h0]
    show k0_pay14 a0 a1 a2 (k0_pay13 (View.ld x2 r0_11) (View.ld x2 r0_10) (View.ld x2 r0_9) (View.ld x2 r0_5)) (View.ld x2 r0_11) (ix2 (⟨32 * 0 + s.val, by omega⟩ : Fin 128) e) = _
    pointwise [k0_pay13, k0_pay14]
  | 1 =>
    rw [← h1]
    show k0_pay14 a0 a1 a2 (k0_pay13 (View.ld x2 r0_11) (View.ld x2 r0_10) (View.ld x2 r0_9) (View.ld x2 r0_5)) (View.ld x2 r0_11) (ix2 (⟨32 * 1 + s.val, by omega⟩ : Fin 128) e) = _
    pointwise [k0_pay13, k0_pay14]
  | 2 =>
    rw [← h2]
    show k0_pay14 a0 a1 a2 (k0_pay13 (View.ld x2 r0_11) (View.ld x2 r0_10) (View.ld x2 r0_9) (View.ld x2 r0_5)) (View.ld x2 r0_11) (ix2 (⟨32 * 2 + s.val, by omega⟩ : Fin 128) e) = _
    pointwise [k0_pay13, k0_pay14]
    rw [dif_neg (show ¬ 64 + s.val < 32 by omega), dif_neg (show ¬ 64 + s.val - 32 < 32 by omega),
      dif_pos (show 64 + s.val - 32 - 32 < 32 by omega)]
    exact congrArg (fun z => a2 (ix2 z e)) (Fin.ext (by
      show 64 + s.val - 32 - 32 = s.val
      omega))
  | 3 =>
    show k0_pay14 a0 a1 a2 (k0_pay13 (View.ld x2 r0_11) (View.ld x2 r0_10) (View.ld x2 r0_9) (View.ld x2 r0_5)) (View.ld x2 r0_11) (ix2 (⟨32 * 3 + s.val, by omega⟩ : Fin 128) e) = _
    unfold diff
    rw [win4_3]
    pointwise [k0_pay13, k0_pay14]
    show _ = _ - col x1 x2 s ⟨128 + e.val, by omega⟩ 18
    rw [dif_neg (show ¬ 96 + s.val < 32 by omega), dif_neg (show ¬ 96 + s.val - 32 < 32 by omega),
      dif_neg (show ¬ 96 + s.val - 32 - 32 < 32 by omega)]
    have hh : 96 + s.val - 32 - 32 - 32 = s.val := by omega
    simp only [col_18, col_17, col_16, col_15, hh, Fin.eta]

/-- Group 2, token 0. -/
theorem d2_0 (e : Fin 128) :
    k0_pay15 (View.ld x2 r0_12) (View.ld x1 r0_13) (View.ld x1 r0_14) (View.ld x1 r0_15) (View.ld x1 r0_16) (View.ld x1 r0_17) (View.ld x1 r0_18) (View.ld x1 r0_19) (View.ld x2 r0_12) (ix2 s e)
      = diff (col x1 x2 s ⟨256 + e.val, by omega⟩) 8 (Ideal.ofBits .f32 0x41000000#32) 0 := by
  unfold diff
  rw [win8_0]
  pointwise [k0_pay15]
  show _ = _ - col x1 x2 s ⟨256 + e.val, by omega⟩ 15
  simp only [col_15, col_14, col_13, col_12, col_11, col_10, col_9, col_8]

/-- Group 2, token 1. -/
theorem d2_1 (e : Fin 128) :
    k0_pay16 (View.ld x2 r0_20) (View.ld x2 r0_12) (View.ld x1 r0_13) (View.ld x1 r0_14) (View.ld x1 r0_15) (View.ld x1 r0_16) (View.ld x1 r0_17) (View.ld x1 r0_18) (View.ld x2 r0_20) (ix2 s e)
      = diff (col x1 x2 s ⟨256 + e.val, by omega⟩) 8 (Ideal.ofBits .f32 0x41000000#32) 1 := by
  unfold diff
  rw [win8_1]
  pointwise [k0_pay16]
  show _ = _ - col x1 x2 s ⟨256 + e.val, by omega⟩ 16
  simp only [col_16, col_15, col_14, col_13, col_12, col_11, col_10, col_9]

/-- Group 2, token 2. -/
theorem d2_2 (e : Fin 128) :
    k0_pay19 (k0_pay17 (View.ld x2 r0_21)) (k0_pay18 (View.ld x2 r0_20)) (View.ld x2 r0_12) (View.ld x1 r0_13) (View.ld x1 r0_14) (View.ld x1 r0_15) (View.ld x1 r0_16) (View.ld x1 r0_17) (View.ld x2 r0_21) (ix2 s e)
      = diff (col x1 x2 s ⟨256 + e.val, by omega⟩) 8 (Ideal.ofBits .f32 0x41000000#32) 2 := by
  unfold diff
  rw [win8_2]
  pointwise [k0_pay17, k0_pay18, k0_pay19]
  show _ = _ - col x1 x2 s ⟨256 + e.val, by omega⟩ 17
  simp only [col_17, col_16, col_15, col_14, col_13, col_12, col_11, col_10]

set_option maxHeartbeats 2000000 in
/-- Group 2, all tokens. -/
theorem g2 (j : Fin 4) (e : Fin 128) :
    k0_pay21 (k0_pay15 (View.ld x2 r0_12) (View.ld x1 r0_13) (View.ld x1 r0_14) (View.ld x1 r0_15) (View.ld x1 r0_16) (View.ld x1 r0_17) (View.ld x1 r0_18) (View.ld x1 r0_19) (View.ld x2 r0_12)) (k0_pay16 (View.ld x2 r0_20) (View.ld x2 r0_12) (View.ld x1 r0_13) (View.ld x1 r0_14) (View.ld x1 r0_15) (View.ld x1 r0_16) (View.ld x1 r0_17) (View.ld x1 r0_18) (View.ld x2 r0_20)) (k0_pay19 (k0_pay17 (View.ld x2 r0_21)) (k0_pay18 (View.ld x2 r0_20)) (View.ld x2 r0_12) (View.ld x1 r0_13) (View.ld x1 r0_14) (View.ld x1 r0_15) (View.ld x1 r0_16) (View.ld x1 r0_17) (View.ld x2 r0_21)) (k0_pay20 (View.ld x2 r0_22) (View.ld x2 r0_21) (View.ld x2 r0_20)) (View.ld x2 r0_12) (View.ld x1 r0_13) (View.ld x1 r0_14) (View.ld x1 r0_15) (View.ld x1 r0_16) (View.ld x2 r0_22) (ix2 (rowOf j s) e)
      = diff (col x1 x2 s ⟨256 + e.val, by omega⟩) 8 (Ideal.ofBits .f32 0x41000000#32) j := by
  have hs := s.isLt
  have h0 := d2_0 x1 x2 s e
  have h1 := d2_1 x1 x2 s e
  have h2 := d2_2 x1 x2 s e
  revert h0 h1 h2
  generalize k0_pay15 (View.ld x2 r0_12) (View.ld x1 r0_13) (View.ld x1 r0_14) (View.ld x1 r0_15) (View.ld x1 r0_16) (View.ld x1 r0_17) (View.ld x1 r0_18) (View.ld x1 r0_19) (View.ld x2 r0_12) = a0
  generalize k0_pay16 (View.ld x2 r0_20) (View.ld x2 r0_12) (View.ld x1 r0_13) (View.ld x1 r0_14) (View.ld x1 r0_15) (View.ld x1 r0_16) (View.ld x1 r0_17) (View.ld x1 r0_18) (View.ld x2 r0_20) = a1
  generalize k0_pay19 (k0_pay17 (View.ld x2 r0_21)) (k0_pay18 (View.ld x2 r0_20)) (View.ld x2 r0_12) (View.ld x1 r0_13) (View.ld x1 r0_14) (View.ld x1 r0_15) (View.ld x1 r0_16) (View.ld x1 r0_17) (View.ld x2 r0_21) = a2
  intro h0 h1 h2
  match j with
  | 0 =>
    rw [← h0]
    show k0_pay21 a0 a1 a2 (k0_pay20 (View.ld x2 r0_22) (View.ld x2 r0_21) (View.ld x2 r0_20)) (View.ld x2 r0_12) (View.ld x1 r0_13) (View.ld x1 r0_14) (View.ld x1 r0_15) (View.ld x1 r0_16) (View.ld x2 r0_22) (ix2 (⟨32 * 0 + s.val, by omega⟩ : Fin 128) e) = _
    pointwise [k0_pay20, k0_pay21]
  | 1 =>
    rw [← h1]
    show k0_pay21 a0 a1 a2 (k0_pay20 (View.ld x2 r0_22) (View.ld x2 r0_21) (View.ld x2 r0_20)) (View.ld x2 r0_12) (View.ld x1 r0_13) (View.ld x1 r0_14) (View.ld x1 r0_15) (View.ld x1 r0_16) (View.ld x2 r0_22) (ix2 (⟨32 * 1 + s.val, by omega⟩ : Fin 128) e) = _
    pointwise [k0_pay20, k0_pay21]
  | 2 =>
    rw [← h2]
    show k0_pay21 a0 a1 a2 (k0_pay20 (View.ld x2 r0_22) (View.ld x2 r0_21) (View.ld x2 r0_20)) (View.ld x2 r0_12) (View.ld x1 r0_13) (View.ld x1 r0_14) (View.ld x1 r0_15) (View.ld x1 r0_16) (View.ld x2 r0_22) (ix2 (⟨32 * 2 + s.val, by omega⟩ : Fin 128) e) = _
    pointwise [k0_pay20, k0_pay21]
    rw [dif_neg (show ¬ 64 + s.val < 32 by omega), dif_neg (show ¬ 64 + s.val - 32 < 32 by omega),
      dif_pos (show 64 + s.val - 32 - 32 < 32 by omega)]
    exact congrArg (fun z => a2 (ix2 z e)) (Fin.ext (by
      show 64 + s.val - 32 - 32 = s.val
      omega))
  | 3 =>
    show k0_pay21 a0 a1 a2 (k0_pay20 (View.ld x2 r0_22) (View.ld x2 r0_21) (View.ld x2 r0_20)) (View.ld x2 r0_12) (View.ld x1 r0_13) (View.ld x1 r0_14) (View.ld x1 r0_15) (View.ld x1 r0_16) (View.ld x2 r0_22) (ix2 (⟨32 * 3 + s.val, by omega⟩ : Fin 128) e) = _
    unfold diff
    rw [win8_3]
    pointwise [k0_pay20, k0_pay21]
    show _ = _ - col x1 x2 s ⟨256 + e.val, by omega⟩ 18
    rw [dif_neg (show ¬ 96 + s.val < 32 by omega), dif_neg (show ¬ 96 + s.val - 32 < 32 by omega),
      dif_neg (show ¬ 96 + s.val - 32 - 32 < 32 by omega)]
    have hh : 96 + s.val - 32 - 32 - 32 = s.val := by omega
    simp only [col_18, col_17, col_16, col_15, col_14, col_13, col_12, col_11, hh, Fin.eta]

/-- Group 3, token 0. -/
theorem d3_0 (e : Fin 128) :
    k0_pay24 (k0_pay23 (k0_pay22 (View.ld x2 r0_23) (View.ld x1 r0_24) (View.ld x1 r0_25) (View.ld x1 r0_26)) (View.ld x1 r0_27) (View.ld x1 r0_28) (View.ld x1 r0_29) (View.ld x1 r0_30) (View.ld x1 r0_31) (View.ld x1 r0_32) (View.ld x1 r0_33) (View.ld x1 r0_34) (View.ld x1 r0_35) (View.ld x1 r0_36)) (View.ld x1 r0_37) (View.ld x1 r0_38) (View.ld x2 r0_23) (ix2 s e)
      = diff (col x1 x2 s ⟨384 + e.val, by omega⟩) 16 (Ideal.ofBits .f32 0x41800000#32) 0 := by
  unfold diff
  rw [win16_0]
  pointwise [k0_pay22, k0_pay23, k0_pay24]
  show _ = _ - col x1 x2 s ⟨384 + e.val, by omega⟩ 15
  simp only [col_15, col_14, col_13, col_12, col_11, col_10, col_9, col_8, col_7, col_6, col_5, col_4, col_3, col_2, col_1, col_0]

/-- Group 3, token 1. -/
theorem d3_1 (e : Fin 128) :
    k0_pay26 (k0_pay25 (View.ld x2 r0_39) (View.ld x2 r0_23) (View.ld x1 r0_24) (View.ld x1 r0_25) (View.ld x1 r0_26) (View.ld x1 r0_27) (View.ld x1 r0_28)) (View.ld x1 r0_29) (View.ld x1 r0_30) (View.ld x1 r0_31) (View.ld x1 r0_32) (View.ld x1 r0_33) (View.ld x1 r0_34) (View.ld x1 r0_35) (View.ld x1 r0_36) (View.ld x1 r0_37) (View.ld x2 r0_39) (ix2 s e)
      = diff (col x1 x2 s ⟨384 + e.val, by omega⟩) 16 (Ideal.ofBits .f32 0x41800000#32) 1 := by
  unfold diff
  rw [win16_1]
  pointwise [k0_pay25, k0_pay26]
  show _ = _ - col x1 x2 s ⟨384 + e.val, by omega⟩ 16
  simp only [col_16, col_15, col_14, col_13, col_12, col_11, col_10, col_9, col_8, col_7, col_6, col_5, col_4, col_3, col_2, col_1]

/-- Group 3, token 2. -/
theorem d3_2 (e : Fin 128) :
    k0_pay29 (k0_pay27 (View.ld x2 r0_40) (View.ld x2 r0_39) (View.ld x2 r0_23) (View.ld x1 r0_24) (View.ld x1 r0_25) (View.ld x1 r0_26) (View.ld x1 r0_27) (View.ld x1 r0_28) (View.ld x1 r0_29) (View.ld x1 r0_30)) (k0_pay28 (View.ld x1 r0_31)) (View.ld x1 r0_32) (View.ld x1 r0_33) (View.ld x1 r0_34) (View.ld x1 r0_35) (View.ld x1 r0_36) (View.ld x2 r0_40) (ix2 s e)
      = diff (col x1 x2 s ⟨384 + e.val, by omega⟩) 16 (Ideal.ofBits .f32 0x41800000#32) 2 := by
  unfold diff
  rw [win16_2]
  pointwise [k0_pay27, k0_pay28, k0_pay29]
  show _ = _ - col x1 x2 s ⟨384 + e.val, by omega⟩ 17
  simp only [col_17, col_16, col_15, col_14, col_13, col_12, col_11, col_10, col_9, col_8, col_7, col_6, col_5, col_4, col_3, col_2]

/-- Group 3's stack, token 0. -/
theorem stack3_0 (v270 v322 v374 v415 : FVec Ideal S32x128 .f32) (v416 v419 : Vec Ideal S1x32x128 .f32) (v424 : Vec Ideal S32x128 .f32) (e : Fin 128) :
    k0_pay38 v270 v322 v374 v415 v416 v419 v424 (ix2 (rowOf 0 s) e) = v270 (ix2 s e) := by
  show k0_pay38 v270 v322 v374 v415 v416 v419 v424 (ix2 (⟨32 * 0 + s.val, by omega⟩ : Fin 128) e) = _
  have hs := s.isLt
  pointwise [k0_pay38]

/-- Group 3's stack, token 1. -/
theorem stack3_1 (v270 v322 v374 v415 : FVec Ideal S32x128 .f32) (v416 v419 : Vec Ideal S1x32x128 .f32) (v424 : Vec Ideal S32x128 .f32) (e : Fin 128) :
    k0_pay38 v270 v322 v374 v415 v416 v419 v424 (ix2 (rowOf 1 s) e) = v322 (ix2 s e) := by
  show k0_pay38 v270 v322 v374 v415 v416 v419 v424 (ix2 (⟨32 * 1 + s.val, by omega⟩ : Fin 128) e) = _
  have hs := s.isLt
  pointwise [k0_pay38]

/-- Group 3's stack, token 2. -/
theorem stack3_2 (v270 v322 v374 v415 : FVec Ideal S32x128 .f32) (v416 v419 : Vec Ideal S1x32x128 .f32) (v424 : Vec Ideal S32x128 .f32) (e : Fin 128) :
    k0_pay38 v270 v322 v374 v415 v416 v419 v424 (ix2 (rowOf 2 s) e) = v374 (ix2 s e) := by
  show k0_pay38 v270 v322 v374 v415 v416 v419 v424 (ix2 (⟨32 * 2 + s.val, by omega⟩ : Fin 128) e) = _
  have hs := s.isLt
  pointwise [k0_pay38]
  rw [dif_neg (show ¬ 64 + s.val < 32 by omega), dif_neg (show ¬ 64 + s.val - 32 < 32 by omega),
    dif_pos (show 64 + s.val - 32 - 32 < 32 by omega)]
  exact congrArg (fun z => v374 (ix2 z e)) (Fin.ext (by
    show 64 + s.val - 32 - 32 = s.val
    omega))

/-- Group 3's stack, token 3. -/
theorem stack3_3 (v270 v322 v374 v415 : FVec Ideal S32x128 .f32) (v416 v419 : Vec Ideal S1x32x128 .f32) (v424 : Vec Ideal S32x128 .f32) (e : Fin 128) :
    k0_pay38 v270 v322 v374 v415 v416 v419 v424 (ix2 (rowOf 3 s) e)
      = Ideal.div (v415 (ix2 s e) + v416 (ix3 0 s e) + v419 (ix3 0 s e)) (Ideal.ofBits .f32 0x41800000#32) - v424 (ix2 s e) := by
  show k0_pay38 v270 v322 v374 v415 v416 v419 v424 (ix2 (⟨32 * 3 + s.val, by omega⟩ : Fin 128) e) = _
  have hs := s.isLt
  pointwise [k0_pay38]
  rw [dif_neg (show ¬ 96 + s.val < 32 by omega), dif_neg (show ¬ 96 + s.val - 32 < 32 by omega), dif_neg (show ¬ 96 + s.val - 32 - 32 < 32 by omega)]
  have hh : 96 + s.val - 32 - 32 - 32 = s.val := by omega
  simp only [hh, Fin.eta]

/-- Group 3, token 3. -/
theorem d3_3 (e : Fin 128) :
    Ideal.div ((k0_pay31 (k0_pay30 (View.ld x2 r0_41) (View.ld x2 r0_40) (View.ld x2 r0_39) (View.ld x2 r0_23)) (View.ld x1 r0_24) (View.ld x1 r0_25) (View.ld x1 r0_26) (View.ld x1 r0_27) (View.ld x1 r0_28) (View.ld x1 r0_29) (View.ld x1 r0_30) (View.ld x1 r0_31) (View.ld x1 r0_32) (View.ld x1 r0_33)) (ix2 s e) + (View.ld x1 r0_34) (ix3 0 s e) + (View.ld x1 r0_35) (ix3 0 s e)) (Ideal.ofBits .f32 0x41800000#32) - (View.ld x2 r0_41) (ix2 s e)
      = diff (col x1 x2 s ⟨384 + e.val, by omega⟩) 16 (Ideal.ofBits .f32 0x41800000#32) 3 := by
  unfold diff
  rw [win16_3]
  pointwise [k0_pay30, k0_pay31]
  show _ = _ - col x1 x2 s ⟨384 + e.val, by omega⟩ 18
  simp only [col_18, col_17, col_16, col_15, col_14, col_13, col_12, col_11, col_10, col_9, col_8, col_7, col_6, col_5, col_4, col_3]

/-- Group 3, all tokens. -/
theorem g3 (j : Fin 4) (e : Fin 128) :
    k0_pay38 (k0_pay24 (k0_pay23 (k0_pay22 (View.ld x2 r0_23) (View.ld x1 r0_24) (View.ld x1 r0_25) (View.ld x1 r0_26)) (View.ld x1 r0_27) (View.ld x1 r0_28) (View.ld x1 r0_29) (View.ld x1 r0_30) (View.ld x1 r0_31) (View.ld x1 r0_32) (View.ld x1 r0_33) (View.ld x1 r0_34) (View.ld x1 r0_35) (View.ld x1 r0_36)) (View.ld x1 r0_37) (View.ld x1 r0_38) (View.ld x2 r0_23)) (k0_pay26 (k0_pay25 (View.ld x2 r0_39) (View.ld x2 r0_23) (View.ld x1 r0_24) (View.ld x1 r0_25) (View.ld x1 r0_26) (View.ld x1 r0_27) (View.ld x1 r0_28)) (View.ld x1 r0_29) (View.ld x1 r0_30) (View.ld x1 r0_31) (View.ld x1 r0_32) (View.ld x1 r0_33) (View.ld x1 r0_34) (View.ld x1 r0_35) (View.ld x1 r0_36) (View.ld x1 r0_37) (View.ld x2 r0_39)) (k0_pay29 (k0_pay27 (View.ld x2 r0_40) (View.ld x2 r0_39) (View.ld x2 r0_23) (View.ld x1 r0_24) (View.ld x1 r0_25) (View.ld x1 r0_26) (View.ld x1 r0_27) (View.ld x1 r0_28) (View.ld x1 r0_29) (View.ld x1 r0_30)) (k0_pay28 (View.ld x1 r0_31)) (View.ld x1 r0_32) (View.ld x1 r0_33) (View.ld x1 r0_34) (View.ld x1 r0_35) (View.ld x1 r0_36) (View.ld x2 r0_40)) (k0_pay31 (k0_pay30 (View.ld x2 r0_41) (View.ld x2 r0_40) (View.ld x2 r0_39) (View.ld x2 r0_23)) (View.ld x1 r0_24) (View.ld x1 r0_25) (View.ld x1 r0_26) (View.ld x1 r0_27) (View.ld x1 r0_28) (View.ld x1 r0_29) (View.ld x1 r0_30) (View.ld x1 r0_31) (View.ld x1 r0_32) (View.ld x1 r0_33)) (View.ld x1 r0_34) (View.ld x1 r0_35) (View.ld x2 r0_41) (ix2 (rowOf j s) e)
      = diff (col x1 x2 s ⟨384 + e.val, by omega⟩) 16 (Ideal.ofBits .f32 0x41800000#32) j := by
  match j with
  | 0 => exact (stack3_0 s _ _ _ _ _ _ _ e).trans (d3_0 x1 x2 s e)
  | 1 => exact (stack3_1 s _ _ _ _ _ _ _ e).trans (d3_1 x1 x2 s e)
  | 2 => exact (stack3_2 s _ _ _ _ _ _ _ e).trans (d3_2 x1 x2 s e)
  | 3 => exact (stack3_3 s _ _ _ _ _ _ _ e).trans (d3_3 x1 x2 s e)

end Inputs

/-- One group's product. -/
theorem mul0 (v : FVec Ideal S128x128 .f32) (x5 : Vec Ideal S4x128x128 .bf16) (r e : Fin 128) :
    k0_pay35 v (View.ld x5 r0_44) (ix2 r e) = ∑ k, v (ix2 r k) * x5 (ix3 0 k e) := by
  pointwise [k0_pay35]

theorem mul1 (v : FVec Ideal S128x128 .f32) (x5 : Vec Ideal S4x128x128 .bf16) (r e : Fin 128) :
    k0_pay36 v (View.ld x5 r0_45) (ix2 r e) = ∑ k, v (ix2 r k) * x5 (ix3 1 k e) := by
  pointwise [k0_pay36]

theorem mul2 (v : FVec Ideal S128x128 .f32) (x5 : Vec Ideal S4x128x128 .bf16) (r e : Fin 128) :
    k0_pay37 v (View.ld x5 r0_46) (ix2 r e) = ∑ k, v (ix2 r k) * x5 (ix3 2 k e) := by
  pointwise [k0_pay37]

/-- The last payload is the layer's row. -/
theorem row_at (v429 : FVec Ideal S128x512 .f32) (v431 : FVec Ideal S128x1024 .bf16) (v433 : FVec Ideal S128x1024 .f32)
    (v437 v441 v445 : FVec Ideal S128x128 .f32) (v446 : FVec Ideal S128x128 .bf16) (x5 : Vec Ideal S4x128x128 .bf16)
    (v451 : Vec Ideal S1x512 .f32) (v458 : Vec Ideal S1024x1024 .bf16) (v462 : Vec Ideal S1x1024 .f32) (r : Fin 128) (c : Fin 1024) :
    k0_pay1 v429 v431 v433 v437 v441 v445 v446 (View.ld x5 r0_47) v451 v458 v462 (ix2 r c)
      = yrow (hrow (fun k => v433 (ix2 r k)) (mix (fun i => v429 (ix2 r i))
          (side (fun i => v437 (ix2 r i)) (fun i => v441 (ix2 r i)) (fun i => v445 (ix2 r i))
            (fun i => ∑ e, v446 (ix2 r e) * x5 (ix3 3 e i)))
          (fun i => v451 (ix2 0 i)) (fun i => v431 (ix2 r i))) (fun i k => v458 (ix2 i k))) (fun k => v462 (ix2 0 k)) c := by
  pointwise [k0_pay1]
  rfl

/-- The block that the call leaves. -/
theorem out_at (x0 : Vec Ideal S128x512 .f32) (x1 : Vec Ideal S15x32x512 .f32) (x2 : Vec Ideal S128x512 .f32) (x3 : Vec Ideal S128x1024 .bf16)
    (x4 : Vec Ideal S128x1024 .f32) (x5 : Vec Ideal S4x128x128 .bf16) (x6 : Vec Ideal S1x512 .f32) (x7 : Vec Ideal S1024x1024 .bf16)
    (x8 : Vec Ideal S1x1024 .f32) (j : Fin 4) (s : Fin 32) (c : Fin 1024) :
    out0_9 x0 x1 x2 x3 x4 x5 x6 x7 x8 (ix2 (rowOf j s) c)
      = yrow (hrow (fun k => x4 (ix2 (rowOf j s) k)) (mix (fun i => x0 (ix2 (rowOf j s) i))
          (pooled (fun g e => diff (col x1 x2 s (chan g e)) (width g) (divisor g) j) (fun g e i => x5 (ix3 g e i)))
          (fun i => x6 (ix2 0 i)) (fun i => x3 (ix2 (rowOf j s) i))) (fun i k => x7 (ix2 i k))) (fun k => x8 (ix2 0 k)) c := by
  unfold out0_9
  rw [View.canon_cons_unit_lit _ _ _ (by decide)]
  rw [row_at, ← side_eq]
  simp only [mul0, mul1, mul2, g0, g1, g2, g3, chan_0, chan_1, chan_2, chan_3, width_0, width_1, width_2, width_3, divisor_0, divisor_1,
    divisor_2, divisor_3]
  rw [View.ld_unit_lit _ x6 (by decide), View.ld_unit_lit _ x7 (by decide), View.ld_unit_lit _ x8 (by decide)]
  simp only [k0_pay32, k0_pay33, k0_pay34, shapeCast_self]
  rw [View.ld_unit_lit _ x0 (by decide), View.ld_unit_lit _ x3 (by decide), View.ld_unit_lit _ x4 (by decide)]

end Cert.Kernel3Ideal.Merge

end
-- ==== Proof.MergeHost.lean ====
module

public import proofs.«01_k».proof.Proof.MergeTile
public import proofs.«01_k».proof.Proof.Gen.Kernel3Ideal.Run
public import Idealize.ShloMosaic.Lib.StableHlo.ReadAt

/-! What the sample's merge is given, from the kernel's arguments, and the result that it leaves. -/

@[expose] public section

set_option maxRecDepth 65536

noncomputable section

namespace Cert.Kernel3Ideal.Merge

open Cert.Kernel3Ideal Cert.Kernel3Ideal.Gen Idealize.ShloMosaic Idealize.ShloMosaic.TcCoe Idealize.SL.Sem Cert.Merge

variable (m : (ℓ : Loc nD τ sig) → Buf (Elt Ideal) ℓ) (c : Dev nD)

/-- The attention of the new tokens. -/
def atA (s : Fin 32) (j : Fin 4) (i : Fin 512) : EReal := (m ((c : Thread nD τ).loc main_arg0) : Vec Ideal S32x4x512 .f32) (ix3 s j i)
/-- The old pooling state. -/
def stA (s : Fin 32) (p : Fin 15) (q : Fin 512) : EReal := (m ((c : Thread nD τ).loc main_arg1) : Vec Ideal S1x32x15x512 .f32) (ix4 0 s p q)
/-- The new pooling inputs. -/
def usA (s : Fin 32) (j : Fin 4) (q : Fin 512) : EReal := (m ((c : Thread nD τ).loc main_arg2) : Vec Ideal S32x4x512 .f32) (ix3 s j q)
/-- The gates. -/
def gtA (s : Fin 32) (j : Fin 4) (k : Fin 1024) : EReal := (m ((c : Thread nD τ).loc main_arg3) : Vec Ideal S32x4x1024 .f32) (ix3 s j k)
/-- The residual rows. -/
def rxA (s : Fin 32) (j : Fin 4) (k : Fin 1024) : EReal := (m ((c : Thread nD τ).loc main_arg4) : Vec Ideal S32x4x1024 .f32) (ix3 s j k)
/-- The groups' weights. -/
def wpA (g : Fin 4) (e i : Fin 128) : EReal := (m ((c : Thread nD τ).loc main_arg5) : Vec Ideal S1x4x128x128 .f32) (ix4 0 g e i)
/-- The pooling scale. -/
def psA (i : Fin 512) : EReal := (m ((c : Thread nD τ).loc main_arg6) : Vec Ideal S1x512 .f32) (ix2 0 i)
/-- The outward weights. -/
def woA (i k : Fin 1024) : EReal := (m ((c : Thread nD τ).loc main_arg7) : Vec Ideal S1x1024x1024 .f32) (ix3 0 i k)
/-- The final gain. -/
def fgA (k : Fin 1024) : EReal := (m ((c : Thread nD τ).loc main_arg8) : Vec Ideal S1024 .f32) (ix1 k)

/-- Where window 0 stands. -/
theorem at_0 (t : Fin cfg0.N) : win0_0.index t = ![0, 0] := by
  revert t
  decide +kernel

/-- Where window 1 stands. -/
theorem at_1 (t : Fin cfg0.N) : win0_1.index t = ![0, 0, 0] := by
  revert t
  decide +kernel

/-- Where window 2 stands. -/
theorem at_2 (t : Fin cfg0.N) : win0_2.index t = ![0, 0] := by
  revert t
  decide +kernel

/-- Where window 3 stands. -/
theorem at_3 (t : Fin cfg0.N) : win0_3.index t = ![0, 0] := by
  revert t
  decide +kernel

/-- Where window 4 stands. -/
theorem at_4 (t : Fin cfg0.N) : win0_4.index t = ![0, 0] := by
  revert t
  decide +kernel

/-- Where window 5 stands. -/
theorem at_5 (t : Fin cfg0.N) : win0_5.index t = ![0, 0, 0] := by
  revert t
  decide +kernel

/-- Where window 6 stands. -/
theorem at_6 (t : Fin cfg0.N) : win0_6.index t = ![0, 0] := by
  revert t
  decide +kernel

/-- Where window 7 stands. -/
theorem at_7 (t : Fin cfg0.N) : win0_7.index t = ![0, 0] := by
  revert t
  decide +kernel

/-- Where window 8 stands. -/
theorem at_8 (t : Fin cfg0.N) : win0_8.index t = ![0, 0] := by
  revert t
  decide +kernel

/-- Where window 9 stands. -/
theorem at_9 (t : Fin cfg0.N) : win0_9.index t = ![0, 0] := by
  revert t
  decide +kernel

theorem row_mod (j : Fin 4) (s : Fin 32) (h) : (⟨(32 * j.val + s.val) % 32, h⟩ : Fin 32) = s := Fin.ext (by
  show (32 * j.val + s.val) % 32 = s.val
  omega)

theorem row_div (j : Fin 4) (s : Fin 32) (h) : (⟨(32 * j.val + s.val) / 32, h⟩ : Fin 4) = j := Fin.ext (by
  show (32 * j.val + s.val) / 32 = j.val
  omega)

theorem at_in (t : Fin cfg0.N) (j : Fin 4) (s : Fin 32) (k : Fin 512) :
    (iblk m c 0 t : Vec Ideal S128x512 .f32) (ix2 (rowOf j s) k) = atA m c s j k := by
  have e : (iblk m c 0 t : Vec Ideal S128x512 .f32) (ix2 (rowOf j s) k) = (V m c main_v3 : Vec Ideal S128x512 .f32) (ix2 (rowOf j s) k) := by
    blk_ext [iblk, at_0 t]
  rw [e]
  unfold rowOf V V0
  after_reads_at
  rfl

theorem st_in (t : Fin cfg0.N) (p : Fin 15) (s : Fin 32) (q : Fin 512) :
    (iblk m c 1 t : Vec Ideal S15x32x512 .f32) (ix3 p s q) = stA m c s p q := by
  have e : (iblk m c 1 t : Vec Ideal S15x32x512 .f32) (ix3 p s q) = (V m c main_v5 : Vec Ideal S15x32x512 .f32) (ix3 p s q) := by
    blk_ext [iblk, at_1 t]
  rw [e]
  unfold V V0
  after_reads_at
  rfl

theorem us_in (t : Fin cfg0.N) (j : Fin 4) (s : Fin 32) (k : Fin 512) :
    (iblk m c 2 t : Vec Ideal S128x512 .f32) (ix2 (rowOf j s) k) = usA m c s j k := by
  have e : (iblk m c 2 t : Vec Ideal S128x512 .f32) (ix2 (rowOf j s) k) = (V m c main_v7 : Vec Ideal S128x512 .f32) (ix2 (rowOf j s) k) := by
    blk_ext [iblk, at_2 t]
  rw [e]
  unfold rowOf V V0
  after_reads_at
  rfl

theorem gt_in (t : Fin cfg0.N) (j : Fin 4) (s : Fin 32) (k : Fin 1024) :
    (iblk m c 3 t : Vec Ideal S128x1024 .bf16) (ix2 (rowOf j s) k) = silu (gtA m c s j k) := by
  have e : (iblk m c 3 t : Vec Ideal S128x1024 .bf16) (ix2 (rowOf j s) k) = (V m c main_v15 : Vec Ideal S128x1024 .bf16) (ix2 (rowOf j s) k) := by
    blk_ext [iblk, at_3 t]
  rw [e]
  unfold rowOf V V0
  after_reads_at
  rw [row_mod, row_div]
  rfl

theorem rx_in (t : Fin cfg0.N) (j : Fin 4) (s : Fin 32) (k : Fin 1024) :
    (iblk m c 4 t : Vec Ideal S128x1024 .f32) (ix2 (rowOf j s) k) = rxA m c s j k := by
  have e : (iblk m c 4 t : Vec Ideal S128x1024 .f32) (ix2 (rowOf j s) k) = (V m c main_v17 : Vec Ideal S128x1024 .f32) (ix2 (rowOf j s) k) := by
    blk_ext [iblk, at_4 t]
  rw [e]
  unfold rowOf V V0
  after_reads_at
  rfl

theorem wp_in (t : Fin cfg0.N) (g : Fin 4) (a b : Fin 128) :
    (iblk m c 5 t : Vec Ideal S4x128x128 .bf16) (ix3 g a b) = wpA m c g a b := by
  have e : (iblk m c 5 t : Vec Ideal S4x128x128 .bf16) (ix3 g a b) = (V m c main_v19 : Vec Ideal S4x128x128 .bf16) (ix3 g a b) := by
    blk_ext [iblk, at_5 t]
  rw [e]
  unfold V V0
  after_reads_at
  rfl

theorem ps_in (t : Fin cfg0.N) (i : Fin 512) :
    (iblk m c 6 t : Vec Ideal S1x512 .f32) (ix2 0 i) = psA m c i := by
  have e : (iblk m c 6 t : Vec Ideal S1x512 .f32) (ix2 0 i) = (V m c main_arg6 : Vec Ideal S1x512 .f32) (ix2 0 i) := by
    blk_ext [iblk, at_6 t]
  rw [e, V_main_arg6]
  rfl

theorem wo_in (t : Fin cfg0.N) (i k : Fin 1024) :
    (iblk m c 7 t : Vec Ideal S1024x1024 .bf16) (ix2 i k) = woA m c i k := by
  have e : (iblk m c 7 t : Vec Ideal S1024x1024 .bf16) (ix2 i k) = (V m c main_v21 : Vec Ideal S1024x1024 .bf16) (ix2 i k) := by
    blk_ext [iblk, at_7 t]
  rw [e]
  unfold V V0
  after_reads_at
  rfl

theorem fg_in (t : Fin cfg0.N) (k : Fin 1024) :
    (iblk m c 8 t : Vec Ideal S1x1024 .f32) (ix2 0 k) = fgA m c k := by
  have e : (iblk m c 8 t : Vec Ideal S1x1024 .f32) (ix2 0 k) = (V m c main_v22 : Vec Ideal S1x1024 .f32) (ix2 0 k) := by
    blk_ext [iblk, at_8 t]
  rw [e]
  unfold V V0
  after_reads_at
  rfl

/-- The layer's row for token `j` of sequence `s`. -/
def yA (s : Fin 32) (j : Fin 4) (k : Fin 1024) : EReal :=
  out (atA m c) (stA m c) (usA m c) (gtA m c) (rxA m c) (wpA m c) (psA m c) (woA m c) (fgA m c) s j k

/-- The output array. -/
def yG : Vec Ideal S128x1024 .f32 := fun y =>
  yA m c ⟨(y 0).val % 32, Nat.mod_lt _ (by decide)⟩ ⟨(y 0).val / 32, by have : (y 0).val < 128 := (y 0).isLt; omega⟩ (y 1)

theorem blk_at (t : Fin cfg0.N) (j : Fin 4) (s : Fin 32) (k : Fin 1024) :
    out0_9 (iblk m c 0 t) (iblk m c 1 t) (iblk m c 2 t) (iblk m c 3 t) (iblk m c 4 t) (iblk m c 5 t) (iblk m c 6 t) (iblk m c 7 t) (iblk m c 8 t)
      (ix2 (rowOf j s) k) = yA m c s j k := by
  refine (out_at _ _ _ _ _ _ _ _ _ j s k).trans ?_
  unfold col
  simp only [at_in, st_in, us_in, gt_in, rx_in, wp_in, ps_in, wo_in, fg_in]
  rfl

theorem row_split (r : Fin 128) : r = rowOf ⟨r.val / 32, by omega⟩ ⟨r.val % 32, Nat.mod_lt _ (by decide)⟩ := Fin.ext (by
  show r.val = 32 * (r.val / 32) + r.val % 32
  omega)

theorem yG_at (t : Fin cfg0.N) (a : Fin 128) (b : Fin 1024) (y : S128x1024.Idx) (h0 : (y 0).val = a.val) (h1 : (y 1).val = b.val) :
    out0_9 (iblk m c 0 t) (iblk m c 1 t) (iblk m c 2 t) (iblk m c 3 t) (iblk m c 4 t) (iblk m c 5 t) (iblk m c 6 t) (iblk m c 7 t) (iblk m c 8 t)
      (ix2 a b) = yG m c y := by
  obtain rfl : y = ix2 a b := funext fun k => Fin.ext (by
    match k with
    | ⟨0, _⟩ => exact h0
    | ⟨1, _⟩ => exact h1)
  exact (congrArg (fun r => out0_9 (iblk m c 0 t) (iblk m c 1 t) (iblk m c 2 t) (iblk m c 3 t) (iblk m c 4 t) (iblk m c 5 t) (iblk m c 6 t)
    (iblk m c 7 t) (iblk m c 8 t) (ix2 r b)) (row_split a)).trans (blk_at m c t _ _ b)

/-- What the call leaves in the output array. -/
theorem y_arr : (dats m 0 c).arrAt 9 cfg0.N = yG m c := by
  refine (dats m 0 c).arrAt_eq_of_covers 9 _ (by decide +kernel) fun t hfl y => ?_
  blk_simp
  rw [after0_9]
  idx_vars y
  refine yG_at m c t y0 y1 _ ?_ ?_
  · blk_simp [at_9 t]
  · blk_simp [at_9 t]

theorem turn_at (w : Vec Ideal S128x1024 .f32) (s : Fin 32) (j : Fin 4) (k : Fin 1024) :
    (transpose S32x4x1024 [1, 0, 2] (shapeCast _ w shapeCasts_S128x1024_S4x32x1024) transposes_S4x32x1024_S32x4x1024_1_0_2 :
      Vec Ideal S32x4x1024 .f32) (ix3 s j k) = w (ix2 (rowOf j s) k) := by
  pointwise
  exact congrArg (fun r => w (ix2 r k)) (Fin.ext (by
    show j.val * 32 + s.val = 32 * j.val + s.val
    omega))

/-- The result. -/
theorem res_at (s : Fin 32) (j : Fin 4) (k : Fin 1024) :
    (transpose S32x4x1024 [1, 0, 2] (shapeCast _ (Value.reg_main_v23 m c) shapeCasts_S128x1024_S4x32x1024)
      transposes_S4x32x1024_S32x4x1024_1_0_2 : Vec Ideal S32x4x1024 .f32) (ix3 s j k) = yA m c s j k := by
  unfold Value.reg_main_v23
  rw [y_arr]
  refine (turn_at (yG m c) s j k).trans ?_
  exact congrArg₂ (fun s j => yA m c s j k) (row_mod j s (by omega)) (row_div j s (by omega))

end Cert.Kernel3Ideal.Merge

end
-- ==== Proof.MergeRef.lean ====
module

public import proofs.«01_k».proof.Proof.MergeSpec
public import proofs.«01_k».proof.Proof.Gen.Reference3Ideal.Run
public import Idealize.ShloMosaic.Lib.Quiescent

/-! The sample's merge as the reference writes it, stage by stage, and the row that it comes to. -/

@[expose] public section

set_option maxRecDepth 65536

noncomputable section

namespace Cert.Reference3Ideal.Merge

open Cert.Reference3Ideal Cert.Reference3Ideal.Gen Cert.Reference3Ideal.Value Idealize.ShloMosaic Idealize.ShloMosaic.TcCoe Idealize.SL.Sem Cert.Merge

/-- The state's inputs, then the new ones. -/
def extR (a1 : FVec Ideal S1x32x15x512 .f32) (a2 : FVec Ideal S32x4x512 .f32) : FVec Ideal S32x19x512 .f32 :=
  (concatenate S32x19x512 1 [⟨S32x15x512, (shapeCast _ a1 shapeCasts_S1x32x15x512_S32x15x512)⟩, ⟨S32x4x512, a2⟩] concatenates_S32x15x512_S32x4x512_S32x19x512_d1)

/-- Choosing by a mask. -/
theorem pick (P : Prop) [Decidable P] (a : EReal) :
    Scalar.select (if P then 1#1 else 0#1) a ((id (constant S_ .f32 0#32) : FVec Ideal S_ .f32) ix0) = if P then a else 0 := by
  have z : (id (constant S_ .f32 0#32) : FVec Ideal S_ .f32) ix0 = 0 := Ideal.ofBits_zero_f32
  rw [z]
  by_cases h : P <;> simp [h, Scalar.select]

theorem ext_at (a1 : FVec Ideal S1x32x15x512 .f32) (a2 : FVec Ideal S32x4x512 .f32) (s : Fin 32) (p : Fin 19) (q : Fin 512) :
    extR a1 a2 (ix3 s p q) = ext (fun p => a1 (ix4 0 s p q)) (fun j => a2 (ix3 s j q)) p := by
  unfold ext
  pointwise [extR]

/-- Which inputs group 0's window holds. -/
def mask0 : Vec Ideal S4x19 .i1 :=
  (andi (cmpi .sge (subi (broadcastInDim S4x19 ![0, 1] bcast_S4x1_S4x19_0_1 (broadcastInDim S4x1 ![0] bcast_S4_S4x1_0 (addi (broadcastInDim S4 ![] bcast_S_S4 (constantI S_ 32 15#32)) (iotaInDim S4 32 0)))) (broadcastInDim S4x19 ![0, 1] bcast_S1x19_S4x19_0_1 (broadcastInDim S1x19 ![1] bcast_S19_S1x19_1 (iotaInDim S19 32 0)))) (broadcastInDim S4x19 ![] bcast_S_S4x19 (constantI S_ 32 0#32))) (cmpi .slt (subi (broadcastInDim S4x19 ![0, 1] bcast_S4x1_S4x19_0_1 (broadcastInDim S4x1 ![0] bcast_S4_S4x1_0 (addi (broadcastInDim S4 ![] bcast_S_S4 (constantI S_ 32 15#32)) (iotaInDim S4 32 0)))) (broadcastInDim S4x19 ![0, 1] bcast_S1x19_S4x19_0_1 (broadcastInDim S1x19 ![1] bcast_S19_S1x19_1 (iotaInDim S19 32 0)))) (broadcastInDim S4x19 ![] bcast_S_S4x19 (constantI S_ 32 2#32))))

theorem mask0_at (j : Fin 4) (p : Fin 19) :
    mask0 (ix2 j p) = if p.val ≤ 15 + j.val ∧ 15 + j.val < p.val + 2 then 1#1 else 0#1 := by
  revert j p
  pointwise [mask0]
  decide +kernel

/-- Group 0's means, each less the input itself. -/
def diff0 (e3 : FVec Ideal S32x19x512 .f32) : FVec Ideal S32x4x128 .f32 :=
  (subf (Host.divf (Host.reduceAdd (select (broadcastInDim S32x4x19x128 ![0, 1, 2, 3] bcast_S1x4x19x1_S32x4x19x128_0_1_2_3 (broadcastInDim S1x4x19x1 ![1, 2] bcast_S4x19_S1x4x19x1_1_2 mask0)) (broadcastInDim S32x4x19x128 ![0, 1, 2, 3] bcast_S32x1x19x128_S32x4x19x128_0_1_2_3 (broadcastInDim S32x1x19x128 ![0, 2, 3] bcast_S32x19x128_S32x1x19x128_0_2_3 (extractStridedSlice S32x19x128 ![0, 0, 0] e3 slices_S32x19x512_S32x19x128_0_0_0))) (broadcastInDim S32x4x19x128 ![] bcast_S_S32x4x19x128 (id (constant S_ .f32 0x00000000#32)))) (constant S_ .f32 0x00000000#32) reducesTo_S32x4x19x128_S32x4x128_d2 h_S_) (broadcastInDim S32x4x128 ![] bcast_S_S32x4x128 (constant S_ .f32 0x40000000#32))) (extractStridedSlice S32x4x128 ![0, 15, 0] (extractStridedSlice S32x19x128 ![0, 0, 0] e3 slices_S32x19x512_S32x19x128_0_0_0) slices_S32x19x128_S32x4x128_0_15_0))

theorem diff0_at (e3 : FVec Ideal S32x19x512 .f32) (s : Fin 32) (j : Fin 4) (e : Fin 128) :
    diff0 e3 (ix3 s j e) = diff (fun p => e3 (ix3 s p (chan 0 e))) (width 0) (divisor 0) j := by
  unfold diff win
  have hm := mask0_at j
  pointwise [diff0]
  rw [width_0, divisor_0, ← chan_0]
  refine congrArg₂ (· - ·) (congrArg₂ Ideal.div (Finset.sum_congr rfl fun x _ => ?_) rfl) rfl
  exact (congrFun (congrFun (congrArg Scalar.select (hm x)) _) _).trans (pick _ _)

/-- Group 0's differences, mixed. -/
def grp0 (e3 : FVec Ideal S32x19x512 .f32) (a5 : FVec Ideal S1x4x128x128 .f32) : FVec Ideal S32x4x128 .f32 :=
  Host.dotGeneral dot_S32x4x128_S128x128_S32x4x128_2_0_01_1_n_n none (diff0 e3) (shapeCast _ (extractStridedSlice S1x1x128x128 ![0, 0, 0, 0] a5 slices_S1x4x128x128_S1x1x128x128_0_0_0_0) shapeCasts_S1x1x128x128_S128x128)

theorem grp0_at (e3 : FVec Ideal S32x19x512 .f32) (a5 : FVec Ideal S1x4x128x128 .f32) (s : Fin 32) (j : Fin 4) (i : Fin 128) :
    grp0 e3 a5 (ix3 s j i) = ∑ e : Fin 128, diff0 e3 (ix3 s j e) * a5 (ix4 0 0 e i) := by
  pointwise [grp0]
  try rfl

/-- Which inputs group 1's window holds. -/
def mask1 : Vec Ideal S4x19 .i1 :=
  (andi (cmpi .sge (subi (broadcastInDim S4x19 ![0, 1] bcast_S4x1_S4x19_0_1 (broadcastInDim S4x1 ![0] bcast_S4_S4x1_0 (addi (broadcastInDim S4 ![] bcast_S_S4 (constantI S_ 32 15#32)) (iotaInDim S4 32 0)))) (broadcastInDim S4x19 ![0, 1] bcast_S1x19_S4x19_0_1 (broadcastInDim S1x19 ![1] bcast_S19_S1x19_1 (iotaInDim S19 32 0)))) (broadcastInDim S4x19 ![] bcast_S_S4x19 (constantI S_ 32 0#32))) (cmpi .slt (subi (broadcastInDim S4x19 ![0, 1] bcast_S4x1_S4x19_0_1 (broadcastInDim S4x1 ![0] bcast_S4_S4x1_0 (addi (broadcastInDim S4 ![] bcast_S_S4 (constantI S_ 32 15#32)) (iotaInDim S4 32 0)))) (broadcastInDim S4x19 ![0, 1] bcast_S1x19_S4x19_0_1 (broadcastInDim S1x19 ![1] bcast_S19_S1x19_1 (iotaInDim S19 32 0)))) (broadcastInDim S4x19 ![] bcast_S_S4x19 (constantI S_ 32 4#32))))

theorem mask1_at (j : Fin 4) (p : Fin 19) :
    mask1 (ix2 j p) = if p.val ≤ 15 + j.val ∧ 15 + j.val < p.val + 4 then 1#1 else 0#1 := by
  revert j p
  pointwise [mask1]
  decide +kernel

/-- Group 1's means, each less the input itself. -/
def diff1 (e3 : FVec Ideal S32x19x512 .f32) : FVec Ideal S32x4x128 .f32 :=
  (subf (Host.divf (Host.reduceAdd (select (broadcastInDim S32x4x19x128 ![0, 1, 2, 3] bcast_S1x4x19x1_S32x4x19x128_0_1_2_3 (broadcastInDim S1x4x19x1 ![1, 2] bcast_S4x19_S1x4x19x1_1_2 mask1)) (broadcastInDim S32x4x19x128 ![0, 1, 2, 3] bcast_S32x1x19x128_S32x4x19x128_0_1_2_3 (broadcastInDim S32x1x19x128 ![0, 2, 3] bcast_S32x19x128_S32x1x19x128_0_2_3 (extractStridedSlice S32x19x128 ![0, 0, 128] e3 slices_S32x19x512_S32x19x128_0_0_128))) (broadcastInDim S32x4x19x128 ![] bcast_S_S32x4x19x128 (id (constant S_ .f32 0x00000000#32)))) (constant S_ .f32 0x00000000#32) reducesTo_S32x4x19x128_S32x4x128_d2 h_S_) (broadcastInDim S32x4x128 ![] bcast_S_S32x4x128 (constant S_ .f32 0x40800000#32))) (extractStridedSlice S32x4x128 ![0, 15, 0] (extractStridedSlice S32x19x128 ![0, 0, 128] e3 slices_S32x19x512_S32x19x128_0_0_128) slices_S32x19x128_S32x4x128_0_15_0))

theorem diff1_at (e3 : FVec Ideal S32x19x512 .f32) (s : Fin 32) (j : Fin 4) (e : Fin 128) :
    diff1 e3 (ix3 s j e) = diff (fun p => e3 (ix3 s p (chan 1 e))) (width 1) (divisor 1) j := by
  unfold diff win
  have hm := mask1_at j
  pointwise [diff1]
  rw [width_1, divisor_1, ← chan_1]
  refine congrArg₂ (· - ·) (congrArg₂ Ideal.div (Finset.sum_congr rfl fun x _ => ?_) rfl) rfl
  exact (congrFun (congrFun (congrArg Scalar.select (hm x)) _) _).trans (pick _ _)

/-- Group 1's differences, mixed. -/
def grp1 (e3 : FVec Ideal S32x19x512 .f32) (a5 : FVec Ideal S1x4x128x128 .f32) : FVec Ideal S32x4x128 .f32 :=
  Host.dotGeneral dot_S32x4x128_S128x128_S32x4x128_2_0_01_1_n_n none (diff1 e3) (shapeCast _ (extractStridedSlice S1x1x128x128 ![0, 1, 0, 0] a5 slices_S1x4x128x128_S1x1x128x128_0_1_0_0) shapeCasts_S1x1x128x128_S128x128)

theorem grp1_at (e3 : FVec Ideal S32x19x512 .f32) (a5 : FVec Ideal S1x4x128x128 .f32) (s : Fin 32) (j : Fin 4) (i : Fin 128) :
    grp1 e3 a5 (ix3 s j i) = ∑ e : Fin 128, diff1 e3 (ix3 s j e) * a5 (ix4 0 1 e i) := by
  pointwise [grp1]
  try rfl

/-- Which inputs group 2's window holds. -/
def mask2 : Vec Ideal S4x19 .i1 :=
  (andi (cmpi .sge (subi (broadcastInDim S4x19 ![0, 1] bcast_S4x1_S4x19_0_1 (broadcastInDim S4x1 ![0] bcast_S4_S4x1_0 (addi (broadcastInDim S4 ![] bcast_S_S4 (constantI S_ 32 15#32)) (iotaInDim S4 32 0)))) (broadcastInDim S4x19 ![0, 1] bcast_S1x19_S4x19_0_1 (broadcastInDim S1x19 ![1] bcast_S19_S1x19_1 (iotaInDim S19 32 0)))) (broadcastInDim S4x19 ![] bcast_S_S4x19 (constantI S_ 32 0#32))) (cmpi .slt (subi (broadcastInDim S4x19 ![0, 1] bcast_S4x1_S4x19_0_1 (broadcastInDim S4x1 ![0] bcast_S4_S4x1_0 (addi (broadcastInDim S4 ![] bcast_S_S4 (constantI S_ 32 15#32)) (iotaInDim S4 32 0)))) (broadcastInDim S4x19 ![0, 1] bcast_S1x19_S4x19_0_1 (broadcastInDim S1x19 ![1] bcast_S19_S1x19_1 (iotaInDim S19 32 0)))) (broadcastInDim S4x19 ![] bcast_S_S4x19 (constantI S_ 32 8#32))))

theorem mask2_at (j : Fin 4) (p : Fin 19) :
    mask2 (ix2 j p) = if p.val ≤ 15 + j.val ∧ 15 + j.val < p.val + 8 then 1#1 else 0#1 := by
  revert j p
  pointwise [mask2]
  decide +kernel

/-- Group 2's means, each less the input itself. -/
def diff2 (e3 : FVec Ideal S32x19x512 .f32) : FVec Ideal S32x4x128 .f32 :=
  (subf (Host.divf (Host.reduceAdd (select (broadcastInDim S32x4x19x128 ![0, 1, 2, 3] bcast_S1x4x19x1_S32x4x19x128_0_1_2_3 (broadcastInDim S1x4x19x1 ![1, 2] bcast_S4x19_S1x4x19x1_1_2 mask2)) (broadcastInDim S32x4x19x128 ![0, 1, 2, 3] bcast_S32x1x19x128_S32x4x19x128_0_1_2_3 (broadcastInDim S32x1x19x128 ![0, 2, 3] bcast_S32x19x128_S32x1x19x128_0_2_3 (extractStridedSlice S32x19x128 ![0, 0, 256] e3 slices_S32x19x512_S32x19x128_0_0_256))) (broadcastInDim S32x4x19x128 ![] bcast_S_S32x4x19x128 (id (constant S_ .f32 0x00000000#32)))) (constant S_ .f32 0x00000000#32) reducesTo_S32x4x19x128_S32x4x128_d2 h_S_) (broadcastInDim S32x4x128 ![] bcast_S_S32x4x128 (constant S_ .f32 0x41000000#32))) (extractStridedSlice S32x4x128 ![0, 15, 0] (extractStridedSlice S32x19x128 ![0, 0, 256] e3 slices_S32x19x512_S32x19x128_0_0_256) slices_S32x19x128_S32x4x128_0_15_0))

theorem diff2_at (e3 : FVec Ideal S32x19x512 .f32) (s : Fin 32) (j : Fin 4) (e : Fin 128) :
    diff2 e3 (ix3 s j e) = diff (fun p => e3 (ix3 s p (chan 2 e))) (width 2) (divisor 2) j := by
  unfold diff win
  have hm := mask2_at j
  pointwise [diff2]
  rw [width_2, divisor_2, ← chan_2]
  refine congrArg₂ (· - ·) (congrArg₂ Ideal.div (Finset.sum_congr rfl fun x _ => ?_) rfl) rfl
  exact (congrFun (congrFun (congrArg Scalar.select (hm x)) _) _).trans (pick _ _)

/-- Group 2's differences, mixed. -/
def grp2 (e3 : FVec Ideal S32x19x512 .f32) (a5 : FVec Ideal S1x4x128x128 .f32) : FVec Ideal S32x4x128 .f32 :=
  Host.dotGeneral dot_S32x4x128_S128x128_S32x4x128_2_0_01_1_n_n none (diff2 e3) (shapeCast _ (extractStridedSlice S1x1x128x128 ![0, 2, 0, 0] a5 slices_S1x4x128x128_S1x1x128x128_0_2_0_0) shapeCasts_S1x1x128x128_S128x128)

theorem grp2_at (e3 : FVec Ideal S32x19x512 .f32) (a5 : FVec Ideal S1x4x128x128 .f32) (s : Fin 32) (j : Fin 4) (i : Fin 128) :
    grp2 e3 a5 (ix3 s j i) = ∑ e : Fin 128, diff2 e3 (ix3 s j e) * a5 (ix4 0 2 e i) := by
  pointwise [grp2]
  try rfl

/-- Which inputs group 3's window holds. -/
def mask3 : Vec Ideal S4x19 .i1 :=
  (andi (cmpi .sge (subi (broadcastInDim S4x19 ![0, 1] bcast_S4x1_S4x19_0_1 (broadcastInDim S4x1 ![0] bcast_S4_S4x1_0 (addi (broadcastInDim S4 ![] bcast_S_S4 (constantI S_ 32 15#32)) (iotaInDim S4 32 0)))) (broadcastInDim S4x19 ![0, 1] bcast_S1x19_S4x19_0_1 (broadcastInDim S1x19 ![1] bcast_S19_S1x19_1 (iotaInDim S19 32 0)))) (broadcastInDim S4x19 ![] bcast_S_S4x19 (constantI S_ 32 0#32))) (cmpi .slt (subi (broadcastInDim S4x19 ![0, 1] bcast_S4x1_S4x19_0_1 (broadcastInDim S4x1 ![0] bcast_S4_S4x1_0 (addi (broadcastInDim S4 ![] bcast_S_S4 (constantI S_ 32 15#32)) (iotaInDim S4 32 0)))) (broadcastInDim S4x19 ![0, 1] bcast_S1x19_S4x19_0_1 (broadcastInDim S1x19 ![1] bcast_S19_S1x19_1 (iotaInDim S19 32 0)))) (broadcastInDim S4x19 ![] bcast_S_S4x19 (constantI S_ 32 16#32))))

theorem mask3_at (j : Fin 4) (p : Fin 19) :
    mask3 (ix2 j p) = if p.val ≤ 15 + j.val ∧ 15 + j.val < p.val + 16 then 1#1 else 0#1 := by
  revert j p
  pointwise [mask3]
  decide +kernel

/-- Group 3's means, each less the input itself. -/
def diff3 (e3 : FVec Ideal S32x19x512 .f32) : FVec Ideal S32x4x128 .f32 :=
  (subf (Host.divf (Host.reduceAdd (select (broadcastInDim S32x4x19x128 ![0, 1, 2, 3] bcast_S1x4x19x1_S32x4x19x128_0_1_2_3 (broadcastInDim S1x4x19x1 ![1, 2] bcast_S4x19_S1x4x19x1_1_2 mask3)) (broadcastInDim S32x4x19x128 ![0, 1, 2, 3] bcast_S32x1x19x128_S32x4x19x128_0_1_2_3 (broadcastInDim S32x1x19x128 ![0, 2, 3] bcast_S32x19x128_S32x1x19x128_0_2_3 (extractStridedSlice S32x19x128 ![0, 0, 384] e3 slices_S32x19x512_S32x19x128_0_0_384))) (broadcastInDim S32x4x19x128 ![] bcast_S_S32x4x19x128 (id (constant S_ .f32 0x00000000#32)))) (constant S_ .f32 0x00000000#32) reducesTo_S32x4x19x128_S32x4x128_d2 h_S_) (broadcastInDim S32x4x128 ![] bcast_S_S32x4x128 (constant S_ .f32 0x41800000#32))) (extractStridedSlice S32x4x128 ![0, 15, 0] (extractStridedSlice S32x19x128 ![0, 0, 384] e3 slices_S32x19x512_S32x19x128_0_0_384) slices_S32x19x128_S32x4x128_0_15_0))

theorem diff3_at (e3 : FVec Ideal S32x19x512 .f32) (s : Fin 32) (j : Fin 4) (e : Fin 128) :
    diff3 e3 (ix3 s j e) = diff (fun p => e3 (ix3 s p (chan 3 e))) (width 3) (divisor 3) j := by
  unfold diff win
  have hm := mask3_at j
  pointwise [diff3]
  rw [width_3, divisor_3, ← chan_3]
  refine congrArg₂ (· - ·) (congrArg₂ Ideal.div (Finset.sum_congr rfl fun x _ => ?_) rfl) rfl
  exact (congrFun (congrFun (congrArg Scalar.select (hm x)) _) _).trans (pick _ _)

/-- Group 3's differences, mixed. -/
def grp3 (e3 : FVec Ideal S32x19x512 .f32) (a5 : FVec Ideal S1x4x128x128 .f32) : FVec Ideal S32x4x128 .f32 :=
  Host.dotGeneral dot_S32x4x128_S128x128_S32x4x128_2_0_01_1_n_n none (diff3 e3) (shapeCast _ (extractStridedSlice S1x1x128x128 ![0, 3, 0, 0] a5 slices_S1x4x128x128_S1x1x128x128_0_3_0_0) shapeCasts_S1x1x128x128_S128x128)

theorem grp3_at (e3 : FVec Ideal S32x19x512 .f32) (a5 : FVec Ideal S1x4x128x128 .f32) (s : Fin 32) (j : Fin 4) (i : Fin 128) :
    grp3 e3 a5 (ix3 s j i) = ∑ e : Fin 128, diff3 e3 (ix3 s j e) * a5 (ix4 0 3 e i) := by
  pointwise [grp3]
  try rfl

/-- Projected out onto the residual. -/
def hR (a0 : FVec Ideal S32x4x512 .f32) (p0 p1 p2 p3 : FVec Ideal S32x4x128 .f32) (a3 a4 : FVec Ideal S32x4x1024 .f32)
    (a6 : FVec Ideal S1x512 .f32) (a7 : FVec Ideal S1x1024x1024 .f32) : FVec Ideal S32x4x1024 .f32 :=
  (addf a4 (Host.dotGeneral dot_S32x4x1024_S1024x1024_S32x4x1024_2_0_01_1_n_n none (mulf (concatenate S32x4x1024 2 [⟨S32x4x512, a0⟩, ⟨S32x4x512, (mulf ((concatenate S32x4x512 2 [⟨S32x4x128, (p0 : FVec Ideal S32x4x128 .f32)⟩, ⟨S32x4x128, (p1 : FVec Ideal S32x4x128 .f32)⟩, ⟨S32x4x128, (p2 : FVec Ideal S32x4x128 .f32)⟩, ⟨S32x4x128, (p3 : FVec Ideal S32x4x128 .f32)⟩] concatenates_S32x4x128_S32x4x128_S32x4x128_S32x4x128_S32x4x512_d2 : FVec Ideal S32x4x512 .f32)) (broadcastInDim S32x4x512 ![0, 1, 2] bcast_S1x1x512_S32x4x512_0_1_2 (broadcastInDim S1x1x512 ![2] bcast_S512_S1x1x512_2 (shapeCast _ a6 shapeCasts_S1x512_S512))))⟩] concatenates_S32x4x512_S32x4x512_S32x4x1024_d2) (mulf a3 (Host.divf (broadcastInDim S32x4x1024 ![] bcast_S_S32x4x1024 (constant S_ .f32 0x3F800000#32)) (addf (broadcastInDim S32x4x1024 ![] bcast_S_S32x4x1024 (constant S_ .f32 0x3F800000#32)) (Host.exp (Host.negf a3)))))) (shapeCast _ a7 shapeCasts_S1x1024x1024_S1024x1024)))

theorem h_at (a0 : FVec Ideal S32x4x512 .f32) (p0 p1 p2 p3 : FVec Ideal S32x4x128 .f32) (a3 a4 : FVec Ideal S32x4x1024 .f32)
    (a6 : FVec Ideal S1x512 .f32) (a7 : FVec Ideal S1x1024x1024 .f32) (s : Fin 32) (j : Fin 4) (c : Fin 1024) :
    hR a0 p0 p1 p2 p3 a3 a4 a6 a7 (ix3 s j c)
      = hrow (fun k => a4 (ix3 s j k)) (mix (fun i => a0 (ix3 s j i))
          (side (fun i => p0 (ix3 s j i)) (fun i => p1 (ix3 s j i)) (fun i => p2 (ix3 s j i)) (fun i => p3 (ix3 s j i)))
          (fun i => a6 (ix2 0 i)) (fun i => silu (a3 (ix3 s j i)))) (fun i k => a7 (ix3 0 i k)) c := by
  unfold hrow mix side silu
  pointwise [hR]
  try rfl

/-- Normalised. -/
def yR (h : FVec Ideal S32x4x1024 .f32) (a8 : FVec Ideal S1024 .f32) : FVec Ideal S32x4x1024 .f32 :=
  mulf (mulf h (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf h h) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 a8))

theorem y_at (h : FVec Ideal S32x4x1024 .f32) (a8 : FVec Ideal S1024 .f32) (s : Fin 32) (j : Fin 4) (c : Fin 1024) :
    yR h a8 (ix3 s j c) = yrow (fun k => h (ix3 s j k)) (fun k => a8 (ix1 k)) c := by
  unfold yrow
  pointwise [yR]
  try rfl

/-- The whole reference. -/
def refR (a0 : FVec Ideal S32x4x512 .f32) (a1 : FVec Ideal S1x32x15x512 .f32) (a2 : FVec Ideal S32x4x512 .f32) (a3 : FVec Ideal S32x4x1024 .f32)
    (a4 : FVec Ideal S32x4x1024 .f32) (a5 : FVec Ideal S1x4x128x128 .f32) (a6 : FVec Ideal S1x512 .f32) (a7 : FVec Ideal S1x1024x1024 .f32)
    (a8 : FVec Ideal S1024 .f32) : FVec Ideal S32x4x1024 .f32 :=
  yR (hR a0 (grp0 (extR a1 a2) a5) (grp1 (extR a1 a2) a5) (grp2 (extR a1 a2) a5) (grp3 (extR a1 a2) a5) a3 a4 a6 a7) a8

theorem ref_at (a0 : FVec Ideal S32x4x512 .f32) (a1 : FVec Ideal S1x32x15x512 .f32) (a2 : FVec Ideal S32x4x512 .f32) (a3 : FVec Ideal S32x4x1024 .f32)
    (a4 : FVec Ideal S32x4x1024 .f32) (a5 : FVec Ideal S1x4x128x128 .f32) (a6 : FVec Ideal S1x512 .f32) (a7 : FVec Ideal S1x1024x1024 .f32)
    (a8 : FVec Ideal S1024 .f32) (s : Fin 32) (j : Fin 4) (c : Fin 1024) :
    refR a0 a1 a2 a3 a4 a5 a6 a7 a8 (ix3 s j c)
      = out (fun s j i => a0 (ix3 s j i)) (fun s p q => a1 (ix4 0 s p q)) (fun s j q => a2 (ix3 s j q)) (fun s j k => a3 (ix3 s j k))
          (fun s j k => a4 (ix3 s j k)) (fun g e i => a5 (ix4 0 g e i)) (fun i => a6 (ix2 0 i)) (fun i k => a7 (ix3 0 i k))
          (fun k => a8 (ix1 k)) s j c := by
  unfold refR out
  rw [y_at, ← side_eq]
  simp only [h_at, grp0_at, grp1_at, grp2_at, grp3_at, diff0_at, diff1_at, diff2_at, diff3_at, ext_at]

/-- The result is this reference of the arguments. -/
theorem res_eq (m : (ℓ : Loc nD τ sig) → Buf (Elt Ideal) ℓ) (c : Dev nD) :
    Value.res_main_v102 m c = refR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

/-- The reference leaves its arguments as they were; it declares no counter. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2, sem_eq_zero_of_no_sems (by decide) r.2⟩) (Value.run m ρ)

end Cert.Reference3Ideal.Merge

end
-- ==== Proof.MergeAlg.lean ====
module

public import proofs.«01_k».proof.Defs
public import proofs.«01_k».proof.Proof.MergeHost
public import proofs.«01_k».proof.Proof.MergeRef
public import proofs.«01_k».proof.Proof.Gen.Kernel3
public import proofs.«01_k».proof.Proof.Gen.Kernel3.Frame
public import proofs.«01_k».proof.Proof.Gen.Kernel3Ideal
public import Idealize.ShloMosaic.Lib.Claim

/-! The sample's merge and its reference agree. -/

@[expose] public section

set_option maxRecDepth 65536

noncomputable section

namespace Cert.MergeAlg

open Idealize.ShloMosaic Idealize.ShloMosaic.TcCoe Idealize.SL.Sem Cert.Kernel3Ideal.Merge Cert.Reference3Ideal.Merge

/-- The merge and its reference agree on all arguments. -/
theorem merge : Cert.algebraic_Kernel3Ideal_Reference3Ideal := fun m ρ m' g' _ heq =>
  ⟨_, Cert.Kernel3Ideal.Value.run m ρ,
    (θ_run _ _ _).mono (fun r h c => by
        obtain ⟨e0, e1, e2, e3, e4, e5, e6, e7, e8⟩ := heq c
        refine ⟨(h c).1.trans ((res_eq m' c).trans ?_), (h c).2⟩
        rw [e0, e1, e2, e3, e4, e5, e6, e7, e8]
        funext y
        change Cert.Reference3Ideal.S32x4x1024.Idx at y
        idx_vars y
        exact (ref_at _ _ _ _ _ _ _ _ _ y0 y1 y2).trans (res_at m c y0 y1 y2).symm)
      (Cert.Reference3Ideal.Value.run m' g')⟩

end Cert.MergeAlg

end
-- ==== Proof.Entry.lean ====
module

public import proofs.«01_k».proof.Proof.Whole
public import Idealize.ShloMosaic.Lib.Pointwise
public import Idealize.ShloMosaic.Lib.Pipeline.ValueKit.Geometry
public import Idealize.ShloMosaic.Lib.StableHlo.ReadAt

@[expose] public section
set_option maxRecDepth 65536
noncomputable section
namespace Cert.KernelIdeal.Attn
open Cert.KernelIdeal Cert.KernelIdeal.Gen Idealize.ShloMosaic Idealize.ShloMosaic.TcCoe Idealize.SL.Sem

/-- The head of a grid point. -/
def hd (t : Fin cfg0.N) : Fin 4 := ⟨(grid0.coords t 0).val, (grid0.coords t 0).isLt⟩

/-- The tile of a grid point. -/
def tl (t : Fin cfg0.N) : Fin 32 := ⟨(grid0.coords t 1).val, (grid0.coords t 1).isLt⟩

/-- Where each window stands at a grid point. -/
theorem win_at (t : Fin cfg0.N) : win0_0.index t = ![(hd t).val, 0, 0, (tl t).val] ∧ win0_1.index t = ![(hd t).val, 0, 0] ∧ win0_2.index t = ![(hd t).val, 0, 0]
    ∧ win0_3.index t = ![(hd t).val, 0, 0] ∧ win0_4.index t = ![(hd t).val, 0, 0] ∧ win0_5.index t = ![0, 0] ∧ win0_6.index t = ![0, 0]
    ∧ win0_7.index t = ![0, 0] ∧ win0_8.index t = ![0, 0] ∧ win0_9.index t = ![0, 0] ∧ win0_10.index t = ![(tl t).val, (hd t).val] := by
  revert t
  decide +kernel

variable (m : (ℓ : Loc nD τ sig) → Buf (Elt Ideal) ℓ) (c : Dev nD) (t : Fin cfg0.N)

/-- The queries, as they come: row, head, component, feature. -/
def qa (n : Fin 16400) (h : Fin 4) (p : Fin 2) (d : Fin 64) : EReal := (m ((c : Thread nD τ).loc main_arg0) : Vec Ideal S1x16400x4x2x64 .f32) (ix5 0 n h p d)
/-- The keys, as they come. -/
def ka (n : Fin 16400) (h : Fin 4) (p : Fin 2) (d : Fin 64) : EReal := (m ((c : Thread nD τ).loc main_arg1) : Vec Ideal S1x16400x4x2x64 .f32) (ix5 0 n h p d)
/-- The values, as they come. -/
def va (n : Fin 16400) (h : Fin 4) (e : Fin 128) : EReal := (m ((c : Thread nD τ).loc main_arg2) : Vec Ideal S1x16400x4x128 .f32) (ix4 0 n h e)
/-- The four rows the head mixing weight is made of. -/
def la0 (d : Fin 64) : EReal := (m ((c : Thread nD τ).loc main_arg3) : Vec Ideal S1x64 .f32) (ix2 0 d)
def la1 (d : Fin 64) : EReal := (m ((c : Thread nD τ).loc main_arg4) : Vec Ideal S1x64 .f32) (ix2 0 d)
def la2 (d : Fin 64) : EReal := (m ((c : Thread nD τ).loc main_arg5) : Vec Ideal S1x64 .f32) (ix2 0 d)
def la3 (d : Fin 64) : EReal := (m ((c : Thread nD τ).loc main_arg6) : Vec Ideal S1x64 .f32) (ix2 0 d)
/-- The gain of the closing normalisation. -/
def ga (e : Fin 128) : EReal := (m ((c : Thread nD τ).loc main_arg7) : Vec Ideal S1x128 .f32) (ix2 0 e)

theorem in0 (p : Fin 2) (x : Fin 128) (r : Fin 512) (n : Fin 16384) (hn : n.val = 512 * (tl t).val + r.val) :
    (iblk m c 0 t : Vec Ideal S1x2x128x512 .bf16) (ix4 0 p x r) = (V m c main_v13 : Vec Ideal S4x2x128x16384 .bf16) (ix4 (hd t) p x n) := by
  blk_ext [iblk, (win_at t).1]
theorem in1 (k : Fin 16384) (x : Fin 128) :
    (iblk m c 1 t : Vec Ideal S1x16384x128 .bf16) (ix3 0 k x) = (V m c main_v27 : Vec Ideal S4x16384x128 .bf16) (ix3 (hd t) k x) := by
  blk_ext [iblk, (win_at t).2.1]
theorem in2 (e : Fin 144) (k : Fin 16384) :
    (iblk m c 2 t : Vec Ideal S1x144x16384 .bf16) (ix3 0 e k) = (V m c main_v28 : Vec Ideal S4x144x16384 .bf16) (ix3 (hd t) e k) := by
  blk_ext [iblk, (win_at t).2.2.1]
theorem in3 (k : Fin 128) (x : Fin 128) :
    (iblk m c 3 t : Vec Ideal S1x128x128 .bf16) (ix3 0 k x) = (V m c main_v24 : Vec Ideal S4x128x128 .bf16) (ix3 (hd t) k x) := by
  blk_ext [iblk, (win_at t).2.2.2.1]
theorem in4 (e : Fin 144) (k : Fin 128) :
    (iblk m c 4 t : Vec Ideal S1x144x128 .bf16) (ix3 0 e k) = (V m c main_v26 : Vec Ideal S4x144x128 .bf16) (ix3 (hd t) e k) := by
  blk_ext [iblk, (win_at t).2.2.2.2.1]
theorem in5 (d : Fin 64) : (iblk m c 5 t : Vec Ideal S1x64 .f32) (ix2 0 d) = la0 m c d := by
  unfold la0
  rw [← V_main_arg3 m c]
  blk_ext [iblk, (win_at t).2.2.2.2.2.1]
theorem in6 (d : Fin 64) : (iblk m c 6 t : Vec Ideal S1x64 .f32) (ix2 0 d) = la1 m c d := by
  unfold la1
  rw [← V_main_arg4 m c]
  blk_ext [iblk, (win_at t).2.2.2.2.2.2.1]
theorem in7 (d : Fin 64) : (iblk m c 7 t : Vec Ideal S1x64 .f32) (ix2 0 d) = la2 m c d := by
  unfold la2
  rw [← V_main_arg5 m c]
  blk_ext [iblk, (win_at t).2.2.2.2.2.2.2.1]
theorem in8 (d : Fin 64) : (iblk m c 8 t : Vec Ideal S1x64 .f32) (ix2 0 d) = la3 m c d := by
  unfold la3
  rw [← V_main_arg6 m c]
  blk_ext [iblk, (win_at t).2.2.2.2.2.2.2.2.1]
theorem in9 (e : Fin 128) : (iblk m c 9 t : Vec Ideal S128x1 .f32) (ix2 e 0) = (V m c main_v29 : Vec Ideal S128x1 .f32) (ix2 e 0) := by
  blk_ext [iblk, (win_at t).2.2.2.2.2.2.2.2.2.1]

/-! ## The arrays the host prepares -/

/-- The host's scale of the queries. -/
def scaleI : EReal := Ideal.div (Ideal.ofBits .f32 0x3E000000#32) (Ideal.log (Ideal.ofBits .f32 0x40000000#32))

theorem query0 (h : Fin 4) (x : Fin 128) (n : Fin 16384) :
    (V m c main_v13 : Vec Ideal S4x2x128x16384 .bf16) (ix4 h 0 x n)
      = (if hx : x.val < 64 then qa m c ⟨16 + n.val, by omega⟩ h 0 ⟨x.val, hx⟩ * scaleI else 0 : EReal) := by
  unfold V
  after_reads_at
  after_reads_at
  rfl
theorem query1 (h : Fin 4) (x : Fin 128) (n : Fin 16384) :
    (V m c main_v13 : Vec Ideal S4x2x128x16384 .bf16) (ix4 h 1 x n)
      = (if hx : x.val < 64 then 0 else qa m c ⟨16 + n.val, by omega⟩ h 1 ⟨x.val - 64, by omega⟩ * scaleI : EReal) := by
  unfold V
  after_reads_at
  after_reads_at
  rfl
theorem keys_at (h : Fin 4) (k : Fin 16384) (x : Fin 128) :
    (V m c main_v27 : Vec Ideal S4x16384x128 .bf16) (ix3 h k x)
      = ka m c ⟨16 + k.val, by omega⟩ h ⟨x.val / 64, by omega⟩ ⟨x.val % 64, by omega⟩ := by
  unfold V ka
  after_reads_at
theorem meta_keys_at (h : Fin 4) (k : Fin 128) (x : Fin 128) (hk : k.val < 16) :
    (V m c main_v24 : Vec Ideal S4x128x128 .bf16) (ix3 h k x)
      = ka m c ⟨k.val, by omega⟩ h ⟨x.val / 64, by omega⟩ ⟨x.val % 64, by omega⟩ := by
  unfold V ka
  after_reads_at
  rw [dif_pos hk]
theorem values_at (h : Fin 4) (e : Fin 144) (k : Fin 16384) (he : e.val < 128) :
    (V m c main_v28 : Vec Ideal S4x144x16384 .bf16) (ix3 h e k)
      = va m c ⟨16 + k.val, by omega⟩ h ⟨e.val, he⟩ := by
  unfold V va
  after_reads_at
  rw [dif_pos he]
  after_reads_at
theorem ones_at (h : Fin 4) (e : Fin 144) (k : Fin 16384) (he : ¬ e.val < 128) :
    (V m c main_v28 : Vec Ideal S4x144x16384 .bf16) (ix3 h e k) = (1 : EReal) := by
  unfold V
  after_reads_at
  rw [dif_neg he]
  after_reads_at
theorem meta_values_at (h : Fin 4) (e : Fin 144) (k : Fin 128) (he : e.val < 128) (hk : k.val < 16) :
    (V m c main_v26 : Vec Ideal S4x144x128 .bf16) (ix3 h e k)
      = va m c ⟨k.val, by omega⟩ h ⟨e.val, he⟩ := by
  unfold V va
  after_reads_at
  rw [dif_pos hk, dif_pos he]
  after_reads_at
theorem meta_ones_at (h : Fin 4) (e : Fin 144) (k : Fin 128) (he : ¬ e.val < 128) (hk : k.val < 16) :
    (V m c main_v26 : Vec Ideal S4x144x128 .bf16) (ix3 h e k) = (1 : EReal) := by
  unfold V
  after_reads_at
  rw [dif_pos hk, dif_neg he]
  after_reads_at
theorem gain_at (e : Fin 128) :
    (V m c main_v29 : Vec Ideal S128x1 .f32) (ix2 e 0) = ga m c e := by
  unfold V ga
  after_reads_at
end Cert.KernelIdeal.Attn
-- ==== Proof.Soft.lean ====
module

public import Idealize.ShloMosaic.PureOps.Ideal.Laws
public import Mathlib.Analysis.SpecialFunctions.Pow.Real

@[expose] public section

noncomputable section

/-! # The running softmax over the reals

A running softmax keeps a shift `M` and sums weighed by `2 ^ (score - M)`. Whatever the shift, the quotient of two such
sums is the softmax average of the keys seen so far. -/

namespace Cert.Soft

open Idealize.ShloMosaic

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A sum over `N` positions whose terms vanish from `c` on is the sum over the first `c`. -/
theorem sum_prefix {N c : ℕ} (hc : c ≤ N) (f : ℕ → ℝ) : ∑ k : Fin N, (if k.val < c then f k.val else 0) = ∑ k ∈ Finset.range c, f k := by
  rw [Fin.sum_univ_eq_sum_range (fun k => if k < c then f k else 0) N, ← Finset.sum_filter]
  congr 1
  ext k
  simp only [Finset.mem_filter, Finset.mem_range]
  omega

/-- The sum of the first `b` keys' values, weighed by `2 ^ (score - M)`. -/
def wsum (σ ω : ℕ → ℝ) (b : ℕ) (M : ℝ) : ℝ := ∑ k ∈ Finset.range b, ω k * (2 : ℝ) ^ (σ k - M)

/-- The state after the first `b` keys: some real shift, and the sum under that shift. -/
def Good (σ ω : ℕ → ℝ) (b : ℕ) (m a : EReal) : Prop := ∃ M : ℝ, m = (M : EReal) ∧ a = (wsum σ ω b M : EReal)

/-- What a block adds under a real shift. -/
theorem block_sum {N c : ℕ} (hc : c ≤ N) (σ ω : ℕ → ℝ) (b : ℕ) (s w : Fin N → EReal)
    (hs : ∀ k, s k = if k.val < c then ((σ (b + k.val) : ℝ) : EReal) else ⊥) (hw : ∀ k : Fin N, k.val < c → w k = ((ω (b + k.val) : ℝ) : EReal)) (M : ℝ) :
    ∑ k, w k * Ideal.exp2 (s k - (M : EReal)) = ((∑ k ∈ Finset.range c, ω (b + k) * (2 : ℝ) ^ (σ (b + k) - M) : ℝ) : EReal) := by
  rw [← sum_prefix hc (fun k => ω (b + k) * (2 : ℝ) ^ (σ (b + k) - M)), coe_sum]
  refine Finset.sum_congr rfl fun k _ => ?_
  rw [hs k]
  by_cases h : k.val < c
  · rw [if_pos h, if_pos h, hw k h, ← EReal.coe_sub, Ideal.exp2_coe, ← EReal.coe_mul]; rfl
  · rw [if_neg h, if_neg h, EReal.bot_sub, Ideal.exp2_bot, mul_zero, EReal.coe_zero]

theorem good_start {N c : ℕ} (hc : c ≤ N) (σ ω : ℕ → ℝ) (s w : Fin N → EReal)
    (hs : ∀ k, s k = if k.val < c then ((σ k.val : ℝ) : EReal) else ⊥) (hw : ∀ k : Fin N, k.val < c → w k = ((ω k.val : ℝ) : EReal))
    (mx : EReal) (hmx : ∃ r : ℝ, mx = r) :
    Good σ ω c (max ⊥ mx) (Ideal.exp2 (⊥ - max ⊥ mx) * 0 + ∑ k, w k * Ideal.exp2 (s k - max ⊥ mx)) := by
  obtain ⟨r, rfl⟩ := hmx
  refine ⟨r, by simp, ?_⟩
  rw [show max (⊥ : EReal) (r : EReal) = (r : EReal) by simp, mul_zero, zero_add,
    block_sum hc σ ω 0 s w (fun k => by rw [hs k, Nat.zero_add]) (fun k h => by rw [hw k h, Nat.zero_add])]
  simp only [Nat.zero_add, wsum]

theorem good_step {N c : ℕ} (hc : c ≤ N) {σ ω : ℕ → ℝ} {b : ℕ} {m a : EReal} (hg : Good σ ω b m a) (s w : Fin N → EReal)
    (hs : ∀ k, s k = if k.val < c then ((σ (b + k.val) : ℝ) : EReal) else ⊥) (hw : ∀ k : Fin N, k.val < c → w k = ((ω (b + k.val) : ℝ) : EReal))
    (mx : EReal) (hmx : ∃ r : ℝ, mx = r) :
    Good σ ω (b + c) (max m mx) (Ideal.exp2 (m - max m mx) * a + ∑ k, w k * Ideal.exp2 (s k - max m mx)) := by
  obtain ⟨r, rfl⟩ := hmx
  obtain ⟨M, rfl, rfl⟩ := hg
  have hmax : max (M : EReal) (r : EReal) = ((max M r : ℝ) : EReal) := (EReal.coe_strictMono.monotone.map_max).symm
  refine ⟨max M r, hmax, ?_⟩
  rw [hmax, block_sum hc σ ω b s w hs hw, ← EReal.coe_sub, Ideal.exp2_coe, ← EReal.coe_mul, ← EReal.coe_add]
  congr 1
  unfold wsum
  rw [Finset.sum_range_add, Finset.mul_sum]
  congr 1
  refine Finset.sum_congr rfl fun k _ => ?_
  show (2 : ℝ) ^ (M - max M r) * _ = _
  rw [mul_left_comm, ← Real.rpow_add (by norm_num)]
  congr 2; ring

/-- The softmax average of the first `n` keys. -/
def att (t ω : ℕ → ℝ) (n : ℕ) : ℝ := (∑ k ∈ Finset.range n, ω k * Real.exp (t k)) / ∑ k ∈ Finset.range n, Real.exp (t k)

theorem sum_exp_pos (t : ℕ → ℝ) {n : ℕ} (hn : 0 < n) : 0 < ∑ k ∈ Finset.range n, Real.exp (t k) :=
  Finset.sum_pos (fun k _ => Real.exp_pos _) ⟨0, Finset.mem_range.2 hn⟩

theorem wsum_eq (t ω : ℕ → ℝ) (n : ℕ) (M : ℝ) :
    wsum (fun k => t k / Real.log 2) ω n M = (∑ k ∈ Finset.range n, ω k * Real.exp (t k)) * (2 : ℝ) ^ (-M) := by
  unfold wsum
  rw [Finset.sum_mul]
  refine Finset.sum_congr rfl fun k _ => ?_
  rw [sub_eq_add_neg, Real.rpow_add (by norm_num), ← mul_assoc]
  congr 2
  rw [Real.rpow_def_of_pos (by norm_num), mul_div_cancel₀]
  exact (Real.log_pos (by norm_num)).ne'

/-- The quotient of the accumulated sums is the softmax average. -/
theorem good_end {t ω : ℕ → ℝ} {n : ℕ} (hn : 0 < n) {m a d : EReal} (ha : Good (fun k => t k / Real.log 2) ω n m a)
    (hd : Good (fun k => t k / Real.log 2) (fun _ => 1) n m d) : a * Ideal.div 1 d = (att t ω n : EReal) := by
  obtain ⟨M, rfl, rfl⟩ := ha
  obtain ⟨M', hM, rfl⟩ := hd
  rw [EReal.coe_eq_coe_iff] at hM
  subst hM
  have hp := sum_exp_pos t hn
  have h2 : (0 : ℝ) < (2 : ℝ) ^ (-M) := Real.rpow_pos_of_pos (by norm_num) _
  rw [wsum_eq, wsum_eq]
  simp only [one_mul]
  rw [show (1 : EReal) = ((1 : ℝ) : EReal) from rfl, Ideal.div_coe (mul_pos hp h2).ne', ← EReal.coe_mul, ← EReal.coe_mul]
  congr 1
  unfold att
  rw [one_mul]
  field_simp

/-- A causal softmax's weight of key `k`, as the reference computes it: real, and zero past the query. -/
theorem soft_weight {N n : ℕ} (hn : 0 < n) (hN : n ≤ N) (t : ℕ → ℝ) (s : Fin N → EReal)
    (hs : ∀ k, s k = if k.val < n then ((t k.val : ℝ) : EReal) else ⊥) (mx : EReal) (hmx : ∃ r : ℝ, mx = r) (k : Fin N) :
    Ideal.div (Ideal.exp (s k - mx)) (∑ k, Ideal.exp (s k - mx))
      = ((if k.val < n then Real.exp (t k.val) / (∑ k ∈ Finset.range n, Real.exp (t k)) else 0 : ℝ) : EReal) := by
  obtain ⟨r, rfl⟩ := hmx
  have hterm : ∀ k, Ideal.exp (s k - (r : EReal)) = ((if k.val < n then Real.exp (t k.val) * Real.exp (-r) else 0 : ℝ) : EReal) := by
    intro k
    rw [hs k]
    by_cases h : k.val < n
    · rw [if_pos h, if_pos h, ← EReal.coe_sub, Ideal.exp_coe, sub_eq_add_neg, Real.exp_add]
    · rw [if_neg h, if_neg h, EReal.bot_sub, Ideal.exp_bot, EReal.coe_zero]
  have hp := sum_exp_pos t hn
  have h2 := Real.exp_pos (-r)
  simp only [hterm]
  rw [← coe_sum, sum_prefix hN (fun k => Real.exp (t k) * Real.exp (-r)), ← Finset.sum_mul, Ideal.div_coe (mul_pos hp h2).ne', ← EReal.coe_mul]
  congr 1
  by_cases h : k.val < n
  · rw [if_pos h, if_pos h]; field_simp
  · rw [if_neg h, if_neg h, zero_mul]

/-- The difference of two causal softmaxes, weighing the values. -/
theorem soft_out {N n : ℕ} (hN : n ≤ N) (t0 t1 ω : ℕ → ℝ) (lam : ℝ) (v p0 p1 : Fin N → EReal) (hv : ∀ k, v k = ((ω k.val : ℝ) : EReal))
    (h0 : ∀ k, p0 k = ((if k.val < n then Real.exp (t0 k.val) / (∑ k ∈ Finset.range n, Real.exp (t0 k)) else 0 : ℝ) : EReal))
    (h1 : ∀ k, p1 k = ((if k.val < n then Real.exp (t1 k.val) / (∑ k ∈ Finset.range n, Real.exp (t1 k)) else 0 : ℝ) : EReal)) :
    ∑ k, v k * (p0 k - (lam : EReal) * p1 k) = ((att t0 ω n - lam * att t1 ω n : ℝ) : EReal) := by
  have hterm : ∀ k : Fin N, v k * (p0 k - (lam : EReal) * p1 k)
      = ((if k.val < n then ω k.val * (Real.exp (t0 k.val) / (∑ k ∈ Finset.range n, Real.exp (t0 k))
          - lam * (Real.exp (t1 k.val) / (∑ k ∈ Finset.range n, Real.exp (t1 k)))) else 0 : ℝ) : EReal) := by
    intro k
    rw [hv k, h0 k, h1 k, ← EReal.coe_mul, ← EReal.coe_sub, ← EReal.coe_mul]
    congr 1
    by_cases h : k.val < n
    · simp only [if_pos h]
    · simp only [if_neg h]; ring
  simp only [hterm]
  rw [← coe_sum, sum_prefix hN (fun k => ω k * (Real.exp (t0 k) / (∑ k ∈ Finset.range n, Real.exp (t0 k))
          - lam * (Real.exp (t1 k) / (∑ k ∈ Finset.range n, Real.exp (t1 k)))))]
  congr 1
  unfold att
  rw [Finset.sum_div, Finset.sum_div, Finset.mul_sum, ← Finset.sum_sub_distrib]
  refine Finset.sum_congr rfl fun k _ => ?_
  ring

end Cert.Soft
-- ==== Proof.Read.lean ====
module

public import proofs.«01_k».proof.Proof.Whole
public import Idealize.ShloMosaic.Lib.Pointwise
public import Idealize.ShloMosaic.Lib.WordCmp
public import proofs.«01_k».proof.Proof.Soft

@[expose] public section
set_option maxRecDepth 65536
noncomputable section
namespace Cert.KernelIdeal.Attn
open Cert.KernelIdeal Cert.KernelIdeal.Gen Idealize.ShloMosaic Idealize.ShloMosaic.TcCoe Idealize.SL.Sem
open Cert.Soft Idealize.ShloMosaic.WordCmp

/-! ## Constants -/

theorem mask_bot : (Named.named κ "mask" 0xF149F2CA#32 : Ideal .f32) = (⊥ : EReal) := rfl

theorem ninf_bot : (Ideal.ofBits .f32 0xFF800000#32 : EReal) = ⊥ := by simp [Ideal.ofBits, Ideal.ieee]

/-! ## The maximum of scores, some of them masked -/

theorem fold_max_real {N : ℕ} (f : Fin N → EReal) (h : ∀ x, f x = ⊥ ∨ ∃ r : ℝ, f x = r) (k : Fin N) (hk : ∃ r : ℝ, f k = r) :
    ∃ r : ℝ, Finset.fold max ⊥ f Finset.univ = r := by
  have e : Finset.fold max ⊥ f Finset.univ = Finset.univ.sup f := rfl
  obtain ⟨i, -, hi⟩ := Finset.exists_mem_eq_sup Finset.univ ⟨k, Finset.mem_univ k⟩ f
  rw [e, hi]
  rcases h i with hb | hr
  · have hle : f k ≤ Finset.univ.sup f := Finset.le_sup (Finset.mem_univ k)
    obtain ⟨r, hr⟩ := hk
    rw [hi, hb, hr] at hle
    simp at hle
  · exact hr

/-! ## One block read at an index -/

theorem scoreOf_at (qt : FVec Ideal S128x1024 .bf16) (kb : Vec Ideal S1x512x128 .bf16) (a : Fin 512) (b : Fin 1024) :
    (scoreOf qt kb (ix2 a b) : EReal) = ∑ x : Fin 128, (kb (ix3 0 a x) : EReal) * qt (ix2 x b) := by
  pointwise [scoreOf]

theorem topOf_at (s : FVec Ideal S512x1024 .f32) (m : Vec Ideal S1x1024 .f32) (b : Fin 1024) :
    (topOf s m (ix2 0 b) : EReal) = max (m (ix2 0 b) : EReal) (Finset.fold max ⊥ (fun x : Fin 512 => (s (ix2 x b) : EReal)) Finset.univ) := by
  rw [← ninf_bot]
  pointwise [topOf]

theorem topSt_at (s : FVec Ideal S512x1024 .f32) (m : Vec Ideal S1x1024 .f32) (b : Fin 1024) :
    (topSt s m (ix2 0 b) : EReal) = topOf s m (ix2 0 b) := by
  pointwise [topSt]

theorem accOf_at (s : FVec Ideal S512x1024 .f32) (vb : Vec Ideal S1x144x512 .bf16) (m : Vec Ideal S1x1024 .f32) (a : Vec Ideal S144x1024 .f32) (e : Fin 144) (b : Fin 1024) :
    (accOf s vb m a (ix2 e b) : EReal) = Ideal.exp2 ((m (ix2 0 b) : EReal) - topOf s m (ix2 0 b)) * a (ix2 e b)
      + ∑ x : Fin 512, (vb (ix3 0 e x) : EReal) * Ideal.exp2 ((s (ix2 x b) : EReal) - topOf s m (ix2 0 b)) := by
  pointwise [accOf]
  rfl

theorem keyBlk_at (X : Vec Ideal S1x16384x128 .bf16) (n : ℕ) (hn : n < 32) (a : Fin 512) (x : Fin 128) :
    (keyBlk X n (ix3 0 a x) : EReal) = X (ix3 0 ⟨512 * n + a.val, by omega⟩ x) := by
  refine congrArg X (funext fun d => Fin.ext ?_)
  fin_cases d
  · rfl
  · exact Nat.mod_eq_of_lt (by show 512 * n + a.val < 16384; omega)
  · exact (Nat.mod_eq_of_lt (by show 0 + x.val < 128; omega)).trans (by show 0 + x.val = x.val; omega)

theorem valBlk_at (X : Vec Ideal S1x144x16384 .bf16) (n : ℕ) (hn : n < 32) (e : Fin 144) (x : Fin 512) :
    (valBlk X n (ix3 0 e x) : EReal) = X (ix3 0 e ⟨512 * n + x.val, by omega⟩) := by
  refine congrArg X (funext fun d => Fin.ext ?_)
  fin_cases d
  · rfl
  · exact (Nat.mod_eq_of_lt (by show 0 + e.val < 144; omega)).trans (by show 0 + e.val = e.val; omega)
  · exact Nat.mod_eq_of_lt (by show 512 * n + x.val < 16384; omega)

theorem metaScore_at (qt : FVec Ideal S128x1024 .bf16) (kb : Vec Ideal S1x128x128 .bf16) (a : Fin 128) (b : Fin 1024) :
    (metaScore qt kb (ix2 a b) : EReal) = if a.val < 16 then ∑ x : Fin 128, (kb (ix3 0 a x) : EReal) * qt (ix2 x b) else ⊥ := by
  have h : (metaScore qt kb (ix2 a b) : EReal) = Scalar.select (IntOp.cmpi .slt (BitVec.ofNat 32 a) 16#32)
      (∑ x : Fin 128, (kb (ix3 0 a x) : EReal) * qt (ix2 x b)) (Named.named κ "mask" 4048155338#32 : Ideal .f32) := by
    pointwise [metaScore]
  rw [h, cmpi_slt_ofNat (by omega) (by omega), show (Named.named κ "mask" 4048155338#32 : Ideal .f32) = (⊥ : EReal) from rfl]
  by_cases hk : a.val < 16 <;> simp [hk, Scalar.select]

theorem metaTop_at (s : FVec Ideal S128x1024 .f32) (m : Vec Ideal S1x1024 .f32) (b : Fin 1024) :
    (metaTop s m (ix2 0 b) : EReal) = max (m (ix2 0 b) : EReal) (Finset.fold max ⊥ (fun x : Fin 128 => (s (ix2 x b) : EReal)) Finset.univ) := by
  rw [← ninf_bot]
  pointwise [metaTop]

theorem metaTopSt_at (s : FVec Ideal S128x1024 .f32) (m : Vec Ideal S1x1024 .f32) (b : Fin 1024) :
    (metaTopSt s m (ix2 0 b) : EReal) = metaTop s m (ix2 0 b) := by
  pointwise [metaTopSt]

theorem topStart_at (b : Fin 1024) : (topStart (F := Ideal) (ix2 0 b) : EReal) = ⊥ := by
  rw [← mask_bot]
  pointwise [topStart]

theorem accStart_at (e : Fin 144) (b : Fin 1024) : (accStart (F := Ideal) (ix2 e b) : EReal) = 0 := by
  pointwise [accStart]

theorem metaAcc_at (s : FVec Ideal S128x1024 .f32) (vb : Vec Ideal S1x144x128 .bf16) (m : Vec Ideal S1x1024 .f32) (a : Vec Ideal S144x1024 .f32) (e : Fin 144) (b : Fin 1024) :
    (metaAcc s vb m a (ix2 e b) : EReal) = Ideal.exp2 ((m (ix2 0 b) : EReal) - metaTop s m (ix2 0 b)) * a (ix2 e b)
      + ∑ x : Fin 128, (vb (ix3 0 e x) : EReal) * Ideal.exp2 ((s (ix2 x b) : EReal) - metaTop s m (ix2 0 b)) := by
  pointwise [metaAcc]
  rfl

theorem queryRow_at (a : Fin 512) : ∀ b : Fin 1024, queryRow (ix2 a b) = BitVec.ofNat 32 (b.val % 512) := by
  intro b
  pointwise [queryRow]
  revert b
  decide +kernel

theorem causal_at (s : FVec Ideal S512x1024 .f32) (a : Fin 512) (b : Fin 1024) :
    (causal (F := Ideal) s (ix2 a b) : EReal) = if a.val < b.val % 512 + 1 then (s (ix2 a b) : EReal) else ⊥ := by
  have h : (causal (F := Ideal) s (ix2 a b) : EReal) = Scalar.select (IntOp.cmpi .sle (BitVec.ofNat 32 a) (queryRow (ix2 a b)))
      (s (ix2 a b) : EReal) (Named.named κ "mask" 4048155338#32 : Ideal .f32) := by
    pointwise [causal]
  rw [h, queryRow_at, cmpi_sle_ofNat (by omega) (by omega), show (Named.named κ "mask" 4048155338#32 : Ideal .f32) = (⊥ : EReal) from rfl]
  by_cases hk : a.val ≤ b.val % 512
  · simp [hk, Scalar.select, Nat.lt_succ_of_le hk]
  · simp [hk, Scalar.select, show ¬ a.val < b.val % 512 + 1 by omega]

/-! ## The running maximum and sums -/

/-- After the meta keys. -/
theorem meta_good (X2 : Vec Ideal S1x2x128x512 .bf16) (X5 : Vec Ideal S1x128x128 .bf16) (X6 : Vec Ideal S1x144x128 .bf16) (b : Fin 1024) (e : Fin 144) (σ ω : ℕ → ℝ)
    (hs : ∀ k : Fin 128, k.val < 16 → ∑ x : Fin 128, (X5 (ix3 0 k x) : EReal) * tileQ X2 (ix2 x b) = (σ k.val : EReal))
    (hw : ∀ k : Fin 128, k.val < 16 → (X6 (ix3 0 e k) : EReal) = (ω k.val : EReal)) :
    Good σ ω 16 (m0Of X2 X5 (ix2 0 b)) (a0Of X2 X5 X6 (ix2 e b)) := by
  have hsc : ∀ k : Fin 128, (metaScore (tileQ X2) X5 (ix2 k b) : EReal) = if k.val < 16 then (σ k.val : EReal) else ⊥ := by
    intro k
    rw [metaScore_at]
    by_cases hk : k.val < 16
    · rw [if_pos hk, if_pos hk, hs k hk]
    · rw [if_neg hk, if_neg hk]
  have hmx := fold_max_real (fun x : Fin 128 => (metaScore (tileQ X2) X5 (ix2 x b) : EReal))
    (fun x => by
      rw [hsc x]
      by_cases hk : x.val < 16
      · exact Or.inr ⟨σ x.val, by rw [if_pos hk]⟩
      · exact Or.inl (by rw [if_neg hk])) 0 ⟨σ 0, by rw [hsc 0]; simp⟩
  have key := good_start (N := 128) (c := 16) (by omega) σ ω _ (fun k => (X6 (ix3 0 e k) : EReal)) hsc hw _ hmx
  rw [m0Of, a0Of, metaTopSt_at, metaAcc_at, metaTop_at, topStart_at, accStart_at]
  exact key

/-- After the meta keys and `n` whole blocks. -/
theorem state_good (qt : FVec Ideal S128x1024 .bf16) (X3 : Vec Ideal S1x16384x128 .bf16) (X4 : Vec Ideal S1x144x16384 .bf16) (m0 : FVec Ideal S1x1024 .f32)
    (a0 : FVec Ideal S144x1024 .f32) (b : Fin 1024) (e : Fin 144) (σ ω : ℕ → ℝ) (h0 : Good σ ω 16 (m0 (ix2 0 b)) (a0 (ix2 e b)))
    (hs : ∀ k : Fin 16384, ∑ x : Fin 128, (X3 (ix3 0 k x) : EReal) * qt (ix2 x b) = (σ (16 + k.val) : EReal))
    (hw : ∀ k : Fin 16384, (X4 (ix3 0 e k) : EReal) = (ω (16 + k.val) : EReal)) (n : ℕ) (hn : n ≤ 32) :
    Good σ ω (16 + 512 * n) ((stt qt X3 X4 m0 a0 n).1 (ix2 0 b)) ((stt qt X3 X4 m0 a0 n).2 (ix2 e b)) := by
  induction n with
  | zero => exact h0
  | succ n ih =>
    have ih := ih (by omega)
    have hsc : ∀ k : Fin 512, (scoreOf qt (keyBlk X3 n) (ix2 k b) : EReal) = (σ (16 + 512 * n + k.val) : EReal) := by
      intro k
      rw [scoreOf_at, show 16 + 512 * n + k.val = 16 + (512 * n + k.val) by omega, ← hs ⟨512 * n + k.val, by omega⟩]
      exact Finset.sum_congr rfl fun x _ => by rw [keyBlk_at _ _ (by omega)]
    have hmx := fold_max_real (fun x : Fin 512 => (scoreOf qt (keyBlk X3 n) (ix2 x b) : EReal)) (fun x => Or.inr ⟨_, hsc x⟩) 0 ⟨_, hsc 0⟩
    have key := good_step (N := 512) (c := 512) le_rfl ih (fun k => (scoreOf qt (keyBlk X3 n) (ix2 k b) : EReal)) (fun k => (valBlk X4 n (ix3 0 e k) : EReal))
      (fun k => by rw [if_pos k.isLt]; exact hsc k)
      (fun k _ => by
        rw [valBlk_at _ _ (by omega), show 16 + 512 * n + k.val = 16 + (512 * n + k.val) by omega]
        exact hw ⟨512 * n + k.val, by omega⟩) _ hmx
    show Good σ ω (16 + 512 * (n + 1)) (topSt (scoreOf qt (keyBlk X3 n)) (stt qt X3 X4 m0 a0 n).1 (ix2 0 b))
      (accOf (scoreOf qt (keyBlk X3 n)) (valBlk X4 n) (stt qt X3 X4 m0 a0 n).1 (stt qt X3 X4 m0 a0 n).2 (ix2 e b))
    rw [topSt_at, accOf_at, topOf_at, show 16 + 512 * (n + 1) = 16 + 512 * n + 512 by omega]
    exact key

/-- At the end of a tile: its last block is seen up to the query's own key. -/
theorem end_good (i : ℕ) (hi : i < 32) (X2 : Vec Ideal S1x2x128x512 .bf16) (X3 : Vec Ideal S1x16384x128 .bf16) (X4 : Vec Ideal S1x144x16384 .bf16) (X5 : Vec Ideal S1x128x128 .bf16)
    (X6 : Vec Ideal S1x144x128 .bf16) (b : Fin 1024) (σ : ℕ → ℝ)
    (hs : ∀ k : Fin 16384, ∑ x : Fin 128, (X3 (ix3 0 k x) : EReal) * tileQ X2 (ix2 x b) = (σ (16 + k.val) : EReal))
    (hsm : ∀ k : Fin 128, k.val < 16 → ∑ x : Fin 128, (X5 (ix3 0 k x) : EReal) * tileQ X2 (ix2 x b) = (σ k.val : EReal)) :
    ∃ top : EReal, ∀ (e : Fin 144) (ω : ℕ → ℝ), (∀ k : Fin 16384, (X4 (ix3 0 e k) : EReal) = (ω (16 + k.val) : EReal)) →
      (∀ k : Fin 128, k.val < 16 → (X6 (ix3 0 e k) : EReal) = (ω k.val : EReal)) →
      Good σ ω (16 + 512 * i + (b.val % 512 + 1)) top (accEnd i X2 X3 X4 X5 X6 (ix2 e b)) := by
  refine ⟨topOf (causal (scoreOf (tileQ X2) (keyBlk X3 i))) (stt (tileQ X2) X3 X4 (m0Of X2 X5) (a0Of X2 X5 X6) i).1 (ix2 0 b), fun e ω hw hwm => ?_⟩
  have h0 := state_good (tileQ X2) X3 X4 (m0Of X2 X5) (a0Of X2 X5 X6) b e σ ω (meta_good X2 X5 X6 b e σ ω hsm hwm) hs hw i (by omega)
  have hsc : ∀ k : Fin 512, (causal (scoreOf (tileQ X2) (keyBlk X3 i)) (ix2 k b) : EReal) = if k.val < b.val % 512 + 1 then (σ (16 + 512 * i + k.val) : EReal) else ⊥ := by
    intro k
    rw [causal_at]
    by_cases hk : k.val < b.val % 512 + 1
    · rw [if_pos hk, if_pos hk, scoreOf_at, show 16 + 512 * i + k.val = 16 + (512 * i + k.val) by omega, ← hs ⟨512 * i + k.val, by omega⟩]
      exact Finset.sum_congr rfl fun x _ => by rw [keyBlk_at _ _ (by omega)]
    · rw [if_neg hk, if_neg hk]
  have hmx := fold_max_real (fun x : Fin 512 => (causal (scoreOf (tileQ X2) (keyBlk X3 i)) (ix2 x b) : EReal))
    (fun x => by
      rw [hsc x]
      by_cases hk : x.val < b.val % 512 + 1
      · exact Or.inr ⟨_, if_pos hk⟩
      · exact Or.inl (if_neg hk)) 0 ⟨σ (16 + 512 * i), by rw [hsc 0]; simp⟩
  have key := good_step (N := 512) (c := b.val % 512 + 1) (by omega) h0 _ (fun k => (valBlk X4 i (ix3 0 e k) : EReal)) hsc
    (fun k _ => by
      rw [valBlk_at _ _ (by omega), show 16 + 512 * i + k.val = 16 + (512 * i + k.val) by omega]
      exact hw ⟨512 * i + k.val, by omega⟩) _ hmx
  rw [accEnd, accOf_at, topOf_at]
  exact key

/-! ## The tile's queries and its result read at an index -/

theorem tileQ0 (X : Vec Ideal S1x2x128x512 .bf16) (x : Fin 128) (b : Fin 1024) (hb : b.val < 512) :
    (tileQ X (ix2 x b) : EReal) = X (ix4 0 0 x ⟨b.val, hb⟩) := by
  pointwise [tileQ, queryOf]
  rw [dif_pos hb]
  refine congrArg X (funext fun d => Fin.ext ?_)
  fin_cases d
  · rfl
  · rfl
  · show 0 + 1 * x.val = x.val; omega
  · show 0 + 1 * b.val = b.val; omega

theorem tileQ1 (X : Vec Ideal S1x2x128x512 .bf16) (x : Fin 128) (b : Fin 1024) (hb : ¬ b.val < 512) :
    (tileQ X (ix2 x b) : EReal) = X (ix4 0 1 x ⟨b.val - 512, by omega⟩) := by
  pointwise [tileQ, queryOf]
  rw [dif_neg hb]
  refine congrArg X (funext fun d => Fin.ext ?_)
  fin_cases d
  · rfl
  · rfl
  · show 0 + 1 * x.val = x.val; omega
  · show 0 + 1 * (b.val - 512) = b.val - 512; omega

theorem lamOf_at (l0 l1 l2 l3 : Vec Ideal S1x64 .f32) :
    (lamOf l0 l1 l2 l3 (ix2 0 0) : EReal) = Ideal.exp (∑ x : Fin 64, (l0 (ix2 0 x) : EReal) * l1 (ix2 0 x))
      - Ideal.exp (∑ x : Fin 64, (l2 (ix2 0 x) : EReal) * l3 (ix2 0 x)) + Ideal.ofBits .f32 0x3E4CCCCD#32 := by
  pointwise [lamOf]

/-- The normalised difference of the two components. -/
theorem diffOf_at (lam : FVec Ideal S1x1 .f32) (a : FVec Ideal S144x1024 .f32) (e : Fin 128) (r : Fin 512) :
    (diffOf lam (numRows a) (denRow a) (ix2 e r) : EReal)
      = (a (ix2 ⟨e.val, by omega⟩ ⟨r.val, by omega⟩) : EReal) * Ideal.div 1 (a (ix2 128 ⟨r.val, by omega⟩))
        - (lam (ix2 0 0) : EReal) * ((a (ix2 ⟨e.val, by omega⟩ ⟨512 + r.val, by omega⟩) : EReal) * Ideal.div 1 (a (ix2 128 ⟨512 + r.val, by omega⟩))) := by
  have hn : ∀ (b : Fin 1024), (numRows a (ix2 e b) : EReal) = a (ix2 ⟨e.val, by omega⟩ b) := by
    intro b
    refine congrArg a (funext fun d => Fin.ext ?_)
    fin_cases d
    · show 0 + 1 * e.val = e.val; omega
    · show 0 + 1 * b.val = b.val; omega
  have hd : ∀ (b : Fin 1024), (denRow a (ix2 0 b) : EReal) = a (ix2 128 b) := by
    intro b
    refine congrArg a (funext fun d => Fin.ext ?_)
    fin_cases d
    · rfl
    · show 0 + 1 * b.val = b.val; omega
  rw [← hn, ← hn, ← hd, ← hd]
  pointwise [diffOf]

theorem closeOf_at (a : FVec Ideal S144x1024 .f32) (l0 l1 l2 l3 : Vec Ideal S1x64 .f32) (g : Vec Ideal S128x1 .f32) (r : Fin 512) (e : Fin 128) (o : Fin 128 → EReal)
    (ho : ∀ e, (diffOf (lamOf l0 l1 l2 l3) (numRows a) (denRow a) (ix2 e r) : EReal) = o e) :
    (closeOf a l0 l1 l2 l3 g (ix2 r e) : EReal) = o e * Ideal.rsqrt (Ideal.div (∑ x : Fin 128, o x * o x) (Ideal.ofBits .f32 0x43000000#32) + Ideal.ofBits .f32 0x3727C5AC#32)
      * (g (ix2 e 0) : EReal) * Ideal.ofBits .f32 0x3F4CCCCD#32 := by
  have h2 : ∑ x : Fin 128, o x * o x = ∑ x : Fin 128, (diffOf (lamOf l0 l1 l2 l3) (numRows a) (denRow a) (ix2 x r) : EReal) * diffOf (lamOf l0 l1 l2 l3) (numRows a) (denRow a) (ix2 x r) :=
    Finset.sum_congr rfl fun x _ => by rw [ho x]
  rw [h2, ← ho e]
  pointwise [closeOf, normOf, meanOf]
end Cert.KernelIdeal.Attn
-- ==== Proof.Spec.lean ====
module

public import proofs.«01_k».proof.Proof.Soft

@[expose] public section

noncomputable section

namespace Cert.Soft

open Idealize.ShloMosaic

/-! The attention as a function of the arrays: what both programs leave, said once. -/

/-- An array is real everywhere. -/
def Real4 {α β γ δ : Type} (Q : α → β → γ → δ → EReal) : Prop := ∀ a b c d, ∃ r : ℝ, Q a b c d = r
def Real3 {α β γ : Type} (Q : α → β → γ → EReal) : Prop := ∀ a b c, ∃ r : ℝ, Q a b c = r
def Real1 {α : Type} (Q : α → EReal) : Prop := ∀ a, ∃ r : ℝ, Q a = r

/-- The score of key `k` for query `n`. -/
def tsc (Q K : Fin 16400 → Fin 4 → Fin 2 → Fin 64 → EReal) (h : Fin 4) (p : Fin 2) (n : Fin 16400) (k : ℕ) : ℝ :=
  (∑ d : Fin 64, (Q n h p d).toReal * (K ⟨k % 16400, Nat.mod_lt _ (by decide)⟩ h p d).toReal) * (1 / 8)

/-- Entry `e` of the value of key `k`. -/
def omv (V : Fin 16400 → Fin 4 → Fin 128 → EReal) (h : Fin 4) (e : Fin 128) (k : ℕ) : ℝ :=
  (V ⟨k % 16400, Nat.mod_lt _ (by decide)⟩ h e).toReal

/-- The weight of the second attention. -/
def lamE (L0 L1 L2 L3 : Fin 64 → EReal) : EReal :=
  Ideal.exp (∑ x : Fin 64, L0 x * L1 x) - Ideal.exp (∑ x : Fin 64, L2 x * L3 x) + Ideal.ofBits .f32 0x3E4CCCCD#32

/-- The difference of the two attentions. -/
def oo (Q K : Fin 16400 → Fin 4 → Fin 2 → Fin 64 → EReal) (V : Fin 16400 → Fin 4 → Fin 128 → EReal) (lam : EReal) (h : Fin 4) (n : Fin 16400) (e : Fin 128) : EReal :=
  ((att (tsc Q K h 0 n) (omv V h e) (n.val + 1) - lam.toReal * att (tsc Q K h 1 n) (omv V h e) (n.val + 1) : ℝ) : EReal)

/-- The closing normalisation of a head's row. -/
def tail (o G : Fin 128 → EReal) (e : Fin 128) : EReal :=
  o e * Ideal.rsqrt (Ideal.div (∑ x : Fin 128, o x * o x) (Ideal.ofBits .f32 0x43000000#32) + Ideal.ofBits .f32 0x3727C5AC#32) * G e * Ideal.ofBits .f32 0x3F4CCCCD#32

theorem coe_toReal_of {x : EReal} (h : ∃ r : ℝ, x = r) : ((x.toReal : ℝ) : EReal) = x := by
  obtain ⟨r, rfl⟩ := h
  rfl

/-- A product of rows of reals. -/
theorem dot_real {N : ℕ} (a b : Fin N → EReal) (ha : Real1 a) (hb : Real1 b) :
    ∑ d, a d * b d = ((∑ d, (a d).toReal * (b d).toReal : ℝ) : EReal) := by
  rw [coe_sum]
  refine Finset.sum_congr rfl fun d _ => ?_
  rw [EReal.coe_mul, coe_toReal_of (ha d), coe_toReal_of (hb d)]

theorem ofBits_two : (Ideal.ofBits .f32 0x40000000#32 : EReal) = ((2 : ℝ) : EReal) := by
  simp [Ideal.ofBits, Ideal.ieee, -EReal.coe_mul]; norm_num

theorem ofBits_eighth : (Ideal.ofBits .f32 0x3E000000#32 : EReal) = ((1 / 8 : ℝ) : EReal) := by
  simp [Ideal.ofBits, Ideal.ieee, -EReal.coe_mul]; norm_num

theorem ofBits_fifth : ∃ r : ℝ, (Ideal.ofBits .f32 0x3E4CCCCD#32 : EReal) = r := by
  simp [Ideal.ofBits, Ideal.ieee, -EReal.coe_mul]

theorem lam_real {L0 L1 L2 L3 : Fin 64 → EReal} (h0 : Real1 L0) (h1 : Real1 L1) (h2 : Real1 L2) (h3 : Real1 L3) : ∃ r : ℝ, lamE L0 L1 L2 L3 = r := by
  obtain ⟨q, hq⟩ := ofBits_fifth
  unfold lamE
  rw [dot_real _ _ h0 h1, dot_real _ _ h2 h3, hq, Ideal.exp_coe, Ideal.exp_coe]
  exact ⟨_, by rw [← EReal.coe_sub, ← EReal.coe_add]⟩

/-- The scale the host gives the queries, for base-two exponentials. -/
theorem scale_real : Ideal.div (Ideal.ofBits .f32 0x3E000000#32) (Ideal.log (Ideal.ofBits .f32 0x40000000#32)) = ((1 / 8 / Real.log 2 : ℝ) : EReal) := by
  have hl : Real.log 2 ≠ 0 := (Real.log_pos (by norm_num)).ne'
  rw [ofBits_two, ofBits_eighth, Ideal.log_coe, if_neg (by norm_num), Ideal.div_coe hl, ← EReal.coe_mul, mul_one_div]

/-- A score of scaled queries. -/
theorem score_scaled {N : ℕ} (a b : Fin N → EReal) (ha : Real1 a) (hb : Real1 b) (z : ℝ) :
    ∑ d, a d * (b d * (z : EReal)) = (((∑ d, (b d).toReal * (a d).toReal) * z : ℝ) : EReal) := by
  rw [Finset.sum_mul, coe_sum]
  refine Finset.sum_congr rfl fun d _ => ?_
  rw [EReal.coe_mul, EReal.coe_mul, coe_toReal_of (ha d), coe_toReal_of (hb d), ← mul_assoc, mul_comm (a d)]

/-- A sum over a row of 128 by its halves. -/
theorem sum_halves (f : Fin 128 → EReal) : ∑ x, f x = ∑ d : Fin 64, f ⟨d.val, by omega⟩ + ∑ d : Fin 64, f ⟨64 + d.val, by omega⟩ :=
  Fin.sum_univ_add (a := 64) (b := 64) f

end Cert.Soft
-- ==== Proof.Value.lean ====
module

public import proofs.«01_k».proof.Proof.Entry
public import proofs.«01_k».proof.Proof.Read
public import proofs.«01_k».proof.Proof.Spec

@[expose] public section

set_option maxRecDepth 65536

noncomputable section

/-! The kernel's result at an index. -/

namespace Cert.KernelIdeal.Attn

open Cert.KernelIdeal Cert.KernelIdeal.Gen Idealize.ShloMosaic Idealize.ShloMosaic.TcCoe Idealize.SL.Sem Cert.Soft

variable (m : (ℓ : Loc nD τ sig) → Buf (Elt Ideal) ℓ) (c : Dev nD)

/-- Everything the scores, the values and the mixing weight are made of is real. -/
structure Fin' : Prop where
  q : Real4 (qa m c)
  k : Real4 (ka m c)
  v : Real3 (va m c)
  l0 : Real1 (la0 m c)
  l1 : Real1 (la1 m c)
  l2 : Real1 (la2 m c)
  l3 : Real1 (la3 m c)

/-- The full row of a tile's query. -/
def rowOf (t : Fin cfg0.N) (r : Fin 512) : Fin 16400 := ⟨16 + (512 * (tl t).val + r.val), by omega⟩

/-- A row of keys, both components side by side, against one component's scaled query. -/
theorem half_score (hf : Fin' m c) (h : Fin 4) (p : Fin 2) (n : Fin 16400) (k : ℕ) (hk : k < 16400) :
    ∑ d : Fin 64, ka m c ⟨k, hk⟩ h p d * (qa m c n h p d * scaleI) = ((tsc (qa m c) (ka m c) h p n k / Real.log 2 : ℝ) : EReal) := by
  have hm : (⟨k % 16400, Nat.mod_lt _ (by decide)⟩ : Fin 16400) = ⟨k, hk⟩ := Fin.ext (Nat.mod_eq_of_lt hk)
  unfold scaleI tsc
  rw [scale_real, score_scaled _ _ (fun d => hf.k ⟨k, hk⟩ h p d) (fun d => hf.q n h p d), hm, mul_div_assoc]

/-- The scores a tile computes: column `b` is component 0's query `b`. -/
theorem row0 (hf : Fin' m c) (t : Fin cfg0.N) (b : Fin 1024) (hb : b.val < 512) (k : ℕ) (hk : k < 16400) (f : Fin 128 → EReal)
    (hfx : ∀ x : Fin 128, f x = ka m c ⟨k, hk⟩ (hd t) ⟨x.val / 64, by omega⟩ ⟨x.val % 64, by omega⟩) :
    ∑ x : Fin 128, f x * (tileQ (iblk m c 0 t : Vec Ideal S1x2x128x512 .bf16) (ix2 x b) : EReal)
      = ((tsc (qa m c) (ka m c) (hd t) 0 (rowOf t ⟨b.val, hb⟩) k / Real.log 2 : ℝ) : EReal) := by
  have hq : ∀ x : Fin 128, (tileQ (iblk m c 0 t : Vec Ideal S1x2x128x512 .bf16) (ix2 x b) : EReal)
      = if hx : x.val < 64 then qa m c (rowOf t ⟨b.val, hb⟩) (hd t) 0 ⟨x.val, hx⟩ * scaleI else 0 := by
    intro x
    rw [tileQ0 _ x b hb]
    exact (in0 m c t 0 x ⟨b.val, hb⟩ ⟨512 * (tl t).val + b.val, by omega⟩ rfl).trans (query0 m c (hd t) x _)
  rw [sum_halves, ← half_score m c hf (hd t) 0 (rowOf t ⟨b.val, hb⟩) k hk]
  have hz : ∑ d : Fin 64, f ⟨64 + d.val, by omega⟩ * (tileQ (iblk m c 0 t : Vec Ideal S1x2x128x512 .bf16) (ix2 ⟨64 + d.val, by omega⟩ b) : EReal) = 0 :=
    Finset.sum_eq_zero fun d _ => by rw [hq, dif_neg (show ¬ 64 + d.val < 64 by omega), mul_zero]
  rw [hz, add_zero]
  refine Finset.sum_congr rfl fun d _ => ?_
  rw [hq, dif_pos (show d.val < 64 from d.isLt), hfx]
  congr 2
  · exact Fin.ext (Nat.div_eq_of_lt d.isLt)
  · exact Fin.ext (Nat.mod_eq_of_lt d.isLt)

/-- Column `512 + b` is component 1's query `b`. -/
theorem row1 (hf : Fin' m c) (t : Fin cfg0.N) (b : Fin 1024) (hb : ¬ b.val < 512) (k : ℕ) (hk : k < 16400) (f : Fin 128 → EReal)
    (hfx : ∀ x : Fin 128, f x = ka m c ⟨k, hk⟩ (hd t) ⟨x.val / 64, by omega⟩ ⟨x.val % 64, by omega⟩) :
    ∑ x : Fin 128, f x * (tileQ (iblk m c 0 t : Vec Ideal S1x2x128x512 .bf16) (ix2 x b) : EReal)
      = ((tsc (qa m c) (ka m c) (hd t) 1 (rowOf t ⟨b.val - 512, by omega⟩) k / Real.log 2 : ℝ) : EReal) := by
  have hq : ∀ x : Fin 128, (tileQ (iblk m c 0 t : Vec Ideal S1x2x128x512 .bf16) (ix2 x b) : EReal)
      = if hx : x.val < 64 then 0 else qa m c (rowOf t ⟨b.val - 512, by omega⟩) (hd t) 1 ⟨x.val - 64, by omega⟩ * scaleI := by
    intro x
    rw [tileQ1 _ x b hb]
    exact (in0 m c t 1 x ⟨b.val - 512, by omega⟩ ⟨512 * (tl t).val + (b.val - 512), by omega⟩ rfl).trans (query1 m c (hd t) x _)
  rw [sum_halves, ← half_score m c hf (hd t) 1 (rowOf t ⟨b.val - 512, by omega⟩) k hk]
  have hz : ∑ d : Fin 64, f ⟨d.val, by omega⟩ * (tileQ (iblk m c 0 t : Vec Ideal S1x2x128x512 .bf16) (ix2 ⟨d.val, by omega⟩ b) : EReal) = 0 :=
    Finset.sum_eq_zero fun d _ => by rw [hq, dif_pos (show d.val < 64 from d.isLt), mul_zero]
  rw [hz, zero_add]
  refine Finset.sum_congr rfl fun d _ => ?_
  rw [hq, dif_neg (show ¬ 64 + d.val < 64 by omega), hfx]
  congr 2
  · exact Fin.ext (show (64 + d.val) / 64 = 1 by omega)
  · exact Fin.ext (show (64 + d.val) % 64 = d.val by omega)
  · congr 1
    exact Fin.ext (show 64 + d.val - 64 = d.val by omega)

/-- The last sums of a tile. -/
abbrev sums (t : Fin cfg0.N) : FVec Ideal S144x1024 .f32 :=
  accEnd (tl t).val (iblk m c 0 t : Vec Ideal S1x2x128x512 .bf16) (iblk m c 1 t : Vec Ideal S1x16384x128 .bf16) (iblk m c 2 t : Vec Ideal S1x144x16384 .bf16)
    (iblk m c 3 t : Vec Ideal S1x128x128 .bf16) (iblk m c 4 t : Vec Ideal S1x144x128 .bf16)

/-- The quotient of a tile's last sums is the softmax average, whichever the component. -/
theorem quotient (hf : Fin' m c) (t : Fin cfg0.N) (b : Fin 1024) (p : Fin 2) (r : Fin 512) (hr : b.val % 512 = r.val)
    (hrow : ∀ (k : ℕ) (hk : k < 16400) (f : Fin 128 → EReal), (∀ x : Fin 128, f x = ka m c ⟨k, hk⟩ (hd t) ⟨x.val / 64, by omega⟩ ⟨x.val % 64, by omega⟩) →
      ∑ x : Fin 128, f x * (tileQ (iblk m c 0 t : Vec Ideal S1x2x128x512 .bf16) (ix2 x b) : EReal)
        = ((tsc (qa m c) (ka m c) (hd t) p (rowOf t r) k / Real.log 2 : ℝ) : EReal)) (e : Fin 128) :
    (sums m c t (ix2 ⟨e.val, by omega⟩ b) : EReal) * Ideal.div 1 (sums m c t (ix2 128 b) : EReal)
      = ((att (tsc (qa m c) (ka m c) (hd t) p (rowOf t r)) (omv (va m c) (hd t) e) ((rowOf t r).val + 1) : ℝ) : EReal) := by
  obtain ⟨top, htop⟩ := end_good (tl t).val (tl t).isLt (iblk m c 0 t : Vec Ideal S1x2x128x512 .bf16) (iblk m c 1 t : Vec Ideal S1x16384x128 .bf16)
    (iblk m c 2 t : Vec Ideal S1x144x16384 .bf16) (iblk m c 3 t : Vec Ideal S1x128x128 .bf16) (iblk m c 4 t : Vec Ideal S1x144x128 .bf16) b
    (fun k => tsc (qa m c) (ka m c) (hd t) p (rowOf t r) k / Real.log 2)
    (fun k => hrow (16 + k.val) (by omega) _ fun x => (in1 m c t k x).trans (keys_at m c (hd t) k x))
    (fun k hk => hrow k.val (by omega) _ fun x => (in3 m c t k x).trans (meta_keys_at m c (hd t) k x hk))
  have hn : 16 + 512 * (tl t).val + (b.val % 512 + 1) = (rowOf t r).val + 1 := by
    show _ = 16 + (512 * (tl t).val + r.val) + 1
    omega
  rw [hn] at htop
  have hmod : ∀ (k : ℕ) (hk : k < 16400), (⟨k % 16400, Nat.mod_lt _ (by decide)⟩ : Fin 16400) = ⟨k, hk⟩ := fun k hk => Fin.ext (Nat.mod_eq_of_lt hk)
  refine good_end (Nat.succ_pos _) (htop ⟨e.val, by omega⟩ (omv (va m c) (hd t) e) (fun k => ?_) (fun k hk => ?_)) (htop 128 (fun _ => 1) (fun k => ?_) (fun k hk => ?_))
  · refine ((in2 m c t _ k).trans (values_at m c (hd t) _ k e.isLt)).trans ?_
    unfold omv
    rw [hmod (16 + k.val) (by omega)]
    exact (coe_toReal_of (hf.v _ _ _)).symm
  · refine ((in4 m c t _ k).trans (meta_values_at m c (hd t) _ k e.isLt hk)).trans ?_
    unfold omv
    rw [hmod k.val (by omega)]
    exact (coe_toReal_of (hf.v _ _ _)).symm
  · exact ((in2 m c t _ k).trans (ones_at m c (hd t) _ k (by decide))).trans EReal.coe_one.symm
  · exact ((in4 m c t _ k).trans (meta_ones_at m c (hd t) _ k (by decide) hk)).trans EReal.coe_one.symm

/-- What a tile leaves. -/
theorem tile_at (hf : Fin' m c) (t : Fin cfg0.N) (r : Fin 512) (e : Fin 128) :
    ((atPoint m c t : Vec Ideal S512x128 .bf16) (ix2 r e) : EReal)
      = tail (fun e => oo (qa m c) (ka m c) (va m c) (lamE (la0 m c) (la1 m c) (la2 m c) (la3 m c)) (hd t) (rowOf t r) e) (ga m c) e := by
  have hl : (lamOf (iblk m c 5 t : Vec Ideal S1x64 .f32) (iblk m c 6 t : Vec Ideal S1x64 .f32) (iblk m c 7 t : Vec Ideal S1x64 .f32) (iblk m c 8 t : Vec Ideal S1x64 .f32) (ix2 0 0) : EReal)
      = lamE (la0 m c) (la1 m c) (la2 m c) (la3 m c) := by
    rw [lamOf_at]
    unfold lamE
    simp only [in5, in6, in7, in8]
  refine (closeOf_at (sums m c t) _ _ _ _ (iblk m c 9 t : Vec Ideal S128x1 .f32) r e
    (fun e => oo (qa m c) (ka m c) (va m c) (lamE (la0 m c) (la1 m c) (la2 m c) (la3 m c)) (hd t) (rowOf t r) e) fun e => ?_).trans ?_
  · rw [diffOf_at, hl]
    obtain ⟨lam, hlam⟩ := lam_real hf.l0 hf.l1 hf.l2 hf.l3
    rw [quotient m c hf t ⟨r.val, by omega⟩ 0 r (Nat.mod_eq_of_lt r.isLt) (row0 m c hf t ⟨r.val, by omega⟩ r.isLt) e,
      quotient m c hf t ⟨512 + r.val, by omega⟩ 1 r (by show (512 + r.val) % 512 = r.val; omega)
        (fun k hk f hfx => (row1 m c hf t ⟨512 + r.val, by omega⟩ (by show ¬ 512 + r.val < 512; omega) k hk f hfx).trans (by
          have hx : (⟨512 + r.val - 512, by omega⟩ : Fin 512) = r := Fin.ext (by show 512 + r.val - 512 = r.val; omega)
          rw [hx])) e, hlam, ← EReal.coe_mul, ← EReal.coe_sub]
    rfl
  · unfold tail
    rw [(in9 m c t e).trans (gain_at m c e)]

/-- What the kernel leaves. -/
def resG : Vec Ideal S16384x512 .bf16 := fun j =>
  tail (fun e => oo (qa m c) (ka m c) (va m c) (lamE (la0 m c) (la1 m c) (la2 m c) (la3 m c)) ⟨(j 1).val / 128, Nat.div_lt_of_lt_mul (j 1).isLt⟩
    ⟨16 + (j 0).val, Nat.add_lt_add_left (j 0).isLt 16⟩ e) (ga m c) ⟨(j 1).val % 128, Nat.mod_lt _ (by decide)⟩

theorem resG_at (t : Fin cfg0.N) (r : Fin 512) (e : Fin 128) (j : S16384x512.Idx) (h0 : (j 0).val = (tl t).val * 512 + r.val) (h1 : (j 1).val = (hd t).val * 128 + e.val) :
    tail (fun e => oo (qa m c) (ka m c) (va m c) (lamE (la0 m c) (la1 m c) (la2 m c) (la3 m c)) (hd t) (rowOf t r) e) (ga m c) e = resG m c j := by
  unfold resG
  have e0 : (⟨16 + (j 0).val, Nat.add_lt_add_left (j 0).isLt 16⟩ : Fin 16400) = rowOf t r := Fin.ext (by
    show 16 + (j 0).val = 16 + (512 * (tl t).val + r.val)
    omega)
  have e1 : (⟨(j 1).val / 128, Nat.div_lt_of_lt_mul (j 1).isLt⟩ : Fin 4) = hd t := Fin.ext (by
    show (j 1).val / 128 = (hd t).val
    omega)
  have e2 : (⟨(j 1).val % 128, Nat.mod_lt _ (by decide)⟩ : Fin 128) = e := Fin.ext (by
    show (j 1).val % 128 = e.val
    omega)
  rw [e0, e1, e2]

theorem res_eq (hf : Fin' m c) : (dats m 0 c).arrAt 10 cfg0.N = resG m c := by
  refine (dats m 0 c).arrAt_eq_of_covers 10 _ (by decide +kernel) fun t hfl y => ?_
  blk_simp
  rw [after10]
  idx_vars y
  refine (tile_at m c hf t y0 y1).trans (resG_at m c t y0 y1 _ ?_ ?_)
  · blk_simp [(win_at t).2.2.2.2.2.2.2.2.2.2]
  · blk_simp [(win_at t).2.2.2.2.2.2.2.2.2.2]

end Cert.KernelIdeal.Attn
-- ==== Proof.Ref.lean ====
module

public import proofs.«01_k».proof.Proof.Gen.ReferenceIdeal.Run
public import proofs.«01_k».proof.Proof.Read
public import proofs.«01_k».proof.Proof.Spec
public import Idealize.ShloMosaic.Lib.Pointwise
public import Idealize.ShloMosaic.Lib.WordCmp

@[expose] public section

set_option maxRecDepth 65536

noncomputable section

/-! The reference in stages, each read at an index. -/

namespace Cert.ReferenceIdeal.Attn

open Cert.ReferenceIdeal Cert.ReferenceIdeal.Gen Cert.ReferenceIdeal.Value Idealize.ShloMosaic Idealize.ShloMosaic.TcCoe Idealize.SL.Sem Idealize.ShloMosaic.WordCmp Cert.Soft

/-- The scores, masked. -/
def scoreR (q k : FVec Ideal S1x16400x4x2x64 .f32) : FVec Ideal S1x4x2x16400x16400 .f32 :=
  (select (broadcastInDim S1x4x2x16400x16400 ![3, 4] bcast_S16400x16400_S1x4x2x16400x16400_3_4 (cmpi .sle (broadcastInDim S16400x16400 ![0, 1] bcast_S1x16400_S16400x16400_0_1 (broadcastInDim S1x16400 ![1] bcast_S16400_S1x16400_1 (iotaInDim S16400 32 0))) (broadcastInDim S16400x16400 ![0, 1] bcast_S16400x1_S16400x16400_0_1 (broadcastInDim S16400x1 ![0] bcast_S16400_S16400x1_0 (iotaInDim S16400 32 0))))) (mulf (Host.dotGeneral dot_S1x16400x4x2x64_S1x16400x4x2x64_S1x4x2x16400x16400_4_4_1_1_023_023 none q k) (broadcastInDim S1x4x2x16400x16400 ![] bcast_S_S1x4x2x16400x16400 (constant S_ .f32 0x3E000000#32))) (broadcastInDim S1x4x2x16400x16400 ![] bcast_S_S1x4x2x16400x16400 (id (constant S_ .f32 0xFF800000#32))))
/-- The largest score of each query, from below everything. -/
def maxR (s : FVec Ideal S1x4x2x16400x16400 .f32) : FVec Ideal S1x4x2x16400 .f32 :=
  Host.reduce FloatOps.maximumf s (constant S_ .f32 0xFF800000#32) reducesTo_S1x4x2x16400x16400_S1x4x2x16400_d4 h_S_
/-- A shift that is at least the least value. -/
def floorR (x : FVec Ideal S1x4x2x16400 .f32) : FVec Ideal S1x4x2x16400 .f32 :=
  maximumf (broadcastInDim S1x4x2x16400 ![] bcast_S_S1x4x2x16400 (constant S_ .f32 0xFF800000#32)) x
/-- The shift of each query. -/
def topR (s : FVec Ideal S1x4x2x16400x16400 .f32) : FVec Ideal S1x4x2x16400 .f32 := floorR (maxR s)
/-- The exponentials. -/
def expR (s : FVec Ideal S1x4x2x16400x16400 .f32) : FVec Ideal S1x4x2x16400x16400 .f32 :=
  (Host.exp (subf s (broadcastInDim S1x4x2x16400x16400 ![0, 1, 2, 3, 4] bcast_S1x4x2x16400x1_S1x4x2x16400x16400_0_1_2_3_4 (broadcastInDim S1x4x2x16400x1 ![0, 1, 2, 3] bcast_S1x4x2x16400_S1x4x2x16400x1_0_1_2_3 (topR s)))))
/-- The softmax. -/
def probR (s : FVec Ideal S1x4x2x16400x16400 .f32) : FVec Ideal S1x4x2x16400x16400 .f32 :=
  (Host.divf (expR s) (broadcastInDim S1x4x2x16400x16400 ![0, 1, 2, 3, 4] bcast_S1x4x2x16400x1_S1x4x2x16400x16400_0_1_2_3_4 (broadcastInDim S1x4x2x16400x1 ![0, 1, 2, 3] bcast_S1x4x2x16400_S1x4x2x16400x1_0_1_2_3 (Host.reduceAdd (expR s) (constant S_ .f32 0x00000000#32) reducesTo_S1x4x2x16400x16400_S1x4x2x16400_d4 h_S_))))
/-- The weight of the second softmax. -/
def lamR (l0 l1 l2 l3 : Vec Ideal S1x64 .f32) : FVec Ideal S_ .f32 :=
  (addf (subf (Host.exp (Host.reduceAdd (mulf (shapeCast _ l0 shapeCasts_S1x64_S64) (shapeCast _ l1 shapeCasts_S1x64_S64)) (constant S_ .f32 0x00000000#32) reducesTo_S64_S_d0 h_S_)) (Host.exp (Host.reduceAdd (mulf (shapeCast _ l2 shapeCasts_S1x64_S64) (shapeCast _ l3 shapeCasts_S1x64_S64)) (constant S_ .f32 0x00000000#32) reducesTo_S64_S_d0 h_S_))) (constant S_ .f32 0x3E4CCCCD#32))
/-- The difference of the softmaxes, weighing the values. -/
def outR (lam : FVec Ideal S_ .f32) (p : FVec Ideal S1x4x2x16400x16400 .f32) (v : FVec Ideal S1x16400x4x128 .f32) : FVec Ideal S1x16400x4x128 .f32 :=
  (transpose S1x16400x4x128 [0, 3, 1, 2] (Host.dotGeneral dot_S1x16400x4x128_S1x4x16400x16400_S1x4x128x16400_1_3_3_2_02_01 none v (subf (shapeCast _ (extractStridedSlice S1x4x1x16400x16400 ![0, 0, 0, 0, 0] p slices_S1x4x2x16400x16400_S1x4x1x16400x16400_0_0_0_0_0) shapeCasts_S1x4x1x16400x16400_S1x4x16400x16400) (mulf (broadcastInDim S1x4x16400x16400 ![] bcast_S_S1x4x16400x16400 lam) (shapeCast _ (extractStridedSlice S1x4x1x16400x16400 ![0, 0, 1, 0, 0] p slices_S1x4x2x16400x16400_S1x4x1x16400x16400_0_0_1_0_0) shapeCasts_S1x4x1x16400x16400_S1x4x16400x16400)))) transposes_S1x4x128x16400_S1x16400x4x128_0_3_1_2)
/-- The closing normalisation and the rows that are kept. -/
def endR (o : FVec Ideal S1x16400x4x128 .f32) (g : Vec Ideal S1x128 .f32) : FVec Ideal S16384x512 .bf16 :=
  truncf .bf16 (shapeCast _ (shapeCast _ (extractStridedSlice S1x16384x4x128 ![0, 16, 0, 0] (mulf (mulf (mulf o (broadcastInDim S1x16400x4x128 ![0, 1, 2, 3] bcast_S1x16400x4x1_S1x16400x4x128_0_1_2_3 (Host.rsqrt (addf (Host.divf (broadcastInDim S1x16400x4x1 ![0, 1, 2] bcast_S1x16400x4_S1x16400x4x1_0_1_2 (Host.reduceAdd (mulf o o) (constant S_ .f32 0x00000000#32) reducesTo_S1x16400x4x128_S1x16400x4_d3 h_S_)) (broadcastInDim S1x16400x4x1 ![] bcast_S_S1x16400x4x1 (constant S_ .f32 0x43000000#32))) (broadcastInDim S1x16400x4x1 ![] bcast_S_S1x16400x4x1 (constant S_ .f32 0x3727C5AC#32)))))) (broadcastInDim S1x16400x4x128 ![0, 1, 2, 3] bcast_S1x1x1x128_S1x16400x4x128_0_1_2_3 (broadcastInDim S1x1x1x128 ![3] bcast_S128_S1x1x1x128_3 (shapeCast _ g shapeCasts_S1x128_S128)))) (broadcastInDim S1x16400x4x128 ![] bcast_S_S1x16400x4x128 (constant S_ .f32 0x3F4CCCCD#32))) slices_S1x16400x4x128_S1x16384x4x128_0_16_0_0) shapeCasts_S1x16384x4x128_S16384x4x128) shapeCasts_S16384x4x128_S16384x512) bitsLt_bf16_f32

/-! ## The stages at an index -/

theorem scoreR_at (q k : FVec Ideal S1x16400x4x2x64 .f32) (h : Fin 4) (p : Fin 2) (n x : Fin 16400) :
    (scoreR q k (ix5 0 h p n x) : EReal) = if x.val < n.val + 1 then (∑ d : Fin 64, (q (ix5 0 n h p d) : EReal) * k (ix5 0 x h p d)) * Ideal.ofBits .f32 0x3E000000#32 else ⊥ := by
  have e : (scoreR q k (ix5 0 h p n x) : EReal) = Scalar.select (IntOp.cmpi .sle (BitVec.ofNat 32 x.val) (BitVec.ofNat 32 n.val))
      ((∑ d : Fin 64, (q (ix5 0 n h p d) : EReal) * k (ix5 0 x h p d)) * Ideal.ofBits .f32 0x3E000000#32) (Ideal.ofBits .f32 0xFF800000#32) := by
    pointwise [scoreR]
    rfl
  rw [e, cmpi_sle_ofNat (by omega) (by omega), Cert.KernelIdeal.Attn.ninf_bot]
  by_cases hk : x.val ≤ n.val
  · simp [hk, Scalar.select, Nat.lt_succ_of_le hk]
  · simp [hk, Scalar.select, show ¬ x.val < n.val + 1 by omega]

theorem keyAxis : S1x4x2x16400x16400.Reduces [4] S1x4x2x16400 := by decide

theorem maxR_at (s : FVec Ideal S1x4x2x16400x16400 .f32) (h : Fin 4) (p : Fin 2) (n : Fin 16400) :
    (maxR s (ix4 0 h p n) : EReal) = Finset.fold max ⊥ (fun x : Fin 16400 => (s (ix5 0 h p n x) : EReal)) Finset.univ := by
  unfold maxR
  rw [Host.reduce_eq_fold_single FloatOps.maximumf s _ _ keyAxis]
  refine Eq.trans (congrArg (fun b => Finset.fold max b _ _) Cert.KernelIdeal.Attn.ninf_bot) (congrArg (fun f => Finset.fold max ⊥ f Finset.univ) (funext fun x => congrArg s (funext fun a => Fin.ext ?_)))
  fin_cases a <;> rfl

theorem floorR_at (x : FVec Ideal S1x4x2x16400 .f32) (h : Fin 4) (p : Fin 2) (n : Fin 16400) : (floorR x (ix4 0 h p n) : EReal) = max ⊥ (x (ix4 0 h p n) : EReal) := by
  rw [← Cert.KernelIdeal.Attn.ninf_bot]
  pointwise [floorR]

theorem topR_at (s : FVec Ideal S1x4x2x16400x16400 .f32) (h : Fin 4) (p : Fin 2) (n : Fin 16400) :
    (topR s (ix4 0 h p n) : EReal) = max ⊥ (Finset.fold max ⊥ (fun x : Fin 16400 => (s (ix5 0 h p n x) : EReal)) Finset.univ) := by
  rw [← maxR_at]
  exact floorR_at (maxR s) h p n

theorem expR_at (s : FVec Ideal S1x4x2x16400x16400 .f32) (h : Fin 4) (p : Fin 2) (n x : Fin 16400) :
    (expR s (ix5 0 h p n x) : EReal) = Ideal.exp ((s (ix5 0 h p n x) : EReal) - topR s (ix4 0 h p n)) := by
  pointwise [expR]

theorem probR_at (s : FVec Ideal S1x4x2x16400x16400 .f32) (h : Fin 4) (p : Fin 2) (n x : Fin 16400) :
    (probR s (ix5 0 h p n x) : EReal) = Ideal.div (expR s (ix5 0 h p n x)) (∑ x : Fin 16400, (expR s (ix5 0 h p n x) : EReal)) := by
  pointwise [probR]

theorem lamR_at (l0 l1 l2 l3 : Vec Ideal S1x64 .f32) :
    (lamR l0 l1 l2 l3 ix0 : EReal) = lamE (fun x => l0 (ix2 0 x)) (fun x => l1 (ix2 0 x)) (fun x => l2 (ix2 0 x)) (fun x => l3 (ix2 0 x)) := by
  unfold lamE
  pointwise [lamR]

theorem outR_at (lam : FVec Ideal S_ .f32) (p : FVec Ideal S1x4x2x16400x16400 .f32) (v : FVec Ideal S1x16400x4x128 .f32) (n : Fin 16400) (h : Fin 4) (e : Fin 128) :
    (outR lam p v (ix4 0 n h e) : EReal) = ∑ x : Fin 16400, (v (ix4 0 x h e) : EReal) * ((p (ix5 0 h 0 n x) : EReal) - (lam ix0 : EReal) * p (ix5 0 h 1 n x)) := by
  pointwise [outR]

theorem endR_at (o : FVec Ideal S1x16400x4x128 .f32) (g : Vec Ideal S1x128 .f32) (n : Fin 16384) (j : Fin 512) :
    (endR o g (ix2 n j) : EReal) = tail (fun e => o (ix4 0 ⟨16 + n.val, by omega⟩ ⟨j.val / 128, by omega⟩ e)) (fun e => g (ix2 0 e)) ⟨j.val % 128, Nat.mod_lt _ (by decide)⟩ := by
  unfold tail
  pointwise [endR]

variable (m : (ℓ : Loc nD τ sig) → Buf (Elt Ideal) ℓ) (c : Dev nD)

/-- The reference's result, by its stages. -/
theorem res_stages : res_main_v61 m c = endR (outR (lamR (m ((c.tc : Thread nD τ).loc main_arg3)) (m ((c.tc : Thread nD τ).loc main_arg4)) (m ((c.tc : Thread nD τ).loc main_arg5)) (m ((c.tc : Thread nD τ).loc main_arg6)))
    (probR (scoreR (m ((c.tc : Thread nD τ).loc main_arg0)) (m ((c.tc : Thread nD τ).loc main_arg1)))) (m ((c.tc : Thread nD τ).loc main_arg2))) (m ((c.tc : Thread nD τ).loc main_arg7)) := by
  unfold res_main_v61 endR outR lamR probR expR topR floorR maxR scoreR
  rfl

/-- The softmax of real scores. -/
theorem prob_real (q k : FVec Ideal S1x16400x4x2x64 .f32) (hq : Real4 fun n h p d => (q (ix5 0 n h p d) : EReal)) (hk : Real4 fun n h p d => (k (ix5 0 n h p d) : EReal))
    (h : Fin 4) (p : Fin 2) (n x : Fin 16400) :
    (probR (scoreR q k) (ix5 0 h p n x) : EReal)
      = ((if x.val < n.val + 1 then Real.exp (tsc (fun n h p d => q (ix5 0 n h p d)) (fun n h p d => k (ix5 0 n h p d)) h p n x.val)
          / (∑ y ∈ Finset.range (n.val + 1), Real.exp (tsc (fun n h p d => q (ix5 0 n h p d)) (fun n h p d => k (ix5 0 n h p d)) h p n y)) else 0 : ℝ) : EReal) := by
  have hsc : ∀ x : Fin 16400, (scoreR q k (ix5 0 h p n x) : EReal)
      = if x.val < n.val + 1 then ((tsc (fun n h p d => q (ix5 0 n h p d)) (fun n h p d => k (ix5 0 n h p d)) h p n x.val : ℝ) : EReal) else ⊥ := by
    intro x
    rw [scoreR_at]
    by_cases hx : x.val < n.val + 1
    · rw [if_pos hx, if_pos hx, dot_real _ _ (fun d => hq n h p d) (fun d => hk x h p d), ofBits_eighth, ← EReal.coe_mul]
      unfold tsc
      have hm : (⟨x.val % 16400, Nat.mod_lt _ (by decide)⟩ : Fin 16400) = x := Fin.ext (Nat.mod_eq_of_lt x.isLt)
      simp only [hm]
    · rw [if_neg hx, if_neg hx]
  have hmx := Cert.KernelIdeal.Attn.fold_max_real (fun x : Fin 16400 => (scoreR q k (ix5 0 h p n x) : EReal))
    (fun x => by
      rw [hsc x]
      by_cases hx : x.val < n.val + 1
      · exact Or.inr ⟨_, if_pos hx⟩
      · exact Or.inl (if_neg hx)) 0 ⟨_, by rw [hsc 0]; exact if_pos (Nat.succ_pos _)⟩
  have key := soft_weight (N := 16400) (n := n.val + 1) (Nat.succ_pos _) (by omega) _ _ hsc _ hmx x
  rw [probR_at]
  simp only [expR_at, topR_at, max_bot_left]
  exact key

/-- The reference's result at an index. -/
theorem ref_at (hq : Real4 fun n h p d => ((m ((c.tc : Thread nD τ).loc main_arg0) : Vec Ideal S1x16400x4x2x64 .f32) (ix5 0 n h p d) : EReal))
    (hk : Real4 fun n h p d => ((m ((c.tc : Thread nD τ).loc main_arg1) : Vec Ideal S1x16400x4x2x64 .f32) (ix5 0 n h p d) : EReal))
    (hv : Real3 fun n h e => ((m ((c.tc : Thread nD τ).loc main_arg2) : Vec Ideal S1x16400x4x128 .f32) (ix4 0 n h e) : EReal))
    (h0 : Real1 fun d => ((m ((c.tc : Thread nD τ).loc main_arg3) : Vec Ideal S1x64 .f32) (ix2 0 d) : EReal))
    (h1 : Real1 fun d => ((m ((c.tc : Thread nD τ).loc main_arg4) : Vec Ideal S1x64 .f32) (ix2 0 d) : EReal))
    (h2 : Real1 fun d => ((m ((c.tc : Thread nD τ).loc main_arg5) : Vec Ideal S1x64 .f32) (ix2 0 d) : EReal))
    (h3 : Real1 fun d => ((m ((c.tc : Thread nD τ).loc main_arg6) : Vec Ideal S1x64 .f32) (ix2 0 d) : EReal)) (n : Fin 16384) (j : Fin 512) :
    ((res_main_v61 m c : Vec Ideal S16384x512 .bf16) (ix2 n j) : EReal)
      = tail (fun e => oo (fun n h p d => (m ((c.tc : Thread nD τ).loc main_arg0) : Vec Ideal S1x16400x4x2x64 .f32) (ix5 0 n h p d))
          (fun n h p d => (m ((c.tc : Thread nD τ).loc main_arg1) : Vec Ideal S1x16400x4x2x64 .f32) (ix5 0 n h p d))
          (fun n h e => (m ((c.tc : Thread nD τ).loc main_arg2) : Vec Ideal S1x16400x4x128 .f32) (ix4 0 n h e))
          (lamE (fun x => (m ((c.tc : Thread nD τ).loc main_arg3) : Vec Ideal S1x64 .f32) (ix2 0 x)) (fun x => (m ((c.tc : Thread nD τ).loc main_arg4) : Vec Ideal S1x64 .f32) (ix2 0 x))
            (fun x => (m ((c.tc : Thread nD τ).loc main_arg5) : Vec Ideal S1x64 .f32) (ix2 0 x)) (fun x => (m ((c.tc : Thread nD τ).loc main_arg6) : Vec Ideal S1x64 .f32) (ix2 0 x)))
          ⟨j.val / 128, by omega⟩ ⟨16 + n.val, by omega⟩ e) (fun e => (m ((c.tc : Thread nD τ).loc main_arg7) : Vec Ideal S1x128 .f32) (ix2 0 e))
          ⟨j.val % 128, Nat.mod_lt _ (by decide)⟩ := by
  refine (congrFun (res_stages m c) (ix2 n j)).trans ((endR_at _ _ n j).trans (congrArg (fun o => tail o _ _) (funext fun e => ?_)))
  rw [outR_at, lamR_at]
  obtain ⟨lam, hlam⟩ := lam_real h0 h1 h2 h3
  rw [hlam]
  refine soft_out (N := 16400) (n := 16 + n.val + 1) (by omega) _ _ _ lam _ _ _ (fun x => ?_) (fun x => prob_real _ _ hq hk _ 0 _ x) (fun x => prob_real _ _ hq hk _ 1 _ x)
  have hm : (⟨x.val % 16400, Nat.mod_lt _ (by decide)⟩ : Fin 16400) = x := Fin.ext (Nat.mod_eq_of_lt x.isLt)
  unfold omv
  rw [hm]
  exact (coe_toReal_of (hv x _ e)).symm

end Cert.ReferenceIdeal.Attn
-- ==== Proof.Pre.lean ====
module

public import proofs.«01_k».proof.Proof.Gen.Pre_finite
public import Idealize.ShloMosaic.Lib.ReduceAll
public import Idealize.ShloMosaic.Lib.Pointwise

@[expose] public section

set_option maxRecDepth 65536

noncomputable section

/-! What the precondition says of each array. -/

namespace Cert.Pre_finite.Attn

open Cert.Pre_finite Cert.Pre_finite.Gen Idealize.ShloMosaic Idealize.SL.Sem

theorem ofBits_inf : (Ideal.ofBits .f32 0x7F800000#32 : EReal) = ⊤ := by simp [Ideal.ofBits, Ideal.ieee]

/-- Below infinity in absolute value is real. -/
theorem real_of_lt {x : EReal} (h : Ideal.cmp .olt (max x (-x)) (Ideal.ofBits .f32 0x7F800000#32) = 1#1) : ∃ r : ℝ, x = r := by
  rw [ofBits_inf] at h
  induction x with
  | bot => simp [Ideal.cmp] at h
  | coe r => exact ⟨r, rfl⟩
  | top => simp [Ideal.cmp] at h

theorem and_split {x y : BitVec 1} (h : IntOp.andi x y = 1#1) : x = 1#1 ∧ y = 1#1 := IntOp.andi_eq_one.1 h

theorem real5 (x : FVec Ideal S1x16400x4x2x64 .f32)
    (e : Host.reduce IntOp.andi (cmpf .olt (Host.absf x) (broadcastInDim S1x16400x4x2x64 ![] bcast_S_S1x16400x4x2x64 (constant S_ .f32 0x7F800000#32))) (constantI S_ 1 1#1)
      reducesTo_S1x16400x4x2x64_S_d0_1_2_3_4 h_S_ ix0 = 1#1) (a : Fin 16400) (b : Fin 4) (p : Fin 2) (d : Fin 64) : ∃ r : ℝ, (x (ix5 0 a b p d) : EReal) = r := by
  have h := Host.reduce_andi_all _ _ _ _ _ e (ix5 0 a b p d)
  refine real_of_lt (Eq.trans ?_ h)
  pointwise
  rfl

theorem real4 (x : FVec Ideal S1x16400x4x128 .f32)
    (e : Host.reduce IntOp.andi (cmpf .olt (Host.absf x) (broadcastInDim S1x16400x4x128 ![] bcast_S_S1x16400x4x128 (constant S_ .f32 0x7F800000#32))) (constantI S_ 1 1#1)
      reducesTo_S1x16400x4x128_S_d0_1_2_3 h_S_ ix0 = 1#1) (a : Fin 16400) (b : Fin 4) (d : Fin 128) : ∃ r : ℝ, (x (ix4 0 a b d) : EReal) = r := by
  have h := Host.reduce_andi_all _ _ _ _ _ e (ix4 0 a b d)
  refine real_of_lt (Eq.trans ?_ h)
  pointwise
  rfl

theorem real2 (x : FVec Ideal S1x64 .f32)
    (e : Host.reduce IntOp.andi (cmpf .olt (Host.absf x) (broadcastInDim S1x64 ![] bcast_S_S1x64 (constant S_ .f32 0x7F800000#32))) (constantI S_ 1 1#1)
      reducesTo_S1x64_S_d0_1 h_S_ ix0 = 1#1) (d : Fin 64) : ∃ r : ℝ, (x (ix2 0 d) : EReal) = r := by
  have h := Host.reduce_andi_all _ _ _ _ _ e (ix2 0 d)
  refine real_of_lt (Eq.trans ?_ h)
  pointwise
  rfl

theorem all_real (q k : FVec Ideal S1x16400x4x2x64 .f32) (v : FVec Ideal S1x16400x4x128 .f32) (l0 l1 l2 l3 : FVec Ideal S1x64 .f32) (g : FVec Ideal S1x128 .f32)
    (h : fn (F := Ideal) q k v l0 l1 l2 l3 g = fun _ => 1#1) :
    (∀ a b p d, ∃ r : ℝ, (q (ix5 0 a b p d) : EReal) = r) ∧ (∀ a b p d, ∃ r : ℝ, (k (ix5 0 a b p d) : EReal) = r) ∧ (∀ a b d, ∃ r : ℝ, (v (ix4 0 a b d) : EReal) = r)
      ∧ (∀ d, ∃ r : ℝ, (l0 (ix2 0 d) : EReal) = r) ∧ (∀ d, ∃ r : ℝ, (l1 (ix2 0 d) : EReal) = r) ∧ (∀ d, ∃ r : ℝ, (l2 (ix2 0 d) : EReal) = r)
      ∧ (∀ d, ∃ r : ℝ, (l3 (ix2 0 d) : EReal) = r) := by
  have h := congrFun h ix0
  unfold fn fn_part1 at h
  obtain ⟨h, h3⟩ := and_split h
  obtain ⟨h, h2⟩ := and_split h
  obtain ⟨h, h1⟩ := and_split h
  obtain ⟨h, h0⟩ := and_split h
  obtain ⟨h, hv⟩ := and_split h
  obtain ⟨hq, hk⟩ := and_split h
  exact ⟨real5 q hq, real5 k hk, real4 v hv, real2 l0 h0, real2 l1 h1, real2 l2 h2, real2 l3 h3⟩

end Cert.Pre_finite.Attn
-- ==== Proof.Alg.lean ====
module

public import proofs.«01_k».proof.Defs
public import proofs.«01_k».proof.Proof.Gen.Kernel
public import proofs.«01_k».proof.Proof.Value
public import proofs.«01_k».proof.Proof.Ref
public import proofs.«01_k».proof.Proof.Pre

@[expose] public section

set_option maxRecDepth 65536

noncomputable section

/-! The kernel and the reference leave the same values. -/

namespace Cert.Alg

open Idealize.ShloMosaic Idealize.ShloMosaic.TcCoe Idealize.SL.Sem Cert.Soft

/-- What the precondition gives the kernel's arrays. -/
theorem fin_of (m : (ℓ : Loc Cert.KernelIdeal.nD Cert.KernelIdeal.τ Cert.KernelIdeal.sig) → Buf (Elt Ideal) ℓ) (h : Cert.Pre_KernelIdeal_finite m)
    (c : Dev Cert.KernelIdeal.nD) : Cert.KernelIdeal.Attn.Fin' m c := by
  obtain ⟨hq, hk, hv, h0, h1, h2, h3⟩ := Cert.Pre_finite.Attn.all_real _ _ _ _ _ _ _ _ (h c)
  exact ⟨hq, hk, hv, h0, h1, h2, h3⟩

/-- The reference's result is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hf : Cert.KernelIdeal.Attn.Fin' m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v61 m' c = Cert.KernelIdeal.Attn.resG m c := by
  funext j
  idx_vars j
  have key := Cert.ReferenceIdeal.Attn.ref_at m' c (by rw [e0]; exact hf.q) (by rw [e1]; exact hf.k) (by rw [e2]; exact hf.v)
    (by rw [e3]; exact hf.l0) (by rw [e4]; exact hf.l1) (by rw [e5]; exact hf.l2) (by rw [e6]; exact hf.l3) j0 j1
  rw [e0, e1, e2, e3, e4, e5, e6, e7] at key
  exact key

end Cert.Alg
-- ==== Proof.ProjSpec.lean ====
module

public import Idealize.ShloMosaic.Lib.Pointwise

/-! The layer's projection in plain terms: a row normalised and multiplied into the weights, and the turn of a lane. -/

@[expose] public section

noncomputable section

namespace Cert.Kernel2Ideal.Proj

open Idealize.ShloMosaic

/-- A row `x`, divided by its root mean square, scaled by the gain `g`, times column `j` of the weights `w`. -/
def zrow (x g : Fin 1024 → EReal) (w : Fin 1024 → Fin 3072 → EReal) (j : Fin 3072) : EReal :=
  ∑ k, x k * Ideal.rsqrt (Ideal.div (∑ l, x l * x l) (Ideal.ofBits .f32 0x44800000#32) + Ideal.ofBits .f32 0x358637BD#32)
    * g k * w k j

/-- The lane that lane `d` is turned with: 32 further in the first half of its component, 32 back in the second. -/
def swap (d : Fin 128) : Fin 128 := if h : d.val % 64 < 32 then ⟨d.val + 32, by omega⟩ else ⟨d.val - 32, by omega⟩

/-- Lane `d` of the 128 columns from `o` on, turned by an angle with cosine `cs` and signed sine `sn`. -/
def rope (z : Fin 3072 → EReal) (cs sn : EReal) (o : Fin 2944) (d : Fin 128) : EReal :=
  z ⟨o.val + d.val, by omega⟩ * cs + z ⟨o.val + (swap d).val, by omega⟩ * sn

/-- The turn as the kernel spells it: both rotations of the lanes, one chosen by a bit. -/
theorem rope_of_sel (z : Fin 3072 → EReal) (cs sn : EReal) (o : Fin 2944) (d : Fin 128) (p q r : Fin 3072)
    (hp : p.val = o.val + d.val) (hq : q.val = o.val + (d.val + 128 - 96) % 128)
    (hr : r.val = o.val + (d.val + 128 - 32) % 128) :
    rope z cs sn o d = z p * cs + Scalar.select (if d.val % 64 < 32 then 1#1 else 0#1) (z q) (z r) * sn := by
  rw [show p = ⟨o.val + d.val, by omega⟩ from Fin.ext hp]
  unfold rope swap
  by_cases h : d.val % 64 < 32
  · have : q = ⟨o.val + (d.val + 32), by omega⟩ := Fin.ext (by show q.val = o.val + (d.val + 32); omega)
    simp only [h, if_true, dif_pos, this]
    rfl
  · have : r = ⟨o.val + (d.val - 32), by omega⟩ := Fin.ext (by show r.val = o.val + (d.val - 32); omega)
    simp only [h, if_false, dif_neg, not_false_eq_true, this]
    rfl

end Cert.Kernel2Ideal.Proj

end
-- ==== Proof.ProjTile.lean ====
module

public import proofs.«01_k».proof.Proof.ProjWhole
public import proofs.«01_k».proof.Proof.ProjSpec
public import Idealize.ShloMosaic.Lib.Pointwise
public import Idealize.ShloMosaic.Lib.WholeRead
public import Idealize.ShloMosaic.Lib.Writes
public import Idealize.ShloMosaic.Lib.Pipeline.ValueKit.Geometry

/-! What one block of the projection writes, read at an index. -/

@[expose] public section

set_option maxRecDepth 65536

noncomputable section

namespace Cert.Kernel2Ideal.Proj

open Cert.Kernel2Ideal Cert.Kernel2Ideal.Gen Idealize.ShloMosaic Idealize.ShloMosaic.TcCoe Idealize.SL.Sem

/-- A load of a whole buffer gives what the buffer holds. -/
theorem load_whole {sg : RefSig} {s : Shape} {e : EltTy} {m : Memref sg .tc .vmem s e} (h : m.IsWhole) (X : Vec Ideal s e)
    {off : Fin s.rank → ℕ} (inb : ∀ a, off a + s.size a ≤ s.size a) :
    View.readAt (Elt Ideal) m.view (Rect.unit off s.size inb).toLoadRect (h.unread X) = X := by
  funext y
  rw [h.readAt_unread]
  exact congrArg X (funext fun a => Fin.ext (by
    show off a + 1 * (y a).val = (y a).val
    have := inb a
    omega))

variable (V : (c : Dev nD) → (b : Ref sig .tc) → Buf (Elt Ideal) ((c : Thread nD τ).loc b)) (c : Dev nD)

/-! ### Call 0: blocks of 256 rows -/

/-- Which lanes take the left neighbour: those in the first half of their component. -/
theorem mask0 (a : Fin 256) (b : Fin 128) :
    k0_pay11 k0_pay8 k0_pay9 k0_pay10 (ix2 a b) = if b.val % 64 < 32 then 1#1 else 0#1 := by
  pointwise [k0_pay11, k0_pay8, k0_pay9, k0_pay10]
  revert b
  decide +kernel

/-- The block's rows, normalised and multiplied into the weights. -/
theorem z_at0 (x : Vec Ideal S256x1024 .f32) (g : Vec Ideal S1x1024 .f32) (w : Vec Ideal S1024x3072 .bf16) (a : Fin 256)
    (b : Fin 3072) :
    k0_pay5 x g w (ix2 a b) = zrow (fun k => x (ix2 a k)) (fun k => g (ix2 0 k)) (fun k j => w (ix2 k j)) b := by
  pointwise [k0_pay5]
  rfl

/-- Head 0's keys, turned. -/
theorem key0_0 (z : FVec Ideal S256x3072 .f32) (cs sn : FVec Ideal S256x128 .f32) (a : Fin 256) (b : Fin 128) :
    k0_pay16 z cs sn k0_pay8 k0_pay9 k0_pay10 (ix2 a b)
      = rope (fun j => z (ix2 a j)) (cs (ix2 a b)) (sn (ix2 a b)) ⟨512, by decide⟩ b := by
  have hm := mask0 a b
  generalize hM : k0_pay11 k0_pay8 k0_pay9 k0_pay10 = m at *
  pointwise [k0_pay16]
  try rw [hM]
  rw [hm]
  exact (rope_of_sel (fun j => z (ix2 a j)) (cs (ix2 a b)) (sn (ix2 a b)) ⟨512, by decide⟩ b ⟨512 + b.val, by omega⟩
    ⟨512 + (b.val + 128 - 96) % 128, by omega⟩ ⟨512 + (b.val + 128 - 32) % 128, by omega⟩ rfl rfl rfl).symm

/-- Head 1's keys, turned. -/
theorem key0_1 (z : FVec Ideal S256x3072 .f32) (cs sn : FVec Ideal S256x128 .f32) (a : Fin 256) (b : Fin 128) :
    k0_pay25 z cs sn (k0_pay11 k0_pay8 k0_pay9 k0_pay10) (ix2 a b)
      = rope (fun j => z (ix2 a j)) (cs (ix2 a b)) (sn (ix2 a b)) ⟨640, by decide⟩ b := by
  have hm := mask0 a b
  generalize hM : k0_pay11 k0_pay8 k0_pay9 k0_pay10 = m at *
  pointwise [k0_pay25]
  try rw [hM]
  rw [hm]
  exact (rope_of_sel (fun j => z (ix2 a j)) (cs (ix2 a b)) (sn (ix2 a b)) ⟨640, by decide⟩ b ⟨640 + b.val, by omega⟩
    ⟨640 + (b.val + 128 - 96) % 128, by omega⟩ ⟨640 + (b.val + 128 - 32) % 128, by omega⟩ rfl rfl rfl).symm

/-- Head 2's keys, turned. -/
theorem key0_2 (z : FVec Ideal S256x3072 .f32) (cs sn : FVec Ideal S256x128 .f32) (a : Fin 256) (b : Fin 128) :
    k0_pay34 z cs sn (k0_pay11 k0_pay8 k0_pay9 k0_pay10) (ix2 a b)
      = rope (fun j => z (ix2 a j)) (cs (ix2 a b)) (sn (ix2 a b)) ⟨768, by decide⟩ b := by
  have hm := mask0 a b
  generalize hM : k0_pay11 k0_pay8 k0_pay9 k0_pay10 = m at *
  pointwise [k0_pay34]
  try rw [hM]
  rw [hm]
  exact (rope_of_sel (fun j => z (ix2 a j)) (cs (ix2 a b)) (sn (ix2 a b)) ⟨768, by decide⟩ b ⟨768 + b.val, by omega⟩
    ⟨768 + (b.val + 128 - 96) % 128, by omega⟩ ⟨768 + (b.val + 128 - 32) % 128, by omega⟩ rfl rfl rfl).symm

/-- Head 3's keys, turned. -/
theorem key0_3 (z : FVec Ideal S256x3072 .f32) (cs sn : FVec Ideal S256x128 .f32) (a : Fin 256) (b : Fin 128) :
    k0_pay43 z cs sn (k0_pay11 k0_pay8 k0_pay9 k0_pay10) (ix2 a b)
      = rope (fun j => z (ix2 a j)) (cs (ix2 a b)) (sn (ix2 a b)) ⟨896, by decide⟩ b := by
  have hm := mask0 a b
  generalize hM : k0_pay11 k0_pay8 k0_pay9 k0_pay10 = m at *
  pointwise [k0_pay43]
  try rw [hM]
  rw [hm]
  exact (rope_of_sel (fun j => z (ix2 a j)) (cs (ix2 a b)) (sn (ix2 a b)) ⟨896, by decide⟩ b ⟨896 + b.val, by omega⟩
    ⟨896 + (b.val + 128 - 96) % 128, by omega⟩ ⟨896 + (b.val + 128 - 32) % 128, by omega⟩ rfl rfl rfl).symm

/-- Head 0's values are columns from 1024 on. -/
theorem val0_0 (z : FVec Ideal S256x3072 .f32) (a : Fin 256) (b : Fin 128) :
    k0_pay19 z (ix2 a b) = z (ix2 a ⟨1024 + b.val, by omega⟩) := by
  pointwise [k0_pay19]

/-- Head 1's values are columns from 1152 on. -/
theorem val0_1 (z : FVec Ideal S256x3072 .f32) (a : Fin 256) (b : Fin 128) :
    k0_pay27 z (ix2 a b) = z (ix2 a ⟨1152 + b.val, by omega⟩) := by
  pointwise [k0_pay27]

/-- Head 2's values are columns from 1280 on. -/
theorem val0_2 (z : FVec Ideal S256x3072 .f32) (a : Fin 256) (b : Fin 128) :
    k0_pay36 z (ix2 a b) = z (ix2 a ⟨1280 + b.val, by omega⟩) := by
  pointwise [k0_pay36]

/-- Head 3's values are columns from 1408 on. -/
theorem val0_3 (z : FVec Ideal S256x3072 .f32) (a : Fin 256) (b : Fin 128) :
    k0_pay45 z (ix2 a b) = z (ix2 a ⟨1408 + b.val, by omega⟩) := by
  pointwise [k0_pay45]

/-- The pooling inputs are columns from 1536 on. -/
theorem pool0 (z : FVec Ideal S256x3072 .f32) (a : Fin 256) (b : Fin 512) :
    k0_pay3 z (ix2 a b) = z (ix2 a ⟨1536 + b.val, by omega⟩) := by
  pointwise [k0_pay3]

/-- The product that the run holds. -/
theorem run_z0 (a0 : Memref sig .tc .vmem S256x1024 .f32) (h0 : a0.IsWhole) (a3 : Memref sig .tc .vmem S1x1024 .f32)
    (h3 : a3.IsWhole) (a4 : Memref sig .tc .vmem S1024x3072 .bf16) (h4 : a4.IsWhole)
    (x : Vec Ideal S256x1024 .f32) (g : Vec Ideal S1x1024 .f32) (w : Vec Ideal S1024x3072 .bf16) :
    kernelRun0.sl.r c a0 h0 a3 h3 a4 h4 x g w = k0_pay5 x g w := by
  unfold kernelRun0.sl.r
  rw [load_whole h0, load_whole h3, load_whole h4]

/-- The cosines that the run holds. -/
theorem run_cos0 (a0 : Memref sig .tc .vmem S256x128 .f32) (h0 : a0.IsWhole) (x : Vec Ideal S256x128 .f32) :
    kernelRun0.sl.r_1 c a0 h0 x = x := by
  unfold kernelRun0.sl.r_1
  rw [load_whole h0]
  funext y
  idx_vars y
  pointwise [k0_pay6]

/-- The signed sines that the run holds. -/
theorem run_sin0 (a0 : Memref sig .tc .vmem S256x128 .f32) (h0 : a0.IsWhole) (x : Vec Ideal S256x128 .f32) :
    kernelRun0.sl.r_2 c a0 h0 x = x := by
  unfold kernelRun0.sl.r_2
  rw [load_whole h0]
  funext y
  idx_vars y
  pointwise [k0_pay7]

/-- The block of input 0. -/
abbrev x0 (t : Fin cfg0.N) : Vec Ideal S256x1024 .f32 := iblk0 V c 0 t

/-- The block of input 1. -/
abbrev cs0 (t : Fin cfg0.N) : Vec Ideal S256x128 .f32 := iblk0 V c 1 t

/-- The block of input 2. -/
abbrev sn0 (t : Fin cfg0.N) : Vec Ideal S256x128 .f32 := iblk0 V c 2 t

/-- The block of input 3. -/
abbrev gn0 (t : Fin cfg0.N) : Vec Ideal S1x1024 .f32 := iblk0 V c 3 t

/-- The block of input 4. -/
abbrev wt0 (t : Fin cfg0.N) : Vec Ideal S1024x3072 .bf16 := iblk0 V c 4 t

/-- Row `a` of the block's product. -/
def z0 (t : Fin cfg0.N) (a : Fin 256) (j : Fin 3072) : EReal :=
  zrow (fun k => x0 V c t (ix2 a k)) (fun k => gn0 V c t (ix2 0 k)) (fun k j => wt0 V c t (ix2 k j)) j

/-- The row that row `i` of the cache's block belongs to. -/
def row0 (i : Fin 1024) : Fin 256 := ⟨i.val / 4, by omega⟩

/-- The head that row `i` of the cache's block belongs to. -/
def hd0 (i : Fin 1024) : Fin 4 := ⟨i.val % 4, by omega⟩

/-- A row of the cache's block, met by its row and head. -/
theorem cell0 (f : Fin 256 → Fin 4 → Fin 128 → EReal) (i : Fin 1024) (d : Fin 128) (r : Fin 256) (h : Fin 4) (d' : Fin 128)
    (hi : i.val = h.val + 4 * r.val) (hd : d.val = d'.val) : f (row0 i) (hd0 i) d = f r h d' := by
  have e1 : row0 i = r := Fin.ext (by show i.val / 4 = r.val; omega)
  have e2 : hd0 i = h := Fin.ext (by show i.val % 4 = h.val; omega)
  rw [e1, e2, Fin.ext hd]

/-- The block's turned keys. -/
def keyT0 (t : Fin cfg0.N) (r : Fin 256) (h : Fin 4) (d : Fin 128) : EReal :=
  rope (z0 V c t r) (cs0 V c t (ix2 r d)) (sn0 V c t (ix2 r d)) ⟨512 + 128 * h.val, by omega⟩ d

/-- The block's values. -/
def valT0 (t : Fin cfg0.N) (r : Fin 256) (h : Fin 4) (d : Fin 128) : EReal :=
  z0 V c t r ⟨1024 + 128 * h.val + d.val, by omega⟩

/-- Block `t` of the cache's keys. -/
theorem out0_6_at (t : Fin cfg0.N) (y : S1024x128.Idx) :
    out0_6 V c t y = keyT0 V c t (row0 (y 0)) (hd0 (y 0)) (y 1) := by
  refine View.read_writes_apply_of_pieces _ _ (fun y : S1024x128.Idx => keyT0 V c t (row0 (y 0)) (hd0 (y 0)) (y 1)) _ ?_ y
    (cover0_6 V c t y)
  unfold run0
  simp only [kernelRun0, run_z0, run_cos0, run_sin0]
  intro p hp
  simp only [List.mem_cons, List.not_mem_nil, or_false] at hp
  rcases hp with rfl | rfl | rfl | rfl
  · intro (x : S256x128.Idx)
    idx_vars x
    refine (key0_3 _ _ _ x0 x1).trans ?_
    simp only [z_at0]
    exact (cell0 (keyT0 V c t) _ _ x0 3 x1 rfl (by show 0 + 1 * x1.val = x1.val; omega)).symm
  · intro (x : S256x128.Idx)
    idx_vars x
    refine (key0_2 _ _ _ x0 x1).trans ?_
    simp only [z_at0]
    exact (cell0 (keyT0 V c t) _ _ x0 2 x1 rfl (by show 0 + 1 * x1.val = x1.val; omega)).symm
  · intro (x : S256x128.Idx)
    idx_vars x
    refine (key0_1 _ _ _ x0 x1).trans ?_
    simp only [z_at0]
    exact (cell0 (keyT0 V c t) _ _ x0 1 x1 rfl (by show 0 + 1 * x1.val = x1.val; omega)).symm
  · intro (x : S256x128.Idx)
    idx_vars x
    refine (key0_0 _ _ _ x0 x1).trans ?_
    simp only [z_at0]
    exact (cell0 (keyT0 V c t) _ _ x0 0 x1 rfl (by show 0 + 1 * x1.val = x1.val; omega)).symm

/-- Block `t` of the cache's vals. -/
theorem out0_8_at (t : Fin cfg0.N) (y : S1024x128.Idx) :
    out0_8 V c t y = valT0 V c t (row0 (y 0)) (hd0 (y 0)) (y 1) := by
  refine View.read_writes_apply_of_pieces _ _ (fun y : S1024x128.Idx => valT0 V c t (row0 (y 0)) (hd0 (y 0)) (y 1)) _ ?_ y
    (cover0_8 V c t y)
  unfold run0
  simp only [kernelRun0, run_z0, run_cos0, run_sin0]
  intro p hp
  simp only [List.mem_cons, List.not_mem_nil, or_false] at hp
  rcases hp with rfl | rfl | rfl | rfl
  · intro (x : S256x128.Idx)
    idx_vars x
    refine (val0_3 _ x0 x1).trans ?_
    rw [run_z0, z_at0]
    exact (cell0 (valT0 V c t) _ _ x0 3 x1 rfl (by show 0 + 1 * x1.val = x1.val; omega)).symm
  · intro (x : S256x128.Idx)
    idx_vars x
    refine (val0_2 _ x0 x1).trans ?_
    rw [z_at0]
    exact (cell0 (valT0 V c t) _ _ x0 2 x1 rfl (by show 0 + 1 * x1.val = x1.val; omega)).symm
  · intro (x : S256x128.Idx)
    idx_vars x
    refine (val0_1 _ x0 x1).trans ?_
    rw [z_at0]
    exact (cell0 (valT0 V c t) _ _ x0 1 x1 rfl (by show 0 + 1 * x1.val = x1.val; omega)).symm
  · intro (x : S256x128.Idx)
    idx_vars x
    refine (val0_0 _ x0 x1).trans ?_
    rw [z_at0]
    exact (cell0 (valT0 V c t) _ _ x0 0 x1 rfl (by show 0 + 1 * x1.val = x1.val; omega)).symm

/-- Block `t` of the pooling inputs. -/
theorem out0_10_at (t : Fin cfg0.N) (a : Fin 256) (b : Fin 512) :
    out0_10 V c t (ix2 a b) = z0 V c t a ⟨1536 + b.val, by omega⟩ := by
  refine (View.read_writes_apply_of_pieces _ _ (fun y : S256x512.Idx => (fun (a : Fin 256) (b : Fin 512) => z0 V c t a ⟨1536 + b.val, by omega⟩) (y 0) (y 1)) _ ?_
    (ix2 a b) (cover0_10 V c t (ix2 a b)))
  unfold run0
  simp only [kernelRun0, run_z0, run_cos0, run_sin0]
  intro p hp
  simp only [List.mem_cons, List.not_mem_nil, or_false] at hp
  subst hp
  intro (x : S256x512.Idx)
  idx_vars x
  have e0 : ((Rect.unit (s := S256x512) ![0, 0] ![256, 512] inb_S256x512_S256x512_0_0).emb (ix2 x0 x1)) 0 = x0 := Fin.ext (by show 0 + 1 * x0.val = x0.val; omega)
  have e1 : ((Rect.unit (s := S256x512) ![0, 0] ![256, 512] inb_S256x512_S256x512_0_0).emb (ix2 x0 x1)) 1 = x1 := Fin.ext (by show 0 + 1 * x1.val = x1.val; omega)
  refine (pool0 _ x0 x1).trans ?_
  rw [z_at0]
  show _ = (fun (a : Fin 256) (b : Fin 512) => z0 V c t a ⟨1536 + b.val, by omega⟩) _ _
  rw [e0, e1]
  rfl

/-! ### Call 1: blocks of 512 rows -/

/-- Which lanes take the left neighbour: those in the first half of their component. -/
theorem mask1 (a : Fin 512) (b : Fin 128) :
    k1_pay11 k1_pay8 k1_pay9 k1_pay10 (ix2 a b) = if b.val % 64 < 32 then 1#1 else 0#1 := by
  pointwise [k1_pay11, k1_pay8, k1_pay9, k1_pay10]
  revert b
  decide +kernel

/-- The block's rows, normalised and multiplied into the weights. -/
theorem z_at1 (x : Vec Ideal S512x1024 .f32) (g : Vec Ideal S1x1024 .f32) (w : Vec Ideal S1024x3072 .bf16) (a : Fin 512)
    (b : Fin 3072) :
    k1_pay5 x g w (ix2 a b) = zrow (fun k => x (ix2 a k)) (fun k => g (ix2 0 k)) (fun k j => w (ix2 k j)) b := by
  pointwise [k1_pay5]
  rfl

/-- Head 0's keys, turned. -/
theorem key1_0 (z : FVec Ideal S512x3072 .f32) (cs sn : FVec Ideal S512x128 .f32) (a : Fin 512) (b : Fin 128) :
    k1_pay16 z cs sn k1_pay8 k1_pay9 k1_pay10 (ix2 a b)
      = rope (fun j => z (ix2 a j)) (cs (ix2 a b)) (sn (ix2 a b)) ⟨512, by decide⟩ b := by
  have hm := mask1 a b
  generalize hM : k1_pay11 k1_pay8 k1_pay9 k1_pay10 = m at *
  pointwise [k1_pay16]
  try rw [hM]
  rw [hm]
  exact (rope_of_sel (fun j => z (ix2 a j)) (cs (ix2 a b)) (sn (ix2 a b)) ⟨512, by decide⟩ b ⟨512 + b.val, by omega⟩
    ⟨512 + (b.val + 128 - 96) % 128, by omega⟩ ⟨512 + (b.val + 128 - 32) % 128, by omega⟩ rfl rfl rfl).symm

/-- Head 1's keys, turned. -/
theorem key1_1 (z : FVec Ideal S512x3072 .f32) (cs sn : FVec Ideal S512x128 .f32) (a : Fin 512) (b : Fin 128) :
    k1_pay25 z cs sn (k1_pay11 k1_pay8 k1_pay9 k1_pay10) (ix2 a b)
      = rope (fun j => z (ix2 a j)) (cs (ix2 a b)) (sn (ix2 a b)) ⟨640, by decide⟩ b := by
  have hm := mask1 a b
  generalize hM : k1_pay11 k1_pay8 k1_pay9 k1_pay10 = m at *
  pointwise [k1_pay25]
  try rw [hM]
  rw [hm]
  exact (rope_of_sel (fun j => z (ix2 a j)) (cs (ix2 a b)) (sn (ix2 a b)) ⟨640, by decide⟩ b ⟨640 + b.val, by omega⟩
    ⟨640 + (b.val + 128 - 96) % 128, by omega⟩ ⟨640 + (b.val + 128 - 32) % 128, by omega⟩ rfl rfl rfl).symm

/-- Head 2's keys, turned. -/
theorem key1_2 (z : FVec Ideal S512x3072 .f32) (cs sn : FVec Ideal S512x128 .f32) (a : Fin 512) (b : Fin 128) :
    k1_pay34 z cs sn (k1_pay11 k1_pay8 k1_pay9 k1_pay10) (ix2 a b)
      = rope (fun j => z (ix2 a j)) (cs (ix2 a b)) (sn (ix2 a b)) ⟨768, by decide⟩ b := by
  have hm := mask1 a b
  generalize hM : k1_pay11 k1_pay8 k1_pay9 k1_pay10 = m at *
  pointwise [k1_pay34]
  try rw [hM]
  rw [hm]
  exact (rope_of_sel (fun j => z (ix2 a j)) (cs (ix2 a b)) (sn (ix2 a b)) ⟨768, by decide⟩ b ⟨768 + b.val, by omega⟩
    ⟨768 + (b.val + 128 - 96) % 128, by omega⟩ ⟨768 + (b.val + 128 - 32) % 128, by omega⟩ rfl rfl rfl).symm

/-- Head 3's keys, turned. -/
theorem key1_3 (z : FVec Ideal S512x3072 .f32) (cs sn : FVec Ideal S512x128 .f32) (a : Fin 512) (b : Fin 128) :
    k1_pay43 z cs sn (k1_pay11 k1_pay8 k1_pay9 k1_pay10) (ix2 a b)
      = rope (fun j => z (ix2 a j)) (cs (ix2 a b)) (sn (ix2 a b)) ⟨896, by decide⟩ b := by
  have hm := mask1 a b
  generalize hM : k1_pay11 k1_pay8 k1_pay9 k1_pay10 = m at *
  pointwise [k1_pay43]
  try rw [hM]
  rw [hm]
  exact (rope_of_sel (fun j => z (ix2 a j)) (cs (ix2 a b)) (sn (ix2 a b)) ⟨896, by decide⟩ b ⟨896 + b.val, by omega⟩
    ⟨896 + (b.val + 128 - 96) % 128, by omega⟩ ⟨896 + (b.val + 128 - 32) % 128, by omega⟩ rfl rfl rfl).symm

/-- Head 0's values are columns from 1024 on. -/
theorem val1_0 (z : FVec Ideal S512x3072 .f32) (a : Fin 512) (b : Fin 128) :
    k1_pay19 z (ix2 a b) = z (ix2 a ⟨1024 + b.val, by omega⟩) := by
  pointwise [k1_pay19]

/-- Head 1's values are columns from 1152 on. -/
theorem val1_1 (z : FVec Ideal S512x3072 .f32) (a : Fin 512) (b : Fin 128) :
    k1_pay27 z (ix2 a b) = z (ix2 a ⟨1152 + b.val, by omega⟩) := by
  pointwise [k1_pay27]

/-- Head 2's values are columns from 1280 on. -/
theorem val1_2 (z : FVec Ideal S512x3072 .f32) (a : Fin 512) (b : Fin 128) :
    k1_pay36 z (ix2 a b) = z (ix2 a ⟨1280 + b.val, by omega⟩) := by
  pointwise [k1_pay36]

/-- Head 3's values are columns from 1408 on. -/
theorem val1_3 (z : FVec Ideal S512x3072 .f32) (a : Fin 512) (b : Fin 128) :
    k1_pay45 z (ix2 a b) = z (ix2 a ⟨1408 + b.val, by omega⟩) := by
  pointwise [k1_pay45]

/-- The pooling inputs are columns from 1536 on. -/
theorem pool1 (z : FVec Ideal S512x3072 .f32) (a : Fin 512) (b : Fin 512) :
    k1_pay3 z (ix2 a b) = z (ix2 a ⟨1536 + b.val, by omega⟩) := by
  pointwise [k1_pay3]

/-- The gates. -/
theorem gate1 (z : FVec Ideal S512x3072 .f32) (a : Fin 512) (b : Fin 1024) :
    k1_pay4 z (ix2 a b) = z (ix2 a ⟨2048 + b.val, by omega⟩) * Ideal.logistic (z (ix2 a ⟨2048 + b.val, by omega⟩)) := by
  pointwise [k1_pay4]

/-- Head 0's queries, component 0: turned, scaled, laid out by lane; the other component's lanes are zero. -/
theorem query0_0 (z : FVec Ideal S512x3072 .f32) (cs sn : FVec Ideal S512x128 .f32) (a : Fin 512) (b : Fin 128) :
    k1_pay14 z cs sn k1_pay8 k1_pay9 k1_pay10 (ix4 0 0 b a)
      = if b.val / 64 = 0 then rope (fun j => z (ix2 a j)) (cs (ix2 a b)) (sn (ix2 a b)) ⟨0, by decide⟩ b
          * Ideal.ofBits .f32 0x3E38AA3B#32 else 0 := by
  have hm := mask1 a b
  generalize hM : k1_pay11 k1_pay8 k1_pay9 k1_pay10 = m at *
  obtain ⟨o, ho⟩ : ∃ o : Fin 2944, o = ⟨0, by decide⟩ := ⟨_, rfl⟩
  have hv : o.val = 0 := by rw [ho]
  rw [← ho]
  pointwise [k1_pay14, k1_pay13, k1_pay12]
  try simp only [hM]
  by_cases hb : b.val < 64
  · rw [dif_pos hb, if_pos (show b.val / 64 = 0 by omega)]
    rw [hm, rope_of_sel (fun j => z (ix2 a j)) (cs (ix2 a b)) (sn (ix2 a b)) o b ⟨b.val, by omega⟩
      ⟨(b.val + 128 - 96) % 128, by omega⟩ ⟨(b.val + 128 - 32) % 128, by omega⟩
      (by dsimp only; omega) (by dsimp only; omega) (by dsimp only; omega)]
  · rw [dif_neg hb, if_neg (show ¬b.val / 64 = 0 by omega)]

/-- Head 0's queries, component 1: turned, scaled, laid out by lane; the other component's lanes are zero. -/
theorem query0_1 (z : FVec Ideal S512x3072 .f32) (cs sn : FVec Ideal S512x128 .f32) (a : Fin 512) (b : Fin 128) :
    k1_pay15 z cs sn k1_pay8 k1_pay9 k1_pay10 (ix4 0 0 b a)
      = if b.val / 64 = 1 then rope (fun j => z (ix2 a j)) (cs (ix2 a b)) (sn (ix2 a b)) ⟨0, by decide⟩ b
          * Ideal.ofBits .f32 0x3E38AA3B#32 else 0 := by
  have hm := mask1 a b
  generalize hM : k1_pay11 k1_pay8 k1_pay9 k1_pay10 = m at *
  obtain ⟨o, ho⟩ : ∃ o : Fin 2944, o = ⟨0, by decide⟩ := ⟨_, rfl⟩
  have hv : o.val = 0 := by rw [ho]
  rw [← ho]
  pointwise [k1_pay15, k1_pay13, k1_pay12]
  skip
  by_cases hb : b.val < 64
  · rw [dif_pos hb, if_neg (show ¬b.val / 64 = 1 by omega)]

  · rw [dif_neg hb, if_pos (show b.val / 64 = 1 by omega)]
    generalize_proofs
    have e : (⟨64 + (b.val - 64), by omega⟩ : Fin 128) = b := Fin.ext (by show 64 + (b.val - 64) = b.val; omega)
    simp only [e]
    simp only [hM]
    rw [hm, rope_of_sel (fun j => z (ix2 a j)) (cs (ix2 a b)) (sn (ix2 a b)) o b ⟨64 + (b.val - 64), by omega⟩
      ⟨((64 + (b.val - 64)) + 128 - 96) % 128, by omega⟩ ⟨((64 + (b.val - 64)) + 128 - 32) % 128, by omega⟩
      (by dsimp only; omega) (by dsimp only; omega) (by dsimp only; omega)]

/-- Head 1's queries, component 0: turned, scaled, laid out by lane; the other component's lanes are zero. -/
theorem query1_0 (z : FVec Ideal S512x3072 .f32) (cs sn : FVec Ideal S512x128 .f32) (a : Fin 512) (b : Fin 128) :
    k1_pay23 z cs sn (k1_pay11 k1_pay8 k1_pay9 k1_pay10) k1_pay12 (ix4 0 0 b a)
      = if b.val / 64 = 0 then rope (fun j => z (ix2 a j)) (cs (ix2 a b)) (sn (ix2 a b)) ⟨128, by decide⟩ b
          * Ideal.ofBits .f32 0x3E38AA3B#32 else 0 := by
  have hm := mask1 a b
  generalize hM : k1_pay11 k1_pay8 k1_pay9 k1_pay10 = m at *
  obtain ⟨o, ho⟩ : ∃ o : Fin 2944, o = ⟨128, by decide⟩ := ⟨_, rfl⟩
  have hv : o.val = 128 := by rw [ho]
  rw [← ho]
  pointwise [k1_pay23, k1_pay22, k1_pay12]
  try simp only [hM]
  by_cases hb : b.val < 64
  · rw [dif_pos hb, if_pos (show b.val / 64 = 0 by omega)]
    rw [hm, rope_of_sel (fun j => z (ix2 a j)) (cs (ix2 a b)) (sn (ix2 a b)) o b ⟨128 + b.val, by omega⟩
      ⟨128 + (b.val + 128 - 96) % 128, by omega⟩ ⟨128 + (b.val + 128 - 32) % 128, by omega⟩
      (by dsimp only; omega) (by dsimp only; omega) (by dsimp only; omega)]
  · rw [dif_neg hb, if_neg (show ¬b.val / 64 = 0 by omega)]

/-- Head 1's queries, component 1: turned, scaled, laid out by lane; the other component's lanes are zero. -/
theorem query1_1 (z : FVec Ideal S512x3072 .f32) (cs sn : FVec Ideal S512x128 .f32) (a : Fin 512) (b : Fin 128) :
    k1_pay24 z cs sn (k1_pay11 k1_pay8 k1_pay9 k1_pay10) k1_pay12 (ix4 0 0 b a)
      = if b.val / 64 = 1 then rope (fun j => z (ix2 a j)) (cs (ix2 a b)) (sn (ix2 a b)) ⟨128, by decide⟩ b
          * Ideal.ofBits .f32 0x3E38AA3B#32 else 0 := by
  have hm := mask1 a b
  generalize hM : k1_pay11 k1_pay8 k1_pay9 k1_pay10 = m at *
  obtain ⟨o, ho⟩ : ∃ o : Fin 2944, o = ⟨128, by decide⟩ := ⟨_, rfl⟩
  have hv : o.val = 128 := by rw [ho]
  rw [← ho]
  pointwise [k1_pay24, k1_pay22, k1_pay12]
  skip
  by_cases hb : b.val < 64
  · rw [dif_pos hb, if_neg (show ¬b.val / 64 = 1 by omega)]

  · rw [dif_neg hb, if_pos (show b.val / 64 = 1 by omega)]
    generalize_proofs
    have e : (⟨64 + (b.val - 64), by omega⟩ : Fin 128) = b := Fin.ext (by show 64 + (b.val - 64) = b.val; omega)
    simp only [e]
    skip
    rw [hm, rope_of_sel (fun j => z (ix2 a j)) (cs (ix2 a b)) (sn (ix2 a b)) o b ⟨128 + (64 + (b.val - 64)), by omega⟩
      ⟨128 + ((64 + (b.val - 64)) + 128 - 96) % 128, by omega⟩ ⟨128 + ((64 + (b.val - 64)) + 128 - 32) % 128, by omega⟩
      (by dsimp only; omega) (by dsimp only; omega) (by dsimp only; omega)]

/-- Head 2's queries, component 0: turned, scaled, laid out by lane; the other component's lanes are zero. -/
theorem query2_0 (z : FVec Ideal S512x3072 .f32) (cs sn : FVec Ideal S512x128 .f32) (a : Fin 512) (b : Fin 128) :
    k1_pay32 (k1_pay31 z cs sn (k1_pay11 k1_pay8 k1_pay9 k1_pay10) k1_pay12) (ix4 0 0 b a)
      = if b.val / 64 = 0 then rope (fun j => z (ix2 a j)) (cs (ix2 a b)) (sn (ix2 a b)) ⟨256, by decide⟩ b
          * Ideal.ofBits .f32 0x3E38AA3B#32 else 0 := by
  have hm := mask1 a b
  generalize hM : k1_pay11 k1_pay8 k1_pay9 k1_pay10 = m at *
  obtain ⟨o, ho⟩ : ∃ o : Fin 2944, o = ⟨256, by decide⟩ := ⟨_, rfl⟩
  have hv : o.val = 256 := by rw [ho]
  rw [← ho]
  pointwise [k1_pay32, k1_pay31, k1_pay30, k1_pay12]
  try simp only [hM]
  by_cases hb : b.val < 64
  · rw [dif_pos hb, if_pos (show b.val / 64 = 0 by omega)]
    rw [hm, rope_of_sel (fun j => z (ix2 a j)) (cs (ix2 a b)) (sn (ix2 a b)) o b ⟨256 + b.val, by omega⟩
      ⟨256 + (b.val + 128 - 96) % 128, by omega⟩ ⟨256 + (b.val + 128 - 32) % 128, by omega⟩
      (by dsimp only; omega) (by dsimp only; omega) (by dsimp only; omega)]
  · rw [dif_neg hb, if_neg (show ¬b.val / 64 = 0 by omega)]

/-- Head 2's queries, component 1: turned, scaled, laid out by lane; the other component's lanes are zero. -/
theorem query2_1 (z : FVec Ideal S512x3072 .f32) (cs sn : FVec Ideal S512x128 .f32) (a : Fin 512) (b : Fin 128) :
    k1_pay33 k1_pay12 (k1_pay30 z cs sn (k1_pay11 k1_pay8 k1_pay9 k1_pay10)) (ix4 0 0 b a)
      = if b.val / 64 = 1 then rope (fun j => z (ix2 a j)) (cs (ix2 a b)) (sn (ix2 a b)) ⟨256, by decide⟩ b
          * Ideal.ofBits .f32 0x3E38AA3B#32 else 0 := by
  have hm := mask1 a b
  generalize hM : k1_pay11 k1_pay8 k1_pay9 k1_pay10 = m at *
  obtain ⟨o, ho⟩ : ∃ o : Fin 2944, o = ⟨256, by decide⟩ := ⟨_, rfl⟩
  have hv : o.val = 256 := by rw [ho]
  rw [← ho]
  pointwise [k1_pay33, k1_pay30, k1_pay12]
  skip
  by_cases hb : b.val < 64
  · rw [dif_pos hb, if_neg (show ¬b.val / 64 = 1 by omega)]

  · rw [dif_neg hb, if_pos (show b.val / 64 = 1 by omega)]
    generalize_proofs
    have e : (⟨64 + (b.val - 64), by omega⟩ : Fin 128) = b := Fin.ext (by show 64 + (b.val - 64) = b.val; omega)
    simp only [e]
    skip
    rw [hm, rope_of_sel (fun j => z (ix2 a j)) (cs (ix2 a b)) (sn (ix2 a b)) o b ⟨256 + (64 + (b.val - 64)), by omega⟩
      ⟨256 + ((64 + (b.val - 64)) + 128 - 96) % 128, by omega⟩ ⟨256 + ((64 + (b.val - 64)) + 128 - 32) % 128, by omega⟩
      (by dsimp only; omega) (by dsimp only; omega) (by dsimp only; omega)]

/-- Head 3's queries, component 0: turned, scaled, laid out by lane; the other component's lanes are zero. -/
theorem query3_0 (z : FVec Ideal S512x3072 .f32) (cs sn : FVec Ideal S512x128 .f32) (a : Fin 512) (b : Fin 128) :
    k1_pay41 z cs sn (k1_pay11 k1_pay8 k1_pay9 k1_pay10) k1_pay12 (ix4 0 0 b a)
      = if b.val / 64 = 0 then rope (fun j => z (ix2 a j)) (cs (ix2 a b)) (sn (ix2 a b)) ⟨384, by decide⟩ b
          * Ideal.ofBits .f32 0x3E38AA3B#32 else 0 := by
  have hm := mask1 a b
  generalize hM : k1_pay11 k1_pay8 k1_pay9 k1_pay10 = m at *
  obtain ⟨o, ho⟩ : ∃ o : Fin 2944, o = ⟨384, by decide⟩ := ⟨_, rfl⟩
  have hv : o.val = 384 := by rw [ho]
  rw [← ho]
  pointwise [k1_pay41, k1_pay40, k1_pay12]
  try simp only [hM]
  by_cases hb : b.val < 64
  · rw [dif_pos hb, if_pos (show b.val / 64 = 0 by omega)]
    rw [hm, rope_of_sel (fun j => z (ix2 a j)) (cs (ix2 a b)) (sn (ix2 a b)) o b ⟨384 + b.val, by omega⟩
      ⟨384 + (b.val + 128 - 96) % 128, by omega⟩ ⟨384 + (b.val + 128 - 32) % 128, by omega⟩
      (by dsimp only; omega) (by dsimp only; omega) (by dsimp only; omega)]
  · rw [dif_neg hb, if_neg (show ¬b.val / 64 = 0 by omega)]

/-- Head 3's queries, component 1: turned, scaled, laid out by lane; the other component's lanes are zero. -/
theorem query3_1 (z : FVec Ideal S512x3072 .f32) (cs sn : FVec Ideal S512x128 .f32) (a : Fin 512) (b : Fin 128) :
    k1_pay42 z cs sn (k1_pay11 k1_pay8 k1_pay9 k1_pay10) k1_pay12 (ix4 0 0 b a)
      = if b.val / 64 = 1 then rope (fun j => z (ix2 a j)) (cs (ix2 a b)) (sn (ix2 a b)) ⟨384, by decide⟩ b
          * Ideal.ofBits .f32 0x3E38AA3B#32 else 0 := by
  have hm := mask1 a b
  generalize hM : k1_pay11 k1_pay8 k1_pay9 k1_pay10 = m at *
  obtain ⟨o, ho⟩ : ∃ o : Fin 2944, o = ⟨384, by decide⟩ := ⟨_, rfl⟩
  have hv : o.val = 384 := by rw [ho]
  rw [← ho]
  pointwise [k1_pay42, k1_pay40, k1_pay12]
  skip
  by_cases hb : b.val < 64
  · rw [dif_pos hb, if_neg (show ¬b.val / 64 = 1 by omega)]

  · rw [dif_neg hb, if_pos (show b.val / 64 = 1 by omega)]
    generalize_proofs
    have e : (⟨64 + (b.val - 64), by omega⟩ : Fin 128) = b := Fin.ext (by show 64 + (b.val - 64) = b.val; omega)
    simp only [e]
    skip
    rw [hm, rope_of_sel (fun j => z (ix2 a j)) (cs (ix2 a b)) (sn (ix2 a b)) o b ⟨384 + (64 + (b.val - 64)), by omega⟩
      ⟨384 + ((64 + (b.val - 64)) + 128 - 96) % 128, by omega⟩ ⟨384 + ((64 + (b.val - 64)) + 128 - 32) % 128, by omega⟩
      (by dsimp only; omega) (by dsimp only; omega) (by dsimp only; omega)]

/-- The product that the run holds. -/
theorem run_z1 (a0 : Memref sig .tc .vmem S512x1024 .f32) (h0 : a0.IsWhole) (a3 : Memref sig .tc .vmem S1x1024 .f32)
    (h3 : a3.IsWhole) (a4 : Memref sig .tc .vmem S1024x3072 .bf16) (h4 : a4.IsWhole)
    (x : Vec Ideal S512x1024 .f32) (g : Vec Ideal S1x1024 .f32) (w : Vec Ideal S1024x3072 .bf16) :
    kernelRun1.sl.r c a0 h0 a3 h3 a4 h4 x g w = k1_pay5 x g w := by
  unfold kernelRun1.sl.r
  rw [load_whole h0, load_whole h3, load_whole h4]

/-- The cosines that the run holds. -/
theorem run_cos1 (a0 : Memref sig .tc .vmem S512x128 .f32) (h0 : a0.IsWhole) (x : Vec Ideal S512x128 .f32) :
    kernelRun1.sl.r_1 c a0 h0 x = x := by
  unfold kernelRun1.sl.r_1
  rw [load_whole h0]
  funext y
  idx_vars y
  pointwise [k1_pay6]

/-- The signed sines that the run holds. -/
theorem run_sin1 (a0 : Memref sig .tc .vmem S512x128 .f32) (h0 : a0.IsWhole) (x : Vec Ideal S512x128 .f32) :
    kernelRun1.sl.r_2 c a0 h0 x = x := by
  unfold kernelRun1.sl.r_2
  rw [load_whole h0]
  funext y
  idx_vars y
  pointwise [k1_pay7]

/-- The block of input 0. -/
abbrev x1 (t : Fin cfg1.N) : Vec Ideal S512x1024 .f32 := iblk1 V c 0 t

/-- The block of input 1. -/
abbrev cs1 (t : Fin cfg1.N) : Vec Ideal S512x128 .f32 := iblk1 V c 1 t

/-- The block of input 2. -/
abbrev sn1 (t : Fin cfg1.N) : Vec Ideal S512x128 .f32 := iblk1 V c 2 t

/-- The block of input 3. -/
abbrev gn1 (t : Fin cfg1.N) : Vec Ideal S1x1024 .f32 := iblk1 V c 3 t

/-- The block of input 4. -/
abbrev wt1 (t : Fin cfg1.N) : Vec Ideal S1024x3072 .bf16 := iblk1 V c 4 t

/-- Row `a` of the block's product. -/
def z1 (t : Fin cfg1.N) (a : Fin 512) (j : Fin 3072) : EReal :=
  zrow (fun k => x1 V c t (ix2 a k)) (fun k => gn1 V c t (ix2 0 k)) (fun k j => wt1 V c t (ix2 k j)) j

/-- The row that row `i` of the cache's block belongs to. -/
def row1 (i : Fin 2048) : Fin 512 := ⟨i.val / 4, by omega⟩

/-- The head that row `i` of the cache's block belongs to. -/
def hd1 (i : Fin 2048) : Fin 4 := ⟨i.val % 4, by omega⟩

/-- A row of the cache's block, met by its row and head. -/
theorem cell1 (f : Fin 512 → Fin 4 → Fin 128 → EReal) (i : Fin 2048) (d : Fin 128) (r : Fin 512) (h : Fin 4) (d' : Fin 128)
    (hi : i.val = h.val + 4 * r.val) (hd : d.val = d'.val) : f (row1 i) (hd1 i) d = f r h d' := by
  have e1 : row1 i = r := Fin.ext (by show i.val / 4 = r.val; omega)
  have e2 : hd1 i = h := Fin.ext (by show i.val % 4 = h.val; omega)
  rw [e1, e2, Fin.ext hd]

/-- The block's turned keys. -/
def keyT1 (t : Fin cfg1.N) (r : Fin 512) (h : Fin 4) (d : Fin 128) : EReal :=
  rope (z1 V c t r) (cs1 V c t (ix2 r d)) (sn1 V c t (ix2 r d)) ⟨512 + 128 * h.val, by omega⟩ d

/-- The block's values. -/
def valT1 (t : Fin cfg1.N) (r : Fin 512) (h : Fin 4) (d : Fin 128) : EReal :=
  z1 V c t r ⟨1024 + 128 * h.val + d.val, by omega⟩

/-- Block `t` of the cache's keys. -/
theorem out1_6_at (t : Fin cfg1.N) (y : S2048x128.Idx) :
    out1_6 V c t y = keyT1 V c t (row1 (y 0)) (hd1 (y 0)) (y 1) := by
  refine View.read_writes_apply_of_pieces _ _ (fun y : S2048x128.Idx => keyT1 V c t (row1 (y 0)) (hd1 (y 0)) (y 1)) _ ?_ y
    (cover1_6 V c t y)
  unfold run1
  simp only [kernelRun1, run_z1, run_cos1, run_sin1]
  intro p hp
  simp only [List.mem_cons, List.not_mem_nil, or_false] at hp
  rcases hp with rfl | rfl | rfl | rfl
  · intro (x : S512x128.Idx)
    idx_vars x
    refine (key1_3 _ _ _ x0 x1).trans ?_
    simp only [z_at1]
    exact (cell1 (keyT1 V c t) _ _ x0 3 x1 rfl (by show 0 + 1 * x1.val = x1.val; omega)).symm
  · intro (x : S512x128.Idx)
    idx_vars x
    refine (key1_2 _ _ _ x0 x1).trans ?_
    simp only [z_at1]
    exact (cell1 (keyT1 V c t) _ _ x0 2 x1 rfl (by show 0 + 1 * x1.val = x1.val; omega)).symm
  · intro (x : S512x128.Idx)
    idx_vars x
    refine (key1_1 _ _ _ x0 x1).trans ?_
    simp only [z_at1]
    exact (cell1 (keyT1 V c t) _ _ x0 1 x1 rfl (by show 0 + 1 * x1.val = x1.val; omega)).symm
  · intro (x : S512x128.Idx)
    idx_vars x
    refine (key1_0 _ _ _ x0 x1).trans ?_
    simp only [z_at1]
    exact (cell1 (keyT1 V c t) _ _ x0 0 x1 rfl (by show 0 + 1 * x1.val = x1.val; omega)).symm

/-- Block `t` of the cache's vals. -/
theorem out1_8_at (t : Fin cfg1.N) (y : S2048x128.Idx) :
    out1_8 V c t y = valT1 V c t (row1 (y 0)) (hd1 (y 0)) (y 1) := by
  refine View.read_writes_apply_of_pieces _ _ (fun y : S2048x128.Idx => valT1 V c t (row1 (y 0)) (hd1 (y 0)) (y 1)) _ ?_ y
    (cover1_8 V c t y)
  unfold run1
  simp only [kernelRun1, run_z1, run_cos1, run_sin1]
  intro p hp
  simp only [List.mem_cons, List.not_mem_nil, or_false] at hp
  rcases hp with rfl | rfl | rfl | rfl
  · intro (x : S512x128.Idx)
    idx_vars x
    refine (val1_3 _ x0 x1).trans ?_
    rw [run_z1, z_at1]
    exact (cell1 (valT1 V c t) _ _ x0 3 x1 rfl (by show 0 + 1 * x1.val = x1.val; omega)).symm
  · intro (x : S512x128.Idx)
    idx_vars x
    refine (val1_2 _ x0 x1).trans ?_
    rw [z_at1]
    exact (cell1 (valT1 V c t) _ _ x0 2 x1 rfl (by show 0 + 1 * x1.val = x1.val; omega)).symm
  · intro (x : S512x128.Idx)
    idx_vars x
    refine (val1_1 _ x0 x1).trans ?_
    rw [z_at1]
    exact (cell1 (valT1 V c t) _ _ x0 1 x1 rfl (by show 0 + 1 * x1.val = x1.val; omega)).symm
  · intro (x : S512x128.Idx)
    idx_vars x
    refine (val1_0 _ x0 x1).trans ?_
    rw [z_at1]
    exact (cell1 (valT1 V c t) _ _ x0 0 x1 rfl (by show 0 + 1 * x1.val = x1.val; omega)).symm

/-- Block `t` of the pooling inputs. -/
theorem out1_10_at (t : Fin cfg1.N) (a : Fin 512) (b : Fin 512) :
    out1_10 V c t (ix2 a b) = z1 V c t a ⟨1536 + b.val, by omega⟩ := by
  refine (View.read_writes_apply_of_pieces _ _ (fun y : S512x512.Idx => (fun (a : Fin 512) (b : Fin 512) => z1 V c t a ⟨1536 + b.val, by omega⟩) (y 0) (y 1)) _ ?_
    (ix2 a b) (cover1_10 V c t (ix2 a b)))
  unfold run1
  simp only [kernelRun1, run_z1, run_cos1, run_sin1]
  intro p hp
  simp only [List.mem_cons, List.not_mem_nil, or_false] at hp
  subst hp
  intro (x : S512x512.Idx)
  idx_vars x
  have e0 : ((Rect.unit (s := S512x512) ![0, 0] ![512, 512] inb_S512x512_S512x512_0_0).emb (ix2 x0 x1)) 0 = x0 := Fin.ext (by show 0 + 1 * x0.val = x0.val; omega)
  have e1 : ((Rect.unit (s := S512x512) ![0, 0] ![512, 512] inb_S512x512_S512x512_0_0).emb (ix2 x0 x1)) 1 = x1 := Fin.ext (by show 0 + 1 * x1.val = x1.val; omega)
  refine (pool1 _ x0 x1).trans ?_
  rw [z_at1]
  show _ = (fun (a : Fin 512) (b : Fin 512) => z1 V c t a ⟨1536 + b.val, by omega⟩) _ _
  rw [e0, e1]
  rfl

/-- Block `t` of the gates. -/
theorem out1_11_at (t : Fin cfg1.N) (a : Fin 512) (b : Fin 1024) :
    out1_11 V c t (ix2 a b) = z1 V c t a ⟨2048 + b.val, by omega⟩ * Ideal.logistic (z1 V c t a ⟨2048 + b.val, by omega⟩) := by
  refine (View.read_writes_apply_of_pieces _ _ (fun y : S512x1024.Idx => (fun (a : Fin 512) (b : Fin 1024) => z1 V c t a ⟨2048 + b.val, by omega⟩ * Ideal.logistic (z1 V c t a ⟨2048 + b.val, by omega⟩)) (y 0) (y 1)) _ ?_
    (ix2 a b) (cover1_11 V c t (ix2 a b)))
  unfold run1
  simp only [kernelRun1, run_z1, run_cos1, run_sin1]
  intro p hp
  simp only [List.mem_cons, List.not_mem_nil, or_false] at hp
  subst hp
  intro (x : S512x1024.Idx)
  idx_vars x
  have e0 : ((Rect.unit (s := S512x1024) ![0, 0] ![512, 1024] inb_S512x1024_S512x1024_0_0).emb (ix2 x0 x1)) 0 = x0 := Fin.ext (by show 0 + 1 * x0.val = x0.val; omega)
  have e1 : ((Rect.unit (s := S512x1024) ![0, 0] ![512, 1024] inb_S512x1024_S512x1024_0_0).emb (ix2 x0 x1)) 1 = x1 := Fin.ext (by show 0 + 1 * x1.val = x1.val; omega)
  refine (gate1 _ x0 x1).trans ?_
  rw [z_at1]
  show _ = (fun (a : Fin 512) (b : Fin 1024) => z1 V c t a ⟨2048 + b.val, by omega⟩ * Ideal.logistic (z1 V c t a ⟨2048 + b.val, by omega⟩)) _ _
  rw [e0, e1]
  rfl

/-- The block's turned and scaled queries; the lanes of the other component are zero. -/
def qryT1 (t : Fin cfg1.N) (h : Fin 4) (q : Fin 2) (d : Fin 128) (r : Fin 512) : EReal :=
  if d.val / 64 = q.val then rope (z1 V c t r) (cs1 V c t (ix2 r d)) (sn1 V c t (ix2 r d)) ⟨128 * h.val, by omega⟩ d
    * Ideal.ofBits .f32 0x3E38AA3B#32 else 0

/-- The holding of run values that two heads' queries go through. -/
theorem run_q4 (a0 : Memref sig .tc .vmem S512x1024 .f32) (h0 : a0.IsWhole) (a1 : Memref sig .tc .vmem S512x128 .f32) (h1 : a1.IsWhole)
    (a2 : Memref sig .tc .vmem S512x128 .f32) (h2 : a2.IsWhole) (a3 : Memref sig .tc .vmem S1x1024 .f32)
    (h3 : a3.IsWhole) (a4 : Memref sig .tc .vmem S1024x3072 .bf16) (h4 : a4.IsWhole)
    (x : Vec Ideal S512x1024 .f32) (cs sn : Vec Ideal S512x128 .f32) (g : Vec Ideal S1x1024 .f32) (w : Vec Ideal S1024x3072 .bf16) :
    kernelRun1.sl.r_4 c a0 h0 a1 h1 a2 h2 a3 h3 a4 h4 x cs sn g w
      = k1_pay30 (k1_pay5 x g w) cs sn (k1_pay11 k1_pay8 k1_pay9 k1_pay10) := by
  unfold kernelRun1.sl.r_4
  rw [run_z1, run_cos1, run_sin1]

/-- Likewise. -/
theorem run_q5 (a0 : Memref sig .tc .vmem S512x1024 .f32) (h0 : a0.IsWhole) (a1 : Memref sig .tc .vmem S512x128 .f32) (h1 : a1.IsWhole)
    (a2 : Memref sig .tc .vmem S512x128 .f32) (h2 : a2.IsWhole) (a3 : Memref sig .tc .vmem S1x1024 .f32)
    (h3 : a3.IsWhole) (a4 : Memref sig .tc .vmem S1024x3072 .bf16) (h4 : a4.IsWhole)
    (x : Vec Ideal S512x1024 .f32) (cs sn : Vec Ideal S512x128 .f32) (g : Vec Ideal S1x1024 .f32) (w : Vec Ideal S1024x3072 .bf16) :
    kernelRun1.sl.r_5 c a0 h0 a1 h1 a2 h2 a3 h3 a4 h4 x cs sn g w
      = k1_pay31 (k1_pay5 x g w) cs sn (k1_pay11 k1_pay8 k1_pay9 k1_pay10) k1_pay12 := by
  unfold kernelRun1.sl.r_5
  rw [run_z1, run_cos1, run_sin1]

/-- Block `t` of the queries. -/
theorem out1_5_at (t : Fin cfg1.N) (y : S4x2x128x512.Idx) :
    out1_5 V c t y = qryT1 V c t (y 0) (y 1) (y 2) (y 3) := by
  refine View.read_writes_apply_of_pieces _ _ (fun y : S4x2x128x512.Idx => qryT1 V c t (y 0) (y 1) (y 2) (y 3)) _ ?_ y
    (cover1_5 V c t y)
  unfold run1
  simp only [kernelRun1, run_z1, run_cos1, run_sin1, run_q4, run_q5]
  intro p hp
  simp only [List.mem_cons, List.not_mem_nil, or_false] at hp
  rcases hp with rfl | rfl | rfl | rfl | rfl | rfl | rfl | rfl
  · intro (x : S1x1x128x512.Idx)
    idx_vars x
    obtain rfl : x0 = 0 := Subsingleton.elim _ _
    obtain rfl : x1 = 0 := Subsingleton.elim _ _
    refine (query3_1 _ _ _ x3 x2).trans ?_
    simp only [z_at1]
    have e2 : ((Rect.unit (s := S4x2x128x512) ![3, 1, 0, 0] ![1, 1, 128, 512] inb_S4x2x128x512_S1x1x128x512_3_1_0_0).emb (ix4 0 0 x2 x3)) 2 = x2 :=
      Fin.ext (by show 0 + 1 * x2.val = x2.val; omega)
    have e3 : ((Rect.unit (s := S4x2x128x512) ![3, 1, 0, 0] ![1, 1, 128, 512] inb_S4x2x128x512_S1x1x128x512_3_1_0_0).emb (ix4 0 0 x2 x3)) 3 = x3 :=
      Fin.ext (by show 0 + 1 * x3.val = x3.val; omega)
    show _ = qryT1 V c t 3 1 _ _
    rw [e2, e3]
    rfl
  · intro (x : S1x1x128x512.Idx)
    idx_vars x
    obtain rfl : x0 = 0 := Subsingleton.elim _ _
    obtain rfl : x1 = 0 := Subsingleton.elim _ _
    refine (query3_0 _ _ _ x3 x2).trans ?_
    simp only [z_at1]
    have e2 : ((Rect.unit (s := S4x2x128x512) ![3, 0, 0, 0] ![1, 1, 128, 512] inb_S4x2x128x512_S1x1x128x512_3_0_0_0).emb (ix4 0 0 x2 x3)) 2 = x2 :=
      Fin.ext (by show 0 + 1 * x2.val = x2.val; omega)
    have e3 : ((Rect.unit (s := S4x2x128x512) ![3, 0, 0, 0] ![1, 1, 128, 512] inb_S4x2x128x512_S1x1x128x512_3_0_0_0).emb (ix4 0 0 x2 x3)) 3 = x3 :=
      Fin.ext (by show 0 + 1 * x3.val = x3.val; omega)
    show _ = qryT1 V c t 3 0 _ _
    rw [e2, e3]
    rfl
  · intro (x : S1x1x128x512.Idx)
    idx_vars x
    obtain rfl : x0 = 0 := Subsingleton.elim _ _
    obtain rfl : x1 = 0 := Subsingleton.elim _ _
    refine (query2_1 _ _ _ x3 x2).trans ?_
    simp only [z_at1]
    have e2 : ((Rect.unit (s := S4x2x128x512) ![2, 1, 0, 0] ![1, 1, 128, 512] inb_S4x2x128x512_S1x1x128x512_2_1_0_0).emb (ix4 0 0 x2 x3)) 2 = x2 :=
      Fin.ext (by show 0 + 1 * x2.val = x2.val; omega)
    have e3 : ((Rect.unit (s := S4x2x128x512) ![2, 1, 0, 0] ![1, 1, 128, 512] inb_S4x2x128x512_S1x1x128x512_2_1_0_0).emb (ix4 0 0 x2 x3)) 3 = x3 :=
      Fin.ext (by show 0 + 1 * x3.val = x3.val; omega)
    show _ = qryT1 V c t 2 1 _ _
    rw [e2, e3]
    rfl
  · intro (x : S1x1x128x512.Idx)
    idx_vars x
    obtain rfl : x0 = 0 := Subsingleton.elim _ _
    obtain rfl : x1 = 0 := Subsingleton.elim _ _
    refine (query2_0 _ _ _ x3 x2).trans ?_
    simp only [z_at1]
    have e2 : ((Rect.unit (s := S4x2x128x512) ![2, 0, 0, 0] ![1, 1, 128, 512] inb_S4x2x128x512_S1x1x128x512_2_0_0_0).emb (ix4 0 0 x2 x3)) 2 = x2 :=
      Fin.ext (by show 0 + 1 * x2.val = x2.val; omega)
    have e3 : ((Rect.unit (s := S4x2x128x512) ![2, 0, 0, 0] ![1, 1, 128, 512] inb_S4x2x128x512_S1x1x128x512_2_0_0_0).emb (ix4 0 0 x2 x3)) 3 = x3 :=
      Fin.ext (by show 0 + 1 * x3.val = x3.val; omega)
    show _ = qryT1 V c t 2 0 _ _
    rw [e2, e3]
    rfl
  · intro (x : S1x1x128x512.Idx)
    idx_vars x
    obtain rfl : x0 = 0 := Subsingleton.elim _ _
    obtain rfl : x1 = 0 := Subsingleton.elim _ _
    refine (query1_1 _ _ _ x3 x2).trans ?_
    simp only [z_at1]
    have e2 : ((Rect.unit (s := S4x2x128x512) ![1, 1, 0, 0] ![1, 1, 128, 512] inb_S4x2x128x512_S1x1x128x512_1_1_0_0).emb (ix4 0 0 x2 x3)) 2 = x2 :=
      Fin.ext (by show 0 + 1 * x2.val = x2.val; omega)
    have e3 : ((Rect.unit (s := S4x2x128x512) ![1, 1, 0, 0] ![1, 1, 128, 512] inb_S4x2x128x512_S1x1x128x512_1_1_0_0).emb (ix4 0 0 x2 x3)) 3 = x3 :=
      Fin.ext (by show 0 + 1 * x3.val = x3.val; omega)
    show _ = qryT1 V c t 1 1 _ _
    rw [e2, e3]
    rfl
  · intro (x : S1x1x128x512.Idx)
    idx_vars x
    obtain rfl : x0 = 0 := Subsingleton.elim _ _
    obtain rfl : x1 = 0 := Subsingleton.elim _ _
    refine (query1_0 _ _ _ x3 x2).trans ?_
    simp only [z_at1]
    have e2 : ((Rect.unit (s := S4x2x128x512) ![1, 0, 0, 0] ![1, 1, 128, 512] inb_S4x2x128x512_S1x1x128x512_1_0_0_0).emb (ix4 0 0 x2 x3)) 2 = x2 :=
      Fin.ext (by show 0 + 1 * x2.val = x2.val; omega)
    have e3 : ((Rect.unit (s := S4x2x128x512) ![1, 0, 0, 0] ![1, 1, 128, 512] inb_S4x2x128x512_S1x1x128x512_1_0_0_0).emb (ix4 0 0 x2 x3)) 3 = x3 :=
      Fin.ext (by show 0 + 1 * x3.val = x3.val; omega)
    show _ = qryT1 V c t 1 0 _ _
    rw [e2, e3]
    rfl
  · intro (x : S1x1x128x512.Idx)
    idx_vars x
    obtain rfl : x0 = 0 := Subsingleton.elim _ _
    obtain rfl : x1 = 0 := Subsingleton.elim _ _
    refine (query0_1 _ _ _ x3 x2).trans ?_
    simp only [z_at1]
    have e2 : ((Rect.unit (s := S4x2x128x512) ![0, 1, 0, 0] ![1, 1, 128, 512] inb_S4x2x128x512_S1x1x128x512_0_1_0_0).emb (ix4 0 0 x2 x3)) 2 = x2 :=
      Fin.ext (by show 0 + 1 * x2.val = x2.val; omega)
    have e3 : ((Rect.unit (s := S4x2x128x512) ![0, 1, 0, 0] ![1, 1, 128, 512] inb_S4x2x128x512_S1x1x128x512_0_1_0_0).emb (ix4 0 0 x2 x3)) 3 = x3 :=
      Fin.ext (by show 0 + 1 * x3.val = x3.val; omega)
    show _ = qryT1 V c t 0 1 _ _
    rw [e2, e3]
    rfl
  · intro (x : S1x1x128x512.Idx)
    idx_vars x
    obtain rfl : x0 = 0 := Subsingleton.elim _ _
    obtain rfl : x1 = 0 := Subsingleton.elim _ _
    refine (query0_0 _ _ _ x3 x2).trans ?_
    simp only [z_at1]
    have e2 : ((Rect.unit (s := S4x2x128x512) ![0, 0, 0, 0] ![1, 1, 128, 512] inb_S4x2x128x512_S1x1x128x512_0_0_0_0).emb (ix4 0 0 x2 x3)) 2 = x2 :=
      Fin.ext (by show 0 + 1 * x2.val = x2.val; omega)
    have e3 : ((Rect.unit (s := S4x2x128x512) ![0, 0, 0, 0] ![1, 1, 128, 512] inb_S4x2x128x512_S1x1x128x512_0_0_0_0).emb (ix4 0 0 x2 x3)) 3 = x3 :=
      Fin.ext (by show 0 + 1 * x3.val = x3.val; omega)
    show _ = qryT1 V c t 0 0 _ _
    rw [e2, e3]
    rfl

end Cert.Kernel2Ideal.Proj

end
-- ==== Proof.ProjArr.lean ====
module

public import proofs.«01_k».proof.Proof.ProjTile

/-! What the projection's two calls leave in their output arrays, by the arrays they are given. -/

@[expose] public section

set_option maxRecDepth 65536

noncomputable section

namespace Cert.Kernel2Ideal.Proj

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b)) (c : Dev nD)

/-- Where window 0 of call 0 stands. -/
theorem at0_0 (t : Fin cfg0.N) : win0_0.index t = ![t.val, 0] := by
  revert t
  decide +kernel

/-- Where window 1 of call 0 stands. -/
theorem at0_1 (t : Fin cfg0.N) : win0_1.index t = ![t.val, 0] := by
  revert t
  decide +kernel

/-- Where window 2 of call 0 stands. -/
theorem at0_2 (t : Fin cfg0.N) : win0_2.index t = ![t.val, 0] := by
  revert t
  decide +kernel

/-- Where window 3 of call 0 stands. -/
theorem at0_3 (t : Fin cfg0.N) : win0_3.index t = ![0, 0] := by
  revert t
  decide +kernel

/-- Where window 4 of call 0 stands. -/
theorem at0_4 (t : Fin cfg0.N) : win0_4.index t = ![0, 0] := by
  revert t
  decide +kernel

/-- Where window 6 of call 0 stands. -/
theorem at0_6 (t : Fin cfg0.N) : win0_6.index t = ![t.val, 0] := by
  revert t
  decide +kernel

/-- Where window 8 of call 0 stands. -/
theorem at0_8 (t : Fin cfg0.N) : win0_8.index t = ![t.val, 0] := by
  revert t
  decide +kernel

/-- Where window 10 of call 0 stands. -/
theorem at0_10 (t : Fin cfg0.N) : win0_10.index t = ![t.val, 0] := by
  revert t
  decide +kernel

/-- Row `r` of block `t`. -/
def rowOf0 (t : Fin cfg0.N) (r : Fin 256) : Fin 256 := ⟨t.val * 256 + r.val, by
  have : t.val < 1 := t.isLt
  omega⟩

/-- The rows that the call is given. -/
def xA0 (R : Fin 256) (k : Fin 1024) : EReal := (V c main_v13 : Vec Ideal S256x1024 .f32) (ix2 R k)

/-- The cosines that the call is given. -/
def cA0 (R : Fin 256) (d : Fin 128) : EReal := (V c main_v34 : Vec Ideal S256x128 .f32) (ix2 R d)

/-- The signed sines that the call is given. -/
def sA0 (R : Fin 256) (d : Fin 128) : EReal := (V c main_v47 : Vec Ideal S256x128 .f32) (ix2 R d)

/-- The gain that the call is given. -/
def gA0 (k : Fin 1024) : EReal := (V c main_arg4 : Vec Ideal S1x1024 .f32) (ix2 0 k)

/-- The weights that the call is given. -/
def wA0 (k : Fin 1024) (j : Fin 3072) : EReal := (V c main_v1 : Vec Ideal S1024x3072 .bf16) (ix2 k j)

/-- Row `R` of the product. -/
def zA0 (R : Fin 256) (j : Fin 3072) : EReal := zrow (xA0 V c R) (gA0 V c) (wA0 V c) j

/-- The turned keys. -/
def keyA0 (R : Fin 256) (h : Fin 4) (d : Fin 128) : EReal :=
  rope (zA0 V c R) (cA0 V c R d) (sA0 V c R d) ⟨512 + 128 * h.val, by omega⟩ d

/-- The values. -/
def valA0 (R : Fin 256) (h : Fin 4) (d : Fin 128) : EReal := zA0 V c R ⟨1024 + 128 * h.val + d.val, by omega⟩

theorem x_blk0 (t : Fin cfg0.N) (r : Fin 256) (k : Fin 1024) : x0 V c t (ix2 r k) = xA0 V c (rowOf0 t r) k := by
  unfold xA0
  blk_ext [x0, iblk0, rowOf0, at0_0 t]

theorem cs_blk0 (t : Fin cfg0.N) (r : Fin 256) (d : Fin 128) : cs0 V c t (ix2 r d) = cA0 V c (rowOf0 t r) d := by
  unfold cA0
  blk_ext [cs0, iblk0, rowOf0, at0_1 t]

theorem sn_blk0 (t : Fin cfg0.N) (r : Fin 256) (d : Fin 128) : sn0 V c t (ix2 r d) = sA0 V c (rowOf0 t r) d := by
  unfold sA0
  blk_ext [sn0, iblk0, rowOf0, at0_2 t]

theorem gn_blk0 (t : Fin cfg0.N) (k : Fin 1024) : gn0 V c t (ix2 0 k) = gA0 V c k := by
  unfold gA0
  blk_ext [gn0, iblk0, at0_3 t]

theorem wt_blk0 (t : Fin cfg0.N) (k : Fin 1024) (j : Fin 3072) : wt0 V c t (ix2 k j) = wA0 V c k j := by
  unfold wA0
  blk_ext [wt0, iblk0, at0_4 t]

/-- A row of a block's product is the array's. -/
theorem z_blk0 (t : Fin cfg0.N) (r : Fin 256) : z0 V c t r = zA0 V c (rowOf0 t r) := by
  funext j
  show zrow _ _ _ j = zrow _ _ _ j
  simp only [x_blk0, gn_blk0, wt_blk0]

/-- The keys' array. -/
def keyG0 : Vec Ideal S1024x128 .f32 := fun y =>
  keyA0 V c ⟨(y 0).val / 4, by have : (y 0).val < 1024 := (y 0).isLt; omega⟩ ⟨(y 0).val % 4, by omega⟩ (y 1)

theorem keyG_at0 (t : Fin cfg0.N) (a : Fin 1024) (b : Fin 128) (j : S1024x128.Idx) (h0 : (j 0).val = t.val * 1024 + a.val)
    (h1 : (j 1).val = b.val) : keyT0 V c t (row0 a) (hd0 a) b = keyG0 V c j := by
  unfold keyT0 keyG0 keyA0
  rw [z_blk0, cs_blk0, sn_blk0]
  have hj : (j 0).val < 1024 := (j 0).isLt
  have e0 : (⟨(j 0).val / 4, by omega⟩ : Fin 256) = rowOf0 t (row0 a) := Fin.ext (by
    show (j 0).val / 4 = t.val * 256 + a.val / 4
    omega)
  have e1 : (⟨(j 0).val % 4, by omega⟩ : Fin 4) = hd0 a := Fin.ext (by
    show (j 0).val % 4 = a.val % 4
    omega)
  have e2 : j 1 = b := Fin.ext h1
  rw [e0, e1, e2]

/-- What the call leaves in the keys' array. -/
theorem key_arr0 : (dat0 V c).arrAt 6 cfg0.N = keyG0 V c := by
  refine (dat0 V c).arrAt_eq_of_covers 6 _ (by decide +kernel) fun t hfl y => ?_
  blk_simp
  rw [after0_6]
  refine (out0_6_at V c t y).trans ?_
  idx_vars y
  refine keyG_at0 V c t y0 y1 _ ?_ ?_
  · blk_simp [at0_6 t]
  · blk_simp [at0_6 t]

/-- The vals' array. -/
def valG0 : Vec Ideal S1024x128 .f32 := fun y =>
  valA0 V c ⟨(y 0).val / 4, by have : (y 0).val < 1024 := (y 0).isLt; omega⟩ ⟨(y 0).val % 4, by omega⟩ (y 1)

theorem valG_at0 (t : Fin cfg0.N) (a : Fin 1024) (b : Fin 128) (j : S1024x128.Idx) (h0 : (j 0).val = t.val * 1024 + a.val)
    (h1 : (j 1).val = b.val) : valT0 V c t (row0 a) (hd0 a) b = valG0 V c j := by
  unfold valT0 valG0 valA0
  rw [z_blk0]
  have hj : (j 0).val < 1024 := (j 0).isLt
  have e0 : (⟨(j 0).val / 4, by omega⟩ : Fin 256) = rowOf0 t (row0 a) := Fin.ext (by
    show (j 0).val / 4 = t.val * 256 + a.val / 4
    omega)
  have e1 : (⟨(j 0).val % 4, by omega⟩ : Fin 4) = hd0 a := Fin.ext (by
    show (j 0).val % 4 = a.val % 4
    omega)
  have e2 : j 1 = b := Fin.ext h1
  rw [e0, e1, e2]

/-- What the call leaves in the vals' array. -/
theorem val_arr0 : (dat0 V c).arrAt 8 cfg0.N = valG0 V c := by
  refine (dat0 V c).arrAt_eq_of_covers 8 _ (by decide +kernel) fun t hfl y => ?_
  blk_simp
  rw [after0_8]
  refine (out0_8_at V c t y).trans ?_
  idx_vars y
  refine valG_at0 V c t y0 y1 _ ?_ ?_
  · blk_simp [at0_8 t]
  · blk_simp [at0_8 t]

/-- The pooling inputs' array. -/
def poolG0 : Vec Ideal S256x512 .f32 := fun y => (fun (R : Fin 256) (b : Fin 512) => (zA0 V c R ⟨1536 + b.val, by omega⟩ : EReal)) (y 0) (y 1)

theorem poolG_at0 (t : Fin cfg0.N) (a : Fin 256) (b : Fin 512) (j : S256x512.Idx) (h0 : (j 0).val = t.val * 256 + a.val)
    (h1 : (j 1).val = b.val) : out0_10 V c t (ix2 a b) = poolG0 V c j := by
  rw [out0_10_at, z_blk0]
  have e0 : j 0 = rowOf0 t a := Fin.ext h0
  have e2 : j 1 = b := Fin.ext h1
  unfold poolG0
  rw [e0, e2]

/-- What the call leaves there. -/
theorem pool_arr0 : (dat0 V c).arrAt 10 cfg0.N = poolG0 V c := by
  refine (dat0 V c).arrAt_eq_of_covers 10 _ (by decide +kernel) fun t hfl y => ?_
  blk_simp
  rw [after0_10]
  idx_vars y
  refine poolG_at0 V c t y0 y1 _ ?_ ?_
  · blk_simp [at0_10 t]
  · blk_simp [at0_10 t]

/-- Where window 0 of call 1 stands. -/
theorem at1_0 (t : Fin cfg1.N) : win1_0.index t = ![t.val, 0] := by
  revert t
  decide +kernel

/-- Where window 1 of call 1 stands. -/
theorem at1_1 (t : Fin cfg1.N) : win1_1.index t = ![t.val, 0] := by
  revert t
  decide +kernel

/-- Where window 2 of call 1 stands. -/
theorem at1_2 (t : Fin cfg1.N) : win1_2.index t = ![t.val, 0] := by
  revert t
  decide +kernel

/-- Where window 3 of call 1 stands. -/
theorem at1_3 (t : Fin cfg1.N) : win1_3.index t = ![0, 0] := by
  revert t
  decide +kernel

/-- Where window 4 of call 1 stands. -/
theorem at1_4 (t : Fin cfg1.N) : win1_4.index t = ![0, 0] := by
  revert t
  decide +kernel

/-- Where window 6 of call 1 stands. -/
theorem at1_6 (t : Fin cfg1.N) : win1_6.index t = ![t.val, 0] := by
  revert t
  decide +kernel

/-- Where window 8 of call 1 stands. -/
theorem at1_8 (t : Fin cfg1.N) : win1_8.index t = ![t.val, 0] := by
  revert t
  decide +kernel

/-- Where window 10 of call 1 stands. -/
theorem at1_10 (t : Fin cfg1.N) : win1_10.index t = ![t.val, 0] := by
  revert t
  decide +kernel

/-- Where window 5 of call 1 stands. -/
theorem at1_5 (t : Fin cfg1.N) : win1_5.index t = ![0, 0, 0, t.val] := by
  revert t
  decide +kernel

/-- Where window 11 of call 1 stands. -/
theorem at1_11 (t : Fin cfg1.N) : win1_11.index t = ![t.val, 0] := by
  revert t
  decide +kernel

/-- Row `r` of block `t`. -/
def rowOf1 (t : Fin cfg1.N) (r : Fin 512) : Fin 16384 := ⟨t.val * 512 + r.val, by
  have : t.val < 32 := t.isLt
  omega⟩

/-- The rows that the call is given. -/
def xA1 (R : Fin 16384) (k : Fin 1024) : EReal := (V c main_v49 : Vec Ideal S16384x1024 .f32) (ix2 R k)

/-- The cosines that the call is given. -/
def cA1 (R : Fin 16384) (d : Fin 128) : EReal := (V c main_v115 : Vec Ideal S16384x128 .f32) (ix2 R d)

/-- The signed sines that the call is given. -/
def sA1 (R : Fin 16384) (d : Fin 128) : EReal := (V c main_v133 : Vec Ideal S16384x128 .f32) (ix2 R d)

/-- The gain that the call is given. -/
def gA1 (k : Fin 1024) : EReal := (V c main_arg4 : Vec Ideal S1x1024 .f32) (ix2 0 k)

/-- The weights that the call is given. -/
def wA1 (k : Fin 1024) (j : Fin 3072) : EReal := (V c main_v1 : Vec Ideal S1024x3072 .bf16) (ix2 k j)

/-- Row `R` of the product. -/
def zA1 (R : Fin 16384) (j : Fin 3072) : EReal := zrow (xA1 V c R) (gA1 V c) (wA1 V c) j

/-- The turned keys. -/
def keyA1 (R : Fin 16384) (h : Fin 4) (d : Fin 128) : EReal :=
  rope (zA1 V c R) (cA1 V c R d) (sA1 V c R d) ⟨512 + 128 * h.val, by omega⟩ d

/-- The values. -/
def valA1 (R : Fin 16384) (h : Fin 4) (d : Fin 128) : EReal := zA1 V c R ⟨1024 + 128 * h.val + d.val, by omega⟩

theorem x_blk1 (t : Fin cfg1.N) (r : Fin 512) (k : Fin 1024) : x1 V c t (ix2 r k) = xA1 V c (rowOf1 t r) k := by
  unfold xA1
  blk_ext [x1, iblk1, rowOf1, at1_0 t]

theorem cs_blk1 (t : Fin cfg1.N) (r : Fin 512) (d : Fin 128) : cs1 V c t (ix2 r d) = cA1 V c (rowOf1 t r) d := by
  unfold cA1
  blk_ext [cs1, iblk1, rowOf1, at1_1 t]

theorem sn_blk1 (t : Fin cfg1.N) (r : Fin 512) (d : Fin 128) : sn1 V c t (ix2 r d) = sA1 V c (rowOf1 t r) d := by
  unfold sA1
  blk_ext [sn1, iblk1, rowOf1, at1_2 t]

theorem gn_blk1 (t : Fin cfg1.N) (k : Fin 1024) : gn1 V c t (ix2 0 k) = gA1 V c k := by
  unfold gA1
  blk_ext [gn1, iblk1, at1_3 t]

theorem wt_blk1 (t : Fin cfg1.N) (k : Fin 1024) (j : Fin 3072) : wt1 V c t (ix2 k j) = wA1 V c k j := by
  unfold wA1
  blk_ext [wt1, iblk1, at1_4 t]

/-- A row of a block's product is the array's. -/
theorem z_blk1 (t : Fin cfg1.N) (r : Fin 512) : z1 V c t r = zA1 V c (rowOf1 t r) := by
  funext j
  show zrow _ _ _ j = zrow _ _ _ j
  simp only [x_blk1, gn_blk1, wt_blk1]

/-- The keys' array. -/
def keyG1 : Vec Ideal S65536x128 .f32 := fun y =>
  keyA1 V c ⟨(y 0).val / 4, by have : (y 0).val < 65536 := (y 0).isLt; omega⟩ ⟨(y 0).val % 4, by omega⟩ (y 1)

theorem keyG_at1 (t : Fin cfg1.N) (a : Fin 2048) (b : Fin 128) (j : S65536x128.Idx) (h0 : (j 0).val = t.val * 2048 + a.val)
    (h1 : (j 1).val = b.val) : keyT1 V c t (row1 a) (hd1 a) b = keyG1 V c j := by
  unfold keyT1 keyG1 keyA1
  rw [z_blk1, cs_blk1, sn_blk1]
  have hj : (j 0).val < 65536 := (j 0).isLt
  have e0 : (⟨(j 0).val / 4, by omega⟩ : Fin 16384) = rowOf1 t (row1 a) := Fin.ext (by
    show (j 0).val / 4 = t.val * 512 + a.val / 4
    omega)
  have e1 : (⟨(j 0).val % 4, by omega⟩ : Fin 4) = hd1 a := Fin.ext (by
    show (j 0).val % 4 = a.val % 4
    omega)
  have e2 : j 1 = b := Fin.ext h1
  rw [e0, e1, e2]

/-- What the call leaves in the keys' array. -/
theorem key_arr1 : (dat1 V c).arrAt 6 cfg1.N = keyG1 V c := by
  refine (dat1 V c).arrAt_eq_of_covers 6 _ (by decide +kernel) fun t hfl y => ?_
  blk_simp
  rw [after1_6]
  refine (out1_6_at V c t y).trans ?_
  idx_vars y
  refine keyG_at1 V c t y0 y1 _ ?_ ?_
  · blk_simp [at1_6 t]
  · blk_simp [at1_6 t]

/-- The vals' array. -/
def valG1 : Vec Ideal S65536x128 .f32 := fun y =>
  valA1 V c ⟨(y 0).val / 4, by have : (y 0).val < 65536 := (y 0).isLt; omega⟩ ⟨(y 0).val % 4, by omega⟩ (y 1)

theorem valG_at1 (t : Fin cfg1.N) (a : Fin 2048) (b : Fin 128) (j : S65536x128.Idx) (h0 : (j 0).val = t.val * 2048 + a.val)
    (h1 : (j 1).val = b.val) : valT1 V c t (row1 a) (hd1 a) b = valG1 V c j := by
  unfold valT1 valG1 valA1
  rw [z_blk1]
  have hj : (j 0).val < 65536 := (j 0).isLt
  have e0 : (⟨(j 0).val / 4, by omega⟩ : Fin 16384) = rowOf1 t (row1 a) := Fin.ext (by
    show (j 0).val / 4 = t.val * 512 + a.val / 4
    omega)
  have e1 : (⟨(j 0).val % 4, by omega⟩ : Fin 4) = hd1 a := Fin.ext (by
    show (j 0).val % 4 = a.val % 4
    omega)
  have e2 : j 1 = b := Fin.ext h1
  rw [e0, e1, e2]

/-- What the call leaves in the vals' array. -/
theorem val_arr1 : (dat1 V c).arrAt 8 cfg1.N = valG1 V c := by
  refine (dat1 V c).arrAt_eq_of_covers 8 _ (by decide +kernel) fun t hfl y => ?_
  blk_simp
  rw [after1_8]
  refine (out1_8_at V c t y).trans ?_
  idx_vars y
  refine valG_at1 V c t y0 y1 _ ?_ ?_
  · blk_simp [at1_8 t]
  · blk_simp [at1_8 t]

/-- The pooling inputs' array. -/
def poolG1 : Vec Ideal S16384x512 .f32 := fun y => (fun (R : Fin 16384) (b : Fin 512) => (zA1 V c R ⟨1536 + b.val, by omega⟩ : EReal)) (y 0) (y 1)

theorem poolG_at1 (t : Fin cfg1.N) (a : Fin 512) (b : Fin 512) (j : S16384x512.Idx) (h0 : (j 0).val = t.val * 512 + a.val)
    (h1 : (j 1).val = b.val) : out1_10 V c t (ix2 a b) = poolG1 V c j := by
  rw [out1_10_at, z_blk1]
  have e0 : j 0 = rowOf1 t a := Fin.ext h0
  have e2 : j 1 = b := Fin.ext h1
  unfold poolG1
  rw [e0, e2]

/-- What the call leaves there. -/
theorem pool_arr1 : (dat1 V c).arrAt 10 cfg1.N = poolG1 V c := by
  refine (dat1 V c).arrAt_eq_of_covers 10 _ (by decide +kernel) fun t hfl y => ?_
  blk_simp
  rw [after1_10]
  idx_vars y
  refine poolG_at1 V c t y0 y1 _ ?_ ?_
  · blk_simp [at1_10 t]
  · blk_simp [at1_10 t]

/-- The gates' array. -/
def gateG1 : Vec Ideal S16384x1024 .bf16 := fun y => (fun (R : Fin 16384) (b : Fin 1024) => (zA1 V c R ⟨2048 + b.val, by omega⟩ * Ideal.logistic (zA1 V c R ⟨2048 + b.val, by omega⟩) : EReal)) (y 0) (y 1)

theorem gateG_at1 (t : Fin cfg1.N) (a : Fin 512) (b : Fin 1024) (j : S16384x1024.Idx) (h0 : (j 0).val = t.val * 512 + a.val)
    (h1 : (j 1).val = b.val) : out1_11 V c t (ix2 a b) = gateG1 V c j := by
  rw [out1_11_at, z_blk1]
  have e0 : j 0 = rowOf1 t a := Fin.ext h0
  have e2 : j 1 = b := Fin.ext h1
  unfold gateG1
  rw [e0, e2]

/-- What the call leaves there. -/
theorem gate_arr1 : (dat1 V c).arrAt 11 cfg1.N = gateG1 V c := by
  refine (dat1 V c).arrAt_eq_of_covers 11 _ (by decide +kernel) fun t hfl y => ?_
  blk_simp
  rw [after1_11]
  idx_vars y
  refine gateG_at1 V c t y0 y1 _ ?_ ?_
  · blk_simp [at1_11 t]
  · blk_simp [at1_11 t]

/-- The turned and scaled queries; the lanes of the other component are zero. -/
def qryA1 (h : Fin 4) (q : Fin 2) (d : Fin 128) (R : Fin 16384) : EReal :=
  if d.val / 64 = q.val then rope (zA1 V c R) (cA1 V c R d) (sA1 V c R d) ⟨128 * h.val, by omega⟩ d
    * Ideal.ofBits .f32 0x3E38AA3B#32 else 0

/-- The queries' array. -/
def qryG1 : Vec Ideal S4x2x128x16384 .bf16 := fun y => qryA1 V c (y 0) (y 1) (y 2) (y 3)

theorem qryG_at1 (t : Fin cfg1.N) (h : Fin 4) (q : Fin 2) (d : Fin 128) (r : Fin 512) (j : S4x2x128x16384.Idx)
    (h0 : (j 0).val = h.val) (h1 : (j 1).val = q.val) (h2 : (j 2).val = d.val) (h3 : (j 3).val = t.val * 512 + r.val) :
    qryT1 V c t h q d r = qryG1 V c j := by
  unfold qryT1 qryG1 qryA1
  rw [z_blk1, cs_blk1, sn_blk1]
  have e0 : j 0 = h := Fin.ext h0
  have e1 : j 1 = q := Fin.ext h1
  have e2 : j 2 = d := Fin.ext h2
  have e3 : j 3 = rowOf1 t r := Fin.ext h3
  rw [e0, e1, e2, e3]

/-- What the call leaves in the queries' array. -/
theorem qry_arr1 : (dat1 V c).arrAt 5 cfg1.N = qryG1 V c := by
  refine (dat1 V c).arrAt_eq_of_covers 5 _ (by decide +kernel) fun t hfl y => ?_
  blk_simp
  rw [after1_5]
  refine (out1_5_at V c t y).trans ?_
  idx_vars y
  refine qryG_at1 V c t y0 y1 y2 y3 _ ?_ ?_ ?_ ?_
  · blk_simp [at1_5 t]
  · blk_simp [at1_5 t]
  · blk_simp [at1_5 t]
  · blk_simp [at1_5 t]

end Cert.Kernel2Ideal.Proj

end
-- ==== Proof.ProjTab.lean ====
module

public import proofs.«01_k».proof.Proof.ProjSpec
public import Idealize.ShloMosaic.Lib.WordCmp

/-! The rotary tables in plain terms, and the layer's nine results as functions of its arguments. -/

@[expose] public section

noncomputable section

namespace Cert.Kernel2Ideal.Proj

open Idealize.ShloMosaic

/-- A position as a number. -/
def pos (p : ℕ) : EReal := FloatOps.sitofp (F := Ideal) .f32 (BitVec.ofNat 32 p)

/-- The frequency of lane pair `j`: 10000 to the power −2j/64. -/
def fr (j : Fin 32) : EReal :=
  Ideal.pow (Ideal.ofBits .f32 0x461C4000#32) (Ideal.div (-(Ideal.ofBits .f32 0x40000000#32 * pos j.val)) (Ideal.ofBits .f32 0x42800000#32))

/-- The cosine of the angle of position `p` at lane pair `j`. -/
def cosT (p : ℕ) (j : Fin 32) : EReal := Ideal.cos (pos p * fr j)

/-- The sine of the angle of position `p` at lane pair `j`. -/
def sinT (p : ℕ) (j : Fin 32) : EReal := Ideal.sin (pos p * fr j)

/-- The lane pair of lane `d`. -/
def pair (d : Fin 128) : Fin 32 := ⟨d.val % 32, Nat.mod_lt _ (by decide)⟩

/-- The sign the sine takes at lane `d`. -/
def sgn (d : Fin 128) : EReal := if d.val % 64 < 32 then -1 else Ideal.ofBits .f32 0x3F800000#32

/-- Lane `d` of the 128 columns from `o` on, turned by the angle of position `p`: each component of 64 lanes is a first half and a
second half, `x1` and `x2`; it becomes `x1 cos − x2 sin` and `x2 cos + x1 sin`. -/
def turn (z : Fin 3072 → EReal) (p : ℕ) (o : Fin 2944) (d : Fin 128) : EReal :=
  if d.val % 64 < 32 then z ⟨o.val + d.val, by omega⟩ * cosT p (pair d) - z ⟨o.val + (swap d).val, by omega⟩ * sinT p (pair d)
  else z ⟨o.val + d.val, by omega⟩ * cosT p (pair d) + z ⟨o.val + (swap d).val, by omega⟩ * sinT p (pair d)

theorem ofBits_ten_thousand : (Ideal.ofBits .f32 0x461C4000#32 : EReal) = ((10000 : ℝ) : EReal) := by
  simp [Ideal.ofBits, Ideal.ieee, -EReal.coe_mul]; norm_num

theorem ofBits_two' : (Ideal.ofBits .f32 0x40000000#32 : EReal) = ((2 : ℝ) : EReal) := by
  simp [Ideal.ofBits, Ideal.ieee, -EReal.coe_mul]; norm_num

theorem ofBits_sixty_four : (Ideal.ofBits .f32 0x42800000#32 : EReal) = ((64 : ℝ) : EReal) := by
  simp [Ideal.ofBits, Ideal.ieee, -EReal.coe_mul]; norm_num

/-- The signed sine is the sine with the sign of its lane. -/
theorem rope_turn (z : Fin 3072 → EReal) (p : ℕ) (o : Fin 2944) (d : Fin 128) :
    rope z (cosT p (pair d)) (sinT p (pair d) * sgn d) o d = turn z p o d := by
  unfold rope turn sgn
  by_cases h : d.val % 64 < 32
  · rw [if_pos h, if_pos h, sub_eq_add_neg, mul_neg, mul_one, mul_neg]
  · rw [if_neg h, if_neg h, Ideal.ofBits_one_f32, mul_one]

/-- A small position is the number it spells. -/
theorem pos_eq (p : ℕ) (h : p < 100000) : pos p = ((p : ℝ) : EReal) := by
  show (((BitVec.ofNat 32 p).toInt : ℝ) : EReal) = _
  have : (BitVec.ofNat 32 p).toInt = (p : ℤ) := by
    rw [BitVec.toInt_ofNat']
    rw [Int.bmod_eq_of_le] <;> omega
  rw [this]
  norm_cast

/-- A frequency is a real number. -/
theorem fr_real (j : Fin 32) : ∃ r : ℝ, fr j = (r : EReal) := by
  unfold fr
  rw [ofBits_ten_thousand, ofBits_two', ofBits_sixty_four, pos_eq _ (by omega), ← EReal.coe_mul, ← EReal.coe_neg]
  unfold Ideal.div
  rw [if_neg (by norm_num), ← EReal.coe_inv, ← EReal.coe_mul]
  exact ⟨_, rfl⟩

/-- The cosine of a sum of two positions, from the tables of the two. -/
theorem cosT_add (a b : ℕ) (j : Fin 32) (h : a + b < 100000) :
    cosT a j * cosT b j - sinT a j * sinT b j = cosT (a + b) j := by
  obtain ⟨r, hr⟩ := fr_real j
  unfold cosT sinT
  rw [hr, pos_eq a (by omega), pos_eq b (by omega), pos_eq _ h, ← EReal.coe_mul, ← EReal.coe_mul, ← EReal.coe_mul]
  show ((Real.cos _ : ℝ) : EReal) * ((Real.cos _ : ℝ) : EReal) - ((Real.sin _ : ℝ) : EReal) * ((Real.sin _ : ℝ) : EReal) = ((Real.cos _ : ℝ) : EReal)
  rw [← EReal.coe_mul, ← EReal.coe_mul, ← EReal.coe_sub, ← Real.cos_add, ← add_mul]
  push_cast
  rfl

/-- The sine of a sum of two positions, from the tables of the two. -/
theorem sinT_add (a b : ℕ) (j : Fin 32) (h : a + b < 100000) :
    sinT a j * cosT b j + cosT a j * sinT b j = sinT (a + b) j := by
  obtain ⟨r, hr⟩ := fr_real j
  unfold cosT sinT
  rw [hr, pos_eq a (by omega), pos_eq b (by omega), pos_eq _ h, ← EReal.coe_mul, ← EReal.coe_mul, ← EReal.coe_mul]
  show ((Real.sin _ : ℝ) : EReal) * ((Real.cos _ : ℝ) : EReal) + ((Real.cos _ : ℝ) : EReal) * ((Real.sin _ : ℝ) : EReal) = ((Real.sin _ : ℝ) : EReal)
  rw [← EReal.coe_mul, ← EReal.coe_mul, ← EReal.coe_add, ← Real.sin_add, ← add_mul]
  push_cast
  rfl

/-! ## The results -/

section
variable (xp : Fin 16384 → Fin 1024 → EReal) (xs : Fin 32 → Fin 4 → Fin 1024 → EReal) (sp : Fin 32 → Fin 15 → Fin 512 → EReal)
  (mt : Fin 16 → Fin 1024 → EReal) (g : Fin 1024 → EReal) (w : Fin 1024 → Fin 3072 → EReal)

/-- Row `n` of the prompt: the sixteen learnt rows come first. -/
def rowP (n : Fin 16400) : Fin 1024 → EReal := if h : n.val < 16 then mt ⟨n.val, h⟩ else xp ⟨n.val - 16, by omega⟩

/-- The projection of row `n` of the prompt. -/
def zP (n : Fin 16400) : Fin 3072 → EReal := zrow (rowP xp mt n) g w

/-- The projection of new token `s` of sequence `i` of the sample. -/
def zS (i : Fin 32) (s : Fin 4) : Fin 3072 → EReal := zrow (xs i s) g w

/-- The prompt's keys. -/
def kP (n : Fin 16400) (h : Fin 4) (d : Fin 128) : EReal := turn (zP xp mt g w n) n.val ⟨512 + 128 * h.val, by omega⟩ d

/-- The prompt's values. -/
def vP (n : Fin 16400) (h : Fin 4) (d : Fin 128) : EReal := zP xp mt g w n ⟨1024 + 128 * h.val + d.val, by omega⟩

/-- The prompt's pooling inputs. -/
def uP (n : Fin 16400) (j : Fin 512) : EReal := zP xp mt g w n ⟨1536 + j.val, by omega⟩

/-- The sample's keys: a new token's place is past the 16384 of the cache. -/
def kS (i : Fin 32) (s : Fin 4) (h : Fin 4) (d : Fin 128) : EReal := turn (zS xs g w i s) (16384 + s.val) ⟨512 + 128 * h.val, by omega⟩ d

/-- The sample's values. -/
def vS (i : Fin 32) (s : Fin 4) (h : Fin 4) (d : Fin 128) : EReal := zS xs g w i s ⟨1024 + 128 * h.val + d.val, by omega⟩

/-- The sample's pooling state: the eleven newest rows of the old one, then the four new ones. -/
def uS (i : Fin 32) (b : Fin 15) (j : Fin 512) : EReal :=
  if h : b.val < 11 then sp i ⟨b.val + 4, by omega⟩ j else zS xs g w i ⟨b.val - 11, by omega⟩ ⟨1536 + j.val, by omega⟩

/-- The prompt's queries, scaled. -/
def qP (n : Fin 16384) (h : Fin 4) (q : Fin 2) (e : Fin 64) : EReal :=
  turn (zP xp mt g w ⟨16 + n.val, by omega⟩) (16 + n.val) ⟨128 * h.val, by omega⟩ ⟨64 * q.val + e.val, by omega⟩ * Ideal.ofBits .f32 0x3E38AA3B#32

/-- The prompt's gates: z over 1 + exp(−z). -/
def gP (n : Fin 16384) (j : Fin 1024) : EReal :=
  zP xp mt g w ⟨16 + n.val, by omega⟩ ⟨2048 + j.val, by omega⟩ * Ideal.logistic (zP xp mt g w ⟨16 + n.val, by omega⟩ ⟨2048 + j.val, by omega⟩)

end

end Cert.Kernel2Ideal.Proj

end
-- ==== Proof.ProjHost.lean ====
module

public import proofs.«01_k».proof.Proof.ProjArr
public import proofs.«01_k».proof.Proof.ProjTab
public import Idealize.ShloMosaic.Lib.StableHlo.ReadAt

/-! What the two projection calls are given, from the kernel's arguments: the rows, the gain, the weights and the rotary tables. -/

@[expose] public section

set_option maxRecDepth 65536

noncomputable section

namespace Cert.Kernel2Ideal.Proj

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg) (c : Dev nD)

/-- The prompt's rows. -/
def xpA (n : Fin 16384) (k : Fin 1024) : EReal := (m ((c : Thread nD τ).loc main_arg0) : Vec Ideal S1x16384x1024 .f32) (ix3 0 n k)
/-- The sample's rows. -/
def xsA (i : Fin 32) (s : Fin 4) (k : Fin 1024) : EReal := (m ((c : Thread nD τ).loc main_arg1) : Vec Ideal S32x4x1024 .f32) (ix3 i s k)
/-- The old pooling state. -/
def spA (i : Fin 32) (b : Fin 15) (j : Fin 512) : EReal := (m ((c : Thread nD τ).loc main_arg2) : Vec Ideal S1x32x15x512 .f32) (ix4 0 i b j)
/-- The learnt rows. -/
def mtA (n : Fin 16) (k : Fin 1024) : EReal := (m ((c : Thread nD τ).loc main_arg3) : Vec Ideal S16x1024 .f32) (ix2 n k)
/-- The gain. -/
def gA (k : Fin 1024) : EReal := (m ((c : Thread nD τ).loc main_arg4) : Vec Ideal S1x1024 .f32) (ix2 0 k)
/-- The weights. -/
def wA (k : Fin 1024) (j : Fin 3072) : EReal := (m ((c : Thread nD τ).loc main_arg5) : Vec Ideal S1x1024x3072 .f32) (ix3 0 k j)

theorem w_in0 : wA0 (V1 m ρ) c = wA m c := by
  funext k j
  unfold wA0 V1 W1
  after_reads_at
  rfl

theorem g_in0 : gA0 (V1 m ρ) c = gA m c := by
  funext k
  unfold gA0 gA
  rw [show V1 m ρ c main_arg4 = m ((c : Thread nD τ).loc main_arg4) from W1_args m ρ c main_arg4 (by decide)]

theorem w_in1 : wA1 (V3 m ρ) c = wA m c := by
  funext k j
  unfold wA1
  rw [show V3 m ρ c main_v1 = V1 m ρ c main_v1 from (W3_of m ρ c main_v1 (by decide)).trans (W2_of m ρ c main_v1 (by decide))]
  exact congrFun (congrFun (w_in0 m ρ c) k) j

theorem g_in1 : gA1 (V3 m ρ) c = gA m c := by
  funext k
  unfold gA1 gA
  rw [show V3 m ρ c main_arg4 = m ((c : Thread nD τ).loc main_arg4) from W3_args m ρ c main_arg4 (by decide)]

theorem x_in1 (R : Fin 16384) : xA1 (V3 m ρ) c R = xpA m c R := by
  funext k
  unfold xA1 V3 W3
  after_reads_at
  unfold xpA
  rw [W2_args m ρ c main_arg0 (by decide)]

theorem x_meta0 (R : Fin 256) (h : R.val < 16) : xA0 (V1 m ρ) c R = mtA m c ⟨R.val, h⟩ := by
  funext k
  unfold xA0 V1 W1
  after_reads_at
  rw [dif_pos h]
  rfl

theorem x_samp0 (i : Fin 32) (s : Fin 4) : xA0 (V1 m ρ) c ⟨16 + 32 * s.val + i.val, by omega⟩ = xsA m c i s := by
  funext k
  unfold xA0 V1 W1
  after_reads_at
  rw [dif_neg (show ¬ (16 + 32 * s.val + i.val < 16) by omega), dif_pos (show 16 + 32 * s.val + i.val - 16 < 128 by omega)]
  after_reads_at
  unfold xsA
  rw [show (⟨(16 + 32 * s.val + i.val - 16) % 32, Nat.mod_lt _ (by decide)⟩ : Fin 32) = i from Fin.ext (show (16 + 32 * s.val + i.val - 16) % 32 = i.val by omega),
    show (⟨(16 + 32 * s.val + i.val - 16) / 32, by omega⟩ : Fin 4) = s from Fin.ext (show (16 + 32 * s.val + i.val - 16) / 32 = s.val by omega)]

theorem add_word (a b : ℕ) : IntOp.addi (BitVec.ofNat 32 a) (BitVec.ofNat 32 b) = BitVec.ofNat 32 (a + b) := (BitVec.ofNat_add a b).symm

theorem mul_word (a b : ℕ) : IntOp.muli (BitVec.ofNat 32 a) (BitVec.ofNat 32 b) = BitVec.ofNat 32 (a * b) := (BitVec.ofNat_mul a b).symm

theorem c_meta0 (R : Fin 256) (h : R.val < 16) (d : Fin 128) : cA0 (V1 m ρ) c R d = cosT R.val (pair d) := by
  unfold cA0 V1 W1
  after_reads_at
  rw [dif_pos h]
  after_reads_at
  rfl

theorem c_samp0 (i : Fin 32) (s : Fin 4) (d : Fin 128) :
    cA0 (V1 m ρ) c ⟨16 + 32 * s.val + i.val, by omega⟩ d = cosT (16384 + s.val) (pair d) := by
  unfold cA0 V1 W1
  after_reads_at
  rw [dif_neg (show ¬ (16 + 32 * s.val + i.val < 16) by omega), dif_pos (show 16 + 32 * s.val + i.val - 16 < 128 by omega)]
  after_reads_at
  rw [add_word, show (16 + 32 * s.val + i.val - 16) / 32 = s.val by omega]
  rfl

theorem s_meta0 (R : Fin 256) (h : R.val < 16) (d : Fin 128) : sA0 (V1 m ρ) c R d = sinT R.val (pair d) * sgn d := by
  unfold sA0 V1 W1 sgn
  after_reads_at
  by_cases hd : d.val % 64 < 32
  · simp only [h, hd, dite_true, if_true]
    after_reads_at
    rfl
  · simp only [h, hd, dite_true, dite_false, if_false]
    after_reads_at
    rfl

theorem s_samp0 (i : Fin 32) (s : Fin 4) (d : Fin 128) :
    sA0 (V1 m ρ) c ⟨16 + 32 * s.val + i.val, by omega⟩ d = sinT (16384 + s.val) (pair d) * sgn d := by
  unfold sA0 V1 W1 sgn
  after_reads_at
  have h1 : ¬ (16 + 32 * s.val + i.val < 16) := by omega
  have h2 : 16 + 32 * s.val + i.val - 16 < 128 := by omega
  by_cases hd : d.val % 64 < 32
  · simp only [h1, h2, hd, dite_true, dite_false, if_true]
    after_reads_at
    rw [add_word, show (16 + 32 * s.val + i.val - 16) / 32 = s.val by omega]
    rfl
  · simp only [h1, h2, hd, dite_true, dite_false, if_false]
    after_reads_at
    rw [add_word, show (16 + 32 * s.val + i.val - 16) / 32 = s.val by omega]
    rfl

theorem c_in1 (R : Fin 16384) (d : Fin 128) : cA1 (V3 m ρ) c R d = cosT (16 + R.val) (pair d) := by
  unfold cA1 V3 W3
  after_reads_at
  rw [mul_word, add_word]
  refine (cosT_add (16 + 256 * (R.val / 256)) (R.val % 256) (pair d) (by omega)).trans (congrArg (fun p => cosT p (pair d)) ?_)
  show 16 + 256 * (R.val / 256) + R.val % 256 = 16 + R.val
  omega

set_option maxHeartbeats 2000000 in
theorem s_in1 (R : Fin 16384) (d : Fin 128) : sA1 (V3 m ρ) c R d = sinT (16 + R.val) (pair d) * sgn d := by
  have key : sinT (16 + 256 * (R.val / 256)) (pair d) * cosT (R.val % 256) (pair d) + cosT (16 + 256 * (R.val / 256)) (pair d) * sinT (R.val % 256) (pair d)
      = sinT (16 + R.val) (pair d) :=
    (sinT_add (16 + 256 * (R.val / 256)) (R.val % 256) (pair d) (by omega)).trans
      (congrArg (fun p => sinT p (pair d)) (show 16 + 256 * (R.val / 256) + R.val % 256 = 16 + R.val by omega))
  rw [← key]
  unfold sA1 V3 W3 sgn
  after_reads_at
  refine congrArg₂ (fun a b : EReal => a * b) ?_ ?_
  · rw [mul_word, add_word]
    rfl
  · by_cases hd : d.val % 64 < 32
    · rw [dif_pos hd, if_pos hd]
      after_reads_at
      try rfl
    · rw [dif_neg hd, if_neg hd]
      after_reads_at
      try rfl

end Cert.Kernel2Ideal.Proj

end
-- ==== Proof.ProjRes.lean ====
module

public import proofs.«01_k».proof.Proof.ProjHost

/-! The kernel's nine results, each at an index, from its arguments. -/

@[expose] public section

set_option maxRecDepth 65536
set_option maxHeartbeats 1000000

noncomputable section

namespace Cert.Kernel2Ideal.Proj

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg) (c : Dev nD)

/-! ## The rows of the two calls -/

theorem z_meta0 (R : Fin 256) (h : R.val < 16) : zA0 (V1 m ρ) c R = zP (xpA m c) (mtA m c) (gA m c) (wA m c) ⟨R.val, by omega⟩ := by
  funext j
  unfold zA0 zP rowP
  rw [x_meta0 m ρ c R h, g_in0, w_in0, dif_pos h]

theorem z_samp0 (i : Fin 32) (s : Fin 4) :
    zA0 (V1 m ρ) c ⟨16 + 32 * s.val + i.val, by omega⟩ = zS (xsA m c) (gA m c) (wA m c) i s := by
  funext j
  unfold zA0 zS
  rw [x_samp0, g_in0, w_in0]

theorem z_in1 (R : Fin 16384) : zA1 (V3 m ρ) c R = zP (xpA m c) (mtA m c) (gA m c) (wA m c) ⟨16 + R.val, by omega⟩ := by
  funext j
  unfold zA1 zP rowP
  rw [x_in1, g_in1, w_in1, dif_neg (show ¬ (16 + R.val < 16) by omega),
    show (⟨16 + R.val - 16, by omega⟩ : Fin 16384) = R from Fin.ext (by dsimp only; omega)]

theorem key_meta0 (R : Fin 256) (h : R.val < 16) (hd : Fin 4) (d : Fin 128) :
    keyA0 (V1 m ρ) c R hd d = kP (xpA m c) (mtA m c) (gA m c) (wA m c) ⟨R.val, by omega⟩ hd d := by
  unfold keyA0 kP
  rw [z_meta0 m ρ c R h, c_meta0 m ρ c R h, s_meta0 m ρ c R h, rope_turn]

theorem key_samp0 (i : Fin 32) (s : Fin 4) (hd : Fin 4) (d : Fin 128) :
    keyA0 (V1 m ρ) c ⟨16 + 32 * s.val + i.val, by omega⟩ hd d = kS (xsA m c) (gA m c) (wA m c) i s hd d := by
  unfold keyA0 kS
  rw [z_samp0, c_samp0, s_samp0, rope_turn]

theorem key_in1 (R : Fin 16384) (hd : Fin 4) (d : Fin 128) :
    keyA1 (V3 m ρ) c R hd d = kP (xpA m c) (mtA m c) (gA m c) (wA m c) ⟨16 + R.val, by omega⟩ hd d := by
  unfold keyA1 kP
  rw [z_in1, c_in1, s_in1, rope_turn]

/-! ## What the calls leave, after both -/

theorem at4_k0 : W4 m ρ c main_v48_1 = keyG0 (V1 m ρ) c :=
  (W4_of_ne m ρ c main_v48_1 (by decide)).trans ((W3_of m ρ c main_v48_1 (by decide)).trans ((W2_arr m ρ c 6).trans (key_arr0 _ c)))
theorem at4_v0 : W4 m ρ c main_v48_3 = valG0 (V1 m ρ) c :=
  (W4_of_ne m ρ c main_v48_3 (by decide)).trans ((W3_of m ρ c main_v48_3 (by decide)).trans ((W2_arr m ρ c 8).trans (val_arr0 _ c)))
theorem at4_u0 : W4 m ρ c main_v48_5 = poolG0 (V1 m ρ) c :=
  (W4_of_ne m ρ c main_v48_5 (by decide)).trans ((W3_of m ρ c main_v48_5 (by decide)).trans ((W2_arr m ρ c 10).trans (pool_arr0 _ c)))
theorem at4_q1 : W4 m ρ c main_v134_0 = qryG1 (V3 m ρ) c := (W4_arr m ρ c 5).trans (qry_arr1 _ c)
theorem at4_k1 : W4 m ρ c main_v134_1 = keyG1 (V3 m ρ) c := (W4_arr m ρ c 6).trans (key_arr1 _ c)
theorem at4_v1 : W4 m ρ c main_v134_3 = valG1 (V3 m ρ) c := (W4_arr m ρ c 8).trans (val_arr1 _ c)
theorem at4_u1 : W4 m ρ c main_v134_5 = poolG1 (V3 m ρ) c := (W4_arr m ρ c 10).trans (pool_arr1 _ c)
theorem at4_g1 : W4 m ρ c main_v134_6 = gateG1 (V3 m ρ) c := (W4_arr m ρ c 11).trans (gate_arr1 _ c)

/-! ## The results -/

theorem resU (n : Fin 16384) (j : Fin 512) :
    ((W5 m ρ c main_v134_5 : Vec Ideal S16384x512 .f32) (ix2 n j) : EReal) = uP (xpA m c) (mtA m c) (gA m c) (wA m c) ⟨16 + n.val, by omega⟩ j := by
  rw [show W5 m ρ c main_v134_5 = poolG1 (V3 m ρ) c from (W5_of m ρ c main_v134_5 (by decide)).trans (at4_u1 m ρ c)]
  show zA1 (V3 m ρ) c n _ = _
  rw [z_in1]
  rfl

theorem resG (n : Fin 16384) (j : Fin 1024) :
    ((W5 m ρ c main_v134_6 : Vec Ideal S16384x1024 .bf16) (ix2 n j) : EReal) = gP (xpA m c) (mtA m c) (gA m c) (wA m c) n j := by
  rw [show W5 m ρ c main_v134_6 = gateG1 (V3 m ρ) c from (W5_of m ρ c main_v134_6 (by decide)).trans (at4_g1 m ρ c)]
  show zA1 (V3 m ρ) c n _ * Ideal.logistic (zA1 (V3 m ρ) c n _) = _
  rw [z_in1]
  rfl

theorem keyG0_of (V : (c : Dev nD) → (b : Ref sig .tc) → Buf (Elt Ideal) ((c : Thread nD τ).loc b)) (r : Fin 1024) (d e : Fin 128) (R : Fin 256) (h : Fin 4)
    (hr : r.val = 4 * R.val + h.val) (he : e.val = d.val) : (keyG0 V c (ix2 r e) : EReal) = keyA0 V c R h d := by
  show keyA0 V c ⟨r.val / 4, _⟩ ⟨r.val % 4, _⟩ e = _
  rw [show (⟨r.val / 4, by omega⟩ : Fin 256) = R from Fin.ext (by dsimp only; omega),
    show (⟨r.val % 4, by omega⟩ : Fin 4) = h from Fin.ext (by dsimp only; omega), show e = d from Fin.ext he]

theorem keyG1_of (V : (c : Dev nD) → (b : Ref sig .tc) → Buf (Elt Ideal) ((c : Thread nD τ).loc b)) (r : Fin 65536) (d e : Fin 128) (R : Fin 16384) (h : Fin 4)
    (hr : r.val = 4 * R.val + h.val) (he : e.val = d.val) : (keyG1 V c (ix2 r e) : EReal) = keyA1 V c R h d := by
  show keyA1 V c ⟨r.val / 4, _⟩ ⟨r.val % 4, _⟩ e = _
  rw [show (⟨r.val / 4, by omega⟩ : Fin 16384) = R from Fin.ext (by dsimp only; omega),
    show (⟨r.val % 4, by omega⟩ : Fin 4) = h from Fin.ext (by dsimp only; omega), show e = d from Fin.ext he]

theorem valG0_of (V : (c : Dev nD) → (b : Ref sig .tc) → Buf (Elt Ideal) ((c : Thread nD τ).loc b)) (r : Fin 1024) (d e : Fin 128) (R : Fin 256) (h : Fin 4)
    (hr : r.val = 4 * R.val + h.val) (he : e.val = d.val) : (valG0 V c (ix2 r e) : EReal) = valA0 V c R h d := by
  show valA0 V c ⟨r.val / 4, _⟩ ⟨r.val % 4, _⟩ e = _
  rw [show (⟨r.val / 4, by omega⟩ : Fin 256) = R from Fin.ext (by dsimp only; omega),
    show (⟨r.val % 4, by omega⟩ : Fin 4) = h from Fin.ext (by dsimp only; omega), show e = d from Fin.ext he]

theorem valG1_of (V : (c : Dev nD) → (b : Ref sig .tc) → Buf (Elt Ideal) ((c : Thread nD τ).loc b)) (r : Fin 65536) (d e : Fin 128) (R : Fin 16384) (h : Fin 4)
    (hr : r.val = 4 * R.val + h.val) (he : e.val = d.val) : (valG1 V c (ix2 r e) : EReal) = valA1 V c R h d := by
  show valA1 V c ⟨r.val / 4, _⟩ ⟨r.val % 4, _⟩ e = _
  rw [show (⟨r.val / 4, by omega⟩ : Fin 16384) = R from Fin.ext (by dsimp only; omega),
    show (⟨r.val % 4, by omega⟩ : Fin 4) = h from Fin.ext (by dsimp only; omega), show e = d from Fin.ext he]

theorem val_meta0 (R : Fin 256) (h : R.val < 16) (hd : Fin 4) (d : Fin 128) :
    valA0 (V1 m ρ) c R hd d = vP (xpA m c) (mtA m c) (gA m c) (wA m c) ⟨R.val, by omega⟩ hd d := by
  unfold valA0 vP
  rw [z_meta0 m ρ c R h]

theorem val_samp0 (i : Fin 32) (s : Fin 4) (hd : Fin 4) (d : Fin 128) :
    valA0 (V1 m ρ) c ⟨16 + 32 * s.val + i.val, by omega⟩ hd d = vS (xsA m c) (gA m c) (wA m c) i s hd d := by
  unfold valA0 vS
  rw [z_samp0]

theorem val_in1 (R : Fin 16384) (hd : Fin 4) (d : Fin 128) :
    valA1 (V3 m ρ) c R hd d = vP (xpA m c) (mtA m c) (gA m c) (wA m c) ⟨16 + R.val, by omega⟩ hd d := by
  unfold valA1 vP
  rw [z_in1]

theorem resK (n : Fin 16400) (h : Fin 4) (d : Fin 128) :
    ((W5 m ρ c main_v143 : Vec Ideal S1x1x16400x4x128 .f32) (ix5 0 0 n h d) : EReal) = kP (xpA m c) (mtA m c) (gA m c) (wA m c) n h d := by
  unfold W5
  after_reads_at
  by_cases hn : n.val < 16
  · rw [dif_pos (show n.val * 4 + h.val < 64 by omega)]
    after_reads_at
    rw [at4_k0]
    exact (keyG0_of c _ _ d _ ⟨n.val, by omega⟩ h (by dsimp only; omega) (by dsimp only)).trans (key_meta0 m ρ c ⟨n.val, by omega⟩ hn h d)
  · rw [dif_neg (show ¬ n.val * 4 + h.val < 64 by omega)]
    after_reads_at
    rw [at4_k1]
    refine (keyG1_of c _ _ d _ ⟨n.val - 16, by omega⟩ h (by dsimp only; omega) (by dsimp only)).trans ((key_in1 m ρ c ⟨n.val - 16, by omega⟩ h d).trans ?_)
    exact congrArg (fun n => kP (xpA m c) (mtA m c) (gA m c) (wA m c) n h d) (Fin.ext (show 16 + (n.val - 16) = n.val by omega))

theorem resV (n : Fin 16400) (h : Fin 4) (d : Fin 128) :
    ((W5 m ρ c main_v146 : Vec Ideal S1x1x16400x4x128 .f32) (ix5 0 0 n h d) : EReal) = vP (xpA m c) (mtA m c) (gA m c) (wA m c) n h d := by
  unfold W5
  after_reads_at
  by_cases hn : n.val < 16
  · rw [dif_pos (show n.val * 4 + h.val < 64 by omega)]
    after_reads_at
    rw [at4_v0]
    exact (valG0_of c _ _ d _ ⟨n.val, by omega⟩ h (by dsimp only; omega) (by dsimp only)).trans (val_meta0 m ρ c ⟨n.val, by omega⟩ hn h d)
  · rw [dif_neg (show ¬ n.val * 4 + h.val < 64 by omega)]
    after_reads_at
    rw [at4_v1]
    refine (valG1_of c _ _ d _ ⟨n.val - 16, by omega⟩ h (by dsimp only; omega) (by dsimp only)).trans ((val_in1 m ρ c ⟨n.val - 16, by omega⟩ h d).trans ?_)
    exact congrArg (fun n => vP (xpA m c) (mtA m c) (gA m c) (wA m c) n h d) (Fin.ext (show 16 + (n.val - 16) = n.val by omega))

theorem resKS (i : Fin 32) (s : Fin 4) (h : Fin 4) (d : Fin 128) :
    ((W5 m ρ c main_v149 : Vec Ideal S1x32x4x4x128 .f32) (ix5 0 i s h d) : EReal) = kS (xsA m c) (gA m c) (wA m c) i s h d := by
  unfold W5
  after_reads_at
  rw [at4_k0]
  exact (keyG0_of c _ _ d _ ⟨16 + 32 * s.val + i.val, by omega⟩ h (by dsimp only; omega) (by dsimp only; omega)).trans (key_samp0 m ρ c i s h d)

theorem resVS (i : Fin 32) (s : Fin 4) (h : Fin 4) (d : Fin 128) :
    ((W5 m ρ c main_v150 : Vec Ideal S1x32x4x4x128 .f32) (ix5 0 i s h d) : EReal) = vS (xsA m c) (gA m c) (wA m c) i s h d := by
  unfold W5
  after_reads_at
  rw [at4_v0]
  exact (valG0_of c _ _ d _ ⟨16 + 32 * s.val + i.val, by omega⟩ h (by dsimp only; omega) (by dsimp only; omega)).trans (val_samp0 m ρ c i s h d)

theorem resP (b : Fin 15) (j : Fin 512) :
    ((W5 m ρ c main_v148 : Vec Ideal S1x1x15x512 .f32) (ix4 0 0 b j) : EReal) = uP (xpA m c) (mtA m c) (gA m c) (wA m c) ⟨16385 + b.val, by omega⟩ j := by
  unfold W5
  after_reads_at
  rw [at4_u1]
  show zA1 (V3 m ρ) c ⟨16369 + b.val, by omega⟩ _ = _
  rw [z_in1]
  unfold uP
  exact congrArg (fun n => zP (xpA m c) (mtA m c) (gA m c) (wA m c) n ⟨1536 + j.val, by omega⟩) (Fin.ext (show 16 + (16369 + b.val) = 16385 + b.val by omega))

theorem resPS (i : Fin 32) (b : Fin 15) (j : Fin 512) :
    ((W5 m ρ c main_v157 : Vec Ideal S1x32x15x512 .f32) (ix4 0 i b j) : EReal) = uS (xsA m c) (spA m c) (gA m c) (wA m c) i b j := by
  unfold W5 uS
  after_reads_at
  by_cases hb : b.val < 11
  · rw [dif_pos (show 4 + b.val < 15 by omega), dif_pos hb]
    after_reads_at
    rw [W4_args m ρ c main_arg2 (by decide)]
    exact congrArg (fun b => spA m c i b j) (Fin.ext (Nat.add_comm 4 b.val))
  · rw [dif_neg (show ¬ 4 + b.val < 15 by omega), dif_neg hb]
    after_reads_at
    rw [at4_u0]
    refine Eq.trans ?_ (congrFun (z_samp0 m ρ c i ⟨b.val - 11, by omega⟩) ⟨1536 + j.val, by omega⟩)
    show zA0 (V1 m ρ) c ⟨16 + ((4 + b.val - 15) * 32 + i.val), _⟩ ⟨1536 + j.val, _⟩ = _
    exact congrArg (fun R => zA0 (V1 m ρ) c R ⟨1536 + j.val, by omega⟩) (Fin.ext (by dsimp only; omega))

theorem resQ (n : Fin 16384) (h : Fin 4) (q : Fin 2) (e : Fin 64) :
    ((W5 m ρ c main_v161 : Vec Ideal S16384x4x2x64 .bf16) (ix4 n h q e) : EReal) = qP (xpA m c) (mtA m c) (gA m c) (wA m c) n h q e := by
  have key : ∀ (q' : Fin 2) (d d' : Fin 128), q'.val = q.val → d.val = 64 * q.val + e.val → d' = d → qryA1 (V3 m ρ) c h q' d' n = qP (xpA m c) (mtA m c) (gA m c) (wA m c) n h q e := by
    intro q' d d' hq hd e'
    subst e'
    unfold qryA1 qP
    rw [if_pos (show d'.val / 64 = q'.val by omega), z_in1, c_in1, s_in1, rope_turn, show d' = ⟨64 * q.val + e.val, by omega⟩ from Fin.ext hd]
  unfold W5
  after_reads_at
  by_cases hq : q.val < 1
  · rw [dif_pos hq]
    after_reads_at
    rw [at4_q1]
    exact key q ⟨e.val, by omega⟩ ⟨e.val, by omega⟩ rfl (by dsimp only; omega) rfl
  · rw [dif_neg hq]
    after_reads_at
    rw [at4_q1]
    exact key ⟨1 + (q.val - 1), by omega⟩ ⟨64 + e.val, by omega⟩ ⟨64 + e.val, by omega⟩ (by dsimp only; omega) (by dsimp only; omega) rfl

end Cert.Kernel2Ideal.Proj

end
-- ==== Proof.ProjRef.lean ====
module

public import proofs.«01_k».proof.Proof.Gen.Reference2Ideal.Run
public import proofs.«01_k».proof.Proof.ProjTab
public import Idealize.ShloMosaic.Lib.Pointwise
public import Idealize.ShloMosaic.Lib.Quiescent

@[expose] public section

set_option maxRecDepth 65536

noncomputable section

/-! The projection's reference in stages, each read at an index. -/

namespace Cert.Reference2Ideal.Proj

open Cert.Reference2Ideal Cert.Reference2Ideal.Gen Cert.Reference2Ideal.Value Idealize.ShloMosaic Idealize.ShloMosaic.TcCoe Idealize.SL.Sem Cert.Kernel2Ideal.Proj

/-- The prompt's rows behind the learnt ones. -/
def rowsR (a0 : FVec Ideal S1x16384x1024 .f32) (a3 : FVec Ideal S16x1024 .f32) : FVec Ideal S1x16400x1024 .f32 :=
  concatenate S1x16400x1024 1 [⟨S1x16x1024, (broadcastInDim S1x16x1024 ![1, 2] bcast_S16x1024_S1x16x1024_1_2 a3)⟩, ⟨S1x16384x1024, a0⟩] concatenates_S1x16x1024_S1x16384x1024_S1x16400x1024_d1

/-- The rows normalised, scaled and multiplied into the weights. -/
def zR (x : FVec Ideal S1x16400x1024 .f32) (g : FVec Ideal S1x1024 .f32) (w : FVec Ideal S1x1024x3072 .f32) : FVec Ideal S1x16400x3072 .f32 :=
  Host.dotGeneral dot_S1x16400x1024_S1024x3072_S1x16400x3072_2_0_01_1_n_n none (mulf (mulf x (broadcastInDim S1x16400x1024 ![0, 1, 2] bcast_S1x16400x1_S1x16400x1024_0_1_2 (Host.rsqrt (addf (Host.divf (broadcastInDim S1x16400x1 ![0, 1] bcast_S1x16400_S1x16400x1_0_1 (Host.reduceAdd (mulf x x) (constant S_ .f32 0x00000000#32) reducesTo_S1x16400x1024_S1x16400_d2 h_S_)) (broadcastInDim S1x16400x1 ![] bcast_S_S1x16400x1 (constant S_ .f32 0x44800000#32))) (broadcastInDim S1x16400x1 ![] bcast_S_S1x16400x1 (constant S_ .f32 0x358637BD#32)))))) (broadcastInDim S1x16400x1024 ![0, 1, 2] bcast_S1x1x1024_S1x16400x1024_0_1_2 (broadcastInDim S1x1x1024 ![2] bcast_S1024_S1x1x1024_2 (shapeCast _ g shapeCasts_S1x1024_S1024)))) (shapeCast _ w shapeCasts_S1x1024x3072_S1024x3072)

/-- The same of the sample's rows. -/
def zSR (x : FVec Ideal S32x4x1024 .f32) (g : FVec Ideal S1x1024 .f32) (w : FVec Ideal S1x1024x3072 .f32) : FVec Ideal S32x4x3072 .f32 :=
  Host.dotGeneral dot_S32x4x1024_S1024x3072_S32x4x3072_2_0_01_1_n_n none (mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 (shapeCast _ g shapeCasts_S1x1024_S1024)))) (shapeCast _ w shapeCasts_S1x1024x3072_S1024x3072)

/-- The prompt's angles. -/
def angR : FVec Ideal S16400x32 .f32 :=
  mulf (broadcastInDim S16400x32 ![0, 1] bcast_S16400x1_S16400x32_0_1 (broadcastInDim S16400x1 ![0] bcast_S16400_S16400x1_0 (sitofp .f32 (iotaInDim S16400 32 0)))) (broadcastInDim S16400x32 ![0, 1] bcast_S1x32_S16400x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The sample's angles. -/
def angSR : FVec Ideal S4x32 .f32 :=
  mulf (broadcastInDim S4x32 ![0, 1] bcast_S4x1_S4x32_0_1 (broadcastInDim S4x1 ![0] bcast_S4_S4x1_0 (sitofp .f32 (addi (broadcastInDim S4 ![] bcast_S_S4 (constantI S_ 32 16384#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The rotary turn of the prompt. -/
def rotR (a : FVec Ideal S16400x32 .f32) (y : FVec Ideal S1x16400x4x2x64 .f32) : FVec Ideal S1x16400x4x2x64 .f32 :=
  concatenate S1x16400x4x2x64 4 [⟨S1x16400x4x2x32, (subf (mulf (extractStridedSlice S1x16400x4x2x32 ![0, 0, 0, 0, 0] y slices_S1x16400x4x2x64_S1x16400x4x2x32_0_0_0_0_0) (broadcastInDim S1x16400x4x2x32 ![0, 1, 2, 3, 4] bcast_S1x16400x1x1x32_S1x16400x4x2x32_0_1_2_3_4 (broadcastInDim S1x16400x1x1x32 ![1, 2, 3, 4] bcast_S16400x1x1x32_S1x16400x1x1x32_1_2_3_4 (broadcastInDim S16400x1x1x32 ![0, 3] bcast_S16400x32_S16400x1x1x32_0_3 (Host.cos a))))) (mulf (extractStridedSlice S1x16400x4x2x32 ![0, 0, 0, 0, 32] y slices_S1x16400x4x2x64_S1x16400x4x2x32_0_0_0_0_32) (broadcastInDim S1x16400x4x2x32 ![0, 1, 2, 3, 4] bcast_S1x16400x1x1x32_S1x16400x4x2x32_0_1_2_3_4 (broadcastInDim S1x16400x1x1x32 ![1, 2, 3, 4] bcast_S16400x1x1x32_S1x16400x1x1x32_1_2_3_4 (broadcastInDim S16400x1x1x32 ![0, 3] bcast_S16400x32_S16400x1x1x32_0_3 (Host.sin a))))))⟩, ⟨S1x16400x4x2x32, (addf (mulf (extractStridedSlice S1x16400x4x2x32 ![0, 0, 0, 0, 32] y slices_S1x16400x4x2x64_S1x16400x4x2x32_0_0_0_0_32) (broadcastInDim S1x16400x4x2x32 ![0, 1, 2, 3, 4] bcast_S1x16400x1x1x32_S1x16400x4x2x32_0_1_2_3_4 (broadcastInDim S1x16400x1x1x32 ![1, 2, 3, 4] bcast_S16400x1x1x32_S1x16400x1x1x32_1_2_3_4 (broadcastInDim S16400x1x1x32 ![0, 3] bcast_S16400x32_S16400x1x1x32_0_3 (Host.cos a))))) (mulf (extractStridedSlice S1x16400x4x2x32 ![0, 0, 0, 0, 0] y slices_S1x16400x4x2x64_S1x16400x4x2x32_0_0_0_0_0) (broadcastInDim S1x16400x4x2x32 ![0, 1, 2, 3, 4] bcast_S1x16400x1x1x32_S1x16400x4x2x32_0_1_2_3_4 (broadcastInDim S1x16400x1x1x32 ![1, 2, 3, 4] bcast_S16400x1x1x32_S1x16400x1x1x32_1_2_3_4 (broadcastInDim S16400x1x1x32 ![0, 3] bcast_S16400x32_S16400x1x1x32_0_3 (Host.sin a))))))⟩] concatenates_S1x16400x4x2x32_S1x16400x4x2x32_S1x16400x4x2x64_d4

/-- The rotary turn of the sample. -/
def rotSR (a : FVec Ideal S4x32 .f32) (y : FVec Ideal S32x4x4x2x64 .f32) : FVec Ideal S32x4x4x2x64 .f32 :=
  concatenate S32x4x4x2x64 4 [⟨S32x4x4x2x32, (subf (mulf (extractStridedSlice S32x4x4x2x32 ![0, 0, 0, 0, 0] y slices_S32x4x4x2x64_S32x4x4x2x32_0_0_0_0_0) (broadcastInDim S32x4x4x2x32 ![0, 1, 2, 3, 4] bcast_S1x4x1x1x32_S32x4x4x2x32_0_1_2_3_4 (broadcastInDim S1x4x1x1x32 ![1, 2, 3, 4] bcast_S4x1x1x32_S1x4x1x1x32_1_2_3_4 (broadcastInDim S4x1x1x32 ![0, 3] bcast_S4x32_S4x1x1x32_0_3 (Host.cos a))))) (mulf (extractStridedSlice S32x4x4x2x32 ![0, 0, 0, 0, 32] y slices_S32x4x4x2x64_S32x4x4x2x32_0_0_0_0_32) (broadcastInDim S32x4x4x2x32 ![0, 1, 2, 3, 4] bcast_S1x4x1x1x32_S32x4x4x2x32_0_1_2_3_4 (broadcastInDim S1x4x1x1x32 ![1, 2, 3, 4] bcast_S4x1x1x32_S1x4x1x1x32_1_2_3_4 (broadcastInDim S4x1x1x32 ![0, 3] bcast_S4x32_S4x1x1x32_0_3 (Host.sin a))))))⟩, ⟨S32x4x4x2x32, (addf (mulf (extractStridedSlice S32x4x4x2x32 ![0, 0, 0, 0, 32] y slices_S32x4x4x2x64_S32x4x4x2x32_0_0_0_0_32) (broadcastInDim S32x4x4x2x32 ![0, 1, 2, 3, 4] bcast_S1x4x1x1x32_S32x4x4x2x32_0_1_2_3_4 (broadcastInDim S1x4x1x1x32 ![1, 2, 3, 4] bcast_S4x1x1x32_S1x4x1x1x32_1_2_3_4 (broadcastInDim S4x1x1x32 ![0, 3] bcast_S4x32_S4x1x1x32_0_3 (Host.cos a))))) (mulf (extractStridedSlice S32x4x4x2x32 ![0, 0, 0, 0, 0] y slices_S32x4x4x2x64_S32x4x4x2x32_0_0_0_0_0) (broadcastInDim S32x4x4x2x32 ![0, 1, 2, 3, 4] bcast_S1x4x1x1x32_S32x4x4x2x32_0_1_2_3_4 (broadcastInDim S1x4x1x1x32 ![1, 2, 3, 4] bcast_S4x1x1x32_S1x4x1x1x32_1_2_3_4 (broadcastInDim S4x1x1x32 ![0, 3] bcast_S4x32_S4x1x1x32_0_3 (Host.sin a))))))⟩] concatenates_S32x4x4x2x32_S32x4x4x2x32_S32x4x4x2x64_d4

/-- The query columns by head and component. -/
def qryR (z : FVec Ideal S1x16400x3072 .f32) : FVec Ideal S1x16400x4x2x64 .f32 :=
  shapeCast _ (extractStridedSlice S1x16400x512 ![0, 0, 0] z slices_S1x16400x3072_S1x16400x512_0_0_0) shapeCasts_S1x16400x512_S1x16400x4x2x64

/-- The key columns by head and component. -/
def keyR (z : FVec Ideal S1x16400x3072 .f32) : FVec Ideal S1x16400x4x2x64 .f32 :=
  shapeCast _ (extractStridedSlice S1x16400x512 ![0, 0, 512] z slices_S1x16400x3072_S1x16400x512_0_0_512) shapeCasts_S1x16400x512_S1x16400x4x2x64

/-- The sample's key columns by head and component. -/
def keySR (z : FVec Ideal S32x4x3072 .f32) : FVec Ideal S32x4x4x2x64 .f32 :=
  shapeCast _ (extractStridedSlice S32x4x512 ![0, 0, 512] z slices_S32x4x3072_S32x4x512_0_0_512) shapeCasts_S32x4x512_S32x4x4x2x64

/-- The pooling columns. -/
def poolR (z : FVec Ideal S1x16400x3072 .f32) : FVec Ideal S1x16400x512 .f32 :=
  extractStridedSlice S1x16400x512 ![0, 0, 1536] z slices_S1x16400x3072_S1x16400x512_0_0_1536

/-- The gate columns. -/
def gateR (z : FVec Ideal S1x16400x3072 .f32) : FVec Ideal S16384x1024 .f32 :=
  shapeCast _ (extractStridedSlice S1x16384x1024 ![0, 16, 0] (extractStridedSlice S1x16400x1024 ![0, 0, 2048] z slices_S1x16400x3072_S1x16400x1024_0_0_2048) slices_S1x16400x1024_S1x16384x1024_0_16_0) shapeCasts_S1x16384x1024_S16384x1024

/-- The prompt's keys, by head. -/
def outKR (y : FVec Ideal S1x16400x4x2x64 .f32) : FVec Ideal S1x1x16400x4x128 .f32 :=
  shapeCast _ y shapeCasts_S1x16400x4x2x64_S1x1x16400x4x128

/-- The prompt's values, by head. -/
def outVR (z : FVec Ideal S1x16400x3072 .f32) : FVec Ideal S1x1x16400x4x128 .f32 :=
  broadcastInDim S1x1x16400x4x128 ![1, 2, 3, 4] bcast_S1x16400x4x128_S1x1x16400x4x128_1_2_3_4 (shapeCast _ (extractStridedSlice S1x16400x512 ![0, 0, 1024] z slices_S1x16400x3072_S1x16400x512_0_0_1024) shapeCasts_S1x16400x512_S1x16400x4x128)

/-- The prompt's last pooling inputs. -/
def outPR (u : FVec Ideal S1x16400x512 .f32) : FVec Ideal S1x1x15x512 .f32 :=
  broadcastInDim S1x1x15x512 ![1, 2, 3] bcast_S1x15x512_S1x1x15x512_1_2_3 (extractStridedSlice S1x15x512 ![0, 16385, 0] u slices_S1x16400x512_S1x15x512_0_16385_0)

/-- The sample's keys, by head. -/
def outKSR (y : FVec Ideal S32x4x4x2x64 .f32) : FVec Ideal S1x32x4x4x128 .f32 :=
  shapeCast _ y shapeCasts_S32x4x4x2x64_S1x32x4x4x128

/-- The sample's values, by head. -/
def outVSR (z : FVec Ideal S32x4x3072 .f32) : FVec Ideal S1x32x4x4x128 .f32 :=
  broadcastInDim S1x32x4x4x128 ![1, 2, 3, 4] bcast_S32x4x4x128_S1x32x4x4x128_1_2_3_4 (shapeCast _ (extractStridedSlice S32x4x512 ![0, 0, 1024] z slices_S32x4x3072_S32x4x512_0_0_1024) shapeCasts_S32x4x512_S32x4x4x128)

/-- The sample's pooling state. -/
def outPSR (s : FVec Ideal S1x32x15x512 .f32) (z : FVec Ideal S32x4x3072 .f32) : FVec Ideal S1x32x15x512 .f32 :=
  broadcastInDim S1x32x15x512 ![1, 2, 3] bcast_S32x15x512_S1x32x15x512_1_2_3 (extractStridedSlice S32x15x512 ![0, 4, 0] (concatenate S32x19x512 1 [⟨S32x15x512, (shapeCast _ s shapeCasts_S1x32x15x512_S32x15x512)⟩, ⟨S32x4x512, (extractStridedSlice S32x4x512 ![0, 0, 1536] z slices_S32x4x3072_S32x4x512_0_0_1536)⟩] concatenates_S32x15x512_S32x4x512_S32x19x512_d1) slices_S32x19x512_S32x15x512_0_4_0)

/-- The prompt's scaled queries. -/
def outQR (y : FVec Ideal S1x16400x4x2x64 .f32) : FVec Ideal S16384x4x2x64 .bf16 :=
  truncf .bf16 (mulf (shapeCast _ (extractStridedSlice S1x16384x4x2x64 ![0, 16, 0, 0, 0] y slices_S1x16400x4x2x64_S1x16384x4x2x64_0_16_0_0_0) shapeCasts_S1x16384x4x2x64_S16384x4x2x64) (broadcastInDim S16384x4x2x64 ![] bcast_S_S16384x4x2x64 (constant S_ .f32 0x3E38AA3B#32))) bitsLt_bf16_f32

/-- The prompt's pooling inputs. -/
def outUR (u : FVec Ideal S1x16400x512 .f32) : FVec Ideal S16384x512 .f32 :=
  shapeCast _ (extractStridedSlice S1x16384x512 ![0, 16, 0] u slices_S1x16400x512_S1x16384x512_0_16_0) shapeCasts_S1x16384x512_S16384x512

/-- The prompt's gates. -/
def outGR (g : FVec Ideal S16384x1024 .f32) : FVec Ideal S16384x1024 .bf16 :=
  truncf .bf16 (mulf g (Host.divf (broadcastInDim S16384x1024 ![] bcast_S_S16384x1024 (constant S_ .f32 0x3F800000#32)) (addf (broadcastInDim S16384x1024 ![] bcast_S_S16384x1024 (constant S_ .f32 0x3F800000#32)) (Host.exp (Host.negf g))))) bitsLt_bf16_f32

/-! ## The stages at an index -/

theorem rowsR_at (a0 : FVec Ideal S1x16384x1024 .f32) (a3 : FVec Ideal S16x1024 .f32) (n : Fin 16400) :
    (fun k => (rowsR a0 a3 (ix3 0 n k) : EReal)) = rowP (fun n k => (a0 (ix3 0 n k) : EReal)) (fun n k => (a3 (ix2 n k) : EReal)) n := by
  funext k
  unfold rowP
  by_cases h : n.val < 16
  · rw [dif_pos h]
    pointwise [rowsR]
    rw [dif_pos h]
  · rw [dif_neg h]
    pointwise [rowsR]
    rw [dif_neg h]

theorem zR_at (x : FVec Ideal S1x16400x1024 .f32) (g : FVec Ideal S1x1024 .f32) (w : FVec Ideal S1x1024x3072 .f32) (n : Fin 16400) :
    (fun j => (zR x g w (ix3 0 n j) : EReal)) = zrow (fun k => (x (ix3 0 n k) : EReal)) (fun k => (g (ix2 0 k) : EReal)) (fun k j => (w (ix3 0 k j) : EReal)) := by
  funext j
  unfold zrow
  pointwise [zR]

theorem zSR_at (x : FVec Ideal S32x4x1024 .f32) (g : FVec Ideal S1x1024 .f32) (w : FVec Ideal S1x1024x3072 .f32) (i : Fin 32) (s : Fin 4) :
    (fun j => (zSR x g w (ix3 i s j) : EReal)) = zrow (fun k => (x (ix3 i s k) : EReal)) (fun k => (g (ix2 0 k) : EReal)) (fun k j => (w (ix3 0 k j) : EReal)) := by
  funext j
  unfold zrow
  pointwise [zSR]

theorem angR_at (n : Fin 16400) (j : Fin 32) : (angR (ix2 n j) : EReal) = pos n.val * fr j := by
  pointwise [angR]
  rfl

theorem angSR_at (n : Fin 4) (j : Fin 32) : (angSR (ix2 n j) : EReal) = pos (16384 + n.val) * fr j := by
  unfold pos
  rw [BitVec.ofNat_add]
  pointwise [angSR]
  rfl

theorem rotR_lo (a : FVec Ideal S16400x32 .f32) (y : FVec Ideal S1x16400x4x2x64 .f32) (n : Fin 16400) (h : Fin 4) (q : Fin 2) (e : Fin 64) (he : e.val < 32) :
    (rotR a y (ix5 0 n h q e) : EReal) = (y (ix5 0 n h q e) : EReal) * Ideal.cos (a (ix2 n ⟨e.val, he⟩)) - (y (ix5 0 n h q ⟨32 + e.val, by omega⟩) : EReal) * Ideal.sin (a (ix2 n ⟨e.val, he⟩)) := by
  pointwise [rotR]
  rw [dif_pos he]

theorem rotR_hi (a : FVec Ideal S16400x32 .f32) (y : FVec Ideal S1x16400x4x2x64 .f32) (n : Fin 16400) (h : Fin 4) (q : Fin 2) (e : Fin 64) (he : ¬ e.val < 32) :
    (rotR a y (ix5 0 n h q e) : EReal) = (y (ix5 0 n h q ⟨32 + (e.val - 32), by omega⟩) : EReal) * Ideal.cos (a (ix2 n ⟨e.val - 32, by omega⟩)) + (y (ix5 0 n h q ⟨e.val - 32, by omega⟩) : EReal) * Ideal.sin (a (ix2 n ⟨e.val - 32, by omega⟩)) := by
  pointwise [rotR]
  rw [dif_neg he]

theorem rot_turn (y : FVec Ideal S1x16400x4x2x64 .f32) (z : Fin 3072 → EReal) (o : Fin 2944) (n : Fin 16400) (h : Fin 4)
    (hy : ∀ (q : Fin 2) (e : Fin 64), (y (ix5 0 n h q e) : EReal) = z ⟨o.val + (64 * q.val + e.val), by omega⟩) (d : Fin 128) :
    (rotR angR y (ix5 0 n h ⟨d.val / 64, by omega⟩ ⟨d.val % 64, by omega⟩) : EReal) = turn z n.val o d := by
  have key : ∀ p : Fin 3072, ∀ p' : Fin 3072, p.val = p'.val → z p = z p' := fun p p' e => congrArg z (Fin.ext e)
  unfold turn cosT sinT
  by_cases hd : d.val % 64 < 32
  · have sw : (swap d).val = d.val + 32 := by unfold swap; rw [dif_pos hd]
    rw [if_pos hd, rotR_lo _ _ _ _ _ _ hd, angR_at, hy, hy]
    have e1 : (⟨d.val % 64, hd⟩ : Fin 32) = pair d := Fin.ext (by show d.val % 64 = d.val % 32; omega)
    rw [e1]
    refine congrArg₂ (fun a b : EReal => a - b) (congrArg (fun x : EReal => x * _) (key _ _ ?_)) (congrArg (fun x : EReal => x * _) (key _ _ ?_))
    all_goals dsimp only
    all_goals omega
  · have sw : (swap d).val = d.val - 32 := by unfold swap; rw [dif_neg hd]
    rw [if_neg hd, rotR_hi _ _ _ _ _ _ hd, angR_at, hy, hy]
    have e1 : (⟨d.val % 64 - 32, by omega⟩ : Fin 32) = pair d := Fin.ext (by show d.val % 64 - 32 = d.val % 32; omega)
    rw [e1]
    refine congrArg₂ (fun a b : EReal => a + b) (congrArg (fun x : EReal => x * _) (key _ _ ?_)) (congrArg (fun x : EReal => x * _) (key _ _ ?_))
    all_goals dsimp only
    all_goals omega

theorem rotSR_lo (a : FVec Ideal S4x32 .f32) (y : FVec Ideal S32x4x4x2x64 .f32) (i : Fin 32) (s : Fin 4) (h : Fin 4) (q : Fin 2) (e : Fin 64) (he : e.val < 32) :
    (rotSR a y (ix5 i s h q e) : EReal) = (y (ix5 i s h q e) : EReal) * Ideal.cos (a (ix2 s ⟨e.val, he⟩)) - (y (ix5 i s h q ⟨32 + e.val, by omega⟩) : EReal) * Ideal.sin (a (ix2 s ⟨e.val, he⟩)) := by
  pointwise [rotSR]
  rw [dif_pos he]

theorem rotSR_hi (a : FVec Ideal S4x32 .f32) (y : FVec Ideal S32x4x4x2x64 .f32) (i : Fin 32) (s : Fin 4) (h : Fin 4) (q : Fin 2) (e : Fin 64) (he : ¬ e.val < 32) :
    (rotSR a y (ix5 i s h q e) : EReal) = (y (ix5 i s h q ⟨32 + (e.val - 32), by omega⟩) : EReal) * Ideal.cos (a (ix2 s ⟨e.val - 32, by omega⟩)) + (y (ix5 i s h q ⟨e.val - 32, by omega⟩) : EReal) * Ideal.sin (a (ix2 s ⟨e.val - 32, by omega⟩)) := by
  pointwise [rotSR]
  rw [dif_neg he]

theorem rotS_turn (y : FVec Ideal S32x4x4x2x64 .f32) (z : Fin 3072 → EReal) (o : Fin 2944) (i : Fin 32) (s : Fin 4) (h : Fin 4)
    (hy : ∀ (q : Fin 2) (e : Fin 64), (y (ix5 i s h q e) : EReal) = z ⟨o.val + (64 * q.val + e.val), by omega⟩) (d : Fin 128) :
    (rotSR angSR y (ix5 i s h ⟨d.val / 64, by omega⟩ ⟨d.val % 64, by omega⟩) : EReal) = turn z (16384 + s.val) o d := by
  have key : ∀ p : Fin 3072, ∀ p' : Fin 3072, p.val = p'.val → z p = z p' := fun p p' e => congrArg z (Fin.ext e)
  unfold turn cosT sinT
  by_cases hd : d.val % 64 < 32
  · have sw : (swap d).val = d.val + 32 := by unfold swap; rw [dif_pos hd]
    rw [if_pos hd, rotSR_lo _ _ _ _ _ _ _ hd, angSR_at, hy, hy]
    have e1 : (⟨d.val % 64, hd⟩ : Fin 32) = pair d := Fin.ext (by show d.val % 64 = d.val % 32; omega)
    rw [e1]
    refine congrArg₂ (fun a b : EReal => a - b) (congrArg (fun x : EReal => x * _) (key _ _ ?_)) (congrArg (fun x : EReal => x * _) (key _ _ ?_))
    all_goals dsimp only
    all_goals omega
  · have sw : (swap d).val = d.val - 32 := by unfold swap; rw [dif_neg hd]
    rw [if_neg hd, rotSR_hi _ _ _ _ _ _ _ hd, angSR_at, hy, hy]
    have e1 : (⟨d.val % 64 - 32, by omega⟩ : Fin 32) = pair d := Fin.ext (by show d.val % 64 - 32 = d.val % 32; omega)
    rw [e1]
    refine congrArg₂ (fun a b : EReal => a + b) (congrArg (fun x : EReal => x * _) (key _ _ ?_)) (congrArg (fun x : EReal => x * _) (key _ _ ?_))
    all_goals dsimp only
    all_goals omega

theorem qryR_at (z : FVec Ideal S1x16400x3072 .f32) (n : Fin 16400) (h : Fin 4) (q : Fin 2) (e : Fin 64) :
    (qryR z (ix5 0 n h q e) : EReal) = z (ix3 0 n ⟨128 * h.val + (64 * q.val + e.val), by omega⟩) := by
  pointwise [qryR]
  rw [show (⟨h.val * 128 + q.val * 64 + e.val, by omega⟩ : Fin 3072) = ⟨128 * h.val + (64 * q.val + e.val), by omega⟩ from Fin.ext (by show _ = _; dsimp only; omega)]

theorem keyR_at (z : FVec Ideal S1x16400x3072 .f32) (n : Fin 16400) (h : Fin 4) (q : Fin 2) (e : Fin 64) :
    (keyR z (ix5 0 n h q e) : EReal) = z (ix3 0 n ⟨512 + 128 * h.val + (64 * q.val + e.val), by omega⟩) := by
  pointwise [keyR]
  rw [show (⟨512 + (h.val * 128 + q.val * 64 + e.val), by omega⟩ : Fin 3072) = ⟨512 + 128 * h.val + (64 * q.val + e.val), by omega⟩ from Fin.ext (by show _ = _; dsimp only; omega)]

theorem keySR_at (z : FVec Ideal S32x4x3072 .f32) (i : Fin 32) (s : Fin 4) (h : Fin 4) (q : Fin 2) (e : Fin 64) :
    (keySR z (ix5 i s h q e) : EReal) = z (ix3 i s ⟨512 + 128 * h.val + (64 * q.val + e.val), by omega⟩) := by
  pointwise [keySR]
  rw [show (⟨512 + (h.val * 128 + q.val * 64 + e.val), by omega⟩ : Fin 3072) = ⟨512 + 128 * h.val + (64 * q.val + e.val), by omega⟩ from Fin.ext (by show _ = _; dsimp only; omega)]

theorem outKR_at (y : FVec Ideal S1x16400x4x2x64 .f32) (n : Fin 16400) (h : Fin 4) (d : Fin 128) :
    (outKR y (ix5 0 0 n h d) : EReal) = y (ix5 0 n h ⟨d.val / 64, by omega⟩ ⟨d.val % 64, by omega⟩) := by
  pointwise [outKR]

theorem outVR_at (z : FVec Ideal S1x16400x3072 .f32) (n : Fin 16400) (h : Fin 4) (d : Fin 128) :
    (outVR z (ix5 0 0 n h d) : EReal) = z (ix3 0 n ⟨1024 + 128 * h.val + d.val, by omega⟩) := by
  pointwise [outVR]
  rw [show (⟨1024 + (h.val * 128 + d.val), by omega⟩ : Fin 3072) = ⟨1024 + 128 * h.val + d.val, by omega⟩ from Fin.ext (by show _ = _; dsimp only; omega)]

theorem outPR_at (z : FVec Ideal S1x16400x3072 .f32) (b : Fin 15) (j : Fin 512) :
    (outPR (poolR z) (ix4 0 0 b j) : EReal) = z (ix3 0 ⟨16385 + b.val, by omega⟩ ⟨1536 + j.val, by omega⟩) := by
  pointwise [outPR, poolR]

theorem outKSR_at (y : FVec Ideal S32x4x4x2x64 .f32) (i : Fin 32) (s : Fin 4) (h : Fin 4) (d : Fin 128) :
    (outKSR y (ix5 0 i s h d) : EReal) = y (ix5 i s h ⟨d.val / 64, by omega⟩ ⟨d.val % 64, by omega⟩) := by
  pointwise [outKSR]

theorem outVSR_at (z : FVec Ideal S32x4x3072 .f32) (i : Fin 32) (s : Fin 4) (h : Fin 4) (d : Fin 128) :
    (outVSR z (ix5 0 i s h d) : EReal) = z (ix3 i s ⟨1024 + 128 * h.val + d.val, by omega⟩) := by
  pointwise [outVSR]
  rw [show (⟨1024 + (h.val * 128 + d.val), by omega⟩ : Fin 3072) = ⟨1024 + 128 * h.val + d.val, by omega⟩ from Fin.ext (by show _ = _; dsimp only; omega)]

theorem outPSR_at (s : FVec Ideal S1x32x15x512 .f32) (z : FVec Ideal S32x4x3072 .f32) (i : Fin 32) (b : Fin 15) (j : Fin 512) :
    (outPSR s z (ix4 0 i b j) : EReal) = if h : b.val < 11 then (s (ix4 0 i ⟨b.val + 4, by omega⟩ j) : EReal) else z (ix3 i ⟨b.val - 11, by omega⟩ ⟨1536 + j.val, by omega⟩) := by
  pointwise [outPSR]
  by_cases h : b.val < 11
  · rw [dif_pos h, dif_pos (show 4 + b.val < 15 by omega)]
    rw [show (⟨4 + b.val, by omega⟩ : Fin 15) = ⟨b.val + 4, by omega⟩ from Fin.ext (Nat.add_comm _ _)]
  · rw [dif_neg h, dif_neg (show ¬ 4 + b.val < 15 by omega)]
    rw [show (⟨4 + b.val - 15, by omega⟩ : Fin 4) = ⟨b.val - 11, by omega⟩ from Fin.ext (by dsimp only; omega)]

theorem outQR_at (y : FVec Ideal S1x16400x4x2x64 .f32) (n : Fin 16384) (h : Fin 4) (q : Fin 2) (e : Fin 64) :
    (outQR y (ix4 n h q e) : EReal) = (y (ix5 0 ⟨16 + n.val, by omega⟩ h q e) : EReal) * Ideal.ofBits .f32 0x3E38AA3B#32 := by
  pointwise [outQR]

theorem outUR_at (z : FVec Ideal S1x16400x3072 .f32) (n : Fin 16384) (j : Fin 512) :
    (outUR (poolR z) (ix2 n j) : EReal) = z (ix3 0 ⟨16 + n.val, by omega⟩ ⟨1536 + j.val, by omega⟩) := by
  pointwise [outUR, poolR]

theorem gateR_at (z : FVec Ideal S1x16400x3072 .f32) (n : Fin 16384) (j : Fin 1024) :
    (gateR z (ix2 n j) : EReal) = z (ix3 0 ⟨16 + n.val, by omega⟩ ⟨2048 + j.val, by omega⟩) := by
  pointwise [gateR]

theorem outGR_at (g : FVec Ideal S16384x1024 .f32) (n : Fin 16384) (j : Fin 1024) :
    (outGR g (ix2 n j) : EReal) = (g (ix2 n j) : EReal) * Ideal.logistic (g (ix2 n j)) := by
  pointwise [outGR]
  rfl

/-! ## The results at an index -/

section
variable (a0 : FVec Ideal S1x16384x1024 .f32) (a1 : FVec Ideal S32x4x1024 .f32) (a2 : FVec Ideal S1x32x15x512 .f32)
  (a3 : FVec Ideal S16x1024 .f32) (a4 : FVec Ideal S1x1024 .f32) (a5 : FVec Ideal S1x1024x3072 .f32)

/-- The prompt's projection. -/
def zA : FVec Ideal S1x16400x3072 .f32 := zR (rowsR a0 a3) a4 a5

/-- The sample's projection. -/
def zSA : FVec Ideal S32x4x3072 .f32 := zSR a1 a4 a5

theorem zA_at (n : Fin 16400) (j : Fin 3072) :
    (zA a0 a3 a4 a5 (ix3 0 n j) : EReal) = zP (fun n k => a0 (ix3 0 n k)) (fun n k => a3 (ix2 n k)) (fun k => a4 (ix2 0 k)) (fun k j => a5 (ix3 0 k j)) n j := by
  unfold zP
  rw [← rowsR_at a0 a3 n]
  exact congrFun (zR_at (rowsR a0 a3) a4 a5 n) j

theorem zSA_at (i : Fin 32) (s : Fin 4) (j : Fin 3072) :
    (zSA a1 a4 a5 (ix3 i s j) : EReal) = zS (fun i s k => a1 (ix3 i s k)) (fun k => a4 (ix2 0 k)) (fun k j => a5 (ix3 0 k j)) i s j :=
  congrFun (zSR_at a1 a4 a5 i s) j

theorem kR_at (n : Fin 16400) (h : Fin 4) (d : Fin 128) :
    (outKR (rotR angR (keyR (zA a0 a3 a4 a5))) (ix5 0 0 n h d) : EReal)
      = kP (fun n k => a0 (ix3 0 n k)) (fun n k => a3 (ix2 n k)) (fun k => a4 (ix2 0 k)) (fun k j => a5 (ix3 0 k j)) n h d := by
  rw [outKR_at]
  exact rot_turn _ _ _ n h (fun q e => (keyR_at _ n h q e).trans (zA_at a0 a3 a4 a5 n _)) d

theorem kSR_at (i : Fin 32) (s : Fin 4) (h : Fin 4) (d : Fin 128) :
    (outKSR (rotSR angSR (keySR (zSA a1 a4 a5))) (ix5 0 i s h d) : EReal)
      = kS (fun i s k => a1 (ix3 i s k)) (fun k => a4 (ix2 0 k)) (fun k j => a5 (ix3 0 k j)) i s h d := by
  rw [outKSR_at]
  exact rotS_turn _ _ _ i s h (fun q e => (keySR_at _ i s h q e).trans (zSA_at a1 a4 a5 i s _)) d

theorem vR_at (n : Fin 16400) (h : Fin 4) (d : Fin 128) :
    (outVR (zA a0 a3 a4 a5) (ix5 0 0 n h d) : EReal)
      = vP (fun n k => a0 (ix3 0 n k)) (fun n k => a3 (ix2 n k)) (fun k => a4 (ix2 0 k)) (fun k j => a5 (ix3 0 k j)) n h d :=
  (outVR_at _ n h d).trans (zA_at a0 a3 a4 a5 _ _)

theorem pR_at (b : Fin 15) (j : Fin 512) :
    (outPR (poolR (zA a0 a3 a4 a5)) (ix4 0 0 b j) : EReal)
      = uP (fun n k => a0 (ix3 0 n k)) (fun n k => a3 (ix2 n k)) (fun k => a4 (ix2 0 k)) (fun k j => a5 (ix3 0 k j)) ⟨16385 + b.val, by omega⟩ j :=
  (outPR_at _ b j).trans (zA_at a0 a3 a4 a5 _ _)

theorem uR_at (n : Fin 16384) (j : Fin 512) :
    (outUR (poolR (zA a0 a3 a4 a5)) (ix2 n j) : EReal)
      = uP (fun n k => a0 (ix3 0 n k)) (fun n k => a3 (ix2 n k)) (fun k => a4 (ix2 0 k)) (fun k j => a5 (ix3 0 k j)) ⟨16 + n.val, by omega⟩ j :=
  (outUR_at _ n j).trans (zA_at a0 a3 a4 a5 _ _)

theorem gR_at (n : Fin 16384) (j : Fin 1024) :
    (outGR (gateR (zA a0 a3 a4 a5)) (ix2 n j) : EReal)
      = gP (fun n k => a0 (ix3 0 n k)) (fun n k => a3 (ix2 n k)) (fun k => a4 (ix2 0 k)) (fun k j => a5 (ix3 0 k j)) n j := by
  rw [outGR_at, gateR_at, zA_at]
  rfl

theorem vSR_at (i : Fin 32) (s : Fin 4) (h : Fin 4) (d : Fin 128) :
    (outVSR (zSA a1 a4 a5) (ix5 0 i s h d) : EReal)
      = vS (fun i s k => a1 (ix3 i s k)) (fun k => a4 (ix2 0 k)) (fun k j => a5 (ix3 0 k j)) i s h d :=
  (outVSR_at _ i s h d).trans (zSA_at a1 a4 a5 i s _)

theorem pSR_at (i : Fin 32) (b : Fin 15) (j : Fin 512) :
    (outPSR a2 (zSA a1 a4 a5) (ix4 0 i b j) : EReal)
      = uS (fun i s k => a1 (ix3 i s k)) (fun i b j => a2 (ix4 0 i b j)) (fun k => a4 (ix2 0 k)) (fun k j => a5 (ix3 0 k j)) i b j := by
  rw [outPSR_at]
  unfold uS
  by_cases h : b.val < 11
  · rw [dif_pos h, dif_pos h]
  · rw [dif_neg h, dif_neg h, zSA_at]

theorem qR_at (n : Fin 16384) (h : Fin 4) (q : Fin 2) (e : Fin 64) :
    (outQR (rotR angR (qryR (zA a0 a3 a4 a5))) (ix4 n h q e) : EReal)
      = qP (fun n k => a0 (ix3 0 n k)) (fun n k => a3 (ix2 n k)) (fun k => a4 (ix2 0 k)) (fun k j => a5 (ix3 0 k j)) n h q e := by
  rw [outQR_at]
  refine congrArg (fun x : EReal => x * Ideal.ofBits .f32 0x3E38AA3B#32) ?_
  refine Eq.trans (congrArg (rotR angR (qryR (zA a0 a3 a4 a5))) ?_)
    (rot_turn _ _ ⟨128 * h.val, by omega⟩ ⟨16 + n.val, by omega⟩ h (fun q e => (qryR_at _ _ h q e).trans (zA_at a0 a3 a4 a5 _ _)) ⟨64 * q.val + e.val, by omega⟩)
  rw [show (⟨(64 * q.val + e.val) / 64, by omega⟩ : Fin 2) = q from Fin.ext (by dsimp only; omega),
    show (⟨(64 * q.val + e.val) % 64, by omega⟩ : Fin 64) = e from Fin.ext (by dsimp only; omega)]

end

/-- The reference leaves its arguments as they were; it declares no counter. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2.2.2.2.2.2, sem_eq_zero_of_no_sems (by decide) r.2⟩) (Value.run m ρ)

end Cert.Reference2Ideal.Proj

end
-- ==== Proof.ProjAlg.lean ====
module

public import proofs.«01_k».proof.Defs
public import proofs.«01_k».proof.Proof.ProjRes
public import proofs.«01_k».proof.Proof.ProjRef
public import proofs.«01_k».proof.Proof.Gen.Kernel2
public import proofs.«01_k».proof.Proof.Gen.Kernel2Ideal
public import Idealize.ShloMosaic.Lib.Claim

/-! The projection's two sides agree. -/

@[expose] public section

set_option maxRecDepth 65536
set_option maxHeartbeats 1000000

noncomputable section

namespace Cert.ProjAlg

open Idealize.ShloMosaic Idealize.ShloMosaic.TcCoe Idealize.SL.Sem Cert.Kernel2Ideal.Proj Cert.Reference2Ideal.Proj

variable (m : (ℓ : Loc Cert.Kernel2Ideal.nD Cert.Kernel2Ideal.τ Cert.Kernel2Ideal.sig) → Buf (Elt Ideal) ℓ) (ρ : Dev Cert.Kernel2Ideal.nD → PrngReg)
  (m' : (ℓ : Loc Cert.Reference2Ideal.nD Cert.Reference2Ideal.τ Cert.Reference2Ideal.sig) → Buf (Elt Ideal) ℓ) (c : Dev Cert.Kernel2Ideal.nD)

/-- The two sides start from the same arguments. -/
structure Same : Prop where
  e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)

variable {m m' c}

/-- The prompt's keys are the same. -/
theorem same_k (h : Same m m' c) : outKR (rotR angR (keyR (zA (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))))) = W5 m ρ c Cert.Kernel2Ideal.main_v143 := by
  funext y
  change Cert.Reference2Ideal.S1x1x16400x4x128.Idx at y
  idx_vars y
  obtain rfl : y0 = 0 := Subsingleton.elim _ _
  obtain rfl : y1 = 0 := Subsingleton.elim _ _
  rw [h.e0, h.e3, h.e4, h.e5]
  exact (kR_at _ _ _ _ y2 y3 y4).trans (resK m ρ c y2 y3 y4).symm

/-- The prompt's values are the same. -/
theorem same_v (h : Same m m' c) : outVR (zA (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))) = W5 m ρ c Cert.Kernel2Ideal.main_v146 := by
  funext y
  change Cert.Reference2Ideal.S1x1x16400x4x128.Idx at y
  idx_vars y
  obtain rfl : y0 = 0 := Subsingleton.elim _ _
  obtain rfl : y1 = 0 := Subsingleton.elim _ _
  rw [h.e0, h.e3, h.e4, h.e5]
  exact (vR_at _ _ _ _ y2 y3 y4).trans (resV m ρ c y2 y3 y4).symm

/-- The prompt's pooling state is the same. -/
theorem same_p (h : Same m m' c) : outPR (poolR (zA (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)))) = W5 m ρ c Cert.Kernel2Ideal.main_v148 := by
  funext y
  change Cert.Reference2Ideal.S1x1x15x512.Idx at y
  idx_vars y
  obtain rfl : y0 = 0 := Subsingleton.elim _ _
  obtain rfl : y1 = 0 := Subsingleton.elim _ _
  rw [h.e0, h.e3, h.e4, h.e5]
  exact (pR_at _ _ _ _ y2 y3).trans (resP m ρ c y2 y3).symm

/-- The sample's keys are the same. -/
theorem same_ks (h : Same m m' c) : outKSR (rotSR angSR (keySR (zSA (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))))) = W5 m ρ c Cert.Kernel2Ideal.main_v149 := by
  funext y
  change Cert.Reference2Ideal.S1x32x4x4x128.Idx at y
  idx_vars y
  obtain rfl : y0 = 0 := Subsingleton.elim _ _
  rw [h.e1, h.e4, h.e5]
  exact (kSR_at _ _ _ y1 y2 y3 y4).trans (resKS m ρ c y1 y2 y3 y4).symm

/-- The sample's values are the same. -/
theorem same_vs (h : Same m m' c) : outVSR (zSA (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))) = W5 m ρ c Cert.Kernel2Ideal.main_v150 := by
  funext y
  change Cert.Reference2Ideal.S1x32x4x4x128.Idx at y
  idx_vars y
  obtain rfl : y0 = 0 := Subsingleton.elim _ _
  rw [h.e1, h.e4, h.e5]
  exact (vSR_at _ _ _ y1 y2 y3 y4).trans (resVS m ρ c y1 y2 y3 y4).symm

/-- The sample's pooling state is the same. -/
theorem same_ps (h : Same m m' c) : outPSR (m' ((c.tc : Thread Cert.Reference2Ideal.nD Cert.Reference2Ideal.τ).loc Cert.Reference2Ideal.main_arg2)) (zSA (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))) = W5 m ρ c Cert.Kernel2Ideal.main_v157 := by
  funext y
  change Cert.Reference2Ideal.S1x32x15x512.Idx at y
  idx_vars y
  obtain rfl : y0 = 0 := Subsingleton.elim _ _
  rw [h.e1, h.e2, h.e4, h.e5]
  exact (pSR_at _ _ _ _ y1 y2 y3).trans (resPS m ρ c y1 y2 y3).symm

/-- The prompt's queries are the same. -/
theorem same_q (h : Same m m' c) : outQR (rotR angR (qryR (zA (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))))) = W5 m ρ c Cert.Kernel2Ideal.main_v161 := by
  funext y
  change Cert.Reference2Ideal.S16384x4x2x64.Idx at y
  idx_vars y
  rw [h.e0, h.e3, h.e4, h.e5]
  exact (qR_at _ _ _ _ y0 y1 y2 y3).trans (resQ m ρ c y0 y1 y2 y3).symm

/-- The prompt's pooling inputs are the same. -/
theorem same_u (h : Same m m' c) : outUR (poolR (zA (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)))) = W5 m ρ c Cert.Kernel2Ideal.main_v134_5 := by
  funext y
  change Cert.Reference2Ideal.S16384x512.Idx at y
  idx_vars y
  rw [h.e0, h.e3, h.e4, h.e5]
  exact (uR_at _ _ _ _ y0 y1).trans (resU m ρ c y0 y1).symm

/-- The prompt's gates are the same. -/
theorem same_g (h : Same m m' c) : outGR (gateR (zA (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)))) = W5 m ρ c Cert.Kernel2Ideal.main_v134_6 := by
  funext y
  change Cert.Reference2Ideal.S16384x1024.Idx at y
  idx_vars y
  rw [h.e0, h.e3, h.e4, h.e5]
  exact (gR_at _ _ _ _ y0 y1).trans (resG m ρ c y0 y1).symm

/-- The projection and its reference agree on all arguments. -/
theorem projection : Cert.algebraic_Kernel2Ideal_Reference2Ideal := fun m ρ m' g' _ heq =>
  ⟨fun c => W5 m ρ c Cert.Kernel2Ideal.main_v143, fun c => W5 m ρ c Cert.Kernel2Ideal.main_v146, fun c => W5 m ρ c Cert.Kernel2Ideal.main_v148, fun c => W5 m ρ c Cert.Kernel2Ideal.main_v149, fun c => W5 m ρ c Cert.Kernel2Ideal.main_v150, fun c => W5 m ρ c Cert.Kernel2Ideal.main_v157, fun c => W5 m ρ c Cert.Kernel2Ideal.main_v161, fun c => W5 m ρ c Cert.Kernel2Ideal.main_v134_5, fun c => W5 m ρ c Cert.Kernel2Ideal.main_v134_6,
    (θ_run _ _ _).mono (fun r h c => ⟨h.1.1 c (Proc.devRef .tc Cert.Kernel2Ideal.main_v143) (mem_uc _ (by decide)), h.1.1 c (Proc.devRef .tc Cert.Kernel2Ideal.main_v146) (mem_uc _ (by decide)), h.1.1 c (Proc.devRef .tc Cert.Kernel2Ideal.main_v148) (mem_uc _ (by decide)), h.1.1 c (Proc.devRef .tc Cert.Kernel2Ideal.main_v149) (mem_uc _ (by decide)), h.1.1 c (Proc.devRef .tc Cert.Kernel2Ideal.main_v150) (mem_uc _ (by decide)), h.1.1 c (Proc.devRef .tc Cert.Kernel2Ideal.main_v157) (mem_uc _ (by decide)), h.1.1 c (Proc.devRef .tc Cert.Kernel2Ideal.main_v161) (mem_uc _ (by decide)), h.1.1 c (Proc.devRef .tc Cert.Kernel2Ideal.main_v134_5) (mem_uc _ (by decide)), h.1.1 c (Proc.devRef .tc Cert.Kernel2Ideal.main_v134_6) (mem_uc _ (by decide)), h.2.1 c⟩)
      (θ_run_and (Cert.Kernel2Ideal.Proj.whole m ρ) (Cert.Kernel2Ideal.Proj.whole_frame m ρ)),
    (θ_run _ _ _).mono (fun r h c => by
        obtain ⟨e0, e1, e2, e3, e4, e5⟩ := heq c
        have s : Same m m' c := ⟨e0, e1, e2, e3, e4, e5⟩
        obtain ⟨hk, hv, hp, hks, hvs, hps, hq, hu, hg, ha⟩ := h c
        exact ⟨hk.trans (same_k ρ s), hv.trans (same_v ρ s), hp.trans (same_p ρ s), hks.trans (same_ks ρ s), hvs.trans (same_vs ρ s), hps.trans (same_ps ρ s), hq.trans (same_q ρ s), hu.trans (same_u ρ s), hg.trans (same_g ρ s), ha⟩)
      (Cert.Reference2Ideal.Value.run m' g')⟩

end Cert.ProjAlg

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Whole
public import proofs.«01_k».proof.Proof.RefFrame
public import proofs.«01_k».proof.Proof.BitsWhole
public import proofs.«01_k».proof.Proof.ProjBits
public import proofs.«01_k».proof.Proof.MergeAlg
public import proofs.«01_k».proof.Proof.Alg
public import proofs.«01_k».proof.Proof.ProjAlg
public import proofs.«01_k».proof.Proof.Gen.Kernel2
public import proofs.«01_k».proof.Proof.Gen.Reference2Ideal.Run
public import proofs.«01_k».proof.Proof.Gen.Reference3Ideal
public import Idealize.ShloMosaic.Adequacy
public import Idealize.ShloMosaic.Init

@[expose] public section

noncomputable section

namespace Cert.Proof

open Idealize.ShloMosaic Idealize.SL.Sem Cert.Kernel

/-- The attention call and the reference agree on finite arguments. -/
theorem attention : Cert.algebraic_KernelIdeal_ReferenceIdeal_pre_finite := fun m g m' g' hp heq =>
  ⟨fun c => Cert.KernelIdeal.Attn.resG m c,
    (θ_run _ _ _).mono (fun r h c => ⟨(h.1 c).trans (Cert.KernelIdeal.Attn.res_eq m c (Cert.Alg.fin_of m hp c)), h.2.1 c⟩)
      (θ_run_and (Cert.KernelIdeal.Attn.run_res m g) (Cert.KernelIdeal.Attn.whole_frame m g)),
    (θ_run _ _ _).mono (fun r h c => ⟨(h c).1.trans (by
        obtain ⟨e0, e1, e2, e3, e4, e5, e6, e7⟩ := heq c
        exact Cert.Alg.same m m' c (Cert.Alg.fin_of m hp c) e0 e1 e2 e3 e4 e5 e6 e7), (h c).2⟩)
      (Cert.ReferenceIdeal.Value.run m' g')⟩

/-- All the claims: the frames, the claims on named constants, the equations of the attention, the projection and the sample's merge. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m ρ _ => Cert.Kernel.Attn.whole_frame m ρ, fun m ρ _ => Cert.KernelIdeal.Attn.whole_frame m ρ, fun m ρ _ => Cert.KernelIdeal.Attn.whole_frame m ρ,
  fun m ρ _ => Cert.ReferenceIdeal.Attn.ref_frame m ρ, fun m ρ _ => Cert.ReferenceIdeal.Attn.ref_frame m ρ,
  Cert.ProjBits.frame, fun m ρ _ => Cert.Kernel2Ideal.Proj.whole_frame (F := Ideal) m ρ,
  fun m ρ _ => Cert.Reference2Ideal.Proj.ref_frame m ρ,
  fun m ρ _ => Cert.Kernel3.Gen.frame m ρ, fun m ρ _ => Cert.Kernel3Ideal.Gen.frame m ρ, fun m ρ _ => Cert.Reference3Ideal.Merge.ref_frame m ρ,
  IdealRules.named_const.statement Cert.KernelIdeal.κ "mask" .f32 0xF149F2CA#32 ⊥ rfl, attention,
  trivial, Cert.ProjAlg.projection, trivial, Cert.MergeAlg.merge⟩

end Cert.Proof

end
